-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "kc" .f32 0xBDD2D3E8#32 (((-80338380498831 / 1125899906842624) * (Real.log 2)⁻¹ : ℝ) : EReal)
  ∧ IdealRules.named_const.Statement Cert.Kernel2Ideal.κ "k" .f32 0xC0135761#32 (((-6693141 / 4194304) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "rate" .f32 0xBF135D8E#32 (((-1 / 16) * (Real.log 10000) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v110) = v0 c
          ∧ r.2.mem ((c.tc : Thread Cert.Reference4Ideal.nD Cert.Reference4Ideal.τ).loc Cert.Reference4Ideal.main_v112) = v1 c
          ∧ r.2.mem ((c.tc : Thread Cert.Reference4Ideal.nD Cert.Reference4Ideal.τ).loc Cert.Reference4Ideal.main_v115) = v2 c
          ∧ r.2.mem ((c.tc : Thread Cert.Reference4Ideal.nD Cert.Reference4Ideal.τ).loc Cert.Reference4Ideal.main_v118) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x1024 : Shape := ⟨3, ![8, 4096, 1024]⟩
abbrev S8x16x512x256 : Shape := ⟨4, ![8, 16, 512, 256]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)

variable [Facts]

def fn {F : FTy → Type} [FloatOps F] (main_arg0 : FVec F S8x4096x1024 .bf16) (main_arg1 : FVec F S8x4096x1024 .bf16) (main_arg2 : FVec F S8x16x512x256 .bf16) : IVec S8x4096x1024 1 :=
  let main_v0 : FVec F S8x4096x1024 .f32 := (extf .f32 · bitsLt_bf16_f32) main_arg0
  let main_v1 : FVec F S8x4096x1024 .f32 := (extf .f32 · bitsLt_bf16_f32) main_arg1
  let main_v2 : FVec F S8x4096x1024 .f32 := Host.absf main_v0
  let main_cst : FVec F S_ .f32 := constant S_ .f32 0x7F800000#32
  let main_v3 : FVec F S8x4096x1024 .f32 := broadcastInDim S8x4096x1024 ![] bcast_S_S8x4096x1024 main_cst
  let main_v4 : IVec S8x4096x1024 1 := cmpf .olt main_v2 main_v3
  let main_v5 : FVec F S8x4096x1024 .f32 := Host.absf main_v1
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  let main_v8 : IVec S8x4096x1024 1 := andi main_v4 main_v7
  main_v8
-- ==== Kernel.lean ====
abbrev S8x4096x1024 : Shape := ⟨3, ![8, 4096, 1024]⟩
abbrev S8x16x512x256 : Shape := ⟨4, ![8, 16, 512, 256]⟩
abbrev S8x4096x512 : Shape := ⟨3, ![8, 4096, 512]⟩
abbrev S1x4096x256 : Shape := ⟨3, ![1, 4096, 256]⟩
abbrev S1x16x128x256 : Shape := ⟨4, ![1, 16, 128, 256]⟩
abbrev S1x4096x128 : Shape := ⟨3, ![1, 4096, 128]⟩
abbrev S2x2x256x512 : Shape := ⟨4, ![2, 2, 256, 512]⟩
abbrev S2x2x1x512 : Shape := ⟨4, ![2, 2, 1, 512]⟩
abbrev S2x1x512 : Shape := ⟨3, ![2, 1, 512]⟩
abbrev S2x128x512 : Shape := ⟨3, ![2, 128, 512]⟩
abbrev S256x512 : Shape := ⟨2, ![256, 512]⟩
abbrev S128x256 : Shape := ⟨2, ![128, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S1x1x256x512 : Shape := ⟨4, ![1, 1, 256, 512]⟩
abbrev S512 : Shape := ⟨1, ![512]⟩
abbrev S1x512 : Shape := ⟨2, ![1, 512]⟩
abbrev S1x1x1x512 : Shape := ⟨4, ![1, 1, 1, 512]⟩
abbrev S256x256 : Shape := ⟨2, ![256, 256]⟩
abbrev S1x1x256x256 : Shape := ⟨4, ![1, 1, 256, 256]⟩
abbrev S256 : Shape := ⟨1, ![256]⟩
abbrev S1x256 : Shape := ⟨2, ![1, 256]⟩
abbrev S1x1x1x256 : Shape := ⟨4, ![1, 1, 1, 256]⟩
abbrev S1x1x128x256 : Shape := ⟨4, ![1, 1, 128, 256]⟩
abbrev S128x512 : Shape := ⟨2, ![128, 512]⟩
abbrev S1x128x512 : Shape := ⟨3, ![1, 128, 512]⟩
abbrev S1x1x512 : Shape := ⟨3, ![1, 1, 512]⟩
abbrev S1x1x256 : Shape := ⟨3, ![1, 1, 256]⟩
abbrev S1x128x256 : Shape := ⟨3, ![1, 128, 256]⟩
abbrev S64x512 : Shape := ⟨2, ![64, 512]⟩

abbrev nBuf : Space → Nat
  | .hbm => 4
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x16x512x256, .bf16⟩
  | .hbm, ⟨3, _⟩ => ⟨S8x4096x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x2x256x512, .f32⟩
  | .local _ .vmem, ⟨9, _⟩ => ⟨S2x2x1x512, .f32⟩
  | .local _ .vmem, ⟨10, _⟩ => ⟨S2x1x512, .f32⟩
  | .local _ .vmem, ⟨11, _⟩ => ⟨S2x128x512, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x16x512x256 : Shape := ⟨4, ![8, 16, 512, 256]⟩
abbrev S8x4096x8x128 : Shape := ⟨4, ![8, 4096, 8, 128]⟩
abbrev S8x16x256x512 : Shape := ⟨4, ![8, 16, 256, 512]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x16x512x256, .bf16⟩
  | .hbm, ⟨3, _⟩ => ⟨S8x4096x1024, .f32⟩
  | .hbm, ⟨4, _⟩ => ⟨S8x4096x8x128, .f32⟩
  | .hbm, ⟨5, _⟩ => ⟨S8x4096x1024, .f32⟩
  | .hbm, ⟨6, _⟩ => ⟨S8x4096x8x128, .f32⟩
  | .hbm, ⟨7, _⟩ => ⟨S8x16x512x256, .f32⟩
  | .hbm, ⟨8, _⟩ => ⟨S8x16x256x512, .f32⟩
  | .hbm, ⟨9, _⟩ => ⟨S8x4096x8x64, .f32⟩
  | .hbm, ⟨10, _⟩ => ⟨S8x8x4096x4096, .f32⟩
  | .hbm, ⟨11, _⟩ => ⟨S_, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x8x4096x4096, .i1⟩
  | .hbm, ⟨24, _⟩ => ⟨S8x8x4096x4096, .f32⟩
  | .hbm, ⟨25, _⟩ => ⟨S8x8x4096x4096, .f32⟩
  | .hbm, ⟨26, _⟩ => ⟨S_, .f32⟩
  | .hbm, ⟨27, _⟩ => ⟨S8x8x4096, .f32⟩
  | .hbm, ⟨28, _⟩ => ⟨S_, .f32⟩
  | .hbm, ⟨29, _⟩ => ⟨S8x8x4096, .f32⟩
  | .hbm, ⟨30, _⟩ => ⟨S8x8x4096, .f32⟩
  | .hbm, ⟨31, _⟩ => ⟨S8x8x4096x1, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S_, .f32⟩
  | .hbm, ⟨36, _⟩ => ⟨S8x8x4096, .f32⟩
  | .hbm, ⟨37, _⟩ => ⟨S8x8x4096x1, .f32⟩
  | .hbm, ⟨38, _⟩ => ⟨S8x8x4096x4096, .f32⟩
  | .hbm, ⟨39, _⟩ => ⟨S8x8x4096x4096, .f32⟩
  | .hbm, ⟨40, _⟩ => ⟨S8x8x64x4096, .f32⟩
  | .hbm, ⟨41, _⟩ => ⟨S8x4096x8x64, .f32⟩
  | .hbm, ⟨42, _⟩ => ⟨S8x4096x512, .f32⟩
  | .hbm, ⟨43, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x512x1024 : Shape := ⟨3, ![1, 512, 1024]⟩
abbrev S512x2816 : Shape := ⟨2, ![512, 2816]⟩
abbrev S8x512x128 : Shape := ⟨3, ![8, 512, 128]⟩
abbrev S2x5632 : Shape := ⟨2, ![2, 5632]⟩
abbrev S512x1024 : Shape := ⟨2, ![512, 1024]⟩
abbrev S512 : Shape := ⟨1, ![512]⟩
abbrev S512x1 : Shape := ⟨2, ![512, 1]⟩
abbrev S64x1 : Shape := ⟨2, ![64, 1]⟩
abbrev S1024x256 : Shape := ⟨2, ![1024, 256]⟩
abbrev S512x256 : Shape := ⟨2, ![512, 256]⟩
abbrev S64x256 : Shape := ⟨2, ![64, 256]⟩
abbrev S1x256 : Shape := ⟨2, ![1, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩

abbrev nBuf : Space → Nat
  | .hbm => 8
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | .local _ .vmem, ⟨11, _⟩ => ⟨S8x512x128, .f32⟩
  | .local _ .vmem, ⟨12, _⟩ => ⟨S2x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "k" => some (((-6693141 / 4194304) * (Real.log 2)⁻¹ : ℝ) : EReal)
  | "kc" => some (((-80338380498831 / 1125899906842624) * (Real.log 2)⁻¹ : ℝ) : EReal)
  | _ => none
-- ==== Reference2Ideal.lean ====
abbrev S8x4096x1024 : Shape := ⟨3, ![8, 4096, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8x8x8x64x1024 : Shape := ⟨5, ![8, 8, 8, 64, 1024]⟩
abbrev S8x8x64x8x1024 : Shape := ⟨5, ![8, 8, 64, 8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S5632 : Shape := ⟨1, ![5632]⟩
abbrev S1x1x5632 : Shape := ⟨3, ![1, 1, 5632]⟩
abbrev S8x4096x2816 : Shape := ⟨3, ![8, 4096, 2816]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S8x8x8x64x1024, .f32⟩
  | .hbm, ⟨8, _⟩ => ⟨S8x8x64x8x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S1024x5632, .f32⟩
  | .hbm, ⟨27, _⟩ => ⟨S8x4096x5632, .f32⟩
  | .hbm, ⟨28, _⟩ => ⟨S_, .i32⟩
  | .hbm, ⟨29, _⟩ => ⟨S_, .f32⟩
  | .hbm, ⟨30, _⟩ => ⟨S8x4098x5632, .f32⟩
  | .hbm, ⟨31, _⟩ => ⟨S1x5632, .f32⟩
  | .hbm, ⟨32, _⟩ => ⟨S5632, .f32⟩
  | .hbm, ⟨33, _⟩ => ⟨S8x4096x5632, .f32⟩
  | .hbm, ⟨34, _⟩ => ⟨S1x1x5632, .f32⟩
  | .hbm, ⟨35, _⟩ => ⟨S8x4096x5632, .f32⟩
  | .hbm, ⟨36, _⟩ => ⟨S8x4096x5632, .f32⟩
  | .hbm, ⟨37, _⟩ => ⟨S1x1x5632, .f32⟩
  | .hbm, ⟨38, _⟩ => ⟨S8x4096x5632, .f32⟩
  | .hbm, ⟨39, _⟩ => ⟨S8x4096x5632, .f32⟩
  | .hbm, ⟨40, _⟩ => ⟨S1x5632, .f32⟩
  | .hbm, ⟨41, _⟩ => ⟨S5632, .f32⟩
  | .hbm, ⟨42, _⟩ => ⟨S8x4096x5632, .f32⟩
  | .hbm, ⟨43, _⟩ => ⟨S1x1x5632, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S8x4096x5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S8x4096x5632, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S_, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S2816x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S8x4096x1, .f32⟩
  | .hbm, ⟨87, _⟩ => ⟨S8x4096x1024, .f32⟩
  | .hbm, ⟨88, _⟩ => ⟨S8x4096x1024, .f32⟩
  | .hbm, ⟨89, _⟩ => ⟨S1x1x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S4096x4096 : Shape := ⟨2, ![4096, 4096]⟩
abbrev S1x1024 : Shape := ⟨2, ![1, 1024]⟩
abbrev S1024x2048 : Shape := ⟨2, ![1024, 2048]⟩
abbrev S1x2048 : Shape := ⟨2, ![1, 2048]⟩
abbrev S512x1024 : Shape := ⟨2, ![512, 1024]⟩
abbrev S1024x1024 : Shape := ⟨2, ![1024, 1024]⟩
abbrev S1x512x1024 : Shape := ⟨3, ![1, 512, 1024]⟩
abbrev S1x512x512 : Shape := ⟨3, ![1, 512, 512]⟩
abbrev S512x512 : Shape := ⟨2, ![512, 512]⟩
abbrev S2x8x256x128 : Shape := ⟨4, ![2, 8, 256, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x256x512 : Shape := ⟨3, ![1, 256, 512]⟩
abbrev S256x512 : Shape := ⟨2, ![256, 512]⟩
abbrev S256x128 : Shape := ⟨2, ![256, 128]⟩
abbrev S1x1x256x128 : Shape := ⟨4, ![1, 1, 256, 128]⟩
abbrev S1x1x32x128 : Shape := ⟨4, ![1, 1, 32, 128]⟩
abbrev S32x128 : Shape := ⟨2, ![32, 128]⟩
abbrev S1x32x128 : Shape := ⟨3, ![1, 32, 128]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S4096x4096, .bf16⟩
  | .hbm, ⟨3, _⟩ => ⟨S1x1024, .f32⟩
  | .hbm, ⟨4, _⟩ => ⟨S1024x2048, .bf16⟩
  | .hbm, ⟨5, _⟩ => ⟨S1x2048, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S2x8x256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x4096x1024 : Shape := ⟨3, ![8, 4096, 1024]⟩
abbrev S8x4096x512 : Shape := ⟨3, ![8, 4096, 512]⟩
abbrev S4096x4096 : Shape := ⟨2, ![4096, 4096]⟩
abbrev S1x1024 : Shape := ⟨2, ![1, 1024]⟩
abbrev S1024x2048 : Shape := ⟨2, ![1024, 2048]⟩
abbrev S1x2048 : Shape := ⟨2, ![1, 2048]⟩
abbrev S512x1024 : Shape := ⟨2, ![512, 1024]⟩
abbrev S1024x1024 : Shape := ⟨2, ![1024, 1024]⟩
abbrev S4096x8x512 : Shape := ⟨3, ![4096, 8, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x1x2048 : Shape := ⟨3, ![1, 1, 2048]⟩
abbrev S8x8x64x8x1024 : Shape := ⟨5, ![8, 8, 64, 8, 1024]⟩
abbrev S8x8x8x64x1024 : Shape := ⟨5, ![8, 8, 8, 64, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S4096x4096, .bf16⟩
  | .hbm, ⟨3, _⟩ => ⟨S1x1024, .f32⟩
  | .hbm, ⟨4, _⟩ => ⟨S1024x2048, .bf16⟩
  | .hbm, ⟨5, _⟩ => ⟨S1x2048, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S8x4096x512, .f32⟩
  | .hbm, ⟨11, _⟩ => ⟨S4096x4096, .f32⟩
  | .hbm, ⟨12, _⟩ => ⟨S4096x8x512, .f32⟩
  | .hbm, ⟨13, _⟩ => ⟨S8x4096x512, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1024x2048, .f32⟩
  | .hbm, ⟨31, _⟩ => ⟨S8x4096x2048, .f32⟩
  | .hbm, ⟨32, _⟩ => ⟨S1x1x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S_, .f32⟩
  | .hbm, ⟨38, _⟩ => ⟨S8x4096x2048, .f32⟩
  | .hbm, ⟨39, _⟩ => ⟨S8x4096x2048, .f32⟩
  | .hbm, ⟨40, _⟩ => ⟨S_, .f32⟩
  | .hbm, ⟨41, _⟩ => ⟨S8x4096x2048, .f32⟩
  | .hbm, ⟨42, _⟩ => ⟨S8x4096x2048, .f32⟩
  | .hbm, ⟨43, _⟩ => ⟨S8x4096x1024, .f32⟩
  | .hbm, ⟨44, _⟩ => ⟨S512x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S512x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S1024x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x8x64x8x1024, .f32⟩
  | .hbm, ⟨72, _⟩ => ⟨S8x8x8x64x1024, .f32⟩
  | .hbm, ⟨73, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x4096 : Shape := ⟨3, ![8, 1, 4096]⟩
abbrev S1x1024 : Shape := ⟨2, ![1, 1024]⟩
abbrev S1024x768 : Shape := ⟨2, ![1024, 768]⟩
abbrev S1024x512 : Shape := ⟨2, ![1024, 512]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S512x256 : Shape := ⟨2, ![512, 256]⟩
abbrev S8x16x512x256 : Shape := ⟨4, ![8, 16, 512, 256]⟩
abbrev S4096x4096 : Shape := ⟨2, ![4096, 4096]⟩
abbrev S1x512x1024 : Shape := ⟨3, ![1, 512, 1024]⟩
abbrev S1x1x512 : Shape := ⟨3, ![1, 1, 512]⟩
abbrev S1x2x512x256 : Shape := ⟨4, ![1, 2, 512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S16x1 : Shape := ⟨2, ![16, 1]⟩
abbrev S1x512 : Shape := ⟨2, ![1, 512]⟩
abbrev S16x512 : Shape := ⟨2, ![16, 512]⟩
abbrev S64x512 : Shape := ⟨2, ![64, 512]⟩
abbrev S128x512 : Shape := ⟨2, ![128, 512]⟩
abbrev S512x128 : Shape := ⟨2, ![512, 128]⟩
abbrev S80x512 : Shape := ⟨2, ![80, 512]⟩
abbrev S512x768 : Shape := ⟨2, ![512, 768]⟩
abbrev S512x384 : Shape := ⟨2, ![512, 384]⟩
abbrev S1x512x128 : Shape := ⟨3, ![1, 512, 128]⟩
abbrev S1x1x512x256 : Shape := ⟨4, ![1, 1, 512, 256]⟩

abbrev nBuf : Space → Nat
  | .hbm => 14
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x1x4096, .f32⟩
  | .hbm, ⟨2, _⟩ => ⟨S1x1024, .f32⟩
  | .hbm, ⟨3, _⟩ => ⟨S1024x768, .bf16⟩
  | .hbm, ⟨4, _⟩ => ⟨S1024x512, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x1024, .bf16⟩
  | .hbm, ⟨9, _⟩ => ⟨S512x256, .bf16⟩
  | .hbm, ⟨10, _⟩ => ⟨S8x4096x1024, .bf16⟩
  | .hbm, ⟨11, _⟩ => ⟨S8x4096x1024, .bf16⟩
  | .hbm, ⟨12, _⟩ => ⟨S8x16x512x256, .bf16⟩
  | .hbm, ⟨13, _⟩ => ⟨S4096x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x512, .f32⟩
  | .local _ .vmem, ⟨3, _⟩ => ⟨S1x1x512, .f32⟩
  | .local _ .vmem, ⟨4, _⟩ => ⟨S1x1024, .f32⟩
  | .local _ .vmem, ⟨5, _⟩ => ⟨S1024x768, .bf16⟩
  | .local _ .vmem, ⟨6, _⟩ => ⟨S1024x512, .bf16⟩
  | .local _ .vmem, ⟨7, _⟩ => ⟨S1x384, .f32⟩
  | .local _ .vmem, ⟨8, _⟩ => ⟨S384x1024, .bf16⟩
  | .local _ .vmem, ⟨9, _⟩ => ⟨S1x256, .f32⟩
  | .local _ .vmem, ⟨10, _⟩ => ⟨S256x1024, .bf16⟩
  | .local _ .vmem, ⟨11, _⟩ => ⟨S512x256, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2x512x256, .bf16⟩
  | .local _ .vmem, ⟨17, _⟩ => ⟨S1x2x512x256, .bf16⟩
  | .local _ .vmem, ⟨18, _⟩ => ⟨S512x512, .bf16⟩
  | .local _ .vmem, ⟨19, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel4Ideal.lean ====
variable {F : FTy → Type} [FloatOps F] [Named F]
def κ : String → Option EReal := fun
  | "rate" => some (((-1 / 16) * (Real.log 10000) : ℝ) : EReal)
  | _ => none
-- ==== Reference4Ideal.lean ====
abbrev S8x4096x1024 : Shape := ⟨3, ![8, 4096, 1024]⟩
abbrev S8x1x4096 : Shape := ⟨3, ![8, 1, 4096]⟩
abbrev S1x1024 : Shape := ⟨2, ![1, 1024]⟩
abbrev S1024x768 : Shape := ⟨2, ![1024, 768]⟩
abbrev S1024x512 : Shape := ⟨2, ![1024, 512]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S512x256 : Shape := ⟨2, ![512, 256]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S8x4096 : Shape := ⟨2, ![8, 4096]⟩
abbrev S1x1x1024 : Shape := ⟨3, ![1, 1, 1024]⟩
abbrev S8x4096x768 : Shape := ⟨3, ![8, 4096, 768]⟩
abbrev S8x4096x384 : Shape := ⟨3, ![8, 4096, 384]⟩
abbrev S8x4096x256 : Shape := ⟨3, ![8, 4096, 256]⟩
abbrev S8x4096x128 : Shape := ⟨3, ![8, 4096, 128]⟩
abbrev S1x1x384 : Shape := ⟨3, ![1, 1, 384]⟩
abbrev S8x4096x8x128 : Shape := ⟨4, ![8, 4096, 8, 128]⟩
abbrev S8x4096x1x16 : Shape := ⟨4, ![8, 4096, 1, 16]⟩
abbrev S8x4096x8x16 : Shape := ⟨4, ![8, 4096, 8, 16]⟩
abbrev S8x4096x8x64 : Shape := ⟨4, ![8, 4096, 8, 64]⟩
abbrev S1x1x256 : Shape := ⟨3, ![1, 1, 256]⟩
abbrev S8x4096x64 : Shape := ⟨3, ![8, 4096, 64]⟩
abbrev S8x4096x1x128 : Shape := ⟨4, ![8, 4096, 1, 128]⟩
abbrev S256x512 : Shape := ⟨2, ![256, 512]⟩
abbrev S8x4096x512 : Shape := ⟨3, ![8, 4096, 512]⟩
abbrev S8x16x256x512 : Shape := ⟨4, ![8, 16, 256, 512]⟩
abbrev S8x16x512x256 : Shape := ⟨4, ![8, 16, 512, 256]⟩
abbrev S4096x8x512 : Shape := ⟨3, ![4096, 8, 512]⟩
abbrev S4096x4096 : Shape := ⟨2, ![4096, 4096]⟩

abbrev nBuf : Space → Nat
  | .hbm => 147
  | .vmem => 0
  | .smem => 0
  | _ => 0

abbrev hbmTy0_0 (i : Nat) : BufTy := match i % 128 with
  | 0 => ⟨S8x4096x1024, .f32⟩
  | 1 => ⟨S8x1x4096, .f32⟩
  | 2 => ⟨S1x1024, .f32⟩
  | 3 => ⟨S1024x768, .bf16⟩
  | 4 => ⟨S1024x512, .bf16⟩
  | 5 => ⟨S1x384, .f32⟩
  | 6 => ⟨S384x1024, .bf16⟩
  | 7 => ⟨S1x256, .f32⟩
  | 8 => ⟨S256x1024, .bf16⟩
  | 9 => ⟨S512x256, .bf16⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8x4096x1, .f32⟩
  | 25 => ⟨S1x1x16, .f32⟩
  | 26 => ⟨S8x4096x16, .f32⟩
  | 27 => ⟨S8x4096x16, .f32⟩
  | 28 => ⟨S8x4096x16, .f32⟩
  | 29 => ⟨S8x4096x16, .f32⟩
  | 30 => ⟨S8x4096x16, .f32⟩
  | 31 => ⟨S8x4096x1024, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S_, .f32⟩
  | 39 => ⟨S8x4096x1, .f32⟩
  | 40 => ⟨S8x4096x1, .f32⟩
  | 41 => ⟨S8x4096x1, .f32⟩
  | 42 => ⟨S8x4096x1024, .f32⟩
  | 43 => ⟨S8x4096x1024, .f32⟩
  | 44 => ⟨S1x1x1024, .f32⟩
  | 45 => ⟨S8x4096x1024, .f32⟩
  | 46 => ⟨S8x4096x1024, .f32⟩
  | 47 => ⟨S1024x768, .f32⟩
  | 48 => ⟨S8x4096x768, .f32⟩
  | 49 => ⟨S8x4096x384, .f32⟩
  | 50 => ⟨S8x4096x256, .f32⟩
  | 51 => ⟨S8x4096x128, .f32⟩
  | 52 => ⟨S8x4096x384, .f32⟩
  | 53 => ⟨S_, .f32⟩
  | 54 => ⟨S8x4096, .f32⟩
  | 55 => ⟨S8x4096x1, .f32⟩
  | 56 => ⟨S_, .f32⟩
  | 57 => ⟨S8x4096x1, .f32⟩
  | 58 => ⟨S8x4096x1, .f32⟩
  | 59 => ⟨S_, .f32⟩
  | 60 => ⟨S8x4096x1, .f32⟩
  | 61 => ⟨S8x4096x1, .f32⟩
  | 62 => ⟨S8x4096x1, .f32⟩
  | 63 => ⟨S8x4096x384, .f32⟩
  | 64 => ⟨S8x4096x384, .f32⟩
  | 65 => ⟨S1x1x384, .f32⟩
  | 66 => ⟨S8x4096x384, .f32⟩
  | 67 => ⟨S8x4096x384, .f32⟩
  | 68 => ⟨S384x1024, .f32⟩
  | 69 => ⟨S8x4096x1024, .f32⟩
  | 70 => ⟨S8x4096x8x128, .f32⟩
  | 71 => ⟨S8x4096x1x16, .f32⟩
  | 72 => ⟨S8x4096x1x16, .f32⟩
  | 73 => ⟨S8x4096x8x16, .f32⟩
  | 74 => ⟨S8x4096x8x16, .f32⟩
  | 75 => ⟨S8x4096x8x16, .f32⟩
  | 76 => ⟨S8x4096x8x64, .f32⟩
  | 77 => ⟨S_, .f32⟩
  | 78 => ⟨S8x4096x8x16, .f32⟩
  | 79 => ⟨S8x4096x8x16, .f32⟩
  | 80 => ⟨S8x4096x8x16, .f32⟩
  | 81 => ⟨S8x4096x8x16, .f32⟩
  | 82 => ⟨S8x4096x8x16, .f32⟩
  | 83 => ⟨S8x4096x8x16, .f32⟩
  | 84 => ⟨S8x4096x8x16, .f32⟩
  | 85 => ⟨S8x4096x8x16, .f32⟩
  | 86 => ⟨S8x4096x8x16, .f32⟩
  | 87 => ⟨S8x4096x8x16, .f32⟩
  | 88 => ⟨S8x4096x8x16, .f32⟩
  | 89 => ⟨S_, .f32⟩
  | 90 => ⟨S8x4096x8x16, .f32⟩
  | 91 => ⟨S8x4096x8x128, .f32⟩
  | 92 => ⟨S_, .f32⟩
  | 93 => ⟨S8x4096x8x128, .f32⟩
  | 94 => ⟨S8x4096x8x128, .f32⟩
  | 95 => ⟨S8x4096x256, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S_, .f32⟩
  | 103 => ⟨S8x4096x1, .f32⟩
  | 104 => ⟨S8x4096x1, .f32⟩
  | 105 => ⟨S8x4096x1, .f32⟩
  | 106 => ⟨S8x4096x256, .f32⟩
  | 107 => ⟨S8x4096x256, .f32⟩
  | 108 => ⟨S1x1x256, .f32⟩
  | 109 => ⟨S8x4096x256, .f32⟩
  | 110 => ⟨S8x4096x256, .f32⟩
  | 111 => ⟨S256x1024, .f32⟩
  | 112 => ⟨S8x4096x1024, .f32⟩
  | 113 => ⟨S8x4096x8x128, .f32⟩
  | 114 => ⟨S8x4096x16, .f32⟩
  | 115 => ⟨S8x4096x16, .f32⟩
  | 116 => ⟨S8x4096x16, .f32⟩
  | 117 => ⟨S8x4096x64, .f32⟩
  | 118 => ⟨S_, .f32⟩
  | 119 => ⟨S8x4096x16, .f32⟩
  | 120 => ⟨S8x4096x16, .f32⟩
  | 121 => ⟨S8x4096x16, .f32⟩
  | 122 => ⟨S8x4096x16, .f32⟩
  | 123 => ⟨S8x4096x16, .f32⟩
  | 124 => ⟨S8x4096x16, .f32⟩
  | 125 => ⟨S8x4096x16, .f32⟩
  | 126 => ⟨S_, .f32⟩
  | 127 => ⟨S8x4096x16, .f32⟩
  | _ => ⟨S8x4096x1024, .f32⟩

abbrev hbmTy0_1 (i : Nat) : BufTy := match i % 128 with
  | 0 => ⟨S8x4096x128, .f32⟩
  | 1 => ⟨S8x4096x1x128, .f32⟩
  | 2 => ⟨S8x4096x8x128, .f32⟩
  | 3 => ⟨S8x4096x8x128, .f32⟩
  | 4 => ⟨S512x256, .f32⟩
  | 5 => ⟨S256x512, .f32⟩
  | 6 => ⟨S8x4096x512, .f32⟩
  | 7 => ⟨S1024x512, .f32⟩
  | 8 => ⟨S8x4096x512, .f32⟩
  | 9 => ⟨S8x4096x1024, .f32⟩
  | 10 => ⟨S8x4096x1024, .bf16⟩
  | 11 => ⟨S8x4096x1024, .f32⟩
  | 12 => ⟨S8x4096x1024, .bf16⟩
  | 13 => ⟨S8x16x256x512, .f32⟩
  | 14 => ⟨S8x16x512x256, .f32⟩
  | 15 => ⟨S8x16x512x256, .bf16⟩
  | 16 => ⟨S4096x8x512, .f32⟩
  | 17 => ⟨S4096x4096, .f32⟩
  | 18 => ⟨S4096x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩

abbrev nD : Nat := 1
abbrev τ : Topo := Topo.v7x

variable {F : FTy → Type} [FloatOps F]
-- ==== Proof.Attn.Body.lean ====
/-
  The attention kernel's body written with its loops: the query tiles of a grid point one after another, in a tile the
  key blocks two by two, in a block the two heads. The printed body is this text unrolled. The value that masked scores
  take is a parameter, so that one text serves the kernel and its idealization. Generic in the machine, the memrefs and
  the float values.
-/
module

public import Idealize.ShloMosaic.Lib.Pipeline.FrameBody
public import Idealize.ShloMosaic.Lib.VecWindow

@[expose] public section

set_option maxRecDepth 16384

noncomputable section

namespace Attn

open Idealize.ShloMosaic Idealize.ShloMosaic.TcCoe
open Idealize.SL Idealize.SL.Sem

/-! ## Shapes -/

abbrev SQ : Shape := ⟨3, ![1, 4096, 256]⟩
abbrev SV : Shape := ⟨4, ![1, 16, 128, 256]⟩
abbrev SO : Shape := ⟨3, ![1, 4096, 128]⟩
abbrev SS : Shape := ⟨4, ![2, 2, 256, 512]⟩
abbrev SX : Shape := ⟨4, ![2, 2, 1, 512]⟩
abbrev SM : Shape := ⟨3, ![2, 1, 512]⟩
abbrev SA : Shape := ⟨3, ![2, 128, 512]⟩
abbrev T1 (a : ℕ) : Shape := ⟨1, ![a]⟩
abbrev T2 (a b : ℕ) : Shape := ⟨2, ![a, b]⟩
abbrev T3 (a b c : ℕ) : Shape := ⟨3, ![a, b, c]⟩
abbrev T4 (a b c d : ℕ) : Shape := ⟨4, ![a, b, c, d]⟩

/-- How many query columns of a tile a step works on: all 512, or the later 256. -/
abbrev nq (late : Bool) : ℕ := bif late then 256 else 512
/-- The first of those columns. -/
abbrev c0 (late : Bool) : ℕ := bif late then 256 else 0

/-! ## Side conditions of the operations -/

theorem cast12 (late : Bool) : (T1 (nq late)).ShapeCasts (T2 1 (nq late)) := by cases late <;> decide
theorem cast24 (late : Bool) : (T2 1 (nq late)).ShapeCasts (T4 1 1 1 (nq late)) := by cases late <;> decide
theorem cast42 (late : Bool) : (T4 1 1 1 (nq late)).ShapeCasts (T2 1 (nq late)) := by cases late <;> decide
theorem cast23 (late : Bool) : (T2 1 (nq late)).ShapeCasts (T3 1 1 (nq late)) := by cases late <;> decide
theorem cast32 (late : Bool) : (T3 1 1 (nq late)).ShapeCasts (T2 1 (nq late)) := by cases late <;> decide
theorem castS (late : Bool) : (T2 256 (nq late)).ShapeCasts (T4 1 1 256 (nq late)) := by cases late <;> decide
theorem castS' (late : Bool) : (T4 1 1 256 (nq late)).ShapeCasts (T2 256 (nq late)) := by cases late <;> decide
theorem castA (late : Bool) : (T2 128 (nq late)).ShapeCasts (T3 1 128 (nq late)) := by cases late <;> decide
theorem castA' (late : Bool) : (T3 1 128 (nq late)).ShapeCasts (T2 128 (nq late)) := by cases late <;> decide
theorem castQ (late : Bool) : (T3 1 (nq late) 128).ShapeCasts (T2 (nq late) 128) := by cases late <;> decide
theorem castK : (T3 1 256 128).ShapeCasts (T2 256 128) := by decide
theorem castV : (T4 1 1 128 256).ShapeCasts (T2 128 256) := by decide
theorem castO : (T2 512 128).ShapeCasts (T3 1 512 128) := by decide
theorem redS (late : Bool) : (T2 256 (nq late)).Reduces [0] (T1 (nq late)) := by cases late <;> decide
theorem brS (late : Bool) : (T2 1 (nq late)).Broadcasts (T2 256 (nq late)) := by cases late <;> decide
theorem brA (late : Bool) : (T2 1 (nq late)).Broadcasts (T2 128 (nq late)) := by cases late <;> decide
theorem brO : (T2 1 512).Broadcasts (T2 64 512) := by decide
theorem slM (late : Bool) : (T2 256 512).Slices ![0, 0] (T2 256 (nq late)) := by cases late <;> decide
theorem slO0 : (T2 128 512).Slices ![0, 0] (T2 64 512) := by decide
theorem slO64 : (T2 128 512).Slices ![64, 0] (T2 64 512) := by decide
theorem slR0 : (T2 128 512).Slices ![0, 0] (T2 1 512) := by decide
theorem slR64 : (T2 128 512).Slices ![64, 0] (T2 1 512) := by decide
theorem catO : Shape.Concatenates [T2 64 512, T2 64 512] (T2 128 512) 0 := by decide
theorem trO : (T2 128 512).Transposes [1, 0] (T2 512 128) := by decide
theorem iotaQ0 : (T2 256 512).Iotas .tc 32 [0] := by decide
theorem iotaQ1 : (T2 256 512).Iotas .tc 32 [1] := by decide
theorem iotaV0 : (T2 128 256).Iotas .tc 32 [0] := by decide
theorem bits16 : FTy.bits .bf16 < FTy.bits .f32 := by decide

/-! ## The memrefs and their accesses -/

/-- The body's buffers: queries, keys, values, result; scores, their column maxima, running maxima, accumulators. -/
structure Mems (sig : RefSig) where
  q : Memref sig .tc .vmem SQ .bf16
  k : Memref sig .tc .vmem SQ .bf16
  v : Memref sig .tc .vmem SV .bf16
  o : Memref sig .tc .vmem SO .bf16
  s : Memref sig .tc .vmem SS .f32
  x : Memref sig .tc .vmem SX .f32
  m : Memref sig .tc .vmem SM .f32
  a : Memref sig .tc .vmem SA .f32
  ow : o.IsWhole

section Prog

variable {nD : ℕ} {τ : Topo} {sig : RefSig} {Λ : Labels} {F : FTy → Type} [FloatOps F]

/-- The load of a window. -/
abbrev load {s : Shape} {e : EltTy} (m : Memref sig .tc .vmem s e) (off size : Fin s.rank → ℕ) (inb : ∀ a, off a + size a ≤ s.size a)
    (h : 0 < (Rect.unit off size inb).shape.numel) :
    Prog (TpuEff nD τ sig (Elt F) Λ .tc) ((Rect.unit off size inb).shape.Idx → Elt F e) :=
  Prog.lift (.load m (Rect.unit off size inb).toLoadRect (View.loadsAt_vmem h))

/-- The store of a window of 32-bit values, which the printed body precedes by a load of the same window. -/
abbrev store {s : Shape} (m : Memref sig .tc .vmem s .f32) (off size : Fin s.rank → ℕ) (inb : ∀ a, off a + size a ≤ s.size a)
    (h : 0 < (Rect.unit off size inb).shape.numel) (w : (Rect.unit off size inb).shape.Idx → Elt F .f32) :
    Prog (TpuEff nD τ sig (Elt F) Λ .tc) PUnit := do
  let _ ← load m off size inb h
  Prog.lift (.store m (Rect.unit off size inb) w Finset.univ (View.stores_vmem_bits_univ h rfl) (.inl rfl))

theorem inbK {j : ℕ} (hj : j < 16) (hh : Fin 2) :
    ∀ a, (![0, j * 256, hh.val * 128] : Fin 3 → ℕ) a + (![1, 256, 128] : Fin 3 → ℕ) a ≤ SQ.size a := by
  intro a; fin_cases a <;> simp <;> omega
theorem inbQ {i : ℕ} (hi : i < 8) (hh : Fin 2) (late : Bool) :
    ∀ a, (![0, i * 512 + c0 late, hh.val * 128] : Fin 3 → ℕ) a + (![1, nq late, 128] : Fin 3 → ℕ) a ≤ SQ.size a := by
  intro a; fin_cases a <;> cases late <;> simp <;> omega
theorem inbV {j : ℕ} (hj : j < 16) :
    ∀ a, (![0, j, 0, 0] : Fin 4 → ℕ) a + (![1, 1, 128, 256] : Fin 4 → ℕ) a ≤ SV.size a := by
  intro a; fin_cases a <;> simp <;> omega
theorem inbS (sl hh : Fin 2) (late : Bool) :
    ∀ a, (![sl.val, hh.val, 0, c0 late] : Fin 4 → ℕ) a + (![1, 1, 256, nq late] : Fin 4 → ℕ) a ≤ SS.size a := by
  intro a; fin_cases a <;> cases late <;> simp <;> omega
theorem inbX (sl hh : Fin 2) (late : Bool) :
    ∀ a, (![sl.val, hh.val, 0, c0 late] : Fin 4 → ℕ) a + (![1, 1, 1, nq late] : Fin 4 → ℕ) a ≤ SX.size a := by
  intro a; fin_cases a <;> cases late <;> simp <;> omega
theorem inbM (hh : Fin 2) (late : Bool) :
    ∀ a, (![hh.val, 0, c0 late] : Fin 3 → ℕ) a + (![1, 1, nq late] : Fin 3 → ℕ) a ≤ SM.size a := by
  intro a; fin_cases a <;> cases late <;> simp <;> omega
theorem inbA (hh : Fin 2) (late : Bool) :
    ∀ a, (![hh.val, 0, c0 late] : Fin 3 → ℕ) a + (![1, 128, nq late] : Fin 3 → ℕ) a ≤ SA.size a := by
  intro a; fin_cases a <;> cases late <;> simp <;> omega
theorem inbO {i : ℕ} (hi : i < 8) :
    ∀ a, (![0, i * 512, 0] : Fin 3 → ℕ) a + (![1, 512, 128] : Fin 3 → ℕ) a ≤ SO.size a := by
  intro a; fin_cases a <;> simp <;> omega

theorem posK : 0 < (T3 1 256 128).numel := by decide
theorem posQ (late : Bool) : 0 < (T3 1 (nq late) 128).numel := by cases late <;> decide
theorem posV : 0 < (T4 1 1 128 256).numel := by decide
theorem posS (late : Bool) : 0 < (T4 1 1 256 (nq late)).numel := by cases late <;> decide
theorem posX (late : Bool) : 0 < (T4 1 1 1 (nq late)).numel := by cases late <;> decide
theorem posM (late : Bool) : 0 < (T3 1 1 (nq late)).numel := by cases late <;> decide
theorem posA (late : Bool) : 0 < (T3 1 128 (nq late)).numel := by cases late <;> decide
theorem posO : 0 < (T3 1 512 128).numel := by decide

theorem packO {i : ℕ} (hi : i < 8) : (Rect.unit (s := SO) ![0, i * 512, 0] ![1, 512, 128] (inbO hi)).PackedRows (EltTy.packing .bf16) := by
  have h : ∀ i : Fin 8, (Rect.unit (s := SO) ![0, i.val * 512, 0] ![1, 512, 128] (inbO i.isLt)).PackedRows (EltTy.packing .bf16) := by decide
  exact h ⟨i, hi⟩

variable (M : Mems sig)

abbrev loadK {j : ℕ} (hj : j < 16) (hh : Fin 2) := load (nD := nD) (τ := τ) (Λ := Λ) (F := F) M.k ![0, j * 256, hh.val * 128] ![1, 256, 128] (inbK hj hh) posK
abbrev loadQ {i : ℕ} (hi : i < 8) (hh : Fin 2) (late : Bool) :=
  load (nD := nD) (τ := τ) (Λ := Λ) (F := F) M.q ![0, i * 512 + c0 late, hh.val * 128] ![1, nq late, 128] (inbQ hi hh late) (posQ late)
abbrev loadV {j : ℕ} (hj : j < 16) := load (nD := nD) (τ := τ) (Λ := Λ) (F := F) M.v ![0, j, 0, 0] ![1, 1, 128, 256] (inbV hj) posV
abbrev loadS (sl hh : Fin 2) (late : Bool) :=
  load (nD := nD) (τ := τ) (Λ := Λ) (F := F) M.s ![sl.val, hh.val, 0, c0 late] ![1, 1, 256, nq late] (inbS sl hh late) (posS late)
abbrev loadX (sl hh : Fin 2) (late : Bool) :=
  load (nD := nD) (τ := τ) (Λ := Λ) (F := F) M.x ![sl.val, hh.val, 0, c0 late] ![1, 1, 1, nq late] (inbX sl hh late) (posX late)
abbrev loadM (hh : Fin 2) (late : Bool) :=
  load (nD := nD) (τ := τ) (Λ := Λ) (F := F) M.m ![hh.val, 0, c0 late] ![1, 1, nq late] (inbM hh late) (posM late)
abbrev loadA (hh : Fin 2) (late : Bool) :=
  load (nD := nD) (τ := τ) (Λ := Λ) (F := F) M.a ![hh.val, 0, c0 late] ![1, 128, nq late] (inbA hh late) (posA late)

abbrev storeS (sl hh : Fin 2) (late : Bool) (w : FVec F (T2 256 (nq late)) .f32) :=
  store (nD := nD) (τ := τ) (Λ := Λ) (F := F) M.s ![sl.val, hh.val, 0, c0 late] ![1, 1, 256, nq late] (inbS sl hh late) (posS late)
    (shapeCast (T4 1 1 256 (nq late)) w (castS late))
abbrev storeX (sl hh : Fin 2) (late : Bool) (w : FVec F (T2 1 (nq late)) .f32) :=
  store (nD := nD) (τ := τ) (Λ := Λ) (F := F) M.x ![sl.val, hh.val, 0, c0 late] ![1, 1, 1, nq late] (inbX sl hh late) (posX late)
    (shapeCast (T4 1 1 1 (nq late)) w (cast24 late))
abbrev storeM (hh : Fin 2) (late : Bool) (w : FVec F (T2 1 (nq late)) .f32) :=
  store (nD := nD) (τ := τ) (Λ := Λ) (F := F) M.m ![hh.val, 0, c0 late] ![1, 1, nq late] (inbM hh late) (posM late)
    (shapeCast (T3 1 1 (nq late)) w (cast23 late))
abbrev storeA (hh : Fin 2) (late : Bool) (w : FVec F (T2 128 (nq late)) .f32) :=
  store (nD := nD) (τ := τ) (Λ := Λ) (F := F) M.a ![hh.val, 0, c0 late] ![1, 128, nq late] (inbA hh late) (posA late)
    (shapeCast (T3 1 128 (nq late)) w (castA late))
/-- The store of a tile of the result, again after a load of its window. -/
abbrev storeO {i : ℕ} (hi : i < 8) (w : FVec F (T2 512 128) .bf16) : Prog (TpuEff nD τ sig (Elt F) Λ .tc) PUnit := do
  let _ ← load M.o ![0, i * 512, 0] ![1, 512, 128] (inbO hi) posO
  Prog.lift (.store M.o (Rect.unit (s := SO) ![0, i * 512, 0] ![1, 512, 128] (inbO hi)) (shapeCast (T3 1 512 128) w castO) Finset.univ
    (View.stores_vmem posO (M.ow.storeExact_slice rfl _ (packO hi)) (fun _ => rfl)) (.inl rfl))

/-! ## The values the body computes -/

/-- The causal mask of a diagonal block: key row at most query column. -/
def dmask : IVec (T2 256 512) 1 := cmpi .sle (iota .tc (T2 256 512) 32 [0] iotaQ0) (iota .tc (T2 256 512) 32 [1] iotaQ1)
/-- The row number of the value block. -/
def vrow : IVec (T2 128 256) 32 := iota .tc (T2 128 256) 32 [0] iotaV0

/-- The mask on the columns of a step. -/
def cmask : (late : Bool) → IVec (T2 256 (nq late)) 1
  | false => dmask
  | true => extractStridedSlice (T2 256 256) ![0, 0] dmask (slM true)

/-- The products of a key block and the queries of a step. -/
def dots (late : Bool) (kb : FVec F (T3 1 256 128) .bf16) (qb : FVec F (T3 1 (nq late) 128) .bf16) : FVec F (T2 256 (nq late)) .f32 :=
  matmul (DotDims.transposedRhs 256 128 (nq late)) none (shapeCast (T2 256 128) kb castK) (shapeCast (T2 (nq late) 128) qb (castQ late))
    (constant (T2 256 (nq late)) .f32 0x00000000#32)

/-- The scores: the products, masked in a diagonal block. -/
def scoresV (neg : F .f32) (late diag : Bool) (kb : FVec F (T3 1 256 128) .bf16) (qb : FVec F (T3 1 (nq late) 128) .bf16) : FVec F (T2 256 (nq late)) .f32 :=
  match diag with
  | false => dots late kb qb
  | true => select (cmask late) (dots late kb qb) (broadcast (T2 256 (nq late)) neg)

/-- The column maxima of a block of scores. -/
def colMax (late : Bool) (s : FVec F (T2 256 (nq late)) .f32) : FVec F (T2 1 (nq late)) .f32 :=
  shapeCast (T2 1 (nq late)) (multiReduction .maximumf [0] (T1 (nq late)) s 0xFF800000#32 (redS late) (.inl rfl) rfl) (cast12 late)

/-- The row of a head's value block that is given over to the sum of the weights. -/
def sumRow (hh : Fin 2) : BitVec 32 := match hh with | 0 => 64#32 | 1 => 0#32

/-- A value block with that row replaced by ones. -/
def valsOne (hh : Fin 2) (vb : FVec F (T4 1 1 128 256) .bf16) : FVec F (T2 128 256) .bf16 :=
  select (cmpi .eq vrow (broadcast (T2 128 256) (sumRow hh))) (broadcast (T2 128 256) (Scalar.ofBits .bf16 0x3F80#16)) (shapeCast (T2 128 256) vb castV)

/-- The weights of a block: the powers of two of the scores over the maxima. -/
def weights (late : Bool) (s : FVec F (T4 1 1 256 (nq late)) .f32) (mx : FVec F (T2 1 (nq late)) .f32) : FVec F (T2 256 (nq late)) .f32 :=
  exp2 (subf (shapeCast (T2 256 (nq late)) s (castS' late)) (broadcastTo (T2 256 (nq late)) mx (brS late)))

/-- The weighted sums of a block's values. -/
def pv (late : Bool) (vh : FVec F (T2 128 256) .bf16) (p : FVec F (T2 256 (nq late)) .f32) : FVec F (T2 128 (nq late)) .f32 :=
  matmul (DotDims.plain 128 256 (nq late)) none vh (truncf .bf16 p bits16) (constant (T2 128 (nq late)) .f32 0x00000000#32)

/-- The new running maxima. -/
def newMax (late : Bool) (m : FVec F (T3 1 1 (nq late)) .f32) (x : FVec F (T4 1 1 1 (nq late)) .f32) : FVec F (T2 1 (nq late)) .f32 :=
  maximumf (shapeCast (T2 1 (nq late)) m (cast32 late)) (shapeCast (T2 1 (nq late)) x (cast42 late))

/-- The accumulators taken over to the new maxima, with a block's weighted values added. -/
def newAcc (late : Bool) (m : FVec F (T3 1 1 (nq late)) .f32) (x : FVec F (T4 1 1 1 (nq late)) .f32) (s : FVec F (T4 1 1 256 (nq late)) .f32)
    (a : FVec F (T3 1 128 (nq late)) .f32) (vh : FVec F (T2 128 256) .bf16) : FVec F (T2 128 (nq late)) .f32 :=
  addf (mulf (broadcastTo (T2 128 (nq late)) (exp2 (subf (shapeCast (T2 1 (nq late)) m (cast32 late)) (newMax late m x))) (brA late))
      (shapeCast (T2 128 (nq late)) a (castA' late)))
    (pv late vh (weights late s (newMax late m x)))

/-- A tile of the result: each head's accumulated values over its accumulated weights, the heads side by side. -/
def outV (a0 a1 : FVec F (T3 1 128 512) .f32) : FVec F (T2 512 128) .bf16 :=
  truncf .bf16 (transpose (T2 512 128) [1, 0] (concatenate (T2 128 512) 0
    [⟨T2 64 512, divf (extractStridedSlice (T2 64 512) ![0, 0] (shapeCast (T2 128 512) a0 (castA' false)) slO0)
        (broadcastTo (T2 64 512) (extractStridedSlice (T2 1 512) ![64, 0] (shapeCast (T2 128 512) a0 (castA' false)) slR64) brO)⟩,
     ⟨T2 64 512, divf (extractStridedSlice (T2 64 512) ![64, 0] (shapeCast (T2 128 512) a1 (castA' false)) slO64)
        (broadcastTo (T2 64 512) (extractStridedSlice (T2 1 512) ![0, 0] (shapeCast (T2 128 512) a1 (castA' false)) slR0) brO)⟩] catO) trO) bits16

/-! ## The body's steps -/

/-- One head's scores of key block `j` against the queries of tile `i`, and their column maxima, put in slot `sl`. -/
def scoreHead (neg : F .f32) (late diag : Bool) {j i : ℕ} (hj : j < 16) (hi : i < 8) (sl hh : Fin 2) : Prog (TpuEff nD τ sig (Elt F) Λ .tc) PUnit := do
  let kb ← loadK M hj hh
  let qb ← loadQ M hi hh late
  storeS M sl hh late (scoresV neg late diag kb qb)
  storeX M sl hh late (colMax late (scoresV neg late diag kb qb))

/-- Both heads' scores. -/
def scores (neg : F .f32) (late diag : Bool) {j i : ℕ} (hj : j < 16) (hi : i < 8) (sl : Fin 2) : Prog (TpuEff nD τ sig (Elt F) Λ .tc) PUnit := do
  scoreHead M neg late diag hj hi sl 0
  scoreHead M neg late diag hj hi sl 1

/-- A head's first block of a tile: its maxima and weighted values as they are. -/
def firstHead (sl hh : Fin 2) (vb : FVec F (T4 1 1 128 256) .bf16) : Prog (TpuEff nD τ sig (Elt F) Λ .tc) PUnit := do
  let x ← loadX M sl hh false
  let s ← loadS M sl hh false
  storeA M hh false (pv false (valsOne hh vb) (weights false s (shapeCast (T2 1 (nq false)) x (cast42 false))))
  storeM M hh false (shapeCast (T2 1 (nq false)) x (cast42 false))

/-- The first block of a tile, in slot 0. -/
def first : Prog (TpuEff nD τ sig (Elt F) Λ .tc) PUnit := do
  let vb ← loadV M (j := 0) (by decide)
  firstHead M 0 0 vb
  firstHead M 0 1 vb

/-- A head's later block: the online update. -/
def nextHead (late : Bool) (sl hh : Fin 2) (vb : FVec F (T4 1 1 128 256) .bf16) : Prog (TpuEff nD τ sig (Elt F) Λ .tc) PUnit := do
  let m ← loadM M hh late
  let x ← loadX M sl hh late
  let s ← loadS M sl hh late
  let a ← loadA M hh late
  storeA M hh late (newAcc late m x s a (valsOne hh vb))
  storeM M hh late (newMax late m x)

/-- A later block, in slot `sl`. -/
def next (late : Bool) {j : ℕ} (hj : j < 16) (sl : Fin 2) : Prog (TpuEff nD τ sig (Elt F) Λ .tc) PUnit := do
  let vb ← loadV M hj
  nextHead M late sl 0 vb
  nextHead M late sl 1 vb

/-- The even block of number `2 * t`, which is the tile's first when `t = 0`. -/
def even : {t : ℕ} → (ht : t < 8) → Prog (TpuEff nD τ sig (Elt F) Λ .tc) PUnit
  | 0, _ => first M
  | t + 1, ht => next M false (j := 2 * (t + 1)) (by omega) 0

/-- Two key blocks of tile `i`: while one's weights are summed, the scores of the one after it are taken. -/
def twoBlocks (neg : F .f32) (last : Bool) {t i : ℕ} (ht : t + 1 < 8) (hi : i < 8) : Prog (TpuEff nD τ sig (Elt F) Λ .tc) PUnit := do
  scores M neg false false (j := 2 * t + 1) (by omega) hi 1
  even M (t := t) (by omega)
  scores M neg false last (j := 2 * t + 2) (by omega) hi 0
  next M false (j := 2 * t + 1) (by omega) 1

/-- The first `n` pairs of blocks, none of them masked. -/
def pairs (neg : F .f32) {i : ℕ} (hi : i < 8) : (n : ℕ) → n < 8 → Prog (TpuEff nD τ sig (Elt F) Λ .tc) PUnit
  | 0, _ => pure ⟨⟩
  | n + 1, hn => do
    pairs neg hi n (by omega)
    twoBlocks M neg false (t := n) (by omega) hi

/-- What comes before a tile's diagonal: the pairs, the last of which takes the masked scores of block `2 * i`; the first tile has
    none, and takes those scores alone. -/
def before (neg : F .f32) : {i : ℕ} → (hi : i < 8) → Prog (TpuEff nD τ sig (Elt F) Λ .tc) PUnit
  | 0, hi => scores M neg false true (j := 0) (by decide) hi 0
  | i + 1, hi => do
    pairs M neg hi i (by omega)
    twoBlocks M neg true (t := i) (by omega) hi

/-- The diagonal of tile `i`, and the first scores of the tile `i'` after it. -/
def diagonal (neg : F .f32) {i i' : ℕ} (hi : i < 8) (hi' : i' < 8) : Prog (TpuEff nD τ sig (Elt F) Λ .tc) PUnit := do
  scores M neg true true (j := 2 * i + 1) (by omega) hi 1
  even M (t := i) hi
  scores M neg false false (j := 0) (by decide) hi' 0
  next M true (j := 2 * i + 1) (by omega) 1

/-- The result of tile `i`. -/
def output {i : ℕ} (hi : i < 8) : Prog (TpuEff nD τ sig (Elt F) Λ .tc) PUnit := do
  let a0 ← loadA M 0 false
  let a1 ← loadA M 1 false
  storeO M hi (outV a0 a1)

/-- One query tile. -/
def tile (neg : F .f32) {i i' : ℕ} (hi : i < 8) (hi' : i' < 8) : Prog (TpuEff nD τ sig (Elt F) Λ .tc) PUnit := do
  before M neg hi
  diagonal M neg hi hi'
  output M hi

/-- The first `n` query tiles, each but the last followed by the one of the next number. -/
def tiles (neg : F .f32) : (n : ℕ) → n < 8 → Prog (TpuEff nD τ sig (Elt F) Λ .tc) PUnit
  | 0, _ => pure ⟨⟩
  | n + 1, hn => do
    tiles neg n (by omega)
    tile M neg (i := n) (i' := n + 1) (by omega) hn

/-- The body: eight tiles, the last one's look-ahead its own. -/
def body (neg : F .f32) : Prog (TpuEff nD τ sig (Elt F) Λ .tc) PUnit := do
  tiles M neg 7 (by decide)
  tile M neg (i := 7) (i' := 7) (by decide) (by decide)

end Prog

end Attn

end
-- ==== Proof.Attn.Run.lean ====
/-
  What the body's steps do to its buffers, as functions of what the buffers hold: `State` is the contents of the eight
  buffers, and `Does p st a st'` says that `p`, run where they hold `st`, answers `a` and leaves `st'`.
-/
module

public import proofs.«01_k».proof.Proof.Attn.Body

@[expose] public section

set_option maxRecDepth 16384

noncomputable section

namespace Attn

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem

/-! ## The contents of the buffers -/

/-- What the eight buffers hold. -/
structure State (F : FTy → Type) where
  q : FVec F SQ .bf16
  k : FVec F SQ .bf16
  v : FVec F SV .bf16
  o : FVec F SO .bf16
  s : FVec F SS .f32
  x : FVec F SX .f32
  m : FVec F SM .f32
  a : FVec F SA .f32

namespace State

variable {F : FTy → Type} [FloatOps F] (st : State F)

/-! Windows of a state, as the body loads them. -/

def getK {j : ℕ} (hj : j < 16) (hh : Fin 2) : FVec F (T3 1 256 128) .bf16 := window st.k ![0, j * 256, hh.val * 128] ![1, 256, 128] (inbK hj hh)
def getQ {i : ℕ} (hi : i < 8) (hh : Fin 2) (late : Bool) : FVec F (T3 1 (nq late) 128) .bf16 :=
  window st.q ![0, i * 512 + c0 late, hh.val * 128] ![1, nq late, 128] (inbQ hi hh late)
def getV {j : ℕ} (hj : j < 16) : FVec F (T4 1 1 128 256) .bf16 := window st.v ![0, j, 0, 0] ![1, 1, 128, 256] (inbV hj)
def getS (sl hh : Fin 2) (late : Bool) : FVec F (T4 1 1 256 (nq late)) .f32 :=
  window st.s ![sl.val, hh.val, 0, c0 late] ![1, 1, 256, nq late] (inbS sl hh late)
def getX (sl hh : Fin 2) (late : Bool) : FVec F (T4 1 1 1 (nq late)) .f32 :=
  window st.x ![sl.val, hh.val, 0, c0 late] ![1, 1, 1, nq late] (inbX sl hh late)
def getM (hh : Fin 2) (late : Bool) : FVec F (T3 1 1 (nq late)) .f32 :=
  window st.m ![hh.val, 0, c0 late] ![1, 1, nq late] (inbM hh late)
def getA (hh : Fin 2) (late : Bool) : FVec F (T3 1 128 (nq late)) .f32 :=
  window st.a ![hh.val, 0, c0 late] ![1, 128, nq late] (inbA hh late)

/-! Windows of a state overwritten, as the body stores them. -/

def putS (sl hh : Fin 2) (late : Bool) (w : FVec F (T2 256 (nq late)) .f32) : State F :=
  { st with s := put st.s ![sl.val, hh.val, 0, c0 late] ![1, 1, 256, nq late] (shapeCast (T4 1 1 256 (nq late)) w (castS late)) }
def putX (sl hh : Fin 2) (late : Bool) (w : FVec F (T2 1 (nq late)) .f32) : State F :=
  { st with x := put st.x ![sl.val, hh.val, 0, c0 late] ![1, 1, 1, nq late] (shapeCast (T4 1 1 1 (nq late)) w (cast24 late)) }
def putM (hh : Fin 2) (late : Bool) (w : FVec F (T2 1 (nq late)) .f32) : State F :=
  { st with m := put st.m ![hh.val, 0, c0 late] ![1, 1, nq late] (shapeCast (T3 1 1 (nq late)) w (cast23 late)) }
def putA (hh : Fin 2) (late : Bool) (w : FVec F (T2 128 (nq late)) .f32) : State F :=
  { st with a := put st.a ![hh.val, 0, c0 late] ![1, 128, nq late] (shapeCast (T3 1 128 (nq late)) w (castA late)) }
def putO (i : ℕ) (w : FVec F (T2 512 128) .bf16) : State F :=
  { st with o := put st.o ![0, i * 512, 0] ![1, 512, 128] (shapeCast (T3 1 512 128) w castO) }

/-! The body's steps on states. -/

def scoreHead (neg : F .f32) (late diag : Bool) {j i : ℕ} (hj : j < 16) (hi : i < 8) (sl hh : Fin 2) : State F :=
  let sc := scoresV neg late diag (st.getK hj hh) (st.getQ hi hh late)
  (st.putS sl hh late sc).putX sl hh late (colMax late sc)

def scores (neg : F .f32) (late diag : Bool) {j i : ℕ} (hj : j < 16) (hi : i < 8) (sl : Fin 2) : State F :=
  (st.scoreHead neg late diag hj hi sl 0).scoreHead neg late diag hj hi sl 1

def firstHead (sl hh : Fin 2) (vb : FVec F (T4 1 1 128 256) .bf16) : State F :=
  let mx := shapeCast (T2 1 (nq false)) (st.getX sl hh false) (cast42 false)
  (st.putA hh false (pv false (valsOne hh vb) (weights false (st.getS sl hh false) mx))).putM hh false mx

def first : State F :=
  let vb := st.getV (j := 0) (by decide)
  (st.firstHead 0 0 vb).firstHead 0 1 vb

def nextHead (late : Bool) (sl hh : Fin 2) (vb : FVec F (T4 1 1 128 256) .bf16) : State F :=
  (st.putA hh late (newAcc late (st.getM hh late) (st.getX sl hh late) (st.getS sl hh late) (st.getA hh late) (valsOne hh vb))).putM hh late
    (newMax late (st.getM hh late) (st.getX sl hh late))

def next (late : Bool) {j : ℕ} (hj : j < 16) (sl : Fin 2) : State F :=
  let vb := st.getV hj
  (st.nextHead late sl 0 vb).nextHead late sl 1 vb

def even : {t : ℕ} → (ht : t < 8) → State F
  | 0, _ => st.first
  | t + 1, ht => st.next false (j := 2 * (t + 1)) (by omega) 0

def twoBlocks (neg : F .f32) (last : Bool) {t i : ℕ} (ht : t + 1 < 8) (hi : i < 8) : State F :=
  (((st.scores neg false false (j := 2 * t + 1) (by omega) hi 1).even (t := t) (by omega)).scores neg false last (j := 2 * t + 2) (by omega) hi 0).next
    false (j := 2 * t + 1) (by omega) 1

def pairs (neg : F .f32) {i : ℕ} (hi : i < 8) : (n : ℕ) → n < 8 → State F
  | 0, _ => st
  | n + 1, hn => (pairs neg hi n (by omega)).twoBlocks neg false (t := n) (by omega) hi

def before (neg : F .f32) : {i : ℕ} → (hi : i < 8) → State F
  | 0, hi => st.scores neg false true (j := 0) (by decide) hi 0
  | i + 1, hi => (st.pairs neg hi i (by omega)).twoBlocks neg true (t := i) (by omega) hi

def diagonal (neg : F .f32) {i i' : ℕ} (hi : i < 8) (hi' : i' < 8) : State F :=
  (((st.scores neg true true (j := 2 * i + 1) (by omega) hi 1).even (t := i) hi).scores neg false false (j := 0) (by decide) hi' 0).next
    true (j := 2 * i + 1) (by omega) 1

def output (i : ℕ) : State F := st.putO i (outV (st.getA 0 false) (st.getA 1 false))

def tile (neg : F .f32) {i i' : ℕ} (hi : i < 8) (hi' : i' < 8) : State F := ((st.before neg hi).diagonal neg hi hi').output i

def tiles (neg : F .f32) : (n : ℕ) → n < 8 → State F
  | 0, _ => st
  | n + 1, hn => (tiles neg n (by omega)).tile neg (i := n) (i' := n + 1) (by omega) hn

def body (neg : F .f32) : State F := (st.tiles neg 7 (by decide)).tile neg (i := 7) (i' := 7) (by decide) (by decide)

end State

/-! ## Running a step -/

section Run

variable {nD : ℕ} {τ : Topo} {sig : RefSig} {Λ : Labels} {F : FTy → Type} [FloatOps F]

variable {Ix : Type} [DecidableEq Ix] {Name : Type} [DecidableEq Name] {U : Type} [URA U] {Lvl : Type} [Preorder Lvl]

local notation "𝕄" => MT nD τ sig Ix (Elt F) Name U Lvl

section Owned

variable {defs : Defs nD τ sig (Elt F) Λ} (𝒱 : Variants) (c : Dev nD) (bd : Option 𝒱.V) (E : Set Name) {s : Shape} {e : EltTy} {α : Type}

/-- A load of a window of an owned memref. -/
theorem wp_load_owned (m : Memref sig .tc .vmem s e) (X : s.Idx → Elt F e) (off size : Fin s.rank → ℕ) (inb : ∀ a, off a + size a ≤ s.size a)
    {hl : m.view.LoadsAt (Rect.unit off size inb).toLoadRect} {k : ((Rect.unit off size inb).shape.Idx → Elt F e) → Prog (TpuEff nD τ sig (Elt F) Λ .tc) α} {Q : α → sProp 𝕄} :
    (owns (c : Thread nD τ) m fullShare X : sProp 𝕄)
      ⊢ iprop((owns (c : Thread nD τ) m fullShare X -∗ wp frame (wpE defs 𝒱 (c : Thread nD τ) bd) E (k (window X off size inb)) Q)
        -∗ wp frame (wpE defs 𝒱 (c : Thread nD τ) bd) E (.op (.load m (Rect.unit off size inb).toLoadRect hl) k) Q) := by
  unfold owns
  iintro ⟨%f, %hf, H⟩ Hk
  iapply (wp_load_rect 𝒱 (c : Thread nD τ) bd E (m := m) (r := Rect.unit off size inb) (View.set_slice_subset _ _)) $$ H
  iintro H
  have hr : (m.access (Rect.unit off size inb)).read (Elt F) f = window X off size inb := by subst hf; rfl
  rw [hr]
  iapply Hk
  iexists f
  isplitr; · ipureintro; exact hf
  iexact H

/-- A store over a window of an owned memref. -/
theorem wp_store_owned (m : Memref sig .tc .vmem s e) (X : s.Idx → Elt F e) (off size : Fin s.rank → ℕ) (inb : ∀ a, off a + size a ≤ s.size a)
    (w : (Rect.unit off size inb).shape.Idx → Elt F e)
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ .tc) α} {Q : α → sProp 𝕄} :
    (owns (c : Thread nD τ) m fullShare X : sProp 𝕄)
      ⊢ iprop((owns (c : Thread nD τ) m fullShare (put X off size w) -∗ wp frame (wpE defs 𝒱 (c : Thread nD τ) bd) E (k ⟨⟩) Q)
        -∗ wp frame (wpE defs 𝒱 (c : Thread nD τ) bd) E (.op (.store m (Rect.unit off size inb) w Finset.univ hx hm) k) Q) := by
  unfold owns
  iintro ⟨%f, %hf, H⟩ Hk
  iapply (wp_store 𝒱 (c : Thread nD τ) bd E (m := m) (r := Rect.unit off size inb) ((View.setOn_subset_set _ _).trans (View.set_slice_subset _ _))) $$ H
  iintro H
  iapply Hk
  iexists _
  isplitr
  rotate_left
  · iexact H
  · ipureintro
    subst hf
    exact View.read_writes_cons_put m.view f inb w [] rfl

end Owned

/-- The eight buffers, held at a state. -/
def held (M : Mems sig) (c : Dev nD) (st : State F) : sProp 𝕄 :=
  iprop(owns (c : Thread nD τ) M.q fullShare st.q ∗ owns (c : Thread nD τ) M.k fullShare st.k ∗ owns (c : Thread nD τ) M.v fullShare st.v
    ∗ owns (c : Thread nD τ) M.o fullShare st.o ∗ owns (c : Thread nD τ) M.s fullShare st.s ∗ owns (c : Thread nD τ) M.x fullShare st.x
    ∗ owns (c : Thread nD τ) M.m fullShare st.m ∗ owns (c : Thread nD τ) M.a fullShare st.a)

/-- The program `p`, run where the buffers hold `st`, answers `a` and leaves them at `st'`. -/
structure Does (M : Mems sig) {α : Type} (p : Prog (TpuEff nD τ sig (Elt F) Λ .tc) α) (st : State F) (a : α) (st' : State F) : Prop where
  run : ∀ {Ix : Type} [DecidableEq Ix] {Name : Type} [DecidableEq Name] {U : Type} [URA U] {Lvl : Type} [Preorder Lvl]
    {defs : Defs nD τ sig (Elt F) Λ} (𝒱 : Variants) (c : Dev nD) (bd : Option 𝒱.V) (E : Set Name) (Q : α → sProp (MT nD τ sig Ix (Elt F) Name U Lvl)),
    (held M c st : sProp (MT nD τ sig Ix (Elt F) Name U Lvl)) ⊢ iprop((held M c st' -∗ Q a) -∗ wp frame (wpE defs 𝒱 (c : Thread nD τ) bd) E p Q)

variable {M : Mems sig}

theorem Does.ret {α : Type} (a : α) (st : State F) : Does (nD := nD) (τ := τ) (Λ := Λ) M (pure a) st a st := by
  refine ⟨fun 𝒱 c bd E Q => ?_⟩
  rw [wp_pure]
  iintro H Hk
  imodintro
  iapply Hk $$ H

theorem Does.bind {α β : Type} {p : Prog (TpuEff nD τ sig (Elt F) Λ .tc) α} {f : α → Prog (TpuEff nD τ sig (Elt F) Λ .tc) β} {st st₁ st₂ : State F} {a : α} {b : β}
    (hp : Does M p st a st₁) (hf : Does M (f a) st₁ b st₂) : Does M (p >>= f) st b st₂ := by
  refine ⟨fun 𝒱 c bd E Q => ?_⟩
  rw [wp_bind]
  iintro H Hk
  iapply (hp.run 𝒱 c bd E _) $$ H
  iintro H
  iapply (hf.run 𝒱 c bd E Q) $$ H
  iexact Hk

/-! ## Loads and stores -/

/-- One of the buffers taken out: `m` holds `X` at `st`, and given back at `Y` it makes `st` into `upd Y`. -/
structure Has (M : Mems sig) {s : Shape} {e : EltTy} (m : Memref sig .tc .vmem s e) (X : s.Idx → Elt F e) (st : State F) (upd : (s.Idx → Elt F e) → State F) : Prop where
  split : ∀ {Ix : Type} [DecidableEq Ix] {Name : Type} [DecidableEq Name] {U : Type} [URA U] {Lvl : Type} [Preorder Lvl] (nD : ℕ) (τ : Topo) (c : Dev nD),
    (held M c st : sProp (MT nD τ sig Ix (Elt F) Name U Lvl))
      ⊢ iprop(owns (c : Thread nD τ) m fullShare X ∗ (∀ Y, owns (c : Thread nD τ) m fullShare Y -∗ held M c (upd Y)))

theorem has_q (st : State F) : Has M M.q st.q st (fun Y => { st with q := Y }) := by
  refine ⟨fun nD τ c => ?_⟩
  unfold held
  iintro ⟨Hq, Hk, Hv, Ho, Hs, Hx, Hm, Ha⟩
  isplitl [Hq]; · iexact Hq
  iintro %Y Hq
  iframe

theorem has_k (st : State F) : Has M M.k st.k st (fun Y => { st with k := Y }) := by
  refine ⟨fun nD τ c => ?_⟩
  unfold held
  iintro ⟨Hq, Hk, Hv, Ho, Hs, Hx, Hm, Ha⟩
  isplitl [Hk]; · iexact Hk
  iintro %Y Hk
  iframe

theorem has_v (st : State F) : Has M M.v st.v st (fun Y => { st with v := Y }) := by
  refine ⟨fun nD τ c => ?_⟩
  unfold held
  iintro ⟨Hq, Hk, Hv, Ho, Hs, Hx, Hm, Ha⟩
  isplitl [Hv]; · iexact Hv
  iintro %Y Hv
  iframe

theorem has_o (st : State F) : Has M M.o st.o st (fun Y => { st with o := Y }) := by
  refine ⟨fun nD τ c => ?_⟩
  unfold held
  iintro ⟨Hq, Hk, Hv, Ho, Hs, Hx, Hm, Ha⟩
  isplitl [Ho]; · iexact Ho
  iintro %Y Ho
  iframe

theorem has_s (st : State F) : Has M M.s st.s st (fun Y => { st with s := Y }) := by
  refine ⟨fun nD τ c => ?_⟩
  unfold held
  iintro ⟨Hq, Hk, Hv, Ho, Hs, Hx, Hm, Ha⟩
  isplitl [Hs]; · iexact Hs
  iintro %Y Hs
  iframe

theorem has_x (st : State F) : Has M M.x st.x st (fun Y => { st with x := Y }) := by
  refine ⟨fun nD τ c => ?_⟩
  unfold held
  iintro ⟨Hq, Hk, Hv, Ho, Hs, Hx, Hm, Ha⟩
  isplitl [Hx]; · iexact Hx
  iintro %Y Hx
  iframe

theorem has_m (st : State F) : Has M M.m st.m st (fun Y => { st with m := Y }) := by
  refine ⟨fun nD τ c => ?_⟩
  unfold held
  iintro ⟨Hq, Hk, Hv, Ho, Hs, Hx, Hm, Ha⟩
  isplitl [Hm]; · iexact Hm
  iintro %Y Hm
  iframe

theorem has_a (st : State F) : Has M M.a st.a st (fun Y => { st with a := Y }) := by
  refine ⟨fun nD τ c => ?_⟩
  unfold held
  iintro ⟨Hq, Hk, Hv, Ho, Hs, Hx, Hm, Ha⟩
  isplitl [Ha]; · iexact Ha
  iintro %Y Ha
  iframe

theorem Has.load {s : Shape} {e : EltTy} {m : Memref sig .tc .vmem s e} {X : s.Idx → Elt F e} {st : State F} {upd : (s.Idx → Elt F e) → State F}
    (H : Has M m X st upd) (hX : upd X = st) (off size : Fin s.rank → ℕ) (inb : ∀ a, off a + size a ≤ s.size a) (h : 0 < (Rect.unit off size inb).shape.numel) :
    Does (nD := nD) (τ := τ) (Λ := Λ) M (load m off size inb h) st (window X off size inb) st := by
  refine ⟨fun 𝒱 c bd E Q => ?_⟩
  iintro H Hk
  ihave H := (H.split nD τ c) $$ H
  icases H with ⟨H, Hr⟩
  iapply (wp_load_owned 𝒱 c bd E m X off size inb) $$ H
  iintro H
  rw [wp_ret]
  imodintro
  iapply Hk
  ihave H := Hr $$ %X H
  rw [hX]
  iexact H

theorem Has.stored {s : Shape} {e : EltTy} {m : Memref sig .tc .vmem s e} {X : s.Idx → Elt F e} {st : State F} {upd : (s.Idx → Elt F e) → State F}
    (H : Has M m X st upd) (off size : Fin s.rank → ℕ) (inb : ∀ a, off a + size a ≤ s.size a) (w : (Rect.unit off size inb).shape.Idx → Elt F e)
    (hx : (m.access (Rect.unit off size inb)).Stores Finset.univ)
    (hm : (Finset.univ : Finset (Rect.unit off size inb).shape.Idx) = Finset.univ ∨ ∀ a, (Rect.unit off size inb).stride a = 1) :
    Does (nD := nD) (τ := τ) (Λ := Λ) M (Prog.lift (.store m (Rect.unit off size inb) w Finset.univ hx hm)) st ⟨⟩ (upd (put X off size w)) := by
  refine ⟨fun 𝒱 c bd E Q => ?_⟩
  iintro H Hk
  ihave H := (H.split nD τ c) $$ H
  icases H with ⟨H, Hr⟩
  iapply (wp_store_owned 𝒱 c bd E m X off size inb w) $$ H
  iintro H
  rw [wp_ret]
  imodintro
  iapply Hk
  ihave H := Hr $$ %(put X off size w) H
  iexact H

theorem Has.store {s : Shape} {m : Memref sig .tc .vmem s .f32} {X : s.Idx → Elt F .f32} {st : State F} {upd : (s.Idx → Elt F .f32) → State F}
    (H : Has M m X st upd) (hX : upd X = st) (off size : Fin s.rank → ℕ) (inb : ∀ a, off a + size a ≤ s.size a) (h : 0 < (Rect.unit off size inb).shape.numel)
    (w : (Rect.unit off size inb).shape.Idx → Elt F .f32) :
    Does (nD := nD) (τ := τ) (Λ := Λ) M (store m off size inb h w) st ⟨⟩ (upd (put X off size w)) :=
  (H.load hX off size inb h).bind (H.stored off size inb w _ _)

section Steps

variable (neg : F .f32) (st : State F)

/-! ## The steps -/

theorem does_scoreHead (late diag : Bool) {j i : ℕ} (hj : j < 16) (hi : i < 8) (sl hh : Fin 2) :
    Does (nD := nD) (τ := τ) (Λ := Λ) M (scoreHead M neg late diag hj hi sl hh) st ⟨⟩ (st.scoreHead neg late diag hj hi sl hh) :=
  ((has_k st).load rfl _ _ _ _).bind <| ((has_q st).load rfl _ _ _ _).bind <| ((has_s st).store rfl _ _ _ _ _).bind <|
    (has_x _).store rfl _ _ _ _ _

theorem does_scores (late diag : Bool) {j i : ℕ} (hj : j < 16) (hi : i < 8) (sl : Fin 2) :
    Does (nD := nD) (τ := τ) (Λ := Λ) M (scores M neg late diag hj hi sl) st ⟨⟩ (st.scores neg late diag hj hi sl) :=
  (does_scoreHead neg st late diag hj hi sl 0).bind (does_scoreHead neg _ late diag hj hi sl 1)

theorem does_firstHead (sl hh : Fin 2) (vb : FVec F (T4 1 1 128 256) .bf16) :
    Does (nD := nD) (τ := τ) (Λ := Λ) M (firstHead M sl hh vb) st ⟨⟩ (st.firstHead sl hh vb) :=
  ((has_x st).load rfl _ _ _ _).bind <| ((has_s st).load rfl _ _ _ _).bind <| ((has_a st).store rfl _ _ _ _ _).bind <|
    (has_m _).store rfl _ _ _ _ _

theorem does_first : Does (nD := nD) (τ := τ) (Λ := Λ) M (first M) st ⟨⟩ st.first :=
  ((has_v st).load rfl _ _ _ _).bind <| (does_firstHead st 0 0 _).bind (does_firstHead _ 0 1 _)

theorem does_nextHead (late : Bool) (sl hh : Fin 2) (vb : FVec F (T4 1 1 128 256) .bf16) :
    Does (nD := nD) (τ := τ) (Λ := Λ) M (nextHead M late sl hh vb) st ⟨⟩ (st.nextHead late sl hh vb) :=
  ((has_m st).load rfl _ _ _ _).bind <| ((has_x st).load rfl _ _ _ _).bind <| ((has_s st).load rfl _ _ _ _).bind <|
    ((has_a st).load rfl _ _ _ _).bind <| ((has_a st).store rfl _ _ _ _ _).bind <| (has_m _).store rfl _ _ _ _ _

theorem does_next (late : Bool) {j : ℕ} (hj : j < 16) (sl : Fin 2) :
    Does (nD := nD) (τ := τ) (Λ := Λ) M (next M late hj sl) st ⟨⟩ (st.next late hj sl) :=
  ((has_v st).load rfl _ _ _ _).bind <| (does_nextHead st late sl 0 _).bind (does_nextHead _ late sl 1 _)

theorem does_even {t : ℕ} (ht : t < 8) : Does (nD := nD) (τ := τ) (Λ := Λ) M (even M ht) st ⟨⟩ (st.even ht) :=
  match t, ht with
  | 0, _ => does_first st
  | _ + 1, _ => does_next st false _ 0

theorem does_twoBlocks (last : Bool) {t i : ℕ} (ht : t + 1 < 8) (hi : i < 8) :
    Does (nD := nD) (τ := τ) (Λ := Λ) M (twoBlocks M neg last ht hi) st ⟨⟩ (st.twoBlocks neg last ht hi) :=
  (does_scores neg st false false _ hi 1).bind <| (does_even _ _).bind <| (does_scores neg _ false last _ hi 0).bind (does_next _ false _ 1)

theorem does_pairs {i : ℕ} (hi : i < 8) : (n : ℕ) → (hn : n < 8) → Does (nD := nD) (τ := τ) (Λ := Λ) M (pairs M neg hi n hn) st ⟨⟩ (st.pairs neg hi n hn)
  | 0, _ => .ret _ _
  | n + 1, hn => (does_pairs hi n _).bind (does_twoBlocks neg _ false _ hi)

theorem does_before {i : ℕ} (hi : i < 8) : Does (nD := nD) (τ := τ) (Λ := Λ) M (before M neg hi) st ⟨⟩ (st.before neg hi) :=
  match i, hi with
  | 0, hi => does_scores neg st false true _ hi 0
  | i + 1, hi => (does_pairs neg st hi i _).bind (does_twoBlocks neg _ true _ hi)

theorem does_diagonal {i i' : ℕ} (hi : i < 8) (hi' : i' < 8) :
    Does (nD := nD) (τ := τ) (Λ := Λ) M (diagonal M neg hi hi') st ⟨⟩ (st.diagonal neg hi hi') :=
  (does_scores neg st true true _ hi 1).bind <| (does_even _ _).bind <| (does_scores neg _ false false _ hi' 0).bind (does_next _ true _ 1)

theorem does_output {i : ℕ} (hi : i < 8) : Does (nD := nD) (τ := τ) (Λ := Λ) M (output M hi) st ⟨⟩ (st.output i) :=
  ((has_a st).load rfl _ _ _ _).bind <| ((has_a st).load rfl _ _ _ _).bind <| ((has_o st).load rfl _ _ _ _).bind <| (has_o st).stored _ _ _ _ _ _

theorem does_tile {i i' : ℕ} (hi : i < 8) (hi' : i' < 8) : Does (nD := nD) (τ := τ) (Λ := Λ) M (tile M neg hi hi') st ⟨⟩ (st.tile neg hi hi') :=
  (does_before neg st hi).bind <| (does_diagonal neg _ hi hi').bind (does_output _ hi)

theorem does_tiles : (n : ℕ) → (hn : n < 8) → Does (nD := nD) (τ := τ) (Λ := Λ) M (tiles M neg n hn) st ⟨⟩ (st.tiles neg n hn)
  | 0, _ => .ret _ _
  | n + 1, hn => (does_tiles n _).bind (does_tile neg _ _ hn)

/-- The body leaves the buffers at `State.body`. -/
theorem does_body : Does (nD := nD) (τ := τ) (Λ := Λ) M (body M neg) st ⟨⟩ (st.body neg) :=
  (does_tiles neg st 7 _).bind (does_tile neg _ _ _)

end Steps

end Run
end Attn
end
-- ==== Proof.Attn.Kept.lean ====
/-
  What the body leaves as it was: queries, keys and values throughout; and the body's triple over memrefs held at any
  contents, which names the result through a state the inputs of which are those held.
-/
module

public import proofs.«01_k».proof.Proof.Attn.Run

@[expose] public section

set_option maxRecDepth 16384

noncomputable section

namespace Attn

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] (st : State F)

/-- The blocks of queries, keys and values. -/
structure Inputs (q k : FVec F SQ .bf16) (v : FVec F SV .bf16) (st : State F) : Prop where
  q : st.q = q
  k : st.k = k
  v : st.v = v

theorem first_same : (st.first).q = st.q ∧ (st.first).k = st.k ∧ (st.first).v = st.v ∧ (st.first).o = st.o ∧ (st.first).s = st.s ∧ (st.first).x = st.x := by
  simp only [State.first, State.firstHead, State.putM, State.putA, and_self]

theorem next_same (late : Bool) {j : ℕ} (hj : j < 16) (sl : Fin 2) : (st.next late hj sl).q = st.q ∧ (st.next late hj sl).k = st.k ∧ (st.next late hj sl).v = st.v
    ∧ (st.next late hj sl).o = st.o ∧ (st.next late hj sl).s = st.s ∧ (st.next late hj sl).x = st.x := by
  simp only [State.next, State.nextHead, State.putM, State.putA, and_self]

theorem even_same {t : ℕ} (ht : t < 8) : (st.even ht).q = st.q ∧ (st.even ht).k = st.k ∧ (st.even ht).v = st.v
    ∧ (st.even ht).o = st.o ∧ (st.even ht).s = st.s ∧ (st.even ht).x = st.x := by
  cases t with
  | zero => exact first_same st
  | succ t => exact next_same st false _ 0

theorem scores_same (neg : F .f32) (late diag : Bool) {i j : ℕ} (hj : j < 16) (hi : i < 8) (sl : Fin 2) :
    (st.scores neg late diag hj hi sl).q = st.q ∧ (st.scores neg late diag hj hi sl).k = st.k
      ∧ (st.scores neg late diag hj hi sl).v = st.v ∧ (st.scores neg late diag hj hi sl).o = st.o
      ∧ (st.scores neg late diag hj hi sl).m = st.m ∧ (st.scores neg late diag hj hi sl).a = st.a := by
  simp only [State.scores, State.scoreHead, State.putS, State.putX, and_self]

section Inputs

variable {q k : FVec F SQ .bf16} {v : FVec F SV .bf16} {st}

theorem Inputs.congr {st' : State F} (H : Inputs q k v st) (hq : st'.q = st.q) (hk : st'.k = st.k) (hv : st'.v = st.v) : Inputs q k v st' :=
  ⟨hq.trans H.q, hk.trans H.k, hv.trans H.v⟩

theorem Inputs.scores (H : Inputs q k v st) (neg : F .f32) (late diag : Bool) {i j : ℕ} (hj : j < 16) (hi : i < 8) (sl : Fin 2) :
    Inputs q k v (st.scores neg late diag hj hi sl) :=
  have e := scores_same st neg late diag hj hi sl
  H.congr e.1 e.2.1 e.2.2.1

theorem Inputs.even (H : Inputs q k v st) {t : ℕ} (ht : t < 8) : Inputs q k v (st.even ht) :=
  have e := even_same st ht
  H.congr e.1 e.2.1 e.2.2.1

theorem Inputs.next (H : Inputs q k v st) (late : Bool) {j : ℕ} (hj : j < 16) (sl : Fin 2) : Inputs q k v (st.next late hj sl) :=
  have e := next_same st late hj sl
  H.congr e.1 e.2.1 e.2.2.1

theorem Inputs.twoBlocks (H : Inputs q k v st) (neg : F .f32) (last : Bool) {t i : ℕ} (ht : t + 1 < 8) (hi : i < 8) :
    Inputs q k v (st.twoBlocks neg last ht hi) := (((H.scores _ _ _ _ _ _).even _).scores _ _ _ _ _ _).next _ _ _

theorem Inputs.pairs (H : Inputs q k v st) (neg : F .f32) {i : ℕ} (hi : i < 8) : ∀ (n : ℕ) (hn : n < 8), Inputs q k v (st.pairs neg hi n hn)
  | 0, _ => H
  | n + 1, hn => (H.pairs neg hi n (by omega)).twoBlocks neg false hn hi

theorem Inputs.before (H : Inputs q k v st) (neg : F .f32) : ∀ {i : ℕ} (hi : i < 8), Inputs q k v (st.before neg hi)
  | 0, hi => H.scores neg false true (by decide) hi 0
  | i + 1, hi => (H.pairs neg hi i (by omega)).twoBlocks neg true hi hi

theorem Inputs.diagonal (H : Inputs q k v st) (neg : F .f32) {i i' : ℕ} (hi : i < 8) (hi' : i' < 8) : Inputs q k v (st.diagonal neg hi hi') :=
  (((H.scores _ _ _ _ _ _).even _).scores _ _ _ _ _ _).next _ _ _

theorem Inputs.tile (H : Inputs q k v st) (neg : F .f32) {i i' : ℕ} (hi : i < 8) (hi' : i' < 8) : Inputs q k v (st.tile neg hi hi') :=
  have h := (H.before neg hi).diagonal neg hi hi'
  ⟨h.q, h.k, h.v⟩

theorem Inputs.tiles (H : Inputs q k v st) (neg : F .f32) : ∀ (n : ℕ) (hn : n < 8), Inputs q k v (st.tiles neg n hn)
  | 0, _ => H
  | n + 1, hn => (H.tiles neg n (by omega)).tile neg (by omega) hn

theorem Inputs.body (H : Inputs q k v st) (neg : F .f32) : Inputs q k v (st.body neg) := (H.tiles neg 7 (by decide)).tile neg (by decide) (by decide)

end Inputs

/-! ## The body's triple -/

section Triple

variable {nD : ℕ} {τ : Topo} {sig : RefSig} {Λ : Labels}
variable {Ix : Type} [DecidableEq Ix] {Name : Type} [DecidableEq Name] {U : Type} [URA U] {Lvl : Type} [Preorder Lvl]

/-- From inputs held at `q`, `k`, `v` and the other buffers at any contents: the inputs at the same, and in the result what the
    body computes from some state with these inputs. -/
theorem body_triple (M : Mems sig) (neg : F .f32) {defs : Defs nD τ sig (Elt F) Λ} (𝒱 : Variants) (c : Dev nD) (bd : Option 𝒱.V) (E : Set Name)
    (q k : FVec F SQ .bf16) (v : FVec F SV .bf16) (K : PUnit → sProp (MT nD τ sig Ix (Elt F) Name U Lvl)) :
    (iprop(owns (c : Thread nD τ) M.q fullShare q ∗ owns (c : Thread nD τ) M.k fullShare k ∗ owns (c : Thread nD τ) M.v fullShare v
        ∗ (∃ d, owns (c : Thread nD τ) M.o fullShare d) ∗ (∃ d, owns (c : Thread nD τ) M.s fullShare d) ∗ (∃ d, owns (c : Thread nD τ) M.x fullShare d)
        ∗ (∃ d, owns (c : Thread nD τ) M.m fullShare d) ∗ (∃ d, owns (c : Thread nD τ) M.a fullShare d)
        ∗ (iprop(owns (c : Thread nD τ) M.q fullShare q ∗ owns (c : Thread nD τ) M.k fullShare k ∗ owns (c : Thread nD τ) M.v fullShare v
          ∗ (∃ st : State F, ⌜Inputs q k v st⌝ ∗ owns (c : Thread nD τ) M.o fullShare (st.body neg).o)
          ∗ (∃ d, owns (c : Thread nD τ) M.s fullShare d) ∗ (∃ d, owns (c : Thread nD τ) M.x fullShare d)
          ∗ (∃ d, owns (c : Thread nD τ) M.m fullShare d) ∗ (∃ d, owns (c : Thread nD τ) M.a fullShare d)) -∗ K ⟨⟩)) : sProp (MT nD τ sig Ix (Elt F) Name U Lvl))
      ⊢ wp frame (wpE defs 𝒱 (c : Thread nD τ) bd) E (Attn.body (nD := nD) (τ := τ) (Λ := Λ) M neg) K := by
  iintro ⟨Hq, Hk, Hv, ⟨%o, Ho⟩, ⟨%s, Hs⟩, ⟨%x, Hx⟩, ⟨%m, Hm⟩, ⟨%a, Ha⟩, HK⟩
  have I : Inputs q k v (⟨q, k, v, o, s, x, m, a⟩ : State F) := ⟨rfl, rfl, rfl⟩
  have I' := I.body neg
  have D := (does_body (nD := nD) (τ := τ) (Λ := Λ) (M := M) neg (⟨q, k, v, o, s, x, m, a⟩ : State F)).run (defs := defs) 𝒱 c bd E K
  iapply (BIClass.wand_elim D)
  isplitl [Hq Hk Hv Ho Hs Hx Hm Ha]
  · unfold held
    isplitl [Hq]; · iexact Hq
    isplitl [Hk]; · iexact Hk
    isplitl [Hv]; · iexact Hv
    isplitl [Ho]; · iexact Ho
    isplitl [Hs]; · iexact Hs
    isplitl [Hx]; · iexact Hx
    isplitl [Hm]; · iexact Hm
    iexact Ha
  · unfold held
    rw [I'.q, I'.k, I'.v]
    iintro ⟨Hq, Hk, Hv, Ho, Hs, Hx, Hm, Ha⟩
    iapply HK
    isplitl [Hq]; · iexact Hq
    isplitl [Hk]; · iexact Hk
    isplitl [Hv]; · iexact Hv
    isplitl [Ho]
    · iexists _
      isplitr; · ipureintro; exact I
      iexact Ho
    isplitl [Hs]; · iexists _; iexact Hs
    isplitl [Hx]; · iexists _; iexact Hx
    isplitl [Hm]; · iexists _; iexact Hm
    iexists _; iexact Ha

end Triple

end Attn
-- ==== Proof.Attn.FrameKernelIdeal.lean ====
/-
  The run of KernelIdeal: its body is the one written with loops, its arguments end unchanged, and, where what the
  body computes from a point's inputs is known, the result array is put together from it.
-/
module

public import proofs.«01_k».proof.Proof.Gen.KernelIdeal.Launch
public import proofs.«01_k».proof.Proof.Gen.KernelIdeal.Points
public import proofs.«01_k».proof.Proof.Attn.Kept
public import Idealize.ShloMosaic.Lib.Tactic
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body -/

/-- What the kernel writes for the score of a masked key. -/
abbrev neg : F .f32 := Named.named κ "mask" 0xF149F2CA#32

/-- The kernel's body is the one written with loops. -/
theorem body_eq (i : grid0.Coords) (a2 : Memref sig .tc .vmem S1x4096x256 .bf16) (h2 : a2.IsWhole) (a3 : Memref sig .tc .vmem S1x4096x256 .bf16) (h3 : a3.IsWhole)
    (a4 : Memref sig .tc .vmem S1x16x128x256 .bf16) (h4 : a4.IsWhole) (a5 : Memref sig .tc .vmem S1x4096x128 .bf16) (h5 : a5.IsWhole)
    (a6 : Memref sig .tc .vmem S2x2x256x512 .f32) (h6 : a6.IsWhole) (a7 : Memref sig .tc .vmem S2x2x1x512 .f32) (h7 : a7.IsWhole)
    (a8 : Memref sig .tc .vmem S2x1x512 .f32) (h8 : a8.IsWhole) (a9 : Memref sig .tc .vmem S2x128x512 .f32) (h9 : a9.IsWhole) :
    cc0_attention (F := F) i a2 h2 a3 h3 a4 h4 a5 h5 a6 h6 a7 h7 a8 h8 a9 h9
      = Attn.body (nD := nD) (τ := τ) (Λ := Λ₀) ⟨a2, a3, a4, a5, a6, a7, a8, a9, h5⟩ neg := by
  sl_kernel_rfl

/-! ## The pipeline -/

variable (m : (ℓ : Loc nD τ sig) → Buf (Elt F) ℓ) (ρ : Dev nD → PrngReg)

/-- The memory as the pipeline finds it. -/
abbrev V (c : Dev nD) (b : Ref sig .tc) : Buf (Elt F) ((c : Thread nD τ).loc b) := m ((c : Thread nD τ).loc b)

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev qblk (c : Dev nD) (t : Fin cfg0.N) : FVec F Attn.SQ .bf16 := iblk m c 0 t
abbrev kblk (c : Dev nD) (t : Fin cfg0.N) : FVec F Attn.SQ .bf16 := iblk m c 1 t
abbrev vblk (c : Dev nD) (t : Fin cfg0.N) : FVec F Attn.SV .bf16 := iblk m c 2 t

/-- What the result's block is said to hold after each point. -/
abbrev Outs (F : FTy → Type) := Dev nD → Fin cfg0.N → FVec F Attn.SO .bf16

variable (out : Outs F)

/-- The arrays at entry, and the blocks the body leaves: the inputs' their own, the result's `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t
  Φ _ := Pipeline.ΦA spec0 c
  q _ := fullShare
  owed _ := 0

theorem A_eq (c : Dev nD) (w : Fin cfg0.W) : (dats m out 0 c).A w = V m c (Pipeline.arrRef spec0 w) := by dsimp only [dats]

theorem after0_0 (c : Dev nD) (t : Fin cfg0.N) : (dats m out 0 c).after 0 t = qblk m c t := by dsimp only [dats]
theorem after0_1 (c : Dev nD) (t : Fin cfg0.N) : (dats m out 0 c).after 1 t = kblk m c t := by dsimp only [dats]
theorem after0_2 (c : Dev nD) (t : Fin cfg0.N) : (dats m out 0 c).after 2 t = vblk m c t := by dsimp only [dats]
theorem after0_3 (c : Dev nD) (t : Fin cfg0.N) : (dats m out 0 c).after 3 t = out c t := by dsimp only [dats]

/-- An input's staging buffer holds its block. -/
theorem before0_0 (c : Dev nD) (t : Fin cfg0.N) (d) : (dats m out 0 c).before 0 t d = qblk m c t :=
  ((dats m out 0 c).before_in_eq_fetched 0 rfl (fun _ => rfl) (fun _ _ _ => rfl) (fun t => by
    rw [after0_0]; unfold Dat.blockOf qblk iblk; rw [A_eq]; try rfl) t d).trans (by unfold Dat.fetched Dat.blockOf qblk iblk; rw [A_eq]; try rfl)
theorem before0_1 (c : Dev nD) (t : Fin cfg0.N) (d) : (dats m out 0 c).before 1 t d = kblk m c t :=
  ((dats m out 0 c).before_in_eq_fetched 1 rfl (fun _ => rfl) (fun _ _ _ => rfl) (fun t => by
    rw [after0_1]; unfold Dat.blockOf kblk iblk; rw [A_eq]; try rfl) t d).trans (by unfold Dat.fetched Dat.blockOf kblk iblk; rw [A_eq]; try rfl)
theorem before0_2 (c : Dev nD) (t : Fin cfg0.N) (d) : (dats m out 0 c).before 2 t d = vblk m c t :=
  ((dats m out 0 c).before_in_eq_fetched 2 rfl (fun _ => rfl) (fun _ _ _ => rfl) (fun t => by
    rw [after0_2]; unfold Dat.blockOf vblk iblk; rw [A_eq]; try rfl) t d).trans (by unfold Dat.fetched Dat.blockOf vblk iblk; rw [A_eq]; try rfl)

/-- The body's buffers at a point. -/
abbrev mems (t : Fin cfg0.N) : Attn.Mems sig :=
  ⟨st0_0 t, st0_1 t, st0_2 t, st0_3 t, Memref.whole cc0_scratch0, Memref.whole cc0_scratch1, Memref.whole cc0_scratch2, Memref.whole cc0_scratch3,
    hstage0_3 ((cfg0.slots t 3).cast nbuf0_3)⟩

/-- The scoped rest: the four scratch buffers, and the generator. -/
theorem rest_eq (c : Dev nD) (t : Fin cfg0.N) : (Pipeline.ΦA spec0 c : sProp 𝕄)
    = iprop(iprop((∃ d, owns (c : Thread nD τ) (mems t).s fullShare d) ∗ (∃ d, owns (c : Thread nD τ) (mems t).x fullShare d)
      ∗ (∃ d, owns (c : Thread nD τ) (mems t).m fullShare d) ∗ (∃ d, owns (c : Thread nD τ) (mems t).a fullShare d)) ∗ (∃ r, prngReg c r)) := by
  unfold Pipeline.ΦA; rw [scopedRest0_eq]; simp only [mems, owns_whole]; try rfl

/-- Before the body: its buffers, the result's at any contents. -/
def bodyPre (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare d))

/-- After it: the inputs' buffers as they were, and of the result's what `R` says. -/
def bodyPost (c : Dev nD) (t : Fin cfg0.N) (R : sProp 𝕄) : sProp 𝕄 :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t)
    ∗ R)

set_option maxHeartbeats 800000 in
/-- The body at a point, where `R` follows from what the body computes from a state with the point's inputs. -/
theorem sound_body (c : Dev nD) (t : Fin cfg0.N) (R : sProp 𝕄)
    (hR : ∀ st : Attn.State F, Attn.Inputs (qblk m c t) (kblk m c t) (vblk m c t) st → (owns (c : Thread nD τ) (st0_3 t) fullShare (st.body neg).o : sProp 𝕄) ⊢ R) :
    bodyPre m out c t ⊢ wp frame (wpE (defs₀ (F := F)) Variants.none c none) Set.univ (bodyAt0 t) (fun _ => bodyPost m out c t R) := by
  unfold bodyPre bodyPost bodyAt0
  simp only [before0_0, before0_1, before0_2]
  rw [show (dats m out 0 c).Φ t.succ = (dats m out 0 c).Φ t.castSucc from rfl,
    show (dats m out 0 c).owesAt () t.succ = (dats m out 0 c).owesAt () t.castSucc from rfl, after0_0, after0_1, after0_2]
  rw [show (dats m out 0 c).Φ t.castSucc = Pipeline.ΦA spec0 c from rfl, rest_eq c t, body_eq]
  iintro ⟨⟨⟨HS0, HS1, HS2, HS3⟩, Hg⟩, Ho, ⟨%d0, H0⟩, ⟨%d1, H1⟩, ⟨%d2, H2⟩, ⟨%d3, H3⟩⟩
  iapply (Attn.body_triple (mems t) neg Variants.none c none Set.univ (qblk m c t) (kblk m c t) (vblk m c t) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%st, %hst, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iapply (hR st hst)
  iexact H3

theorem defs₀_row (t : Fin cfg0.N) : defs₀ (F := F) .tc cfg0.body (cfg0.bodyArgs t (cfg0.slots t)) = bodyAt0 t := by
  unfold defs₀; rw [Defs.onTc_tc]

/-! ## The frame: nothing said of the result -/

/-- The window whose contents the frame does not name: the result's. -/
def forgets : Fin 4 → Bool := fun w => w.val == 3

theorem frame_obligation (c : Dev nD) : BodyObligation (dats (F := F) m out 0 c) (defs₀ (F := F)) Variants.none () Set.univ forgets := fun t => by
  rw [bigSep_W0, bigSep_W0, defs₀_row]
  exact triple_restated (sound_body m out c t iprop(∃ d, owns (c : Thread nD τ) (st0_3 t) fullShare d) fun st _ => by
    iintro H; iexists _; iexact H) rfl .rfl fun _ => .rfl

set_option backward.isDefEq.respectTransparency.types false in
theorem frame_run : θ_run defs (onTc (τ := τ) (main (F := F))) (s₀ m ρ)
    (fun r => Pipeline.RDat.FramePost (cfgs 0) (fun c => (dats m out 0 c).toRForget forgets) (V m) r ∧ r.2.sem = fun _ => 0) :=
  Pipeline.θ_run_frame_forget (Q' := _) cfgs (dats m out) (0 : Fin 1) launch0 defs₀ Variants.none forgets m ρ main
    (hbody := fun c => (frame_obligation m out c).loose) (hshare := fun c => (dats m out 0 c).share_full fun _ => rfl)
    (howed := fun _ _ => rfl) (V := V m) (hmain := hmain m Variants.none) (hA := A_eq m out) (hΦ := fun _ _ => rfl)

/-- KernelIdeal ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(Pipeline.RDat.FramePost.arr_in h.1 c 0 rfl).trans ((A_eq m (fun _ _ _ => Scalar.ofBits .bf16 0#16) c 0).trans rfl),
      (Pipeline.RDat.FramePost.arr_in h.1 c 1 rfl).trans ((A_eq m (fun _ _ _ => Scalar.ofBits .bf16 0#16) c 1).trans rfl),
      (Pipeline.RDat.FramePost.arr_in h.1 c 2 rfl).trans ((A_eq m (fun _ _ _ => Scalar.ofBits .bf16 0#16) c 2).trans rfl)⟩, h.2⟩) (frame_run m ρ fun _ _ _ => Scalar.ofBits .bf16 0#16)

/-! ## The run with the result named -/

/-- Where what the body computes at each point is `out`. -/
def Computes : Prop := ∀ (c : Dev nD) (t : Fin cfg0.N) (st : Attn.State F), Attn.Inputs (qblk m c t) (kblk m c t) (vblk m c t) st → (st.body neg).o = out c t

variable (hout : Computes m out)

include hout

theorem value_obligation (c : Dev nD) : BodyObligation (dats (F := F) m out 0 c) (defs₀ (F := F)) Variants.none () Set.univ := fun t => by
  rw [bigSep_W0, bigSep_W0, defs₀_row]
  refine triple_restated (sound_body m out c t (owns (c : Thread nD τ) (st0_3 t) fullShare ((dats m out 0 c).after 3 t)) fun st hst => by
    rw [after0_3, hout c t st hst]) rfl ?_ fun _ => .rfl
  unfold bodyPre
  iintro ⟨HΦ, Ho, H0, H1, H2, ⟨%d, H3⟩⟩
  isplitl [HΦ]; · iexact HΦ
  isplitl [Ho]; · iexact Ho
  isplitl [H0]; · iexact H0
  isplitl [H1]; · iexact H1
  isplitl [H2]; · iexact H2
  iexists _; iexact H3

set_option backward.isDefEq.respectTransparency.types false in
/-- Every run ends with the result array put together from the blocks `out`. -/
theorem value_run : θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => (value_obligation m out hout c).loose) (hshare := fun c => (dats m out 0 c).share_full fun _ => rfl)
    (howed := fun _ _ => rfl) (V := V m) (hmain := hmain m Variants.none) (hA := A_eq m out) (hΦ := fun _ _ => rfl)

end Cert.KernelIdeal

end
-- ==== Proof.Attn.FrameKernel.lean ====
/-
  The run of Kernel. It is KernelIdeal's program with the mask's constant not named, so its arguments end unchanged as
  KernelIdeal's do.
-/
module

public import proofs.«01_k».proof.Proof.Gen.Kernel
public import proofs.«01_k».proof.Proof.Attn.FrameKernelIdeal

@[expose] public section

set_option maxRecDepth 16384

noncomputable section

namespace Cert.Kernel

open Idealize.ShloMosaic Idealize.ShloMosaic.TcCoe Idealize.ShloMosaic.Tactic
open Idealize.SL Idealize.SL.Sem

variable {F : FTy → Type} [FloatOps F]

/-- The instance in which a named constant is the number printed. -/
abbrev unnamed : Named F := ⟨fun _ _ {φ} b => Scalar.ofBits φ b⟩

variable (m : (ℓ : Loc nD τ sig) → Buf (Elt F) ℓ) (ρ : Dev nD → PrngReg)

/-- The arguments as they were and every semaphore at zero. -/
def Quiet (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0

def Ends : Prop := θ_run defs (onTc (τ := τ) (main (F := F))) ⟨m, fun _ => 0, ρ⟩ (Quiet m)

def EndsIdeal : Prop :=
  letI : Named F := unnamed
  θ_run Cert.KernelIdeal.defs (onTc (τ := τ) (Cert.KernelIdeal.main (F := F))) ⟨m, fun _ => 0, ρ⟩ (Quiet m)

/-- The two programs are the same where the constant is not named. -/
theorem ends_eq : Ends m ρ = EndsIdeal m ρ := by
  sl_kernel_rfl

theorem endsIdeal : EndsIdeal m ρ :=
  letI : Named F := unnamed
  Cert.KernelIdeal.frame (F := F) m ρ

/-- Kernel ends with its arguments as they were and every semaphore at zero. -/
theorem frame : Ends m ρ := (ends_eq m ρ).mpr (endsIdeal m ρ)

end Cert.Kernel

end
-- ==== Proof.Attn.Entries.lean ====
/-
  The body's values read at an index, over extended reals: the scores, their column maxima, the weights, the weighted
  sums, the update of the running maxima and sums, and a tile of the result.
-/
module

public import proofs.«01_k».proof.Proof.Attn.Body
public import Idealize.ShloMosaic.Lib.MatmulPlain
public import Idealize.ShloMosaic.Lib.ValueLayout
public import Idealize.ShloMosaic.Lib.ValueIdx
public import Idealize.ShloMosaic.Lib.WordCmp
public import Idealize.ShloMosaic.Lib.IdealHost
public import Idealize.ShloMosaic.PureOps.Ideal.Laws

@[expose] public section

set_option maxRecDepth 16384

noncomputable section

namespace Attn

open Idealize.ShloMosaic Idealize.ShloMosaic.ValueIdx Idealize.ShloMosaic.VecWindow
open scoped BigOperators

/-! ## Windows read at an index -/

section Windows

variable {α : Type} {s : Shape}

/-- A window read at an index. -/
theorem window_at (x : s.Idx → α) (off size : Fin s.rank → ℕ) (inb : ∀ a, off a + size a ≤ s.size a) (y : (Rect.unit off size inb).shape.Idx) (z : s.Idx)
    (h : ∀ a, (z a).val = off a + (y a).val) : window x off size inb y = x z :=
  congrArg x (funext fun a => Fin.ext (by
    have e : ((Rect.unit off size inb).emb y a).val = off a + 1 * (y a).val := rfl
    rw [e, h a, one_mul]))

/-- What a put left inside its window. -/
theorem put_in (x : s.Idx → α) (off size : Fin s.rank → ℕ) (w : ((a : Fin s.rank) → Fin (size a)) → α) (z : s.Idx) (y : (a : Fin s.rank) → Fin (size a))
    (h : ∀ a, (z a).val = off a + (y a).val) : put x off size w z = w y := by
  have hin : ∀ a, off a ≤ (z a).val ∧ (z a).val < off a + size a := fun a => by have := h a; have := (y a).isLt; omega
  unfold put
  rw [dif_pos hin]
  exact congrArg w (funext fun a => Fin.ext (by
    show (z a).val - off a = (y a).val
    have := h a; omega))

/-- What a put left outside its window. -/
theorem put_out (x : s.Idx → α) (off size : Fin s.rank → ℕ) (w : ((a : Fin s.rank) → Fin (size a)) → α) (z : s.Idx) (a : Fin s.rank)
    (h : (z a).val < off a ∨ off a + size a ≤ (z a).val) : put x off size w z = x z := by
  unfold put
  rw [dif_neg]
  intro hin; have := hin a; omega

end Windows

/-! ## Casts between a matrix and a window of rank four -/

theorem cast_11ab {α : Type} {a b : ℕ} (x : (T4 1 1 a b).Idx → α) (h : (T4 1 1 a b).ShapeCasts (T2 a b)) (i : Fin a) (j : Fin b) :
    shapeCast (T2 a b) x h (ix2 i j) = x (ix4 0 0 i j) :=
  shapeCast_apply x h _ _ (by
    rw [Shape.rowMajor_val_four, Shape.rowMajor_val_two]
    show ((0 * 1 + 0) * a + i.val) * b + j.val = i.val * b + j.val
    simp)

theorem cast_ab11 {α : Type} {a b : ℕ} (x : (T2 a b).Idx → α) (h : (T2 a b).ShapeCasts (T4 1 1 a b)) (i : Fin a) (j : Fin b) :
    shapeCast (T4 1 1 a b) x h (ix4 0 0 i j) = x (ix2 i j) :=
  shapeCast_apply x h _ _ (by
    rw [Shape.rowMajor_val_four, Shape.rowMajor_val_two]
    show i.val * b + j.val = ((0 * 1 + 0) * a + i.val) * b + j.val
    simp)

/-! ## The scores -/

theorem dots_apply (late : Bool) (kb : FVec Ideal (T3 1 256 128) .bf16) (qb : FVec Ideal (T3 1 (nq late) 128) .bf16) (r : Fin 256) (c : Fin (nq late)) :
    dots late kb qb (ix2 r c) = ∑ d : Fin 128, kb (ix3 0 r d) * qb (ix3 0 c d) := by
  unfold dots matmul
  rw [Ideal.matmul_transposedRhs_apply]
  show Ideal.ofBits .f32 0x00000000#32 + _ = _
  rw [Ideal.ofBits_zero_f32, zero_add]
  refine Finset.sum_congr rfl fun d _ => ?_
  rw [shapeCast_1ab_ab_apply, shapeCast_1ab_ab_apply]

theorem dmask_apply (r : Fin 256) (c : Fin 512) : dmask (ix2 r c) = 1#1 ↔ r.val ≤ c.val := by
  show IntOp.cmpi .sle (BitVec.ofNat 32 (0 * 256 + r.val)) (BitVec.ofNat 32 (0 * 512 + c.val)) = 1#1 ↔ _
  simp only [Nat.zero_mul, Nat.zero_add]
  rw [WordCmp.cmpi_sle_ofNat_eq_one_iff (by have := r.isLt; omega) (by have := c.isLt; omega)]

/-- The first columns of a mask. -/
theorem cols_apply {n : ℕ} (x : IVec (T2 256 512) 1) (h : (T2 256 512).Slices ![0, 0] (T2 256 n)) (r : Fin 256) (c : Fin n) (hc : c.val < 512) :
    extractStridedSlice (T2 256 n) ![0, 0] x h (ix2 r c) = x (ix2 r ⟨c.val, hc⟩) :=
  extractStridedSlice_apply ![0, 0] x h (ix2 r c) (ix2 r ⟨c.val, hc⟩) (fun a => by
    match a with | ⟨0, _⟩ => exact (Nat.zero_add _).symm | ⟨1, _⟩ => exact (Nat.zero_add _).symm)

theorem cmask_apply (late : Bool) (r : Fin 256) (c : Fin (nq late)) : cmask late (ix2 r c) = 1#1 ↔ r.val ≤ c.val := by
  cases late
  · exact dmask_apply r c
  · have hc : c.val < 512 := Nat.lt_trans c.isLt (by decide)
    exact (iff_of_eq (congrArg (· = 1#1) (cols_apply (n := nq true) dmask (slM true) r c hc))).trans (dmask_apply r _)

theorem scoresV_apply (late diag : Bool) (kb : FVec Ideal (T3 1 256 128) .bf16) (qb : FVec Ideal (T3 1 (nq late) 128) .bf16) (r : Fin 256) (c : Fin (nq late)) :
    scoresV (F := Ideal) (⊥ : EReal) late diag kb qb (ix2 r c) = if diag = true ∧ c.val < r.val then ⊥ else ∑ d : Fin 128, kb (ix3 0 r d) * qb (ix3 0 c d) := by
  cases diag
  · rw [if_neg (by simp)]; exact dots_apply late kb qb r c
  · show Scalar.select (cmask late (ix2 r c)) (dots late kb qb (ix2 r c)) (⊥ : EReal) = _
    by_cases h : r.val ≤ c.val
    · rw [(cmask_apply late r c).mpr h, select_one, if_neg (fun hn => absurd hn.2 (by omega)), dots_apply]
    · rw [eq_zero_of_ne_one (fun e => h ((cmask_apply late r c).mp e)), select_zero, if_pos ⟨rfl, by omega⟩]

theorem fold_max_eq_sup {n : ℕ} (f : Fin n → EReal) : (Finset.univ : Finset (Fin n)).fold max ⊥ f = Finset.univ.sup f := rfl

theorem colMax_apply (late : Bool) (s : FVec Ideal (T2 256 (nq late)) .f32) (c : Fin (nq late)) :
    colMax late s (ix2 0 c) = (Finset.univ : Finset (Fin 256)).sup fun r => s (ix2 r c) := by
  unfold colMax
  rw [shapeCast_a_1a_apply]
  refine (Ideal.multiReduction_maximumf_single s 0xFF800000#32 (redS late) (.inl rfl) rfl (ix1 c)).trans ?_
  have hb : FloatOps.ofBits (F := Ideal) .f32 0xFF800000#32 = (⊥ : EReal) := by
    show Ideal.ieee 8 23 0xFF800000#32 = ⊥
    simp [Ideal.ieee]
  rw [hb, fold_max_eq_sup]
  refine Finset.sup_congr rfl fun r _ => congrArg s ?_
  funext a
  match a with
  | ⟨0, _⟩ => rfl
  | ⟨1, _⟩ => rfl

/-! ## The weighted sums -/

/-- The row given over to the weights, as a number. -/
abbrev sumRowN (hh : Fin 2) : ℕ := match hh with | 0 => 64 | 1 => 0

theorem valsOne_apply (hh : Fin 2) (vb : FVec Ideal (T4 1 1 128 256) .bf16) (d : Fin 128) (r : Fin 256) :
    valsOne hh vb (ix2 d r) = if d.val = sumRowN hh then 1 else vb (ix4 0 0 d r) := by
  show Scalar.select (IntOp.cmpi .eq (BitVec.ofNat 32 (0 * 128 + d.val)) (sumRow hh)) (Ideal.ofBits .bf16 0x3F80#16) (shapeCast (T2 128 256) vb castV (ix2 d r)) = _
  rw [cast_11ab, Nat.zero_mul, Nat.zero_add]
  have h1 : Ideal.ofBits .bf16 0x3F80#16 = (1 : EReal) := by
    exact Ideal.ofBits_one_bf16
  have hs : sumRow hh = BitVec.ofNat 32 (sumRowN hh) := by fin_cases hh <;> rfl
  have hd : IntOp.cmpi .eq (BitVec.ofNat 32 d.val) (sumRow hh) = BitVec.ofBool (decide (d.val = sumRowN hh)) := by
    have : ∀ d : Fin 128, ∀ hh : Fin 2, IntOp.cmpi .eq (BitVec.ofNat 32 d.val) (sumRow hh) = BitVec.ofBool (decide (d.val = sumRowN hh)) := by decide
    exact this d hh
  rw [hd, h1]
  by_cases h : d.val = sumRowN hh
  · rw [if_pos h, decide_eq_true h]; rfl
  · rw [if_neg h, decide_eq_false h]; rfl

theorem weights_apply (late : Bool) (s : FVec Ideal (T4 1 1 256 (nq late)) .f32) (mx : FVec Ideal (T2 1 (nq late)) .f32) (r : Fin 256) (c : Fin (nq late)) :
    weights late s mx (ix2 r c) = Ideal.exp2 (s (ix4 0 0 r c) - mx (ix2 0 c)) := by
  show Ideal.exp2 (shapeCast (T2 256 (nq late)) s (castS' late) (ix2 r c) - broadcastTo (T2 256 (nq late)) mx (brS late) (ix2 r c)) = _
  rw [cast_11ab, broadcastTo_1b_ab_apply]

theorem pv_apply (late : Bool) (vh : FVec Ideal (T2 128 256) .bf16) (p : FVec Ideal (T2 256 (nq late)) .f32) (d : Fin 128) (c : Fin (nq late)) :
    pv late vh p (ix2 d c) = ∑ r : Fin 256, vh (ix2 d r) * p (ix2 r c) := by
  unfold pv matmul
  rw [Ideal.matmul_plain_apply]
  show Ideal.ofBits .f32 0x00000000#32 + _ = _
  rw [Ideal.ofBits_zero_f32, zero_add]
  rfl

theorem newMax_apply (late : Bool) (m : FVec Ideal (T3 1 1 (nq late)) .f32) (x : FVec Ideal (T4 1 1 1 (nq late)) .f32) (c : Fin (nq late)) :
    newMax late m x (ix2 0 c) = max (m (ix3 0 0 c)) (x (ix4 0 0 0 c)) := by
  show max (shapeCast (T2 1 (nq late)) m (cast32 late) (ix2 0 c)) (shapeCast (T2 1 (nq late)) x (cast42 late) (ix2 0 c)) = _
  rw [shapeCast_1ab_ab_apply, cast_11ab]

theorem newAcc_apply (late : Bool) (m : FVec Ideal (T3 1 1 (nq late)) .f32) (x : FVec Ideal (T4 1 1 1 (nq late)) .f32) (s : FVec Ideal (T4 1 1 256 (nq late)) .f32)
    (a : FVec Ideal (T3 1 128 (nq late)) .f32) (vh : FVec Ideal (T2 128 256) .bf16) (d : Fin 128) (c : Fin (nq late)) :
    newAcc late m x s a vh (ix2 d c)
      = Ideal.exp2 (m (ix3 0 0 c) - max (m (ix3 0 0 c)) (x (ix4 0 0 0 c))) * a (ix3 0 d c)
        + ∑ r : Fin 256, vh (ix2 d r) * Ideal.exp2 (s (ix4 0 0 r c) - max (m (ix3 0 0 c)) (x (ix4 0 0 0 c))) := by
  show broadcastTo (T2 128 (nq late)) (exp2 (subf (shapeCast (T2 1 (nq late)) m (cast32 late)) (newMax late m x))) (brA late) (ix2 d c)
      * shapeCast (T2 128 (nq late)) a (castA' late) (ix2 d c) + pv late vh (weights late s (newMax late m x)) (ix2 d c) = _
  rw [broadcastTo_1b_ab_apply, shapeCast_1ab_ab_apply, pv_apply]
  show Ideal.exp2 (shapeCast (T2 1 (nq late)) m (cast32 late) (ix2 0 c) - newMax late m x (ix2 0 c)) * _ + _ = _
  rw [shapeCast_1ab_ab_apply, newMax_apply]
  congr 1
  refine Finset.sum_congr rfl fun r _ => ?_
  rw [weights_apply, newMax_apply]

/-! ## The result -/

theorem divf_apply' {s : Shape} (x y : FVec Ideal s .f32) (i : s.Idx) : divf x y i = Ideal.div (x i) (y i) := rfl

/-- A head's rows of the accumulators, and the row of its weights: head 0's are the first 64 over row 64, head 1's the last 64 over row 0. -/
theorem outV_apply (a0 a1 : FVec Ideal (T3 1 128 512) .f32) (c : Fin 512) (d : Fin 128) :
    outV a0 a1 (ix2 c d) = if d.val < 64 then Ideal.div (a0 (ix3 0 d c)) (a0 (ix3 0 64 c)) else Ideal.div (a1 (ix3 0 d c)) (a1 (ix3 0 0 c)) := by
  unfold outV
  rw [truncf_apply, transpose_ix2_apply]
  by_cases h : d.val < 64
  · rw [if_pos h, concatenate_pair_apply_left 0 _ _ catO (ix2 d c) rfl (ix2 (⟨d.val, h⟩ : Fin 64) c) (fun b => by match b with | ⟨0, _⟩ => rfl | ⟨1, _⟩ => rfl)]
    rw [divf_apply', broadcastTo_1b_ab_apply,
      extractStridedSlice_apply _ _ slO0 _ (ix2 d c) (fun a => by match a with | ⟨0, _⟩ => exact (Nat.zero_add _).symm | ⟨1, _⟩ => exact (Nat.zero_add _).symm),
      extractStridedSlice_apply _ _ slR64 _ (ix2 (64 : Fin 128) c) (fun a => by match a with | ⟨0, _⟩ => rfl | ⟨1, _⟩ => exact (Nat.zero_add _).symm),
      shapeCast_1ab_ab_apply, shapeCast_1ab_ab_apply]
  · have hd : d.val < 128 := d.isLt
    rw [if_neg h, concatenate_pair_apply_right 0 _ _ catO (ix2 d c) rfl rfl (ix2 (⟨d.val - 64, by omega⟩ : Fin 64) c)
      (fun b hb => by match b, hb with | ⟨0, _⟩, hb => exact absurd rfl hb | ⟨1, _⟩, _ => rfl) (by show d.val - 64 + 64 = d.val; omega)]
    rw [divf_apply', broadcastTo_1b_ab_apply,
      extractStridedSlice_apply _ _ slO64 _ (ix2 d c) (fun a => by
        match a with | ⟨0, _⟩ => (show d.val = 64 + (d.val - 64); omega) | ⟨1, _⟩ => exact (Nat.zero_add _).symm),
      extractStridedSlice_apply _ _ slR0 _ (ix2 (0 : Fin 128) c) (fun a => by match a with | ⟨0, _⟩ => rfl | ⟨1, _⟩ => exact (Nat.zero_add _).symm),
      shapeCast_1ab_ab_apply, shapeCast_1ab_ab_apply]

end Attn

end
-- ==== Proof.Attn.Softmax.lean ====
/-
  Softmax over extended reals: the running maximum and the running weighted sum of an online softmax, taken over one
  more block, are those of all the blocks so far; and a sum weighted by quotients is the quotient of the weighted sum.
  The scores are real numbers or −∞, the values any extended reals.
-/
module

public import Idealize.ShloMosaic.Lib.IdealHost
public import Idealize.ShloMosaic.PureOps.Ideal.Laws

@[expose] public section

noncomputable section

namespace Attn

open Idealize.ShloMosaic
open scoped BigOperators

/-! ## Real scores and −∞ -/

/-- A score: a real number, or −∞ where it is masked. -/
def Score (x : EReal) : Prop := x = ⊥ ∨ ∃ r : ℝ, x = (r : EReal)

theorem Score.sub {x : EReal} (hx : Score x) (r : ℝ) : Score (x - (r : EReal)) := by
  rcases hx with rfl | ⟨s, rfl⟩
  · exact .inl (by simp)
  · exact .inr ⟨s - r, by norm_cast⟩

/-- The power of two of a score is a nonnegative real. -/
theorem Score.exp2 {x : EReal} (hx : Score x) : ∃ r : ℝ, 0 ≤ r ∧ Ideal.exp2 x = (r : EReal) := by
  rcases hx with rfl | ⟨s, rfl⟩
  · exact ⟨0, le_rfl, rfl⟩
  · exact ⟨Real.rpow 2 s, (Real.rpow_pos_of_pos two_pos s).le, rfl⟩

/-- A weight taken over from one maximum to another. -/
theorem exp2_rescale {x : EReal} (hx : Score x) (a b : ℝ) :
    Ideal.exp2 ((a : EReal) - (b : EReal)) * Ideal.exp2 (x - (a : EReal)) = Ideal.exp2 (x - (b : EReal)) := by
  rcases hx with rfl | ⟨s, rfl⟩
  · show _ * Ideal.exp2 (⊥ - (a : EReal)) = Ideal.exp2 (⊥ - (b : EReal))
    rw [show (⊥ : EReal) - (a : EReal) = ⊥ by simp, show (⊥ : EReal) - (b : EReal) = ⊥ by simp]
    show _ * (0 : EReal) = 0
    rw [mul_zero]
  · rw [← EReal.coe_sub, ← EReal.coe_sub, ← EReal.coe_sub]
    show ((Real.rpow 2 (a - b) : ℝ) : EReal) * ((Real.rpow 2 (s - a) : ℝ) : EReal) = ((Real.rpow 2 (s - b) : ℝ) : EReal)
    rw [← EReal.coe_mul]
    congr 1
    show (2 : ℝ) ^ (a - b) * (2 : ℝ) ^ (s - a) = (2 : ℝ) ^ (s - b)
    rw [← Real.rpow_add two_pos]
    congr 1
    ring

/-- Powers of e of scores times the logarithm of two are powers of two. -/
theorem exp_ln2 {x : EReal} (hx : Score x) (a : ℝ) :
    Ideal.exp (x * (Real.log 2 : ℝ) - (a : EReal) * (Real.log 2 : ℝ)) = Ideal.exp2 (x - (a : EReal)) := by
  rcases hx with rfl | ⟨s, rfl⟩
  · rw [EReal.bot_mul_coe_of_pos (Real.log_pos one_lt_two), ← EReal.coe_mul, show (⊥ : EReal) - ((a * Real.log 2 : ℝ) : EReal) = ⊥ by simp,
      show (⊥ : EReal) - (a : EReal) = ⊥ by simp]
    rfl
  · rw [← EReal.coe_mul, ← EReal.coe_mul, ← EReal.coe_sub, ← EReal.coe_sub]
    show ((Real.exp (s * Real.log 2 - a * Real.log 2) : ℝ) : EReal) = (((2 : ℝ) ^ (s - a) : ℝ) : EReal)
    congr 1
    rw [Real.rpow_def_of_pos two_pos]
    congr 1
    ring

/-! ## Sums -/

/-- A nonnegative real goes through a sum of extended reals. -/
theorem mul_sum_real {ι : Type} (s : Finset ι) (f : ι → EReal) {r : ℝ} (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A sum of nonnegative reals is the real sum. -/
theorem sum_real {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, e⟩ := ih fun i hi => h i (Finset.mem_insert_of_mem hi)
    obtain ⟨r', hr', e'⟩ := h a (Finset.mem_insert_self a s)
    exact ⟨r' + r, by positivity, by rw [Finset.sum_insert ha, e, e', EReal.coe_add]⟩

/-! ## The running maximum and the running sum -/

section Online

variable (s v : ℕ → EReal)

/-- The greatest of the first `n` scores. -/
def top (n : ℕ) : EReal := (Finset.range n).sup s

/-- The first `n` values, weighted. -/
def acc (n : ℕ) : EReal := ∑ κ ∈ Finset.range n, v κ * Ideal.exp2 (s κ - top s n)

variable {s} (hs : ∀ κ, Score (s κ)) (h0 : ∃ r : ℝ, s 0 = (r : EReal))

include hs h0 in
/-- With one score real the greatest is real. -/
theorem top_real {n : ℕ} (hn : 0 < n) : ∃ r : ℝ, top s n = (r : EReal) := by
  obtain ⟨κ, -, e⟩ := Finset.exists_mem_eq_sup (Finset.range n) ⟨0, Finset.mem_range.mpr hn⟩ s
  rcases hs κ with h | h
  · obtain ⟨r, hr⟩ := h0
    have : s 0 ≤ top s n := Finset.le_sup (f := s) (Finset.mem_range.mpr hn)
    rw [top, e, h, hr] at this
    exact absurd (le_bot_iff.mp this) (EReal.coe_ne_bot r)
  · rw [top, e]; exact h

/-- The maximum over a further block. -/
theorem top_add (n b : ℕ) : top s (n + b) = max (top s n) ((Finset.range b).sup fun r => s (n + r)) := by
  apply le_antisymm
  · refine Finset.sup_le fun κ hκ => ?_
    rw [Finset.mem_range] at hκ
    by_cases h : κ < n
    · exact le_max_of_le_left (Finset.le_sup (f := s) (Finset.mem_range.mpr h))
    · refine le_max_of_le_right ?_
      have := Finset.le_sup (f := fun r => s (n + r)) (Finset.mem_range.mpr (show κ - n < b by omega))
      rwa [show n + (κ - n) = κ by omega] at this
  · refine max_le (Finset.sup_le fun κ hκ => Finset.le_sup (f := s) (Finset.mem_range.mpr ?_)) (Finset.sup_le fun r hr => Finset.le_sup (f := s) (Finset.mem_range.mpr ?_))
    · rw [Finset.mem_range] at hκ; omega
    · rw [Finset.mem_range] at hr; omega

include hs h0 in
/-- The weighted sum over a further block: what was there taken over to the new maximum, and the block's own. -/
theorem acc_add {n : ℕ} (hn : 0 < n) (b : ℕ) :
    Ideal.exp2 (top s n - top s (n + b)) * acc s v n + ∑ r ∈ Finset.range b, v (n + r) * Ideal.exp2 (s (n + r) - top s (n + b)) = acc s v (n + b) := by
  obtain ⟨a, ha⟩ := top_real hs h0 hn
  obtain ⟨c, hc⟩ := top_real hs h0 (show 0 < n + b by omega)
  unfold acc
  rw [Finset.sum_range_add, hc, ha]
  congr 1
  obtain ⟨e, he, hee⟩ := (Score.sub (.inr ⟨a, rfl⟩) c).exp2
  rw [hee, mul_sum_real _ _ he, ← hee]
  refine Finset.sum_congr rfl fun κ _ => ?_
  rw [mul_left_comm, exp2_rescale (hs κ)]

/-- Further scores that are all −∞ change neither. -/
theorem top_masked (n b : ℕ) (h : ∀ κ, n ≤ κ → s κ = ⊥) : top s (n + b) = top s n := by
  rw [top_add, Finset.sup_eq_bot_iff _ _ |>.mpr fun r _ => h _ (Nat.le_add_right n r), max_eq_left bot_le]

include hs h0 in
theorem acc_masked {n : ℕ} (hn : 0 < n) (b : ℕ) (h : ∀ κ, n ≤ κ → s κ = ⊥) : acc s v (n + b) = acc s v n := by
  obtain ⟨a, ha⟩ := top_real hs h0 hn
  unfold acc
  rw [Finset.sum_range_add, top_masked n b h, ha]
  conv_rhs => rw [← add_zero (∑ κ ∈ Finset.range n, _)]
  congr 1
  refine Finset.sum_eq_zero fun r _ => ?_
  rw [h _ (Nat.le_add_right n r), show (⊥ : EReal) - (a : EReal) = ⊥ by simp]
  exact mul_zero _

include hs h0 in
/-- The sum of the weights is a positive real. -/
theorem acc_one {n : ℕ} (hn : 0 < n) : ∃ r : ℝ, 0 < r ∧ acc s (fun _ => 1) n = (r : EReal) := by
  obtain ⟨a, ha⟩ := top_real hs h0 hn
  obtain ⟨κ, hκ, e⟩ := Finset.exists_mem_eq_sup (Finset.range n) ⟨0, Finset.mem_range.mpr hn⟩ s
  have e' : s κ = (a : EReal) := e.symm.trans ha
  have hw : ∀ i, ∃ r : ℝ, 0 ≤ r ∧ (1 : EReal) * Ideal.exp2 (s i - top s n) = (r : EReal) := fun i => by
    rw [ha, one_mul]; exact ((hs i).sub a).exp2
  unfold acc
  rw [← Finset.add_sum_erase _ _ hκ]
  obtain ⟨r, hr, er⟩ := sum_real ((Finset.range n).erase κ) _ fun i _ => hw i
  refine ⟨1 + r, by positivity, ?_⟩
  rw [er, ha, e', one_mul, ← EReal.coe_sub, sub_self, EReal.coe_add]
  congr 1
  show ((Real.rpow 2 0 : ℝ) : EReal) = ((1 : ℝ) : EReal)
  congr 1
  exact Real.rpow_zero 2

include hs h0 in
/-- The values weighted by the softmax are the weighted sum over the sum of the weights. -/
theorem softmax_sum {n : ℕ} (hn : 0 < n) :
    ∑ κ ∈ Finset.range n, v κ * Ideal.div (Ideal.exp2 (s κ - top s n)) (acc s (fun _ => 1) n) = Ideal.div (acc s v n) (acc s (fun _ => 1) n) := by
  obtain ⟨l, hl, el⟩ := acc_one hs h0 hn
  have hne : acc s (fun _ => 1) n ≠ 0 := by rw [el]; exact_mod_cast hl.ne'
  have hi : (acc s (fun _ => 1) n)⁻¹ = ((l⁻¹ : ℝ) : EReal) := by rw [el]; exact (EReal.coe_inv l).symm
  unfold Ideal.div
  simp only [if_neg hne, hi]
  unfold acc
  rw [mul_comm, mul_sum_real _ _ (inv_nonneg.mpr hl.le)]
  refine Finset.sum_congr rfl fun κ _ => ?_
  rw [mul_left_comm ((l⁻¹ : ℝ) : EReal), mul_comm (Ideal.exp2 _)]

end Online

end Attn

end
-- ==== Proof.Attn.Steps.lean ====
/-
  What the body's steps leave in its buffers, over extended reals, in terms of the scores of a query and a key: after a
  step on key block `j` the running maximum of a query is the largest of its scores on blocks `0, …, j`, and the
  accumulators hold the weighted sums of the values of those blocks.
-/
module

public import proofs.«01_k».proof.Proof.Attn.Kept
public import proofs.«01_k».proof.Proof.Attn.Entries
public import proofs.«01_k».proof.Proof.Attn.Softmax

@[expose] public section

set_option maxRecDepth 16384

noncomputable section

namespace Attn

open Idealize.ShloMosaic Idealize.ShloMosaic.ValueIdx Idealize.ShloMosaic.VecWindow
open scoped BigOperators

/-! ## Scores and values of a grid point -/

/-- Entry `y` of row `ρ` of a block of queries or keys. -/
def qe (x : SQ.Idx → EReal) (ρ y : ℕ) : EReal := if h : ρ < 4096 ∧ y < 256 then x (ix3 0 ⟨ρ, h.1⟩ ⟨y, h.2⟩) else 0

/-- Entry `d` of the value of key `κ`. -/
def ve (x : SV.Idx → EReal) (κ d : ℕ) : EReal :=
  if h : κ < 4096 ∧ d < 128 then x (ix4 0 ⟨κ / 256, by omega⟩ ⟨d, h.2⟩ ⟨κ % 256, by omega⟩) else 0

/-- The score of query `ρ` and key `κ` in head `hh`: their product where the key is not later than the query, else `−∞`. -/
def score (q k : SQ.Idx → EReal) (hh : Fin 2) (ρ κ : ℕ) : EReal :=
  if κ ≤ ρ then ∑ d : Fin 128, qe k κ (hh.val * 128 + d.val) * qe q ρ (hh.val * 128 + d.val) else ⊥

/-- What the accumulators of head `hh` sum in row `d`: in its row of the weights ones, else the values. -/
def val (v : SV.Idx → EReal) (hh : Fin 2) (d κ : ℕ) : EReal := if d = sumRowN hh then 1 else ve v κ d

/-- All entries are real numbers. -/
def Finite {s : Shape} (x : s.Idx → EReal) : Prop := ∀ i, ∃ r : ℝ, x i = (r : EReal)

theorem qe_real {x : SQ.Idx → EReal} (hx : Finite x) (ρ y : ℕ) : ∃ r : ℝ, qe x ρ y = (r : EReal) := by
  unfold qe
  split
  · exact hx _
  · exact ⟨0, rfl⟩

theorem sum_prod_real {n : ℕ} (f g : Fin n → EReal) (hf : ∀ i, ∃ r : ℝ, f i = (r : EReal)) (hg : ∀ i, ∃ r : ℝ, g i = (r : EReal)) :
    ∃ r : ℝ, ∑ i, f i * g i = (r : EReal) :=
  Finset.sum_induction (fun i => f i * g i) (fun x => ∃ r : ℝ, x = (r : EReal))
    (fun a b ⟨r, hr⟩ ⟨t, ht⟩ => ⟨r + t, by rw [hr, ht, EReal.coe_add]⟩) ⟨0, rfl⟩
    (fun i _ => by obtain ⟨r, hr⟩ := hf i; obtain ⟨t, ht⟩ := hg i; exact ⟨r * t, by rw [hr, ht, EReal.coe_mul]⟩)

section Real

variable {q k : SQ.Idx → EReal} (hq : Finite q) (hk : Finite k) (hh : Fin 2) (ρ : ℕ)

include hq hk

theorem dot_real (κ : ℕ) : ∃ r : ℝ, ∑ d : Fin 128, qe k κ (hh.val * 128 + d.val) * qe q ρ (hh.val * 128 + d.val) = (r : EReal) :=
  sum_prod_real _ _ (fun _ => qe_real hk _ _) (fun _ => qe_real hq _ _)

theorem score_score (κ : ℕ) : Score (score q k hh ρ κ) := by
  unfold score
  split
  · exact .inr (dot_real hq hk hh ρ κ)
  · exact .inl rfl

theorem score_zero : ∃ r : ℝ, score q k hh ρ 0 = (r : EReal) := by
  unfold score
  rw [if_pos (Nat.zero_le _)]
  exact dot_real hq hk hh ρ 0

end Real

theorem score_masked (q k : SQ.Idx → EReal) (hh : Fin 2) {ρ κ : ℕ} (h : ρ < κ) : score q k hh ρ κ = ⊥ := by
  unfold score
  rw [if_neg (by omega)]

theorem sup_fin (n : ℕ) (f : ℕ → EReal) : (Finset.univ : Finset (Fin n)).sup (fun r => f r.val) = (Finset.range n).sup f :=
  le_antisymm (Finset.sup_le fun r _ => Finset.le_sup (f := f) (Finset.mem_range.mpr r.isLt))
    (Finset.sup_le fun r hr => Finset.le_sup (f := fun r : Fin n => f r.val) (Finset.mem_univ ⟨r, Finset.mem_range.mp hr⟩))

/-! ## Columns of a step -/

/-- A column a step works on, as a column of its window. -/
theorem split_col (late : Bool) (c : Fin 512) (h : c0 late ≤ c.val) : ∃ y : Fin (nq late), c.val = c0 late + y.val :=
  ⟨⟨c.val - c0 late, by have := c.isLt; cases late <;> simp_all <;> omega⟩, by show c.val = c0 late + (c.val - c0 late); omega⟩

namespace State

variable (st : State Ideal)

/-! ## Windows of a state read at an index -/

theorem getK_at {j : ℕ} (hj : j < 16) (hh : Fin 2) (r : Fin 256) (d : Fin 128) :
    st.getK hj hh (ix3 0 r d) = qe st.k (256 * j + r.val) (hh.val * 128 + d.val) := by
  have h1 := r.isLt; have h2 := d.isLt; have h3 := hh.isLt
  unfold qe
  rw [dif_pos ⟨by omega, by omega⟩]
  exact window_at _ _ _ _ _ _ fun a => by
    match a with
    | ⟨0, _⟩ => rfl
    | ⟨1, _⟩ => exact congrArg (· + r.val) (Nat.mul_comm 256 j)
    | ⟨2, _⟩ => rfl

theorem getQ_at {i : ℕ} (hi : i < 8) (hh : Fin 2) (late : Bool) (y : Fin (nq late)) (d : Fin 128) {c : Fin 512} (hc : c.val = c0 late + y.val) :
    st.getQ hi hh late (ix3 0 y d) = qe st.q (512 * i + c.val) (hh.val * 128 + d.val) := by
  have h1 := c.isLt; have h2 := d.isLt; have h3 := hh.isLt
  unfold qe
  rw [dif_pos ⟨by omega, by omega⟩]
  exact window_at _ _ _ _ _ _ fun a => by
    match a with
    | ⟨0, _⟩ => rfl
    | ⟨1, _⟩ => show 512 * i + c.val = i * 512 + c0 late + y.val; omega
    | ⟨2, _⟩ => rfl

theorem getV_at {j : ℕ} (hj : j < 16) (r : Fin 256) (d : Fin 128) : st.getV hj (ix4 0 0 d r) = ve st.v (256 * j + r.val) d.val := by
  have h1 := r.isLt; have h2 := d.isLt
  unfold ve
  rw [dif_pos ⟨by omega, by omega⟩]
  exact window_at _ _ _ _ _ _ fun a => by
    match a with
    | ⟨0, _⟩ => rfl
    | ⟨1, _⟩ => show (256 * j + r.val) / 256 = j + 0; omega
    | ⟨2, _⟩ => exact (Nat.zero_add _).symm
    | ⟨3, _⟩ => show (256 * j + r.val) % 256 = 0 + r.val; omega

theorem getS_at (sl hh : Fin 2) (late : Bool) (r : Fin 256) (y : Fin (nq late)) {c : Fin 512} (hc : c.val = c0 late + y.val) :
    st.getS sl hh late (ix4 0 0 r y) = st.s (ix4 sl hh r c) :=
  window_at _ _ _ _ _ _ fun a => by
    match a with
    | ⟨0, _⟩ => rfl
    | ⟨1, _⟩ => rfl
    | ⟨2, _⟩ => exact (Nat.zero_add _).symm
    | ⟨3, _⟩ => exact hc

theorem getX_at (sl hh : Fin 2) (late : Bool) (y : Fin (nq late)) {c : Fin 512} (hc : c.val = c0 late + y.val) :
    st.getX sl hh late (ix4 0 0 0 y) = st.x (ix4 sl hh 0 c) :=
  window_at _ _ _ _ _ _ fun a => by
    match a with
    | ⟨0, _⟩ => rfl
    | ⟨1, _⟩ => rfl
    | ⟨2, _⟩ => rfl
    | ⟨3, _⟩ => exact hc

theorem getM_at (hh : Fin 2) (late : Bool) (y : Fin (nq late)) {c : Fin 512} (hc : c.val = c0 late + y.val) :
    st.getM hh late (ix3 0 0 y) = st.m (ix3 hh 0 c) :=
  window_at _ _ _ _ _ _ fun a => by
    match a with
    | ⟨0, _⟩ => rfl
    | ⟨1, _⟩ => rfl
    | ⟨2, _⟩ => exact hc

theorem getA_at (hh : Fin 2) (late : Bool) (d : Fin 128) (y : Fin (nq late)) {c : Fin 512} (hc : c.val = c0 late + y.val) :
    st.getA hh late (ix3 0 d y) = st.a (ix3 hh d c) :=
  window_at _ _ _ _ _ _ fun a => by
    match a with
    | ⟨0, _⟩ => rfl
    | ⟨1, _⟩ => exact (Nat.zero_add _).symm
    | ⟨2, _⟩ => exact hc

/-! ## Overwritten windows read at an index -/

theorem putS_at (sl hh : Fin 2) (late : Bool) (w : FVec Ideal (T2 256 (nq late)) .f32) (r : Fin 256) (y : Fin (nq late)) {c : Fin 512} (hc : c.val = c0 late + y.val) :
    (st.putS sl hh late w).s (ix4 sl hh r c) = w (ix2 r y) :=
  (put_in st.s ![sl.val, hh.val, 0, c0 late] ![1, 1, 256, nq late] (shapeCast (T4 1 1 256 (nq late)) w (castS late)) (ix4 sl hh r c) (ix4 (0 : Fin 1) (0 : Fin 1) r y) fun a => by
    match a with
    | ⟨0, _⟩ => rfl
    | ⟨1, _⟩ => rfl
    | ⟨2, _⟩ => exact (Nat.zero_add _).symm
    | ⟨3, _⟩ => exact hc).trans (cast_ab11 w _ r y)

theorem putX_at (sl hh : Fin 2) (late : Bool) (w : FVec Ideal (T2 1 (nq late)) .f32) (y : Fin (nq late)) {c : Fin 512} (hc : c.val = c0 late + y.val) :
    (st.putX sl hh late w).x (ix4 sl hh 0 c) = w (ix2 0 y) :=
  (put_in st.x ![sl.val, hh.val, 0, c0 late] ![1, 1, 1, nq late] (shapeCast (T4 1 1 1 (nq late)) w (cast24 late)) (ix4 sl hh 0 c) (ix4 (0 : Fin 1) (0 : Fin 1) (0 : Fin 1) y) fun a => by
    match a with
    | ⟨0, _⟩ => rfl
    | ⟨1, _⟩ => rfl
    | ⟨2, _⟩ => rfl
    | ⟨3, _⟩ => exact hc).trans (cast_ab11 w _ 0 y)

theorem putM_at (hh : Fin 2) (late : Bool) (w : FVec Ideal (T2 1 (nq late)) .f32) (y : Fin (nq late)) {c : Fin 512} (hc : c.val = c0 late + y.val) :
    (st.putM hh late w).m (ix3 hh 0 c) = w (ix2 0 y) :=
  (put_in st.m ![hh.val, 0, c0 late] ![1, 1, nq late] (shapeCast (T3 1 1 (nq late)) w (cast23 late)) (ix3 hh 0 c) (ix3 (0 : Fin 1) (0 : Fin 1) y) fun a => by
    match a with
    | ⟨0, _⟩ => rfl
    | ⟨1, _⟩ => rfl
    | ⟨2, _⟩ => exact hc).trans (shapeCast_ab_1ab_apply w _ _ 0 y)

theorem putA_at (hh : Fin 2) (late : Bool) (w : FVec Ideal (T2 128 (nq late)) .f32) (d : Fin 128) (y : Fin (nq late)) {c : Fin 512} (hc : c.val = c0 late + y.val) :
    (st.putA hh late w).a (ix3 hh d c) = w (ix2 d y) :=
  (put_in st.a ![hh.val, 0, c0 late] ![1, 128, nq late] (shapeCast (T3 1 128 (nq late)) w (castA late)) (ix3 hh d c) (ix3 (0 : Fin 1) d y) fun a => by
    match a with
    | ⟨0, _⟩ => rfl
    | ⟨1, _⟩ => exact (Nat.zero_add _).symm
    | ⟨2, _⟩ => exact hc).trans (shapeCast_ab_1ab_apply w _ _ d y)

/-- Two numbers below two that differ lie outside each other's unit window. -/
theorem apart {a b : Fin 2} (h : a ≠ b) : a.val < b.val ∨ b.val + 1 ≤ a.val := by
  have : a.val ≠ b.val := fun e => h (Fin.ext e)
  omega

theorem putS_slot {sl sl' : Fin 2} (h : sl' ≠ sl) (hh hh' : Fin 2) (late : Bool) (w : FVec Ideal (T2 256 (nq late)) .f32) (r : Fin 256) (c : Fin 512) :
    (st.putS sl hh late w).s (ix4 sl' hh' r c) = st.s (ix4 sl' hh' r c) := put_out _ _ _ _ _ 0 (apart h)

theorem putS_head (sl sl' : Fin 2) {hh hh' : Fin 2} (h : hh' ≠ hh) (late : Bool) (w : FVec Ideal (T2 256 (nq late)) .f32) (r : Fin 256) (c : Fin 512) :
    (st.putS sl hh late w).s (ix4 sl' hh' r c) = st.s (ix4 sl' hh' r c) := put_out _ _ _ _ _ 1 (apart h)

theorem putX_slot {sl sl' : Fin 2} (h : sl' ≠ sl) (hh hh' : Fin 2) (late : Bool) (w : FVec Ideal (T2 1 (nq late)) .f32) (c : Fin 512) :
    (st.putX sl hh late w).x (ix4 sl' hh' 0 c) = st.x (ix4 sl' hh' 0 c) := put_out _ _ _ _ _ 0 (apart h)

theorem putX_head (sl sl' : Fin 2) {hh hh' : Fin 2} (h : hh' ≠ hh) (late : Bool) (w : FVec Ideal (T2 1 (nq late)) .f32) (c : Fin 512) :
    (st.putX sl hh late w).x (ix4 sl' hh' 0 c) = st.x (ix4 sl' hh' 0 c) := put_out _ _ _ _ _ 1 (apart h)

theorem putM_head {hh hh' : Fin 2} (h : hh' ≠ hh) (late : Bool) (w : FVec Ideal (T2 1 (nq late)) .f32) (c : Fin 512) :
    (st.putM hh late w).m (ix3 hh' 0 c) = st.m (ix3 hh' 0 c) := put_out _ _ _ _ _ 0 (apart h)

theorem putM_col (hh : Fin 2) (late : Bool) (w : FVec Ideal (T2 1 (nq late)) .f32) {c : Fin 512} (hc : c.val < c0 late) :
    (st.putM hh late w).m (ix3 hh 0 c) = st.m (ix3 hh 0 c) := put_out _ _ _ _ _ 2 (.inl hc)

theorem putA_head {hh hh' : Fin 2} (h : hh' ≠ hh) (late : Bool) (w : FVec Ideal (T2 128 (nq late)) .f32) (d : Fin 128) (c : Fin 512) :
    (st.putA hh late w).a (ix3 hh' d c) = st.a (ix3 hh' d c) := put_out _ _ _ _ _ 0 (apart h)

theorem putA_col (hh : Fin 2) (late : Bool) (w : FVec Ideal (T2 128 (nq late)) .f32) (d : Fin 128) {c : Fin 512} (hc : c.val < c0 late) :
    (st.putA hh late w).a (ix3 hh d c) = st.a (ix3 hh d c) := put_out _ _ _ _ _ 2 (.inl hc)

end State

/-! ## What the buffers hold -/

section Holds

variable (q k : SQ.Idx → EReal) (v : SV.Idx → EReal) (st : State Ideal)

/-- Slot `sl` of a head holds the scores of tile `i` and key block `j`, and their column maxima, in the columns of a step. -/
def HasScoresH (i j : ℕ) (late : Bool) (sl hh : Fin 2) : Prop :=
  ∀ c : Fin 512, c0 late ≤ c.val → (∀ r : Fin 256, st.s (ix4 sl hh r c) = score q k hh (512 * i + c.val) (256 * j + r.val))
    ∧ st.x (ix4 sl hh 0 c) = (Finset.range 256).sup fun r => score q k hh (512 * i + c.val) (256 * j + r)

/-- The running maxima and accumulators of a head are those of tile `i` over the first `n` key blocks. -/
def HasAccH (i n : ℕ) (hh : Fin 2) : Prop :=
  ∀ c : Fin 512, st.m (ix3 hh 0 c) = top (score q k hh (512 * i + c.val)) (256 * n)
    ∧ ∀ d : Fin 128, st.a (ix3 hh d c) = acc (score q k hh (512 * i + c.val)) (val v hh d.val) (256 * n)

/-- Both heads' scores. -/
def HasScores (i j : ℕ) (late : Bool) (sl : Fin 2) : Prop := ∀ hh, HasScoresH q k st i j late sl hh
/-- Both heads' maxima and accumulators. -/
def HasAcc (i n : ℕ) : Prop := ∀ hh, HasAccH q k v st i n hh

/-- A block on which the mask a step applies is the causal one: past the block's last key, or, with the mask, on the diagonal. -/
structure Fits (late diag : Bool) (i j : ℕ) : Prop where
  on : diag = true → 256 * j = 512 * i + c0 late
  off : diag = false → 256 * j + 255 ≤ 512 * i + c0 late

end Holds

/-! ## The steps -/

section Steps

variable {q k : SQ.Idx → EReal} {v : SV.Idx → EReal} {st : State Ideal}

/-- The scores a step computes. -/
theorem score_step (hI : Inputs q k v st) {late diag : Bool} {i j : ℕ} (hj : j < 16) (hi : i < 8) (hf : Fits late diag i j) (hh : Fin 2) (r : Fin 256)
    (y : Fin (nq late)) {c : Fin 512} (hc : c.val = c0 late + y.val) :
    scoresV (F := Ideal) (⊥ : EReal) late diag (st.getK hj hh) (st.getQ hi hh late) (ix2 r y) = score q k hh (512 * i + c.val) (256 * j + r.val) := by
  have hr := r.isLt
  rw [scoresV_apply]
  unfold score
  have hiff : (diag = true ∧ y.val < r.val) ↔ ¬ 256 * j + r.val ≤ 512 * i + c.val := by
    cases diag
    · have := hf.off rfl
      exact ⟨fun h => absurd h.1 (by decide), fun h => absurd h (by omega)⟩
    · have := hf.on rfl
      exact ⟨fun h => by have := h.2; omega, fun h => ⟨rfl, by omega⟩⟩
  by_cases h : 256 * j + r.val ≤ 512 * i + c.val
  · rw [if_pos h, if_neg (fun e => (hiff.mp e) h)]
    refine Finset.sum_congr rfl fun d _ => ?_
    rw [State.getK_at, State.getQ_at st hi hh late y d hc, hI.q, hI.k]
  · rw [if_neg h, if_pos (hiff.mpr h)]

theorem scoreHead_at (hI : Inputs q k v st) {late diag : Bool} {i j : ℕ} (hj : j < 16) (hi : i < 8) (hf : Fits late diag i j) (sl hh : Fin 2) :
    HasScoresH q k (st.scoreHead (F := Ideal) (⊥ : EReal) late diag hj hi sl hh) i j late sl hh := by
  intro c hc
  obtain ⟨y, hy⟩ := split_col late c hc
  refine ⟨fun r => ?_, ?_⟩
  · exact (State.putS_at st sl hh late _ r y hy).trans (score_step hI hj hi hf hh r y hy)
  · refine (State.putX_at _ sl hh late _ y hy).trans ?_
    rw [colMax_apply, ← sup_fin 256 fun r => score q k hh (512 * i + c.val) (256 * j + r)]
    exact Finset.sup_congr rfl fun r _ => score_step hI hj hi hf hh r y hy

theorem scoreHead_slot (neg : EReal) {late diag late' : Bool} {i j i' j' : ℕ} (hj : j < 16) (hi : i < 8) {sl sl' : Fin 2} (h : sl' ≠ sl) (hh hh' : Fin 2)
    (H : HasScoresH q k st i' j' late' sl' hh') : HasScoresH q k (st.scoreHead (F := Ideal) neg late diag hj hi sl hh) i' j' late' sl' hh' :=
  fun c hc => ⟨fun r => (State.putS_slot st h hh hh' late _ r c).trans ((H c hc).1 r), (State.putX_slot _ h hh hh' late _ c).trans (H c hc).2⟩

theorem scoreHead_head (neg : EReal) {late diag late' : Bool} {i j i' j' : ℕ} (hj : j < 16) (hi : i < 8) (sl sl' : Fin 2) {hh hh' : Fin 2} (h : hh' ≠ hh)
    (H : HasScoresH q k st i' j' late' sl' hh') : HasScoresH q k (st.scoreHead (F := Ideal) neg late diag hj hi sl hh) i' j' late' sl' hh' :=
  fun c hc => ⟨fun r => (State.putS_head st sl sl' h late _ r c).trans ((H c hc).1 r), (State.putX_head _ sl sl' h late _ c).trans (H c hc).2⟩

theorem scores_at (hI : Inputs q k v st) {late diag : Bool} {i j : ℕ} (hj : j < 16) (hi : i < 8) (hf : Fits late diag i j) (sl : Fin 2) :
    HasScores q k (st.scores (F := Ideal) (⊥ : EReal) late diag hj hi sl) i j late sl := by
  have hI' : Inputs q k v (st.scoreHead (F := Ideal) (⊥ : EReal) late diag hj hi sl 0) := ⟨hI.q, hI.k, hI.v⟩
  intro hh
  match hh with
  | 0 => exact scoreHead_head _ hj hi sl sl (by decide) (scoreHead_at hI hj hi hf sl 0)
  | 1 => exact scoreHead_at hI' hj hi hf sl 1

theorem scores_slot (neg : EReal) {late diag late' : Bool} {i j i' j' : ℕ} (hj : j < 16) (hi : i < 8) {sl sl' : Fin 2} (h : sl' ≠ sl)
    (H : HasScores q k st i' j' late' sl') : HasScores q k (st.scores (F := Ideal) neg late diag hj hi sl) i' j' late' sl' :=
  fun hh => scoreHead_slot _ hj hi h _ _ (scoreHead_slot _ hj hi h _ _ (H hh))

/-- A block's values, with the row of the weights. -/
theorem vals_step (hI : Inputs q k v st) {j : ℕ} (hj : j < 16) (hh : Fin 2) (d : Fin 128) (r : Fin 256) :
    valsOne (F := Ideal) hh (st.getV hj) (ix2 d r) = val v hh d.val (256 * j + r.val) := by
  rw [valsOne_apply, State.getV_at, hI.v]
  rfl

theorem firstHead_at (hI : Inputs q k v st) {i : ℕ} {sl hh : Fin 2} {vb : FVec Ideal (T4 1 1 128 256) .bf16} (hvb : vb = st.getV (j := 0) (by decide))
    (H : HasScoresH q k st i 0 false sl hh) : HasAccH q k v (st.firstHead (F := Ideal) sl hh vb) i 1 hh := by
  subst hvb
  intro c
  obtain ⟨hs, hx⟩ := H c (Nat.zero_le _)
  obtain ⟨y, hy⟩ := split_col false c (Nat.zero_le _)
  have hmx : shapeCast (T2 1 (nq false)) (st.getX sl hh false) (cast42 false) (ix2 0 y) = top (score q k hh (512 * i + c.val)) (256 * 1) := by
    rw [cast_11ab, State.getX_at st sl hh false y hy, hx]
    exact Finset.sup_congr rfl fun r _ => congrArg _ (Nat.zero_add _)
  refine ⟨(State.putM_at _ hh false _ y hy).trans hmx, fun d => (State.putA_at st hh false _ d y hy).trans ?_⟩
  rw [pv_apply]
  unfold acc
  rw [Finset.sum_range]
  refine Finset.sum_congr rfl fun r _ => ?_
  rw [weights_apply, hmx, State.getS_at st sl hh false r y hy, hs r, vals_step hI, Nat.mul_zero, Nat.zero_add]

theorem firstHead_head {i n : ℕ} {sl hh hh' : Fin 2} (h : hh' ≠ hh) (vb : FVec Ideal (T4 1 1 128 256) .bf16)
    (H : HasAccH q k v st i n hh') : HasAccH q k v (st.firstHead (F := Ideal) sl hh vb) i n hh' :=
  fun c => ⟨(State.putM_head _ h false _ c).trans (H c).1, fun d => (State.putA_head _ h false _ d c).trans ((H c).2 d)⟩

theorem first_at (hI : Inputs q k v st) {i : ℕ} (H : HasScores q k st i 0 false 0) : HasAcc q k v (st.first (F := Ideal)) i 1 := by
  intro hh
  match hh with
  | 0 => exact firstHead_head (by decide) _ (firstHead_at hI rfl (H 0))
  | 1 => exact firstHead_at (st := st.firstHead (F := Ideal) 0 0 _) ⟨hI.q, hI.k, hI.v⟩ rfl (H 1)

variable (hq : Finite q) (hk : Finite k)

include hq hk

theorem nextHead_at (hI : Inputs q k v st) {late : Bool} {i j : ℕ} (hj : j < 16) (hpos : 0 < j) (hlate : late = true → j = 2 * i + 1) {sl hh : Fin 2}
    {vb : FVec Ideal (T4 1 1 128 256) .bf16} (hvb : vb = st.getV hj) (H : HasScoresH q k st i j late sl hh) (A : HasAccH q k v st i j hh) :
    HasAccH q k v (st.nextHead (F := Ideal) late sl hh vb) i (j + 1) hh := by
  subst hvb
  intro c
  obtain ⟨hm, ha⟩ := A c
  have hn : 0 < 256 * j := by omega
  have hS := score_score hq hk hh (512 * i + c.val)
  have h0 := score_zero hq hk hh (512 * i + c.val)
  by_cases hc : c0 late ≤ c.val
  · obtain ⟨hs, hx⟩ := H c hc
    obtain ⟨y, hy⟩ := split_col late c hc
    have hmax : max (st.getM hh late (ix3 0 0 y)) (st.getX sl hh late (ix4 0 0 0 y)) = top (score q k hh (512 * i + c.val)) (256 * (j + 1)) := by
      rw [State.getM_at st hh late y hy, State.getX_at st sl hh late y hy, hm, hx, Nat.mul_succ, top_add]
    refine ⟨(State.putM_at _ hh late _ y hy).trans ((newMax_apply _ _ _ _).trans hmax), fun d => (State.putA_at st hh late _ d y hy).trans ?_⟩
    rw [newAcc_apply, hmax, State.getM_at st hh late y hy, State.getA_at st hh late d y hy, hm, ha d, Nat.mul_succ,
      ← acc_add (val v hh d.val) hS h0 hn 256, Finset.sum_range]
    congr 1
    refine Finset.sum_congr rfl fun r _ => ?_
    rw [State.getS_at st sl hh late r y hy, hs r, vals_step hI]
  · have hl : late = true := by cases late; exact absurd (Nat.zero_le _) hc; rfl
    subst hl
    have hc' : c.val < 256 := Nat.lt_of_not_le hc
    have hj' := hlate rfl
    have hmask : ∀ κ, 256 * j ≤ κ → score q k hh (512 * i + c.val) κ = ⊥ := fun κ h => score_masked q k hh (by omega)
    refine ⟨(State.putM_col _ hh true _ hc').trans (hm.trans ?_), fun d => (State.putA_col _ hh true _ d hc').trans ((ha d).trans ?_)⟩
    · rw [Nat.mul_succ, top_masked _ _ hmask]
    · rw [Nat.mul_succ, acc_masked _ hS h0 hn 256 hmask]

omit hq hk in
theorem nextHead_head {i n : ℕ} {late : Bool} {sl hh hh' : Fin 2} (h : hh' ≠ hh) (vb : FVec Ideal (T4 1 1 128 256) .bf16)
    (H : HasAccH q k v st i n hh') : HasAccH q k v (st.nextHead (F := Ideal) late sl hh vb) i n hh' :=
  fun c => ⟨(State.putM_head _ h late _ c).trans (H c).1, fun d => (State.putA_head _ h late _ d c).trans ((H c).2 d)⟩

theorem next_at (hI : Inputs q k v st) {late : Bool} {i j : ℕ} (hj : j < 16) (hpos : 0 < j) (hlate : late = true → j = 2 * i + 1) {sl : Fin 2}
    (H : HasScores q k st i j late sl) (A : HasAcc q k v st i j) : HasAcc q k v (st.next (F := Ideal) late hj sl) i (j + 1) := by
  intro hh
  match hh with
  | 0 => exact nextHead_head (by decide) _ (nextHead_at hq hk hI hj hpos hlate rfl (H 0) (A 0))
  | 1 => exact nextHead_at hq hk (st := st.nextHead (F := Ideal) late sl 0 _) ⟨hI.q, hI.k, hI.v⟩ hj hpos hlate rfl (H 1) (nextHead_head (by decide) _ (A 1))

end Steps

end Attn
-- ==== Proof.Attn.Tiles.lean ====
/-
  The body's loops over extended reals: after a tile's key blocks the accumulators are those of all its keys, and after
  the whole body every row of the result is its query's weighted average of the values.
-/
module

public import proofs.«01_k».proof.Proof.Attn.Steps

@[expose] public section

set_option maxRecDepth 16384

noncomputable section

namespace Attn

open Idealize.ShloMosaic Idealize.ShloMosaic.ValueIdx Idealize.ShloMosaic.VecWindow
open scoped BigOperators

/-- The head a column of the result belongs to. -/
def headOf (d : ℕ) : Fin 2 := if d < 64 then 0 else 1

/-- The attention of query `ρ` in column `d` of the result: the values weighted by powers of two of the scores over the largest, over the sum of the weights. -/
def attend (q k : SQ.Idx → EReal) (v : SV.Idx → EReal) (ρ d : ℕ) : EReal :=
  Ideal.div (acc (score q k (headOf d) ρ) (fun κ => ve v κ d) 4096) (acc (score q k (headOf d) ρ) (fun _ => 1) 4096)

section Loops

variable {q k : SQ.Idx → EReal} {v : SV.Idx → EReal}

/-- Before key block `2t` of tile `i`: its scores in slot 0, and, past the first, the accumulators of the blocks before it. -/
structure Part (q k : SQ.Idx → EReal) (v : SV.Idx → EReal) (st : State Ideal) (i t : ℕ) : Prop where
  inp : Inputs q k v st
  sc : HasScores q k st i (2 * t) false 0
  ac : 0 < t → HasAcc q k v st i (2 * t)

/-- Rows of the tiles before `n` are final. -/
def Done (q k : SQ.Idx → EReal) (v : SV.Idx → EReal) (o : SO.Idx → EReal) (n : ℕ) : Prop :=
  ∀ (ρ : Fin 4096) (d : Fin 128), ρ.val < 512 * n → o (ix3 0 ρ d) = attend q k v ρ.val d.val

theorem fits_below {late : Bool} {i j : ℕ} (h : 256 * j + 255 ≤ 512 * i + c0 late) : Fits late false i j := ⟨fun e => absurd e (by decide), fun _ => h⟩
theorem fits_diag {late : Bool} {i j : ℕ} (h : 256 * j = 512 * i + c0 late) : Fits late true i j := ⟨fun _ => h, fun e => absurd e (by decide)⟩

/-! What a step leaves as it was. -/

theorem HasScores.congr {st st' : State Ideal} {i j : ℕ} {late : Bool} {sl : Fin 2} (H : HasScores q k st i j late sl) (hs : st'.s = st.s) (hx : st'.x = st.x) :
    HasScores q k st' i j late sl := by
  unfold HasScores HasScoresH at H ⊢
  rw [hs, hx]; exact H

theorem HasAcc.congr {st st' : State Ideal} {i n : ℕ} (H : HasAcc q k v st i n) (hm : st'.m = st.m) (ha : st'.a = st.a) : HasAcc q k v st' i n := by
  unfold HasAcc HasAccH at H ⊢
  rw [hm, ha]; exact H

theorem HasAcc.scores {st : State Ideal} {i' n : ℕ} (H : HasAcc q k v st i' n) (neg : EReal) (late diag : Bool) {i j : ℕ} (hj : j < 16) (hi : i < 8) (sl : Fin 2) :
    HasAcc q k v (st.scores (F := Ideal) neg late diag hj hi sl) i' n :=
  have e := scores_same st neg late diag hj hi sl
  H.congr e.2.2.2.2.1 e.2.2.2.2.2

theorem HasScores.even {st : State Ideal} {i j : ℕ} {late : Bool} {sl : Fin 2} (H : HasScores q k st i j late sl) {t : ℕ} (ht : t < 8) :
    HasScores q k (st.even ht) i j late sl :=
  have e := even_same st ht
  H.congr e.2.2.2.2.1 e.2.2.2.2.2

theorem HasScores.next {st : State Ideal} {i j' : ℕ} {late' : Bool} {sl' : Fin 2} (H : HasScores q k st i j' late' sl') (late : Bool) {j : ℕ} (hj : j < 16)
    (sl : Fin 2) : HasScores q k (st.next late hj sl) i j' late' sl' :=
  have e := next_same st late hj sl
  H.congr e.2.2.2.2.1 e.2.2.2.2.2

theorem Part.scores1 {st : State Ideal} {i i' t j : ℕ} (P : Part q k v st i t) (neg : EReal) (late diag : Bool) (hj : j < 16) (hi : i' < 8) :
    Part q k v (st.scores (F := Ideal) neg late diag hj hi 1) i t :=
  ⟨P.inp.scores _ _ _ hj hi 1, scores_slot _ hj hi (by decide) P.sc, fun h => (P.ac h).scores _ _ _ hj hi 1⟩

theorem twoBlocks_o (st : State Ideal) (neg : EReal) {i t : ℕ} (last : Bool) (ht : t + 1 < 8) (hi : i < 8) : (st.twoBlocks (F := Ideal) neg last ht hi).o = st.o := by
  unfold State.twoBlocks
  rw [(next_same _ _ _ _).2.2.2.1, (scores_same _ _ _ _ _ _ _).2.2.2.1, (even_same _ _).2.2.2.1, (scores_same _ _ _ _ _ _ _).2.2.2.1]

theorem pairs_o (st : State Ideal) (neg : EReal) {i : ℕ} (hi : i < 8) : ∀ (n : ℕ) (hn : n < 8), (st.pairs (F := Ideal) neg hi n hn).o = st.o
  | 0, _ => rfl
  | n + 1, hn => (twoBlocks_o _ neg false hn hi).trans (pairs_o st neg hi n (by omega))

theorem before_o (st : State Ideal) (neg : EReal) : ∀ {i : ℕ} (hi : i < 8), (st.before (F := Ideal) neg hi).o = st.o
  | 0, hi => (scores_same st neg false true (by decide) hi 0).2.2.2.1
  | i + 1, hi => (twoBlocks_o _ neg true hi hi).trans (pairs_o st neg hi i (by omega))

theorem diagonal_o (st : State Ideal) (neg : EReal) {i i' : ℕ} (hi : i < 8) (hi' : i' < 8) : (st.diagonal (F := Ideal) neg hi hi').o = st.o := by
  unfold State.diagonal
  rw [(next_same _ _ _ _).2.2.2.1, (scores_same _ _ _ _ _ _ _).2.2.2.1, (even_same _ _).2.2.2.1, (scores_same _ _ _ _ _ _ _).2.2.2.1]

/-! The loops' invariants. -/

variable (hq : Finite q) (hk : Finite k)

include hq hk

theorem even_at {st : State Ideal} {i t : ℕ} (ht : t < 8) (P : Part q k v st i t) : HasAcc q k v (st.even (F := Ideal) ht) i (2 * t + 1) := by
  cases t with
  | zero => exact first_at P.inp P.sc
  | succ t => exact next_at hq hk P.inp (by omega) (by omega) (fun h => absurd h (by decide)) P.sc (P.ac (by omega))

theorem twoBlocks_at {st : State Ideal} {i t : ℕ} {last : Bool} (ht : t + 1 < 8) (hi : i < 8) (P : Part q k v st i t) (hl : last = true → t + 1 = i)
    (hn : last = false → t + 2 ≤ i) : Part q k v (st.twoBlocks (F := Ideal) (⊥ : EReal) last ht hi) i (t + 1) := by
  have hle : t + 1 ≤ i := by
    cases last
    · have := hn rfl; omega
    · exact (hl rfl).le
  have ht' : t < 8 := by omega
  have hj1 : 2 * t + 1 < 16 := by omega
  have hj2 : 2 * t + 2 < 16 := by omega
  have hf : Fits false last i (2 * t + 2) := by
    cases last
    · exact fits_below (by have := hn rfl; show _ ≤ 512 * i + 0; omega)
    · exact fits_diag (by have := hl rfl; show _ = 512 * i + 0; omega)
  have S1 := scores_at P.inp hj1 hi (fits_below (by show _ ≤ 512 * i + 0; omega) : Fits false false i (2 * t + 1)) 1
  have P1 := P.scores1 ⊥ false false hj1 hi
  have A2 := even_at hq hk ht' P1
  have I2 := P1.inp.even ht'
  have S2 := S1.even ht'
  have S3 := scores_at I2 hj2 hi hf 0
  have S3' := scores_slot (⊥ : EReal) (late := false) (diag := last) hj2 hi (by decide : (1 : Fin 2) ≠ 0) S2
  have I3 := I2.scores ⊥ false last hj2 hi 0
  have A4 := next_at hq hk I3 hj1 (by omega) (fun h => absurd h (by decide)) S3' (A2.scores ⊥ false last hj2 hi 0)
  exact ⟨I3.next false hj1 1, S3.next false hj1 1, fun _ => A4⟩

theorem pairs_at {st : State Ideal} {i : ℕ} (hi : i < 8) (P : Part q k v st i 0) : ∀ (n : ℕ) (hn : n < 8), n < i →
    Part q k v (st.pairs (F := Ideal) (⊥ : EReal) hi n hn) i n
  | 0, _, _ => P
  | n + 1, hn, hni => twoBlocks_at hq hk hn hi (pairs_at hi P n (by omega) (by omega)) (fun h => absurd h (by decide)) (fun _ => by omega)

theorem before_at {st : State Ideal} : ∀ {i : ℕ} (hi : i < 8), Inputs q k v st → (0 < i → HasScores q k st i 0 false 0) →
    Part q k v (st.before (F := Ideal) (⊥ : EReal) hi) i i
  | 0, hi, I, _ => ⟨I.scores ⊥ false true (by decide) hi 0, scores_at I (by decide) hi (fits_diag rfl) 0, fun h => absurd h (by decide)⟩
  | i + 1, hi, I, S => twoBlocks_at (last := true) hq hk hi hi
      (pairs_at hq hk hi ⟨I, S (by omega), fun h => absurd h (by decide)⟩ i (by omega) (by omega)) (fun _ => rfl) (fun h => absurd h (by decide))

/-- After a tile's key blocks: its accumulators, and the first scores of the tile after it. -/
theorem diagonal_at {st : State Ideal} {i i' : ℕ} (hi : i < 8) (hi' : i' < 8) (h1 : 0 < i') (P : Part q k v st i i) :
    Inputs q k v (st.diagonal (F := Ideal) (⊥ : EReal) hi hi') ∧ HasScores q k (st.diagonal (F := Ideal) (⊥ : EReal) hi hi') i' 0 false 0
      ∧ HasAcc q k v (st.diagonal (F := Ideal) (⊥ : EReal) hi hi') i (2 * i + 2) := by
  have hj1 : 2 * i + 1 < 16 := by omega
  have hj0 : 0 < 16 := by decide
  have S1 := scores_at P.inp hj1 hi (fits_diag (by show _ = 512 * i + 256; omega) : Fits true true i (2 * i + 1)) 1
  have P1 := P.scores1 ⊥ true true hj1 hi
  have A2 := even_at hq hk hi P1
  have I2 := P1.inp.even hi
  have S2 := S1.even hi
  have S3 := scores_at I2 hj0 hi' (fits_below (by show _ ≤ 512 * i' + 0; omega) : Fits false false i' 0) 0
  have S3' := scores_slot (⊥ : EReal) (late := false) (diag := false) hj0 hi' (by decide : (1 : Fin 2) ≠ 0) S2
  have I3 := I2.scores ⊥ false false hj0 hi' 0
  have A4 := next_at hq hk I3 hj1 (by omega) (fun _ => rfl) S3' (A2.scores ⊥ false false hj0 hi' 0)
  exact ⟨I3.next true hj1 1, S3.next true hj1 1, A4⟩

/-- A row of a tile whose accumulators are final. -/
theorem tile_row {st : State Ideal} {i : ℕ} (hi : i < 8) (A : HasAcc q k v st i (2 * i + 2)) (c : Fin 512) (d : Fin 128) :
    outV (F := Ideal) (st.getA 0 false) (st.getA 1 false) (ix2 c d) = attend q k v (512 * i + c.val) d.val := by
  have hc := c.isLt
  have key : ∀ (hh : Fin 2) (e : Fin 128), st.getA hh false (ix3 0 e c) = acc (score q k hh (512 * i + c.val)) (val v hh e.val) 4096 := fun hh e => by
    rw [State.getA_at st hh false e c (c := c) (Nat.zero_add _).symm, (A hh c).2 e]
    have : 4096 = 256 * (2 * i + 2) + (4096 - 256 * (2 * i + 2)) := by omega
    rw [this]
    exact (acc_masked _ (score_score hq hk hh _) (score_zero hq hk hh _) (by omega) _ fun κ h => score_masked q k hh (by omega)).symm
  have one : ∀ hh, val v hh (sumRowN hh) = fun _ => 1 := fun hh => funext fun κ => if_pos rfl
  rw [outV_apply]
  unfold attend headOf
  by_cases h : d.val < 64
  · rw [if_pos h, if_pos h, key, key]
    have e : val v 0 d.val = fun κ => ve v κ d.val := funext fun κ => if_neg (by show d.val ≠ 64; omega)
    rw [e, show val v 0 ((64 : Fin 128).val) = fun _ => 1 from one 0]
  · rw [if_neg h, if_neg h, key, key]
    have e : val v 1 d.val = fun κ => ve v κ d.val := funext fun κ => if_neg (by show d.val ≠ 0; omega)
    rw [e, show val v 1 ((0 : Fin 128).val) = fun _ => 1 from one 1]

theorem tile_at {st : State Ideal} {i i' : ℕ} (hi : i < 8) (hi' : i' < 8) (h1 : 0 < i') (I : Inputs q k v st) (S : 0 < i → HasScores q k st i 0 false 0)
    (D : Done q k v st.o i) :
    Inputs q k v (st.tile (F := Ideal) (⊥ : EReal) hi hi') ∧ HasScores q k (st.tile (F := Ideal) (⊥ : EReal) hi hi') i' 0 false 0
      ∧ Done q k v (st.tile (F := Ideal) (⊥ : EReal) hi hi').o (i + 1) := by
  obtain ⟨I', S', A'⟩ := diagonal_at hq hk hi hi' h1 (before_at hq hk hi I S)
  refine ⟨⟨I'.q, I'.k, I'.v⟩, S', fun ρ d hρ => ?_⟩
  by_cases h : ρ.val < 512 * i
  · refine (put_out _ _ _ _ _ 1 (.inl (show ρ.val < i * 512 by omega))).trans ?_
    rw [diagonal_o, before_o]
    exact D ρ d h
  · obtain ⟨c, hc⟩ : ∃ c : Fin 512, ρ.val = 512 * i + c.val := ⟨⟨ρ.val - 512 * i, by omega⟩, by show ρ.val = 512 * i + (ρ.val - 512 * i); omega⟩
    refine (put_in (s := SO) _ ![0, i * 512, 0] ![1, 512, 128] (shapeCast (T3 1 512 128) _ castO) (ix3 (0 : Fin 1) ρ d) (ix3 (0 : Fin 1) c d) fun a => by
      match a with
      | ⟨0, _⟩ => rfl
      | ⟨1, _⟩ => show ρ.val = i * 512 + c.val; omega
      | ⟨2, _⟩ => exact (Nat.zero_add _).symm).trans ((shapeCast_ab_1ab_apply _ _ _ c d).trans ?_)
    rw [hc]
    exact tile_row hq hk hi A' c d

theorem tiles_at {st : State Ideal} (I : Inputs q k v st) : ∀ (n : ℕ) (hn : n < 8),
    Inputs q k v (st.tiles (F := Ideal) (⊥ : EReal) n hn) ∧ (0 < n → HasScores q k (st.tiles (F := Ideal) (⊥ : EReal) n hn) n 0 false 0)
      ∧ Done q k v (st.tiles (F := Ideal) (⊥ : EReal) n hn).o n
  | 0, _ => ⟨I, fun h => absurd h (by decide), fun _ _ h => absurd h (by omega)⟩
  | n + 1, hn => by
    obtain ⟨I', S', D'⟩ := tiles_at I n (by omega)
    obtain ⟨I'', S'', D''⟩ := tile_at hq hk (by omega) hn (by omega) I' S' D'
    exact ⟨I'', fun _ => S'', D''⟩

/-- The body leaves its inputs as they were, and the attention of every query in the result. -/
theorem body_at {st : State Ideal} (I : Inputs q k v st) :
    Inputs q k v (st.body (F := Ideal) (⊥ : EReal)) ∧ (st.body (F := Ideal) (⊥ : EReal)).o = fun z => attend q k v (z 1).val (z 2).val := by
  obtain ⟨I', S', D'⟩ := tiles_at hq hk I 7 (by decide)
  obtain ⟨I'', -, D''⟩ := tile_at hq hk (i := 7) (i' := 7) (by decide) (by decide) (by decide) I' S' D'
  refine ⟨I'', funext fun z => ?_⟩
  have h0 : (z 0).val < 1 := (z 0).isLt
  have h1 : (z 1).val < 4096 := (z 1).isLt
  have e : z = ix3 (0 : Fin 1) (⟨(z 1).val, h1⟩ : Fin 4096) (⟨(z 2).val, (z 2).isLt⟩ : Fin 128) := funext fun a => Fin.ext (by
    match a with
    | ⟨0, _⟩ => show (z 0).val = 0; omega
    | ⟨1, _⟩ => rfl
    | ⟨2, _⟩ => rfl)
  rw [e]
  exact D'' _ _ (by show (z 1).val < 512 * 8; omega)

end Loops

end Attn
-- ==== Proof.Attn.Result.lean ====
/-
  What the attention computes: its result as a function of the whole arrays of queries, keys and values, and softmax
  with powers of e brought to the form with powers of two.
-/
module

public import proofs.«01_k».proof.Proof.Attn.Tiles

@[expose] public section

set_option maxRecDepth 16384

noncomputable section

namespace Attn

open Idealize.ShloMosaic Idealize.ShloMosaic.ValueIdx
open scoped BigOperators

/-! ## The result -/

/-- The shapes of the arrays: the queries and the keys, the values, the result. -/
abbrev AQ : Shape := ⟨3, ![8, 4096, 1024]⟩
abbrev AV : Shape := ⟨4, ![8, 16, 512, 256]⟩
abbrev AO : Shape := ⟨3, ![8, 4096, 512]⟩

/-- The queries or keys of head pair `p` of sequence `b`. -/
def blockQ (x : AQ.Idx → EReal) (b : Fin 8) (p : Fin 4) : SQ.Idx → EReal := fun z =>
  x (ix3 b ⟨(z 1).val, (z 1).isLt⟩ ⟨256 * p.val + (z 2).val, by have : (z 2).val < 256 := (z 2).isLt; omega⟩)

/-- The values of head pair `p` of sequence `b`. -/
def blockV (x : AV.Idx → EReal) (b : Fin 8) (p : Fin 4) : SV.Idx → EReal := fun z =>
  x (ix4 b ⟨(z 1).val, (z 1).isLt⟩ ⟨128 * p.val + (z 2).val, by have : (z 2).val < 128 := (z 2).isLt; omega⟩ ⟨(z 3).val, (z 3).isLt⟩)

theorem Finite.blockQ {x : AQ.Idx → EReal} (hx : Finite x) (b : Fin 8) (p : Fin 4) : Finite (blockQ x b p) := fun _ => hx _

/-- The head pair a column of the result belongs to. -/
def pairOf (y : Fin 512) : Fin 4 := ⟨y.val / 128, by have := y.isLt; omega⟩

/-- The attention of every query, of the whole arrays. -/
def result (xq xk : AQ.Idx → EReal) (xv : AV.Idx → EReal) (b : Fin 8) (ρ : Fin 4096) (y : Fin 512) : EReal :=
  attend (blockQ xq b (pairOf y)) (blockQ xk b (pairOf y)) (blockV xv b (pairOf y)) ρ.val (y.val % 128)

/-- A query's or key's entry, in the whole array. -/
theorem qe_block (x : AQ.Idx → EReal) (b : Fin 8) {h : Fin 8} {p : Fin 4} {hh : Fin 2} (e : h.val = 2 * p.val + hh.val) (ρ : Fin 4096) (k : Fin 128) :
    qe (blockQ x b p) ρ.val (hh.val * 128 + k.val) = x (ix3 b ρ ⟨128 * h.val + k.val, by have := h.isLt; have := k.isLt; omega⟩) := by
  have hρ := ρ.isLt
  have hk := k.isLt
  have hh' := hh.isLt
  unfold qe
  rw [dif_pos ⟨hρ, by omega⟩]
  unfold blockQ
  congr 1
  refine congrArg (ix3 b ρ) (Fin.ext ?_)
  show 256 * p.val + (hh.val * 128 + k.val) = 128 * h.val + k.val
  omega

/-- A value's entry, in the whole array. -/
theorem ve_block (x : AV.Idx → EReal) (b : Fin 8) (y : Fin 512) (κ : Fin 4096) :
    ve (blockV x b (pairOf y)) κ.val (y.val % 128) = x (ix4 b ⟨κ.val / 256, by have := κ.isLt; omega⟩ y ⟨κ.val % 256, Nat.mod_lt _ (by norm_num)⟩) := by
  have hκ := κ.isLt
  unfold ve
  rw [dif_pos ⟨hκ, by omega⟩]
  unfold blockV
  congr 1
  refine congrArg (fun w : Fin 512 => ix4 b (⟨κ.val / 256, by omega⟩ : Fin 16) w (⟨κ.val % 256, Nat.mod_lt _ (by norm_num)⟩ : Fin 256)) (Fin.ext ?_)
  show 128 * (y.val / 128) + y.val % 128 = y.val
  omega

/-! ## Softmax with powers of e -/

/-- The logarithm of two. -/
abbrev ln2 : EReal := ((Real.log 2 : ℝ) : EReal)

theorem mul_ln2_mono : Monotone fun x : EReal => x * ln2 := fun _ _ h =>
  mul_le_mul_of_nonneg_right h (EReal.coe_nonneg.mpr (Real.log_pos one_lt_two).le)

/-- The largest of the scores times the logarithm of two. -/
theorem sup_ln2 (s : ℕ → EReal) (n : ℕ) : ((Finset.range n).sup fun κ => s κ * ln2) = top s n * ln2 :=
  (Finset.comp_sup_eq_sup_comp_of_is_total (fun x : EReal => x * ln2) mul_ln2_mono
    (EReal.bot_mul_coe_of_pos (Real.log_pos one_lt_two))).symm

/-- Softmax of scores times the logarithm of two, weighing the values. -/
theorem softmax_ln2 (s v : ℕ → EReal) (hs : ∀ κ, Score (s κ)) (h0 : ∃ r : ℝ, s 0 = (r : EReal)) {n : ℕ} (hn : 0 < n) :
    ∑ κ ∈ Finset.range n, v κ * Ideal.div (Ideal.exp (s κ * ln2 - (Finset.range n).sup fun κ => s κ * ln2))
        (∑ κ ∈ Finset.range n, Ideal.exp (s κ * ln2 - (Finset.range n).sup fun κ => s κ * ln2))
      = Ideal.div (acc s v n) (acc s (fun _ => 1) n) := by
  have e : ∀ κ, Ideal.exp (s κ * ln2 - (Finset.range n).sup fun κ => s κ * ln2) = Ideal.exp2 (s κ - top s n) := fun κ => by
    obtain ⟨a, ha⟩ := top_real hs h0 hn
    rw [sup_ln2, ha]
    exact exp_ln2 (hs κ) a
  simp only [e]
  rw [← softmax_sum v hs h0 hn]
  unfold acc
  simp only [one_mul]

end Attn

end
-- ==== Proof.Attn.Value.lean ====
/-
  The value of KernelIdeal: its result array is the attention of the argument arrays.
-/
module

public import proofs.«01_k».proof.Proof.Attn.FrameKernelIdeal
public import proofs.«01_k».proof.Proof.Attn.Result
public import Idealize.ShloMosaic.Lib.Pipeline.ValueKit.Geometry

@[expose] public section

set_option maxRecDepth 16384

noncomputable section

namespace Cert.KernelIdeal

open Idealize.ShloMosaic Idealize.ShloMosaic.TcCoe Idealize.ShloMosaic.ValueIdx
open Idealize.SL Idealize.SL.Sem
open Cert.KernelIdeal.Gen
open Attn

variable (m : (ℓ : Loc nD τ sig) → Buf (Elt Ideal) ℓ) (ρ : Dev nD → PrngReg)

abbrev argQ (c : Dev nD) : AQ.Idx → EReal := m ((c : Thread nD τ).loc main_arg0)
abbrev argK (c : Dev nD) : AQ.Idx → EReal := m ((c : Thread nD τ).loc main_arg1)
abbrev argV (c : Dev nD) : AV.Idx → EReal := m ((c : Thread nD τ).loc main_arg2)

/-- The sequence and the head pair of a grid point. -/
def seqOf (t : Fin cfg0.N) : Fin 8 := ⟨(grid0.coords t 0).val, (grid0.coords t 0).isLt⟩
def pairAt (t : Fin cfg0.N) : Fin 4 := ⟨(grid0.coords t 1).val, (grid0.coords t 1).isLt⟩

theorem index_q : ∀ t : Fin cfg0.N, win0_0.index t = ![(seqOf t).val, 0, (pairAt t).val] := (by decide +kernel : ∀ t : Fin grid0.N, _)
theorem index_k : ∀ t : Fin cfg0.N, win0_1.index t = ![(seqOf t).val, 0, (pairAt t).val] := (by decide +kernel : ∀ t : Fin grid0.N, _)
theorem index_v : ∀ t : Fin cfg0.N, win0_2.index t = ![(seqOf t).val, 0, (pairAt t).val, 0] := (by decide +kernel : ∀ t : Fin grid0.N, _)
theorem index_o : ∀ t : Fin cfg0.N, win0_3.index t = ![(seqOf t).val, 0, (pairAt t).val] := (by decide +kernel : ∀ t : Fin grid0.N, _)

/-! A grid point's blocks are those of its sequence and head pair. -/

theorem qblk_eq (c : Dev nD) (t : Fin cfg0.N) : qblk (F := Ideal) m c t = blockQ (argQ m c) (seqOf t) (pairAt t) := by
  funext z
  have h0 : (z 0).val < 1 := (z 0).isLt
  show argQ m c ((win0_0.blk t).view.emb z) = _
  unfold blockQ
  refine congrArg (argQ m c) ?_
  blk_ext [index_q]

theorem kblk_eq (c : Dev nD) (t : Fin cfg0.N) : kblk (F := Ideal) m c t = blockQ (argK m c) (seqOf t) (pairAt t) := by
  funext z
  have h0 : (z 0).val < 1 := (z 0).isLt
  show argK m c ((win0_1.blk t).view.emb z) = _
  unfold blockQ
  refine congrArg (argK m c) ?_
  blk_ext [index_k]

theorem vblk_eq (c : Dev nD) (t : Fin cfg0.N) : vblk (F := Ideal) m c t = blockV (argV m c) (seqOf t) (pairAt t) := by
  funext z
  have h0 : (z 0).val < 1 := (z 0).isLt
  show argV m c ((win0_2.blk t).view.emb z) = _
  unfold blockV
  refine congrArg (argV m c) ?_
  blk_ext [index_v]

/-- What a grid point computes: the attention of its blocks. -/
def outs : Outs Ideal := fun c t z =>
  attend (blockQ (argQ m c) (seqOf t) (pairAt t)) (blockQ (argK m c) (seqOf t) (pairAt t)) (blockV (argV m c) (seqOf t) (pairAt t)) (z 1).val (z 2).val

theorem computes (hq : ∀ c, Finite (argQ m c)) (hk : ∀ c, Finite (argK m c)) : Computes m (outs m) := by
  intro c t st hst
  rw [qblk_eq, kblk_eq, vblk_eq] at hst
  exact (body_at ((hq c).blockQ _ _) ((hk c).blockQ _ _) hst).2

/-- The result array of a device. -/
abbrev resultArr (c : Dev nD) : AO.Idx → EReal := fun i => result (argQ m c) (argK m c) (argV m c) (i 0) (i 1) (i 2)

theorem arr_eq (c : Dev nD) : (dats m (outs m) 0 c).arrAt 3 cfg0.N = (resultArr m c : Buf (Elt Ideal) ((c : Thread nD τ).loc main_v0)) := by
  refine (dats m (outs m) 0 c).arrAt_eq_of_covers 3 _ (by decide +kernel) fun t hf y => ?_
  have h0 : (y 0).val < 1 := (y 0).isLt
  have h1 : (y 1).val < 4096 := (y 1).isLt
  have h2 : (y 2).val < 128 := (y 2).isLt
  have e : (win0_3.blk t).view.emb y = (ix3 (seqOf t) ⟨(y 1).val, h1⟩ ⟨128 * (pairAt t).val + (y 2).val, by have := (pairAt t).isLt; omega⟩ : AO.Idx) := by
    blk_ext [index_o]
  show outs m c t y = resultArr m c ((win0_3.blk t).view.emb y)
  rw [e]
  unfold outs resultArr result
  have e1 : pairOf (⟨128 * (pairAt t).val + (y 2).val, by have := (pairAt t).isLt; omega⟩ : Fin 512) = pairAt t :=
    Fin.ext (show (128 * (pairAt t).val + (y 2).val) / 128 = (pairAt t).val by omega)
  have e2 : (128 * (pairAt t).val + (y 2).val) % 128 = (y 2).val := by omega
  show attend _ _ _ _ _ = attend (blockQ _ _ (pairOf ⟨128 * (pairAt t).val + (y 2).val, _⟩)) (blockQ _ _ (pairOf ⟨128 * (pairAt t).val + (y 2).val, _⟩))
    (blockV _ _ (pairOf ⟨128 * (pairAt t).val + (y 2).val, _⟩)) (y 1).val ((128 * (pairAt t).val + (y 2).val) % 128)
  rw [e1, e2]

/-- Every run of KernelIdeal from finite queries and keys ends with the attention in its result array and its arguments as they were. -/
theorem run (hq : ∀ c, Finite (argQ m c)) (hk : ∀ c, Finite (argK m c)) :
    θ_run defs (onTc (τ := τ) (main (F := Ideal))) ⟨m, fun _ => 0, ρ⟩ fun r => ∀ c : Dev nD,
      r.2.mem ((c.tc : Thread nD τ).loc main_v0) = (resultArr m c : Buf (Elt Ideal) ((c : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (arr_eq m c),
      ((h c).1 0).trans ((dats m (outs m) 0 c).arrAt_in 0 rfl _), ((h c).1 1).trans ((dats m (outs m) 0 c).arrAt_in 1 rfl _),
      ((h c).1 2).trans ((dats m (outs m) 0 c).arrAt_in 2 rfl _)⟩)
    (value_run m ρ (outs m) (computes m hq hk))

end Cert.KernelIdeal

end
-- ==== Proof.Attn.Reference.lean ====
/-
  The value of the reference: every entry of its result is the attention of its query.
-/
module

public import proofs.«01_k».proof.Proof.Gen.ReferenceIdeal.Read
public import proofs.«01_k».proof.Proof.Attn.Result

@[expose] public section

set_option maxRecDepth 16384

noncomputable section

namespace Cert.ReferenceIdeal

open Idealize.ShloMosaic Idealize.ShloMosaic.ValueIdx
open Cert.ReferenceIdeal.Gen Cert.ReferenceIdeal.Read
open Attn
open scoped BigOperators

variable (xq xk : FVec Ideal S8x4096x1024 .bf16) (xv : FVec Ideal S8x16x512x256 .bf16)

/-- The factor of the scores is the logarithm of two. -/
theorem factor_at (i : S8x8x4096x4096.Idx) : val_main_v9 (F := Ideal) i = ln2 := by
  rw [val_main_v9_apply, val_main_v8_apply, val_main_cst_apply]
  have e : (FloatOps.ofBits .f32 0x40000000#32 : Ideal .f32) = ((2 : ℝ) : EReal) := by
    show Ideal.ofBits .f32 0x40000000#32 = _
    simp [Ideal.ofBits, Ideal.ieee]
    rw [← EReal.coe_mul]
    norm_num
  rw [e]
  show Ideal.log ((2 : ℝ) : EReal) = _
  rw [Ideal.log_coe, if_neg (by norm_num)]

/-- A key is kept where it is not later than the query. -/
theorem kept_at (b h : Fin 8) (ρ κ : Fin 4096) : val_main_call0_v1 (F := Ideal) (ix4 b h ρ κ) = 1#1 ↔ κ.val ≤ ρ.val := by
  rw [val_main_call0_v1_apply, val_main_v16_apply, val_main_v14_apply, val_main_v15_apply, val_main_v12_apply, val_main_v13_apply, val_main_v11_apply, val_main_v11_apply]
  exact WordCmp.cmpi_sle_ofNat_eq_one_iff (show κ.val < 2 ^ 31 by have := κ.isLt; omega) (show ρ.val < 2 ^ 31 by have := ρ.isLt; omega)

/-- The products of a query and a key. -/
theorem dot_at (b : Fin 8) {h : Fin 8} {p : Fin 4} {hh : Fin 2} (e : h.val = 2 * p.val + hh.val) (ρ κ : Fin 4096) :
    val_main_v7 (F := Ideal) xq xk (ix4 b h ρ κ)
      = ∑ d : Fin 128, qe (blockQ xk b p) κ.val (hh.val * 128 + d.val) * qe (blockQ xq b p) ρ.val (hh.val * 128 + d.val) := by
  rw [val_main_v7_apply]
  refine Finset.sum_congr rfl fun k _ => ?_
  have h0 := b.isLt
  have h1 := h.isLt
  have h2 := ρ.isLt
  have h3 := κ.isLt
  have h4 := k.isLt
  rw [qe_block xk b e κ k, qe_block xq b e ρ k, mul_comm, val_main_v1_apply, val_main_v3_apply, val_main_v0_apply, val_main_v2_apply]
  refine congrArg₂ (· * ·) (congrArg xk (funext fun a => Fin.ext ?_)) (congrArg xq (funext fun a => Fin.ext ?_))
  · match a with
    | ⟨0, _⟩ => show (((b.val * 4096 + κ.val) * 8 + h.val) * 128 + k.val) / 4194304 = b.val; omega
    | ⟨1, _⟩ => show (((b.val * 4096 + κ.val) * 8 + h.val) * 128 + k.val) / 1024 % 4096 = κ.val; omega
    | ⟨2, _⟩ => show (((b.val * 4096 + κ.val) * 8 + h.val) * 128 + k.val) % 1024 = 128 * h.val + k.val; omega
  · match a with
    | ⟨0, _⟩ => show (((b.val * 4096 + ρ.val) * 8 + h.val) * 128 + k.val) / 4194304 = b.val; omega
    | ⟨1, _⟩ => show (((b.val * 4096 + ρ.val) * 8 + h.val) * 128 + k.val) / 1024 % 4096 = ρ.val; omega
    | ⟨2, _⟩ => show (((b.val * 4096 + ρ.val) * 8 + h.val) * 128 + k.val) % 1024 = 128 * h.val + k.val; omega

theorem ofBits_bot : (FloatOps.ofBits .f32 0xFF800000#32 : Ideal .f32) = (⊥ : EReal) := by
  show Ideal.ofBits .f32 0xFF800000#32 = _
  simp [Ideal.ofBits, Ideal.ieee]

/-- The masked scores, times the logarithm of two. -/
theorem masked_at (b : Fin 8) {h : Fin 8} {p : Fin 4} {hh : Fin 2} (e : h.val = 2 * p.val + hh.val) (ρ κ : Fin 4096) :
    val_main_v17 (F := Ideal) xq xk (ix4 b h ρ κ) = score (blockQ xq b p) (blockQ xk b p) hh ρ.val κ.val * ln2 := by
  rw [val_main_v17_apply]
  unfold score
  by_cases hc : κ.val ≤ ρ.val
  · rw [(kept_at b h ρ κ).mpr hc, if_pos hc, select_one, val_main_v10_apply, factor_at, dot_at xq xk b e]
    rfl
  · rw [eq_zero_of_ne_one fun h' => hc ((kept_at b h ρ κ).mp h'), if_neg hc, select_zero, val_main_call0_v2_apply,
      val_main_call0_v0_apply, val_main_cst_0_apply, ofBits_bot]
    exact (EReal.bot_mul_coe_of_pos (Real.log_pos one_lt_two)).symm

/-- A query's largest score. -/
theorem max_at (b : Fin 8) {h : Fin 8} {p : Fin 4} {hh : Fin 2} (e : h.val = 2 * p.val + hh.val) (ρ : Fin 4096) :
    val_main_v20 (F := Ideal) xq xk (ix3 b h ρ) = (Finset.range 4096).sup fun κ => score (blockQ xq b p) (blockQ xk b p) hh ρ.val κ * ln2 := by
  have hm : val_main_v18 (F := Ideal) xq xk (ix3 b h ρ) = (Finset.range 4096).sup fun κ => score (blockQ xq b p) (blockQ xk b p) hh ρ.val κ * ln2 := by
    unfold val_main_v18
    rw [Host.reduce_eq_fold_single FloatOps.maximumf _ _ _ (by decide : S8x8x4096x4096.Reduces [3] S8x8x4096) _, val_main_cst_1_apply, ofBits_bot, ← sup_fin]
    refine Eq.trans ?_ (Finset.sup_congr rfl fun κ _ => masked_at xq xk b e ρ κ)
    show Finset.fold max ⊥ _ _ = Finset.fold max ⊥ _ _
    refine Finset.fold_congr fun κ _ => ?_
    exact congrArg (val_main_v17 (F := Ideal) xq xk) (funext fun a => Fin.ext (by match a with | ⟨0, _⟩ => rfl | ⟨1, _⟩ => rfl | ⟨2, _⟩ => rfl | ⟨3, _⟩ => rfl))
  rw [val_main_v20_apply, val_main_v19_apply, val_main_cst_2_apply, ofBits_bot, hm]
  exact max_eq_right bot_le

/-- A weight before the division. -/
theorem weight_at (b : Fin 8) {h : Fin 8} {p : Fin 4} {hh : Fin 2} (e : h.val = 2 * p.val + hh.val) (ρ κ : Fin 4096) :
    val_main_v24 (F := Ideal) xq xk (ix4 b h ρ κ) = Ideal.exp (score (blockQ xq b p) (blockQ xk b p) hh ρ.val κ.val * ln2
      - (Finset.range 4096).sup fun κ => score (blockQ xq b p) (blockQ xk b p) hh ρ.val κ * ln2) := by
  rw [val_main_v24_apply, val_main_v23_apply, masked_at xq xk b e, val_main_v22_apply, val_main_v21_apply,
    show idx_main_v21 (idx_main_v22 (ix4 b h ρ κ)) = ix3 b h ρ from funext fun a => Fin.ext (by match a with | ⟨0, _⟩ => rfl | ⟨1, _⟩ => rfl | ⟨2, _⟩ => rfl),
    max_at xq xk b e]
  rfl

theorem sum_range_fin (n : ℕ) (f : ℕ → EReal) : ∑ κ ∈ Finset.range n, f κ = ∑ κ : Fin n, f κ.val := (Fin.sum_univ_eq_sum_range f n).symm

/-- The sum of a query's weights. -/
theorem sum_at (b : Fin 8) {h : Fin 8} {p : Fin 4} {hh : Fin 2} (e : h.val = 2 * p.val + hh.val) (ρ κ : Fin 4096) :
    val_main_v27 (F := Ideal) xq xk (ix4 b h ρ κ) = ∑ κ ∈ Finset.range 4096, Ideal.exp (score (blockQ xq b p) (blockQ xk b p) hh ρ.val κ * ln2
      - (Finset.range 4096).sup fun κ => score (blockQ xq b p) (blockQ xk b p) hh ρ.val κ * ln2) := by
  rw [val_main_v27_apply, val_main_v26_apply, val_main_v25_apply, val_main_cst_3_apply,
    show (FloatOps.ofBits .f32 0x00000000#32 : Ideal .f32) = (0 : EReal) from Ideal.ofBits_zero_f32, zero_add, sum_range_fin]
  refine Finset.sum_congr rfl fun k _ => ?_
  rw [← weight_at xq xk b e ρ k]
  exact congrArg (val_main_v24 (F := Ideal) xq xk) (funext fun a => Fin.ext (by match a with | ⟨0, _⟩ => rfl | ⟨1, _⟩ => rfl | ⟨2, _⟩ => rfl | ⟨3, _⟩ => rfl))

/-- A value's entry. -/
theorem value_at (b : Fin 8) (y : Fin 512) (κ : Fin 4096) :
    val_main_v6 (F := Ideal) xv (ix4 b κ ⟨y.val / 64, by have := y.isLt; omega⟩ ⟨y.val % 64, by omega⟩) = ve (blockV xv b (pairOf y)) κ.val (y.val % 128) := by
  have h0 := b.isLt
  have h1 := y.isLt
  have h2 := κ.isLt
  rw [ve_block, val_main_v6_apply, val_main_v5_apply, val_main_v4_apply]
  refine congrArg xv (funext fun a => Fin.ext ?_)
  match a with
  | ⟨0, _⟩ => show (((b.val * 4096 + κ.val) * 8 + y.val / 64) * 64 + y.val % 64) / 2097152 = b.val; omega
  | ⟨1, _⟩ => show (((b.val * 4096 + κ.val) * 8 + y.val / 64) * 64 + y.val % 64) / 131072 % 16 = κ.val / 256; omega
  | ⟨2, _⟩ => show (((b.val * 4096 + κ.val) * 8 + y.val / 64) * 64 + y.val % 64) % 512 = y.val; omega
  | ⟨3, _⟩ => show (((b.val * 4096 + κ.val) * 8 + y.val / 64) * 64 + y.val % 64) / 512 % 256 = κ.val % 256; omega

/-- The reference's result, entry by entry. -/
theorem result_at (hq : Finite xq) (hk : Finite xk) (b : Fin 8) (ρ : Fin 4096) (y : Fin 512) :
    val_main_v32 (F := Ideal) xq xk xv (ix3 b ρ y) = result xq xk xv b ρ y := by
  have h0 := b.isLt
  have h1 := y.isLt
  have h2 := ρ.isLt
  have e : y.val / 64 = 2 * (pairOf y).val + (headOf (y.val % 128)).val := by
    show y.val / 64 = 2 * (y.val / 128) + _
    unfold headOf
    split
    · show y.val / 64 = 2 * (y.val / 128) + 0; omega
    · show y.val / 64 = 2 * (y.val / 128) + 1; omega
  rw [val_main_v32_apply, val_main_v31_apply, val_main_v30_apply, val_main_v29_apply]
  unfold result attend
  rw [← softmax_ln2 _ _ (score_score (hq.blockQ b _) (hk.blockQ b _) _ _) (score_zero (hq.blockQ b _) (hk.blockQ b _) _ _) (by norm_num), sum_range_fin]
  refine Finset.sum_congr rfl fun κ _ => ?_
  rw [← value_at xv b y κ, ← sum_at xq xk b (h := ⟨y.val / 64, by omega⟩) e ρ κ, ← weight_at xq xk b (h := ⟨y.val / 64, by omega⟩) e ρ κ]
  refine congrArg₂ (· * ·) (congrArg (val_main_v6 (F := Ideal) xv) (funext fun a => Fin.ext ?_)) ?_
  · match a with
    | ⟨0, _⟩ => show ((b.val * 4096 + ρ.val) * 512 + y.val) / 2097152 = b.val; omega
    | ⟨1, _⟩ => rfl
    | ⟨2, _⟩ => show ((b.val * 4096 + ρ.val) * 512 + y.val) / 64 % 8 = y.val / 64; omega
    | ⟨3, _⟩ => show ((b.val * 4096 + ρ.val) * 512 + y.val) % 64 = y.val % 64; omega
  · refine Eq.trans (congrArg (val_main_v28 (F := Ideal) xq xk) (funext fun a => Fin.ext ?_)) (val_main_v28_apply (F := Ideal) xq xk (ix4 b ⟨y.val / 64, by omega⟩ ρ κ))
    match a with
    | ⟨0, _⟩ => show ((b.val * 4096 + ρ.val) * 512 + y.val) / 2097152 = b.val; omega
    | ⟨1, _⟩ => show ((b.val * 4096 + ρ.val) * 512 + y.val) / 64 % 8 = y.val / 64; omega
    | ⟨2, _⟩ => show ((b.val * 4096 + ρ.val) * 512 + y.val) / 512 % 4096 = ρ.val; omega
    | ⟨3, _⟩ => rfl

end Cert.ReferenceIdeal

end
-- ==== Proof.Attn.Claims.lean ====
/-
  The attention's claims.
-/
module

public import proofs.«01_k».proof.Defs
public import proofs.«01_k».proof.Proof.Gen.Pre_finite
public import proofs.«01_k».proof.Proof.Attn.FrameKernel
public import proofs.«01_k».proof.Proof.Attn.Value
public import proofs.«01_k».proof.Proof.Attn.Reference
public import Idealize.ShloMosaic.Lib.Quiescent

@[expose] public section

noncomputable section

open Idealize.ShloMosaic Idealize.ShloMosaic.TcCoe Idealize.ShloMosaic.ValueIdx Idealize.SL.Sem

/-! ## The precondition -/

namespace Cert.Pre_finite

/-- An extended real whose absolute value is below +∞ is a real number. -/
theorem real_of_abs_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

theorem bits_and (a b : BitVec 1) (h : a &&& b = 1#1) : a = 1#1 ∧ b = 1#1 := by
  revert a b
  decide

/-- Where the precondition holds the queries and the keys are real numbers. -/
theorem finite_of [Facts] (q k : FVec Ideal S8x4096x1024 .bf16) (v : FVec Ideal S8x16x512x256 .bf16) (h : fn (F := Ideal) q k v = fun _ => 1#1) :
    Attn.Finite q ∧ Attn.Finite k :=
  ⟨fun i => real_of_abs_lt (bits_and _ _ (congrFun h i)).1, fun i => real_of_abs_lt (bits_and _ _ (congrFun h i)).2⟩

end Cert.Pre_finite

namespace Cert.Proof.AttentionClaims

theorem frame_kernel : Cert.quiescent_Kernel := fun m ρ _ => Cert.Kernel.frame m ρ

theorem frame_ideal : Cert.quiescent_KernelIdeal := fun m ρ _ => Cert.KernelIdeal.frame m ρ

theorem frame_ideal_pre : Cert.quiescent_KernelIdeal_pre_finite := fun m ρ _ => Cert.KernelIdeal.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite := fun m ρ _ => frame_reference m ρ trivial

/-- The mask's constant stands for −∞. -/
theorem preserves : Cert.preserves_Kernel_KernelIdeal :=
  IdealRules.named_const.statement Cert.KernelIdeal.κ "mask" .f32 0xF149F2CA#32 ⊥ rfl

/-- KernelIdeal computes what the reference does. -/
theorem algebraic : Cert.algebraic_KernelIdeal_ReferenceIdeal_pre_finite := by
  intro m ρ m' ρ' hpre hagree
  have hf := fun c => Cert.Pre_finite.finite_of _ _ _ (hpre c)
  refine ⟨fun c => Cert.KernelIdeal.resultArr m c, Cert.KernelIdeal.run m ρ (fun c => (hf c).1) (fun c => (hf c).2),
    (θ_run Cert.ReferenceIdeal.defs _ _).mono (fun r h c => ⟨(h c).1.trans ?_, (h c).2⟩) (Cert.ReferenceIdeal.Value.run (F := Ideal) m' ρ')⟩
  rw [Cert.ReferenceIdeal.Read.val_main_v32_eq, (hagree c).1, (hagree c).2.1, (hagree c).2.2]
  funext i
  obtain ⟨b, y, d, rfl⟩ : ∃ (b : Fin 8) (y : Fin 4096) (d : Fin 512), i = ix3 b y d := ⟨i 0, i 1, i 2, funext fun a => by
    match a with
    | ⟨0, _⟩ => rfl
    | ⟨1, _⟩ => rfl
    | ⟨2, _⟩ => rfl⟩
  exact Cert.ReferenceIdeal.result_at _ _ _ (hf c).1 (hf c).2 b y d

end Cert.Proof.AttentionClaims

end
-- ==== Proof.Ffn.FrameKernel2.lean ====
/-
  The run of Kernel2. It is Kernel2Ideal's program with the gate's two constants not named, so its arguments end unchanged as
  Kernel2Ideal's do.
-/
module

public import proofs.«01_k».proof.Proof.Gen.Kernel2
public import proofs.«01_k».proof.Proof.Gen.Kernel2Ideal.Frame

@[expose] public section

set_option maxRecDepth 16384

noncomputable section

namespace Cert.Kernel2

open Idealize.ShloMosaic Idealize.ShloMosaic.TcCoe Idealize.ShloMosaic.Tactic
open Idealize.SL Idealize.SL.Sem

variable {F : FTy → Type} [FloatOps F]

/-- The instance in which a named constant is the number printed. -/
abbrev unnamed : Named F := ⟨fun _ _ {φ} b => Scalar.ofBits φ b⟩

variable (m : (ℓ : Loc nD τ sig) → Buf (Elt F) ℓ) (ρ : Dev nD → PrngReg)

/-- The arguments as they were and every semaphore at zero. -/
def Quiet (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0

def Ends : Prop := θ_run defs (onTc (τ := τ) (main (F := F))) ⟨m, fun _ => 0, ρ⟩ (Quiet m)

def EndsIdeal : Prop :=
  letI : Named F := unnamed
  θ_run Cert.Kernel2Ideal.defs (onTc (τ := τ) (Cert.Kernel2Ideal.main (F := F))) ⟨m, fun _ => 0, ρ⟩ (Quiet m)

/-- The two programs are the same where the constants are not named. -/
theorem ends_eq : Ends m ρ = EndsIdeal m ρ := by
  sl_kernel_rfl

theorem endsIdeal : EndsIdeal m ρ :=
  letI : Named F := unnamed
  Cert.Kernel2Ideal.Gen.frame (F := F) m ρ

/-- Kernel2 ends with its arguments as they were and every semaphore at zero. -/
theorem frame : Ends m ρ := (ends_eq m ρ).mpr (endsIdeal m ρ)

end Cert.Kernel2

end
-- ==== Proof.Ffn.Body.lean ====
/-
  The feed-forward kernel's body written with its loops: the column chunks of the first product one after another, then
  the second product, its norm, and the rows of the result put back in their order. The printed body is this text
  unrolled. The two constants of the gate are parameters, so that one text serves the kernel and its idealization.
  Generic in the machine, the memrefs and the float values.
-/
module

public import proofs.«01_k».proof.Proof.Attn.Body

@[expose] public section

set_option maxRecDepth 16384

noncomputable section

namespace Ffn

open Idealize.ShloMosaic Idealize.ShloMosaic.TcCoe
open Idealize.SL Idealize.SL.Sem
open Attn (T1 T2 T3 load store)

/-! ## Side conditions of the operations -/

/-- The side conditions of the norm of `n` rows of 1024. -/
structure Norms (n : ℕ) : Prop where
  red : (T2 n 1024).Reduces [1] (T1 n)
  cast : (T1 n).ShapeCasts (T2 n 1)
  col : (T2 n 1).Broadcasts (T2 n 1024)
  row : (T2 1 1024).Broadcasts (T2 n 1024)

theorem norms512 : Norms 512 := by constructor <;> decide
theorem norms256 : Norms 256 := by constructor <;> decide

theorem castX : (T3 1 512 1024).ShapeCasts (T2 512 1024) := by decide
theorem castC : (T2 64 1).ShapeCasts (T2 64 1) := by decide
theorem castR : (T2 1 256).ShapeCasts (T2 1 256) := by decide
theorem castT : (T2 2 5632).ShapeCasts (T2 2 5632) := by decide
theorem castA : (T2 512 256).ShapeCasts (T2 512 256) := by decide
theorem castP : (T2 64 128).ShapeCasts (T3 1 64 128) := by decide
theorem castP' : (T3 1 512 128).ShapeCasts (T2 512 128) := by decide
theorem castO : (T2 512 128).ShapeCasts (T3 1 512 128) := by decide
theorem brC : (T2 64 1).Broadcasts (T2 64 256) := by decide
theorem brR : (T2 1 256).Broadcasts (T2 64 256) := by decide
theorem iotaC : (T2 64 1).Iotas .tc 32 [0] := by decide
theorem rot : (T2 64 256).Rotates 0 none := by decide
theorem slB (b : Fin 8) : (T2 512 256).Slices ![b.val * 64, 0] (T2 64 256) := by revert b; decide
theorem slL : (T2 64 256).Slices ![63, 0] (T2 1 256) := by decide
theorem slH (h : Fin 2) : (T2 512 1024).Slices ![h.val * 256, 0] (T2 256 1024) := by revert h; decide
theorem slP (c : Fin 8) (b : Fin 4) : (T2 256 1024).Slices ![b.val * 64, c.val * 128] (T2 64 128) := by revert c b; decide
theorem cat : Shape.Concatenates [T2 64 256, T2 64 256, T2 64 256, T2 64 256, T2 64 256, T2 64 256, T2 64 256, T2 64 256] (T2 512 256) 0 := by
  decide
theorem bits16 : FTy.bits .bf16 < FTy.bits .f32 := by decide

/-! ## The memrefs and their accesses -/

/-- The body's buffers: rows, first norm's weights, first matrix, convolution's weights and bias, second matrix, second
    norm's weights, result; gated values, rows by phase, last rows of the tile before. -/
structure Mems (sig : RefSig) where
  x : Memref sig .tc .vmem (T3 1 512 1024) .f32
  gp : Memref sig .tc .vmem (T2 1 1024) .f32
  wu : Memref sig .tc .vmem (T2 1024 5632) .bf16
  cw : Memref sig .tc .vmem (T2 3 5632) .f32
  cb : Memref sig .tc .vmem (T2 1 5632) .f32
  wd : Memref sig .tc .vmem (T2 2816 1024) .bf16
  gq : Memref sig .tc .vmem (T2 1 1024) .f32
  o : Memref sig .tc .vmem (T3 1 512 1024) .f32
  a : Memref sig .tc .vmem (T2 512 2816) .bf16
  p : Memref sig .tc .vmem (T3 8 512 128) .f32
  t : Memref sig .tc .vmem (T2 2 5632) .f32
  aw : a.IsWhole

/-- The first column of a chunk, of the gate's half (0) or the value's (1). -/
abbrev col (j : ℕ) (u : Fin 2) : ℕ := u.val * 2816 + j * 256

section Prog

variable {nD : ℕ} {τ : Topo} {sig : RefSig} {Λ : Labels} {F : FTy → Type} [FloatOps F]

theorem inbX : ∀ a, (![0, 0, 0] : Fin 3 → ℕ) a + (T3 1 512 1024).size a ≤ (T3 1 512 1024).size a := by decide
theorem inbG : ∀ a, (![0, 0] : Fin 2 → ℕ) a + (T2 1 1024).size a ≤ (T2 1 1024).size a := by decide
theorem inbU {j : ℕ} (hj : j < 11) (u : Fin 2) : ∀ a, (![0, col j u] : Fin 2 → ℕ) a + (T2 1024 256).size a ≤ (T2 1024 5632).size a := by
  intro a; fin_cases a <;> simp [col] <;> omega
theorem inbW {j : ℕ} (hj : j < 11) (u : Fin 2) (k : Fin 3) : ∀ a, (![k.val, col j u] : Fin 2 → ℕ) a + (T2 1 256).size a ≤ (T2 3 5632).size a := by
  intro a; fin_cases a <;> simp [col] <;> omega
theorem inbB {j : ℕ} (hj : j < 11) (u : Fin 2) : ∀ a, (![0, col j u] : Fin 2 → ℕ) a + (T2 1 256).size a ≤ (T2 1 5632).size a := by
  intro a; fin_cases a <;> simp [col] <;> omega
theorem inbT {j : ℕ} (hj : j < 11) (u k : Fin 2) : ∀ a, (![k.val, col j u] : Fin 2 → ℕ) a + (T2 1 256).size a ≤ (T2 2 5632).size a := by
  intro a; fin_cases a <;> simp [col] <;> omega
theorem inbTT : ∀ a, (![0, 0] : Fin 2 → ℕ) a + (T2 2 5632).size a ≤ (T2 2 5632).size a := by decide
theorem inbA {j : ℕ} (hj : j < 11) : ∀ a, (![0, j * 256] : Fin 2 → ℕ) a + (T2 512 256).size a ≤ (T2 512 2816).size a := by
  intro a; fin_cases a <;> simp <;> omega
theorem inbAH (h : Fin 2) : ∀ a, (![h.val * 256, 0] : Fin 2 → ℕ) a + (T2 256 2816).size a ≤ (T2 512 2816).size a := by
  intro a; fin_cases a <;> simp <;> omega
theorem inbD : ∀ a, (![0, 0] : Fin 2 → ℕ) a + (T2 2816 1024).size a ≤ (T2 2816 1024).size a := by decide
theorem inbP (c r : Fin 8) : ∀ a, (T3 1 64 128).size a = 0 ∨
    (![c.val, r.val, 0] : Fin 3 → ℕ) a + (![1, 8, 1] : Fin 3 → ℕ) a * ((T3 1 64 128).size a - 1) < (T3 8 512 128).size a := by
  intro a; right; fin_cases a <;> simp <;> omega
theorem posStride : ∀ a, 0 < (![1, 8, 1] : Fin 3 → ℕ) a := by decide
theorem inbPC (c : Fin 8) : ∀ a, (![c.val, 0, 0] : Fin 3 → ℕ) a + (T3 1 512 128).size a ≤ (T3 8 512 128).size a := by
  intro a; fin_cases a <;> simp <;> omega
theorem inbO (c : Fin 8) : ∀ a, (![0, 0, c.val * 128] : Fin 3 → ℕ) a + (T3 1 512 128).size a ≤ (T3 1 512 1024).size a := by
  intro a; fin_cases a <;> simp <;> omega

theorem posX : 0 < (T3 1 512 1024).numel := by decide
theorem posG : 0 < (T2 1 1024).numel := by decide
theorem posU : 0 < (T2 1024 256).numel := by decide
theorem posR : 0 < (T2 1 256).numel := by decide
theorem posTT : 0 < (T2 2 5632).numel := by decide
theorem posA : 0 < (T2 512 256).numel := by decide
theorem posAH : 0 < (T2 256 2816).numel := by decide
theorem posD : 0 < (T2 2816 1024).numel := by decide
theorem posP : 0 < (T3 1 64 128).numel := by decide
theorem posO : 0 < (T3 1 512 128).numel := by decide

theorem packA {j : ℕ} (hj : j < 11) : (Rect.unit (s := T2 512 2816) ![0, j * 256] (T2 512 256).size (inbA hj)).PackedRows (EltTy.packing .bf16) := by
  have h : ∀ j : Fin 11, (Rect.unit (s := T2 512 2816) ![0, j.val * 256] (T2 512 256).size (inbA j.isLt)).PackedRows (EltTy.packing .bf16) := by decide
  exact h ⟨j, hj⟩

variable (M : Mems sig)

abbrev loadX := load (nD := nD) (τ := τ) (Λ := Λ) (F := F) M.x ![0, 0, 0] (T3 1 512 1024).size inbX posX
abbrev loadGP := load (nD := nD) (τ := τ) (Λ := Λ) (F := F) M.gp ![0, 0] (T2 1 1024).size inbG posG
abbrev loadGQ := load (nD := nD) (τ := τ) (Λ := Λ) (F := F) M.gq ![0, 0] (T2 1 1024).size inbG posG
abbrev loadU {j : ℕ} (hj : j < 11) (u : Fin 2) := load (nD := nD) (τ := τ) (Λ := Λ) (F := F) M.wu ![0, col j u] (T2 1024 256).size (inbU hj u) posU
abbrev loadW {j : ℕ} (hj : j < 11) (u : Fin 2) (k : Fin 3) :=
  load (nD := nD) (τ := τ) (Λ := Λ) (F := F) M.cw ![k.val, col j u] (T2 1 256).size (inbW hj u k) posR
abbrev loadB {j : ℕ} (hj : j < 11) (u : Fin 2) := load (nD := nD) (τ := τ) (Λ := Λ) (F := F) M.cb ![0, col j u] (T2 1 256).size (inbB hj u) posR
abbrev loadT {j : ℕ} (hj : j < 11) (u k : Fin 2) :=
  load (nD := nD) (τ := τ) (Λ := Λ) (F := F) M.t ![k.val, col j u] (T2 1 256).size (inbT hj u k) posR
abbrev loadAH (h : Fin 2) := load (nD := nD) (τ := τ) (Λ := Λ) (F := F) M.a ![h.val * 256, 0] (T2 256 2816).size (inbAH h) posAH
abbrev loadD := load (nD := nD) (τ := τ) (Λ := Λ) (F := F) M.wd ![0, 0] (T2 2816 1024).size inbD posD
abbrev loadPC (c : Fin 8) := load (nD := nD) (τ := τ) (Λ := Λ) (F := F) M.p ![c.val, 0, 0] (T3 1 512 128).size (inbPC c) posO

abbrev storeT {j : ℕ} (hj : j < 11) (u k : Fin 2) (w : FVec F (T2 1 256) .f32) :=
  store (nD := nD) (τ := τ) (Λ := Λ) (F := F) M.t ![k.val, col j u] (T2 1 256).size (inbT hj u k) posR (shapeCast (T2 1 256) w castR)
abbrev storeTT (w : FVec F (T2 2 5632) .f32) :=
  store (nD := nD) (τ := τ) (Λ := Λ) (F := F) M.t ![0, 0] (T2 2 5632).size inbTT posTT (shapeCast (T2 2 5632) w castT)
/-- The store of a chunk of the gated values. -/
abbrev storeA {j : ℕ} (hj : j < 11) (w : FVec F (T2 512 256) .bf16) : Prog (TpuEff nD τ sig (Elt F) Λ .tc) PUnit := do
  let _ ← load M.a ![0, j * 256] (T2 512 256).size (inbA hj) posA
  Prog.lift (.store M.a (Rect.unit (s := T2 512 2816) ![0, j * 256] (T2 512 256).size (inbA hj)) (shapeCast (T2 512 256) w castA) Finset.univ
    (View.stores_vmem posA (M.aw.storeExact_slice rfl _ (packA hj)) (fun _ => rfl)) (.inl rfl))
/-- The rows of phase `r` in a column block of the rows by phase: every eighth row. -/
abbrev rectP (c r : Fin 8) : LoadRect (T3 8 512 128) := ⟨![c.val, r.val, 0], (T3 1 64 128).size, ![1, 8, 1], inbP c r⟩
abbrev storeP (c r : Fin 8) (w : FVec F (T2 64 128) .f32) : Prog (TpuEff nD τ sig (Elt F) Λ .tc) PUnit := do
  let _ ← Prog.lift (.load M.p (rectP c r) (View.loadsAt_vmem posP))
  Prog.lift (.store M.p ⟨rectP c r, posStride⟩ (shapeCast (T3 1 64 128) w castP) Finset.univ (View.stores_vmem_bits_univ posP rfl) (.inl rfl))
abbrev storeO (c : Fin 8) (w : FVec F (T2 512 128) .f32) :=
  store (nD := nD) (τ := τ) (Λ := Λ) (F := F) M.o ![0, 0, c.val * 128] (T3 1 512 128).size (inbO c) posO (shapeCast (T3 1 512 128) w castO)

/-! ## The values the body computes -/

/-- A norm: each row over the root of the mean of its squares, times the weights. -/
def norm {n : ℕ} (N : Norms n) (x : FVec F (T2 n 1024) .f32) (g : FVec F (T2 1 1024) .f32) : FVec F (T2 n 1024) .f32 :=
  mulf (mulf x (broadcastTo (T2 n 1024) (rsqrt (addf
    (divf (shapeCast (T2 n 1) (multiReduction .add [1] (T1 n) (mulf x x) 0x00000000#32 N.red (.inl rfl) rfl) N.cast)
      (broadcast (T2 n 1) (Scalar.ofBits .f32 0x44800000#32)))
    (broadcast (T2 n 1) (Scalar.ofBits .f32 0x358637BD#32)))) N.col)) (broadcastTo (T2 n 1024) g N.row)

/-- The normed rows the first product takes. -/
def rowsV (x : FVec F (T3 1 512 1024) .f32) (g : FVec F (T2 1 1024) .f32) : FVec F (T2 512 1024) .bf16 :=
  truncf .bf16 (norm norms512 (shapeCast (T2 512 1024) x castX) g) bits16

/-- A chunk of the first product. -/
def upV (h : FVec F (T2 512 1024) .bf16) (w : FVec F (T2 1024 256) .bf16) : FVec F (T2 512 256) .f32 :=
  matmul (DotDims.plain 512 1024 256) none h w (constant (T2 512 256) .f32 0x00000000#32)

/-- The rows of one phase. -/
def phase (h : FVec F (T2 512 256) .f32) (b : Fin 8) : FVec F (T2 64 256) .f32 := extractStridedSlice (T2 64 256) ![b.val * 64, 0] h (slB b)
/-- The last row of a phase. -/
def lastRow (x : FVec F (T2 64 256) .f32) : FVec F (T2 1 256) .f32 := extractStridedSlice (T2 1 256) ![63, 0] x slL
/-- The mask of the first row. -/
def firstRow : IVec (T2 64 1) 1 := cmpi .eq (iota .tc (T2 64 1) 32 [0] iotaC) (broadcast (T2 64 1) 0#32)
/-- A phase moved down by one row, the row before it put on top. -/
def moved (x : FVec F (T2 64 256) .f32) (p : FVec F (T2 1 256) .f32) : FVec F (T2 64 256) .f32 :=
  select (broadcastTo (T2 64 256) (shapeCast (T2 64 1) firstRow castC) brC) (broadcastTo (T2 64 256) (shapeCast (T2 1 256) p castR) brR)
    (dynamicRotate 0 1#32 none x rot)
/-- The convolution of one phase: bias, the row itself, the row before, the row before that. -/
def taps (w : Fin 3 → FVec F (T2 1 256) .f32) (bias : FVec F (T2 1 256) .f32) (x x' x'' : FVec F (T2 64 256) .f32) : FVec F (T2 64 256) .f32 :=
  addf (addf (addf (broadcastTo (T2 64 256) bias brR) (mulf (broadcastTo (T2 64 256) (w 2) brR) x)) (mulf (broadcastTo (T2 64 256) (w 1) brR) x'))
    (mulf (broadcastTo (T2 64 256) (w 0) brR) x'')
/-- The convolution of a chunk; `p 1` is the row before the tile and `p 0` the row before that. -/
def convV (w : Fin 3 → FVec F (T2 1 256) .f32) (bias : FVec F (T2 1 256) .f32) (p : Fin 2 → FVec F (T2 1 256) .f32) (h : FVec F (T2 512 256) .f32) :
    FVec F (T2 512 256) .f32 :=
  concatenate (T2 512 256) 0
    [⟨T2 64 256, taps w bias (phase h 0) (moved (phase h 7) (p 1)) (moved (phase h 6) (p 0))⟩,
     ⟨T2 64 256, taps w bias (phase h 1) (phase h 0) (moved (phase h 7) (p 1))⟩,
     ⟨T2 64 256, taps w bias (phase h 2) (phase h 1) (phase h 0)⟩,
     ⟨T2 64 256, taps w bias (phase h 3) (phase h 2) (phase h 1)⟩,
     ⟨T2 64 256, taps w bias (phase h 4) (phase h 3) (phase h 2)⟩,
     ⟨T2 64 256, taps w bias (phase h 5) (phase h 4) (phase h 3)⟩,
     ⟨T2 64 256, taps w bias (phase h 6) (phase h 5) (phase h 4)⟩,
     ⟨T2 64 256, taps w bias (phase h 7) (phase h 6) (phase h 5)⟩] cat

/-- The gate. -/
def gateV (kc k : F .f32) (x : FVec F (T2 512 256) .f32) : FVec F (T2 512 256) .f32 :=
  divf x (addf (broadcast (T2 512 256) (Scalar.ofBits .f32 0x3F800000#32))
    (exp2 (mulf x (addf (mulf (mulf x x) (broadcast (T2 512 256) kc)) (broadcast (T2 512 256) k)))))

/-- The gated values of a chunk. -/
def actV (kc k : F .f32) (x y : FVec F (T2 512 256) .f32) : FVec F (T2 512 256) .bf16 := truncf .bf16 (mulf (gateV kc k x) y) bits16

/-- Half of the second product. -/
def downV (a : FVec F (T2 256 2816) .bf16) (w : FVec F (T2 2816 1024) .bf16) : FVec F (T2 256 1024) .f32 :=
  matmul (DotDims.plain 256 2816 1024) none a w (constant (T2 256 1024) .f32 0x00000000#32)

/-- Half of the result, its rows by phase. -/
def halfV (x : FVec F (T3 1 512 1024) .f32) (h : Fin 2) (f : FVec F (T2 256 1024) .f32) (g : FVec F (T2 1 1024) .f32) : FVec F (T2 256 1024) .f32 :=
  addf (extractStridedSlice (T2 256 1024) ![h.val * 256, 0] (shapeCast (T2 512 1024) x castX) (slH h)) (norm norms256 f g)

/-- The rows of one phase in a column block of a half. -/
def blockV (y : FVec F (T2 256 1024) .f32) (c : Fin 8) (b : Fin 4) : FVec F (T2 64 128) .f32 :=
  extractStridedSlice (T2 64 128) ![b.val * 64, c.val * 128] y (slP c b)

/-- The phase of a half's block. -/
abbrev phaseOf (h : Fin 2) (b : Fin 4) : Fin 8 := ⟨h.val * 4 + b.val, by omega⟩

/-! ## The body -/

/-- At the first tile of a sequence the rows of the tile before are zeros. -/
def start (z : BitVec 1) : Prog (TpuEff nD τ sig (Elt F) Λ .tc) PUnit :=
  if _h : z = 1#1 then do
    storeTT M (broadcast (T2 2 5632) (Scalar.ofBits .f32 0x00000000#32))
    pure ⟨⟩
  else pure ⟨⟩

/-- The convolution of a chunk, with the last two rows of the tile kept for the next. -/
def conv {j : ℕ} (hj : j < 11) (u : Fin 2) (h : FVec F (T2 512 256) .f32) : Prog (TpuEff nD τ sig (Elt F) Λ .tc) (FVec F (T2 512 256) .f32) := do
  let p1 ← loadT M hj u 1
  let p0 ← loadT M hj u 0
  storeT M hj u 0 (lastRow (phase h 6))
  storeT M hj u 1 (lastRow (phase h 7))
  let w0 ← loadW M hj u 0
  let w1 ← loadW M hj u 1
  let w2 ← loadW M hj u 2
  let bias ← loadB M hj u
  pure (convV ![w0, w1, w2] bias ![p0, p1] h)

/-- One column chunk. -/
def chunk (kc k : F .f32) (hn : FVec F (T2 512 1024) .bf16) {j : ℕ} (hj : j < 11) : Prog (TpuEff nD τ sig (Elt F) Λ .tc) PUnit := do
  let wg ← loadU M hj 0
  let wv ← loadU M hj 1
  let x ← conv M hj 0 (upV hn wg)
  let y ← conv M hj 1 (upV hn wv)
  storeA M hj (actV kc k x y)

/-- The first `n` column chunks. -/
def chunks (kc k : F .f32) (hn : FVec F (T2 512 1024) .bf16) : (n : ℕ) → n ≤ 11 → Prog (TpuEff nD τ sig (Elt F) Λ .tc) PUnit
  | 0, _ => pure ⟨⟩
  | n + 1, hn' => do
    chunks kc k hn n (by omega)
    chunk M kc k hn (j := n) (by omega)

/-- The stores of the first `n` phases of a half in a column block. -/
def phases (h : Fin 2) (y : FVec F (T2 256 1024) .f32) (c : Fin 8) : (n : ℕ) → n ≤ 4 → Prog (TpuEff nD τ sig (Elt F) Λ .tc) PUnit
  | 0, _ => pure ⟨⟩
  | n + 1, hn => do
    phases h y c n (by omega)
    storeP M c (phaseOf h ⟨n, by omega⟩) (blockV y c ⟨n, by omega⟩)

/-- The stores of a half in the first `n` column blocks. -/
def blocks (h : Fin 2) (y : FVec F (T2 256 1024) .f32) : (n : ℕ) → n ≤ 8 → Prog (TpuEff nD τ sig (Elt F) Λ .tc) PUnit
  | 0, _ => pure ⟨⟩
  | n + 1, hn => do
    blocks h y n (by omega)
    phases M h y ⟨n, by omega⟩ 4 le_rfl

/-- A half of the result. -/
def half (x : FVec F (T3 1 512 1024) .f32) (h : Fin 2) (f : FVec F (T2 256 1024) .f32) : Prog (TpuEff nD τ sig (Elt F) Λ .tc) PUnit := do
  let g ← loadGQ M
  blocks M h (halfV x h f g) 8 le_rfl

/-- The first `n` column blocks of the result, put back in the order of the rows. -/
def outs : (n : ℕ) → n ≤ 8 → Prog (TpuEff nD τ sig (Elt F) Λ .tc) PUnit
  | 0, _ => pure ⟨⟩
  | n + 1, hn => do
    outs n (by omega)
    let y ← loadPC M ⟨n, by omega⟩
    storeO M ⟨n, by omega⟩ (shapeCast (T2 512 128) y castP')

/-- The second product and what follows it. -/
def finish (x : FVec F (T3 1 512 1024) .f32) : Prog (TpuEff nD τ sig (Elt F) Λ .tc) PUnit := do
  let a0 ← loadAH M 0
  let d0 ← loadD M
  let a1 ← loadAH M 1
  let d1 ← loadD M
  half M x 0 (downV a0 d0)
  half M x 1 (downV a1 d1)
  outs M 8 le_rfl

/-- The whole body; `z` says whether the tile is the first of its sequence. -/
def prog (kc k : F .f32) (z : BitVec 1) : Prog (TpuEff nD τ sig (Elt F) Λ .tc) PUnit := do
  start M z
  let x ← loadX M
  let g ← loadGP M
  chunks M kc k (rowsV x g) 11 le_rfl
  finish M x

/-- Whether a tile of the given number is the first of its sequence. -/
def isFirst (i : ℕ) : BitVec 1 := Scalar.cmpi .ne (Scalar.extui (Scalar.cmpi .eq (BitVec.ofNat 32 i) 0#32) : BitVec 32) 0#32

end Prog

end Ffn
-- ==== Proof.Ffn.Run.lean ====
/-
  What the body's steps do to its buffers, as functions of what the buffers hold: `State` is the contents of the eleven
  buffers, and `Does p st a st'` says that `p`, run where they hold `st`, answers `a` and leaves `st'`.
-/
module

public import proofs.«01_k».proof.Proof.Ffn.Body
public import proofs.«01_k».proof.Proof.Attn.Run

@[expose] public section

set_option maxRecDepth 16384

noncomputable section

namespace Ffn

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Attn (T1 T2 T3 load store wp_load_owned wp_store_owned)

/-! ## A store at evenly spaced places -/

section Spaced

variable {α : Type} {s : Shape}

open Classical in
/-- `x` with `w` at the places of a rectangle. -/
def putAt (x : s.Idx → α) (r : Rect s) (w : r.shape.Idx → α) : s.Idx → α := fun y => if h : ∃ z, r.emb z = y then w h.choose else x y

theorem putAt_in (x : s.Idx → α) (r : Rect s) (w : r.shape.Idx → α) (z : r.shape.Idx) : putAt x r w (r.emb z) = w z := by
  have h : ∃ z', r.emb z' = r.emb z := ⟨z, rfl⟩
  unfold putAt
  rw [dif_pos h]
  exact congrArg w (r.emb.injective h.choose_spec)

theorem putAt_out (x : s.Idx → α) (r : Rect s) (w : r.shape.Idx → α) (y : s.Idx) (h : ∀ z, r.emb z ≠ y) : putAt x r w y = x y := by
  unfold putAt
  rw [dif_neg fun ⟨z, hz⟩ => h z hz]

end Spaced

/-! ## The contents of the buffers -/

/-- What the buffers of the arguments hold. -/
structure Ins (F : FTy → Type) where
  x : FVec F (T3 1 512 1024) .f32
  gp : FVec F (T2 1 1024) .f32
  wu : FVec F (T2 1024 5632) .bf16
  cw : FVec F (T2 3 5632) .f32
  cb : FVec F (T2 1 5632) .f32
  wd : FVec F (T2 2816 1024) .bf16
  gq : FVec F (T2 1 1024) .f32

/-- What the eleven buffers hold. -/
structure State (F : FTy → Type) where
  i : Ins F
  o : FVec F (T3 1 512 1024) .f32
  a : FVec F (T2 512 2816) .bf16
  p : FVec F (T3 8 512 128) .f32
  t : FVec F (T2 2 5632) .f32

namespace State

variable {F : FTy → Type} [FloatOps F] (st : State F)

/-! Windows of a state, as the body loads them. -/

def getX : FVec F (T3 1 512 1024) .f32 := window st.i.x ![0, 0, 0] (T3 1 512 1024).size inbX
def getGP : FVec F (T2 1 1024) .f32 := window st.i.gp ![0, 0] (T2 1 1024).size inbG
def getGQ : FVec F (T2 1 1024) .f32 := window st.i.gq ![0, 0] (T2 1 1024).size inbG
def getU {j : ℕ} (hj : j < 11) (u : Fin 2) : FVec F (T2 1024 256) .bf16 := window st.i.wu ![0, col j u] (T2 1024 256).size (inbU hj u)
def getW {j : ℕ} (hj : j < 11) (u : Fin 2) (k : Fin 3) : FVec F (T2 1 256) .f32 := window st.i.cw ![k.val, col j u] (T2 1 256).size (inbW hj u k)
def getB {j : ℕ} (hj : j < 11) (u : Fin 2) : FVec F (T2 1 256) .f32 := window st.i.cb ![0, col j u] (T2 1 256).size (inbB hj u)
def getD : FVec F (T2 2816 1024) .bf16 := window st.i.wd ![0, 0] (T2 2816 1024).size inbD
def getT {j : ℕ} (hj : j < 11) (u k : Fin 2) : FVec F (T2 1 256) .f32 := window st.t ![k.val, col j u] (T2 1 256).size (inbT hj u k)
def getAH (h : Fin 2) : FVec F (T2 256 2816) .bf16 := window st.a ![h.val * 256, 0] (T2 256 2816).size (inbAH h)
def getPC (c : Fin 8) : FVec F (T3 1 512 128) .f32 := window st.p ![c.val, 0, 0] (T3 1 512 128).size (inbPC c)

/-! Windows of a state overwritten, as the body stores them. -/

def putT (j : ℕ) (u k : Fin 2) (w : FVec F (T2 1 256) .f32) : State F :=
  { st with t := put st.t ![k.val, col j u] (T2 1 256).size (shapeCast (T2 1 256) w castR) }
def putTT (w : FVec F (T2 2 5632) .f32) : State F := { st with t := put st.t ![0, 0] (T2 2 5632).size (shapeCast (T2 2 5632) w castT) }
def putA (j : ℕ) (w : FVec F (T2 512 256) .bf16) : State F := { st with a := put st.a ![0, j * 256] (T2 512 256).size (shapeCast (T2 512 256) w castA) }
def putP (c r : Fin 8) (w : FVec F (T2 64 128) .f32) : State F :=
  { st with p := putAt st.p ⟨rectP c r, posStride⟩ (shapeCast (T3 1 64 128) w castP) }
def putO (c : Fin 8) (w : FVec F (T2 512 128) .f32) : State F :=
  { st with o := put st.o ![0, 0, c.val * 128] (T3 1 512 128).size (shapeCast (T3 1 512 128) w castO) }

/-! The body's steps on states. -/

def start (z : BitVec 1) : State F := if z = 1#1 then st.putTT (broadcast (T2 2 5632) (Scalar.ofBits .f32 0x00000000#32)) else st

/-- The convolution of a chunk. -/
def convOut {j : ℕ} (hj : j < 11) (u : Fin 2) (h : FVec F (T2 512 256) .f32) : FVec F (T2 512 256) .f32 :=
  convV ![st.getW hj u 0, st.getW hj u 1, st.getW hj u 2] (st.getB hj u) ![st.getT hj u 0, st.getT hj u 1] h

/-- The state after it. -/
def conv (j : ℕ) (u : Fin 2) (h : FVec F (T2 512 256) .f32) : State F :=
  (st.putT j u 0 (lastRow (phase h 6))).putT j u 1 (lastRow (phase h 7))

def chunk (kc k : F .f32) (hn : FVec F (T2 512 1024) .bf16) {j : ℕ} (hj : j < 11) : State F :=
  let x := upV hn (st.getU hj 0)
  let y := upV hn (st.getU hj 1)
  ((st.conv j 0 x).conv j 1 y).putA j (actV kc k (st.convOut hj 0 x) ((st.conv j 0 x).convOut hj 1 y))

def chunks (kc k : F .f32) (hn : FVec F (T2 512 1024) .bf16) : (n : ℕ) → n ≤ 11 → State F
  | 0, _ => st
  | n + 1, hn' => (chunks kc k hn n (by omega)).chunk kc k hn (j := n) (by omega)

def phases (h : Fin 2) (y : FVec F (T2 256 1024) .f32) (c : Fin 8) : (n : ℕ) → n ≤ 4 → State F
  | 0, _ => st
  | n + 1, hn => (phases h y c n (by omega)).putP c (phaseOf h ⟨n, by omega⟩) (blockV y c ⟨n, by omega⟩)

def blocks (h : Fin 2) (y : FVec F (T2 256 1024) .f32) : (n : ℕ) → n ≤ 8 → State F
  | 0, _ => st
  | n + 1, hn => (blocks h y n (by omega)).phases h y ⟨n, by omega⟩ 4 le_rfl

def half (x : FVec F (T3 1 512 1024) .f32) (h : Fin 2) (f : FVec F (T2 256 1024) .f32) : State F := st.blocks h (halfV x h f st.getGQ) 8 le_rfl

def outs : (n : ℕ) → n ≤ 8 → State F
  | 0, _ => st
  | n + 1, hn => (outs n (by omega)).putO ⟨n, by omega⟩ (shapeCast (T2 512 128) ((outs n (by omega)).getPC ⟨n, by omega⟩) castP')

/-- The gated values, and the last rows kept. -/
def gated (kc k : F .f32) (z : BitVec 1) : State F := (st.start z).chunks kc k (rowsV st.getX st.getGP) 11 le_rfl

def finish (x : FVec F (T3 1 512 1024) .f32) : State F :=
  ((st.half x 0 (downV (st.getAH 0) st.getD)).half x 1 (downV (st.getAH 1) st.getD)).outs 8 le_rfl

def body (kc k : F .f32) (z : BitVec 1) : State F := (st.gated kc k z).finish st.getX

/-! The arguments stay as they were. -/

theorem start_i (z : BitVec 1) : (st.start z).i = st.i := by unfold start; split <;> rfl

theorem chunks_i (kc k : F .f32) (hn : FVec F (T2 512 1024) .bf16) : ∀ (n : ℕ) (h : n ≤ 11), (st.chunks kc k hn n h).i = st.i
  | 0, _ => rfl
  | n + 1, h => (chunks_i kc k hn n (by omega) : _)

theorem gated_i (kc k : F .f32) (z : BitVec 1) : (st.gated kc k z).i = st.i := (chunks_i _ kc k _ 11 le_rfl).trans (start_i st z)

/-- The stores of the rows by phase change only these. -/
theorem phases_eq (h : Fin 2) (y : FVec F (T2 256 1024) .f32) (c : Fin 8) : ∀ (n : ℕ) (hn : n ≤ 4), st.phases h y c n hn = { st with p := (st.phases h y c n hn).p }
  | 0, _ => rfl
  | n + 1, hn => by
    have e := phases_eq h y c n (by omega)
    unfold phases putP
    simp only
    rw [e]

theorem blocks_eq (h : Fin 2) (y : FVec F (T2 256 1024) .f32) : ∀ (n : ℕ) (hn : n ≤ 8), st.blocks h y n hn = { st with p := (st.blocks h y n hn).p }
  | 0, _ => rfl
  | n + 1, hn => by
    have e := blocks_eq h y n (by omega)
    unfold blocks
    rw [phases_eq, e]

theorem half_eq (x : FVec F (T3 1 512 1024) .f32) (h : Fin 2) (f : FVec F (T2 256 1024) .f32) : st.half x h f = { st with p := (st.half x h f).p } := blocks_eq _ _ _ _ _

/-- The last stores change only the result. -/
theorem outs_eq : ∀ (n : ℕ) (hn : n ≤ 8), st.outs n hn = { st with o := (st.outs n hn).o }
  | 0, _ => rfl
  | n + 1, hn => by
    have e := outs_eq n (by omega)
    unfold outs putO
    simp only
    rw [e]

theorem outs_i (n : ℕ) (hn : n ≤ 8) : (st.outs n hn).i = st.i := by rw [outs_eq]
theorem outs_t (n : ℕ) (hn : n ≤ 8) : (st.outs n hn).t = st.t := by rw [outs_eq]
theorem outs_p (n : ℕ) (hn : n ≤ 8) : (st.outs n hn).p = st.p := by rw [outs_eq]
theorem half_i (x : FVec F (T3 1 512 1024) .f32) (h : Fin 2) (f : FVec F (T2 256 1024) .f32) : (st.half x h f).i = st.i := by rw [half_eq]
theorem half_t (x : FVec F (T3 1 512 1024) .f32) (h : Fin 2) (f : FVec F (T2 256 1024) .f32) : (st.half x h f).t = st.t := by rw [half_eq]

theorem body_i (kc k : F .f32) (z : BitVec 1) : (st.body kc k z).i = st.i :=
  (outs_i _ 8 le_rfl).trans ((half_i _ _ 1 _).trans ((half_i _ _ 0 _).trans (gated_i st kc k z)))

/-- The rows kept for the next tile. -/
theorem body_t (kc k : F .f32) (z : BitVec 1) : (st.body kc k z).t = (st.gated kc k z).t :=
  (outs_t _ 8 le_rfl).trans ((half_t _ _ 1 _).trans (half_t _ _ 0 _))

end State

/-! ## Running a step -/

section Run

variable {nD : ℕ} {τ : Topo} {sig : RefSig} {Λ : Labels} {F : FTy → Type} [FloatOps F]

variable {Ix : Type} [DecidableEq Ix] {Name : Type} [DecidableEq Name] {U : Type} [URA U] {Lvl : Type} [Preorder Lvl]

local notation "𝕄" => MT nD τ sig Ix (Elt F) Name U Lvl

section Owned

variable {defs : Defs nD τ sig (Elt F) Λ} (𝒱 : Variants) (c : Dev nD) (bd : Option 𝒱.V) (E : Set Name) {s : Shape} {e : EltTy} {α : Type}

/-- A load of a rectangle of an owned memref. -/
theorem wp_load_at (m : Memref sig .tc .vmem s e) (X : s.Idx → Elt F e) (r : Rect s)
    {hl : m.view.LoadsAt r.toLoadRect} {k : (r.shape.Idx → Elt F e) → Prog (TpuEff nD τ sig (Elt F) Λ .tc) α} {Q : α → sProp 𝕄} :
    (owns (c : Thread nD τ) m fullShare X : sProp 𝕄)
      ⊢ iprop((owns (c : Thread nD τ) m fullShare X -∗ wp frame (wpE defs 𝒱 (c : Thread nD τ) bd) E (k fun z => X (r.emb z)) Q)
        -∗ wp frame (wpE defs 𝒱 (c : Thread nD τ) bd) E (.op (.load m r.toLoadRect hl) k) Q) := by
  unfold owns
  iintro ⟨%f, %hf, H⟩ Hk
  iapply (wp_load_rect 𝒱 (c : Thread nD τ) bd E (m := m) (r := r) (View.set_slice_subset _ _)) $$ H
  iintro H
  have hr : (m.access r).read (Elt F) f = fun z => X (r.emb z) := by subst hf; rfl
  rw [hr]
  iapply Hk
  iexists f
  isplitr; · ipureintro; exact hf
  iexact H

/-- A store over a rectangle of an owned memref. -/
theorem wp_store_at (m : Memref sig .tc .vmem s e) (X : s.Idx → Elt F e) (r : Rect s) (w : r.shape.Idx → Elt F e)
    {hx : (m.access r).Stores Finset.univ} {hm : (Finset.univ : Finset r.shape.Idx) = Finset.univ ∨ ∀ a, r.stride a = 1}
    {k : PUnit → Prog (TpuEff nD τ sig (Elt F) Λ .tc) α} {Q : α → sProp 𝕄} :
    (owns (c : Thread nD τ) m fullShare X : sProp 𝕄)
      ⊢ iprop((owns (c : Thread nD τ) m fullShare (putAt X r w) -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ Hk
  iapply (wp_store 𝒱 (c : Thread nD τ) bd E (m := m) (r := r) ((View.setOn_subset_set _ _).trans (View.set_slice_subset _ _))) $$ H
  iintro H
  iapply Hk
  iexists _
  isplitr
  rotate_left
  · iexact H
  · ipureintro
    subst hf
    funext y
    show m.view.read (Elt F) (m.view.writes (Elt F) f [⟨r, w⟩]) y = _
    by_cases h : ∃ z, r.emb z = y
    · obtain ⟨z, rfl⟩ := h
      rw [View.read_writes_cons_emb, putAt_in]
    · rw [putAt_out _ _ _ _ fun z hz => h ⟨z, hz⟩, View.read_writes_cons_miss]
      · rfl
      · intro hy
        choose j hj hv using r.toLoadRect.mem_set.mp hy
        exact h ⟨fun a => ⟨j a, hj a⟩, funext fun a => Fin.ext (hv a).symm⟩

end Owned

/-- The eleven buffers, held at a state. -/
def held (M : Mems sig) (c : Dev nD) (st : State F) : sProp 𝕄 :=
  iprop(owns (c : Thread nD τ) M.x fullShare st.i.x ∗ owns (c : Thread nD τ) M.gp fullShare st.i.gp ∗ owns (c : Thread nD τ) M.wu fullShare st.i.wu
    ∗ owns (c : Thread nD τ) M.cw fullShare st.i.cw ∗ owns (c : Thread nD τ) M.cb fullShare st.i.cb ∗ owns (c : Thread nD τ) M.wd fullShare st.i.wd
    ∗ owns (c : Thread nD τ) M.gq fullShare st.i.gq ∗ owns (c : Thread nD τ) M.o fullShare st.o
    ∗ owns (c : Thread nD τ) M.a fullShare st.a ∗ owns (c : Thread nD τ) M.p fullShare st.p ∗ owns (c : Thread nD τ) M.t fullShare st.t)

/-- The program `p`, run where the buffers hold `st`, answers `a` and leaves them at `st'`. -/
structure Does (M : Mems sig) {α : Type} (p : Prog (TpuEff nD τ sig (Elt F) Λ .tc) α) (st : State F) (a : α) (st' : State F) : Prop where
  run : ∀ {Ix : Type} [DecidableEq Ix] {Name : Type} [DecidableEq Name] {U : Type} [URA U] {Lvl : Type} [Preorder Lvl]
    {defs : Defs nD τ sig (Elt F) Λ} (𝒱 : Variants) (c : Dev nD) (bd : Option 𝒱.V) (E : Set Name) (Q : α → sProp (MT nD τ sig Ix (Elt F) Name U Lvl)),
    (held M c st : sProp (MT nD τ sig Ix (Elt F) Name U Lvl)) ⊢ iprop((held M c st' -∗ Q a) -∗ wp frame (wpE defs 𝒱 (c : Thread nD τ) bd) E p Q)

variable {M : Mems sig}

theorem Does.ret {α : Type} (a : α) (st : State F) : Does (nD := nD) (τ := τ) (Λ := Λ) M (pure a) st a st := by
  refine ⟨fun 𝒱 c bd E Q => ?_⟩
  rw [wp_pure]
  iintro H Hk
  imodintro
  iapply Hk $$ H

theorem Does.bind {α β : Type} {p : Prog (TpuEff nD τ sig (Elt F) Λ .tc) α} {f : α → Prog (TpuEff nD τ sig (Elt F) Λ .tc) β} {st st₁ st₂ : State F} {a : α} {b : β}
    (hp : Does M p st a st₁) (hf : Does M (f a) st₁ b st₂) : Does M (p >>= f) st b st₂ := by
  refine ⟨fun 𝒱 c bd E Q => ?_⟩
  rw [wp_bind]
  iintro H Hk
  iapply (hp.run 𝒱 c bd E _) $$ H
  iintro H
  iapply (hf.run 𝒱 c bd E Q) $$ H
  iexact Hk

/-! ## Loads and stores -/

/-- One of the buffers taken out: `m` holds `X` at `st`, and given back at `Y` it makes `st` into `upd Y`. -/
structure Has (M : Mems sig) {s : Shape} {e : EltTy} (m : Memref sig .tc .vmem s e) (X : s.Idx → Elt F e) (st : State F) (upd : (s.Idx → Elt F e) → State F) : Prop where
  split : ∀ {Ix : Type} [DecidableEq Ix] {Name : Type} [DecidableEq Name] {U : Type} [URA U] {Lvl : Type} [Preorder Lvl] (nD : ℕ) (τ : Topo) (c : Dev nD),
    (held M c st : sProp (MT nD τ sig Ix (Elt F) Name U Lvl))
      ⊢ iprop(owns (c : Thread nD τ) m fullShare X ∗ (∀ Y, owns (c : Thread nD τ) m fullShare Y -∗ held M c (upd Y)))

theorem has_x (st : State F) : Has M M.x st.i.x st (fun Y => { st with i := { st.i with x := Y } }) := by
  refine ⟨fun nD τ c => ?_⟩
  unfold held
  iintro ⟨H, H1, H2, H3, H4, H5, H6, H7, H8, H9, H10⟩
  isplitl [H]; · iexact H
  iintro %Y H
  iframe

theorem has_gp (st : State F) : Has M M.gp st.i.gp st (fun Y => { st with i := { st.i with gp := Y } }) := by
  refine ⟨fun nD τ c => ?_⟩
  unfold held
  iintro ⟨H1, H, H2, H3, H4, H5, H6, H7, H8, H9, H10⟩
  isplitl [H]; · iexact H
  iintro %Y H
  iframe

theorem has_wu (st : State F) : Has M M.wu st.i.wu st (fun Y => { st with i := { st.i with wu := Y } }) := by
  refine ⟨fun nD τ c => ?_⟩
  unfold held
  iintro ⟨H1, H2, H, H3, H4, H5, H6, H7, H8, H9, H10⟩
  isplitl [H]; · iexact H
  iintro %Y H
  iframe

theorem has_cw (st : State F) : Has M M.cw st.i.cw st (fun Y => { st with i := { st.i with cw := Y } }) := by
  refine ⟨fun nD τ c => ?_⟩
  unfold held
  iintro ⟨H1, H2, H3, H, H4, H5, H6, H7, H8, H9, H10⟩
  isplitl [H]; · iexact H
  iintro %Y H
  iframe

theorem has_cb (st : State F) : Has M M.cb st.i.cb st (fun Y => { st with i := { st.i with cb := Y } }) := by
  refine ⟨fun nD τ c => ?_⟩
  unfold held
  iintro ⟨H1, H2, H3, H4, H, H5, H6, H7, H8, H9, H10⟩
  isplitl [H]; · iexact H
  iintro %Y H
  iframe

theorem has_wd (st : State F) : Has M M.wd st.i.wd st (fun Y => { st with i := { st.i with wd := Y } }) := by
  refine ⟨fun nD τ c => ?_⟩
  unfold held
  iintro ⟨H1, H2, H3, H4, H5, H, H6, H7, H8, H9, H10⟩
  isplitl [H]; · iexact H
  iintro %Y H
  iframe

theorem has_gq (st : State F) : Has M M.gq st.i.gq st (fun Y => { st with i := { st.i with gq := Y } }) := by
  refine ⟨fun nD τ c => ?_⟩
  unfold held
  iintro ⟨H1, H2, H3, H4, H5, H6, H, H7, H8, H9, H10⟩
  isplitl [H]; · iexact H
  iintro %Y H
  iframe

theorem has_o (st : State F) : Has M M.o st.o st (fun Y => { st with o := Y }) := by
  refine ⟨fun nD τ c => ?_⟩
  unfold held
  iintro ⟨H1, H2, H3, H4, H5, H6, H7, H, H8, H9, H10⟩
  isplitl [H]; · iexact H
  iintro %Y H
  iframe

theorem has_a (st : State F) : Has M M.a st.a st (fun Y => { st with a := Y }) := by
  refine ⟨fun nD τ c => ?_⟩
  unfold held
  iintro ⟨H1, H2, H3, H4, H5, H6, H7, H8, H, H9, H10⟩
  isplitl [H]; · iexact H
  iintro %Y H
  iframe

theorem has_p (st : State F) : Has M M.p st.p st (fun Y => { st with p := Y }) := by
  refine ⟨fun nD τ c => ?_⟩
  unfold held
  iintro ⟨H1, H2, H3, H4, H5, H6, H7, H8, H9, H, H10⟩
  isplitl [H]; · iexact H
  iintro %Y H
  iframe

theorem has_t (st : State F) : Has M M.t st.t st (fun Y => { st with t := Y }) := by
  refine ⟨fun nD τ c => ?_⟩
  unfold held
  iintro ⟨H1, H2, H3, H4, H5, H6, H7, H8, H9, H10, H⟩
  isplitl [H]; · iexact H
  iintro %Y H
  iframe

section Has

variable {s : Shape} {e : EltTy} {m : Memref sig .tc .vmem s e} {X : s.Idx → Elt F e} {st : State F} {upd : (s.Idx → Elt F e) → State F}

theorem Has.load (H : Has M m X st upd) (hX : upd X = st) (off size : Fin s.rank → ℕ) (inb : ∀ a, off a + size a ≤ s.size a)
    (h : 0 < (Rect.unit off size inb).shape.numel) :
    Does (nD := nD) (τ := τ) (Λ := Λ) M (load m off size inb h) st (window X off size inb) st := by
  refine ⟨fun 𝒱 c bd E Q => ?_⟩
  iintro H Hk
  ihave H := (H.split nD τ c) $$ H
  icases H with ⟨H, Hr⟩
  iapply (wp_load_owned 𝒱 c bd E m X off size inb) $$ H
  iintro H
  rw [wp_ret]
  imodintro
  iapply Hk
  ihave H := Hr $$ %X H
  rw [hX]
  iexact H

theorem Has.stored (H : Has M m X st upd) (off size : Fin s.rank → ℕ) (inb : ∀ a, off a + size a ≤ s.size a) (w : (Rect.unit off size inb).shape.Idx → Elt F e)
    (hx : (m.access (Rect.unit off size inb)).Stores Finset.univ)
    (hm : (Finset.univ : Finset (Rect.unit off size inb).shape.Idx) = Finset.univ ∨ ∀ a, (Rect.unit off size inb).stride a = 1) :
    Does (nD := nD) (τ := τ) (Λ := Λ) M (Prog.lift (.store m (Rect.unit off size inb) w Finset.univ hx hm)) st ⟨⟩ (upd (put X off size w)) := by
  refine ⟨fun 𝒱 c bd E Q => ?_⟩
  iintro H Hk
  ihave H := (H.split nD τ c) $$ H
  icases H with ⟨H, Hr⟩
  iapply (wp_store_owned 𝒱 c bd E m X off size inb w) $$ H
  iintro H
  rw [wp_ret]
  imodintro
  iapply Hk
  ihave H := Hr $$ %(put X off size w) H
  iexact H

theorem Has.loadAt (H : Has M m X st upd) (hX : upd X = st) (r : Rect s) (hl : m.view.LoadsAt r.toLoadRect) :
    Does (nD := nD) (τ := τ) (Λ := Λ) M (Prog.lift (.load m r.toLoadRect hl)) st (fun z => X (r.emb z)) st := by
  refine ⟨fun 𝒱 c bd E Q => ?_⟩
  iintro H Hk
  ihave H := (H.split nD τ c) $$ H
  icases H with ⟨H, Hr⟩
  iapply (wp_load_at 𝒱 c bd E m X r) $$ H
  iintro H
  rw [wp_ret]
  imodintro
  iapply Hk
  ihave H := Hr $$ %X H
  rw [hX]
  iexact H

theorem Has.storedAt (H : Has M m X st upd) (r : Rect s) (w : r.shape.Idx → Elt F e) (hx : (m.access r).Stores Finset.univ)
    (hm : (Finset.univ : Finset r.shape.Idx) = Finset.univ ∨ ∀ a, r.stride a = 1) :
    Does (nD := nD) (τ := τ) (Λ := Λ) M (Prog.lift (.store m r w Finset.univ hx hm)) st ⟨⟩ (upd (putAt X r w)) := by
  refine ⟨fun 𝒱 c bd E Q => ?_⟩
  iintro H Hk
  ihave H := (H.split nD τ c) $$ H
  icases H with ⟨H, Hr⟩
  iapply (wp_store_at 𝒱 c bd E m X r w) $$ H
  iintro H
  rw [wp_ret]
  imodintro
  iapply Hk
  ihave H := Hr $$ %(putAt X r w) H
  iexact H

end Has

theorem Has.store {s : Shape} {m : Memref sig .tc .vmem s .f32} {X : s.Idx → Elt F .f32} {st : State F} {upd : (s.Idx → Elt F .f32) → State F}
    (H : Has M m X st upd) (hX : upd X = st) (off size : Fin s.rank → ℕ) (inb : ∀ a, off a + size a ≤ s.size a) (h : 0 < (Rect.unit off size inb).shape.numel)
    (w : (Rect.unit off size inb).shape.Idx → Elt F .f32) :
    Does (nD := nD) (τ := τ) (Λ := Λ) M (store m off size inb h w) st ⟨⟩ (upd (put X off size w)) :=
  (H.load hX off size inb h).bind (H.stored off size inb w _ _)

section Steps

variable (kc k : F .f32) (st : State F)

/-! ## The steps -/

theorem does_start (z : BitVec 1) : Does (nD := nD) (τ := τ) (Λ := Λ) M (start M z) st ⟨⟩ (st.start z) := by
  unfold start State.start
  by_cases h : z = 1#1
  · rw [dif_pos h, if_pos h]
    exact ((has_t st).store rfl _ _ _ _ _).bind (.ret _ _)
  · rw [dif_neg h, if_neg h]
    exact .ret _ _

theorem does_conv {j : ℕ} (hj : j < 11) (u : Fin 2) (h : FVec F (T2 512 256) .f32) :
    Does (nD := nD) (τ := τ) (Λ := Λ) M (conv M hj u h) st (st.convOut hj u h) (st.conv j u h) :=
  ((has_t st).load rfl _ _ _ _).bind <| ((has_t st).load rfl _ _ _ _).bind <| ((has_t st).store rfl _ _ _ _ _).bind <|
    ((has_t _).store rfl _ _ _ _ _).bind <| ((has_cw _).load rfl _ _ _ _).bind <| ((has_cw _).load rfl _ _ _ _).bind <|
    ((has_cw _).load rfl _ _ _ _).bind <| ((has_cb _).load rfl _ _ _ _).bind <| .ret _ _

theorem does_chunk (hn : FVec F (T2 512 1024) .bf16) {j : ℕ} (hj : j < 11) :
    Does (nD := nD) (τ := τ) (Λ := Λ) M (chunk M kc k hn hj) st ⟨⟩ (st.chunk kc k hn hj) :=
  ((has_wu st).load rfl _ _ _ _).bind <| ((has_wu st).load rfl _ _ _ _).bind <| (does_conv st hj 0 _).bind <| (does_conv _ hj 1 _).bind <|
    ((has_a _).load rfl _ _ _ _).bind <| (has_a _).stored _ _ _ _ _ _

theorem does_chunks (hn : FVec F (T2 512 1024) .bf16) : (n : ℕ) → (h : n ≤ 11) →
    Does (nD := nD) (τ := τ) (Λ := Λ) M (chunks M kc k hn n h) st ⟨⟩ (st.chunks kc k hn n h)
  | 0, _ => .ret _ _
  | n + 1, h => (does_chunks hn n _).bind (does_chunk kc k _ hn _)

theorem does_phases (h : Fin 2) (y : FVec F (T2 256 1024) .f32) (c : Fin 8) : (n : ℕ) → (hn : n ≤ 4) →
    Does (nD := nD) (τ := τ) (Λ := Λ) M (phases M h y c n hn) st ⟨⟩ (st.phases h y c n hn)
  | 0, _ => .ret _ _
  | n + 1, hn => (does_phases h y c n _).bind <| ((has_p _).loadAt rfl ⟨rectP c _, posStride⟩ _).bind <| (has_p _).storedAt _ _ _ _

theorem does_blocks (h : Fin 2) (y : FVec F (T2 256 1024) .f32) : (n : ℕ) → (hn : n ≤ 8) →
    Does (nD := nD) (τ := τ) (Λ := Λ) M (blocks M h y n hn) st ⟨⟩ (st.blocks h y n hn)
  | 0, _ => .ret _ _
  | n + 1, hn => (does_blocks h y n _).bind (does_phases _ h y _ 4 _)

theorem does_half (x : FVec F (T3 1 512 1024) .f32) (h : Fin 2) (f : FVec F (T2 256 1024) .f32) :
    Does (nD := nD) (τ := τ) (Λ := Λ) M (half M x h f) st ⟨⟩ (st.half x h f) :=
  ((has_gq st).load rfl _ _ _ _).bind (does_blocks st h _ 8 _)

theorem does_outs : (n : ℕ) → (hn : n ≤ 8) → Does (nD := nD) (τ := τ) (Λ := Λ) M (outs M n hn) st ⟨⟩ (st.outs n hn)
  | 0, _ => .ret _ _
  | n + 1, hn => (does_outs n _).bind <| ((has_p _).load rfl _ _ _ _).bind ((has_o _).store rfl _ _ _ _ _)

theorem does_finish (x : FVec F (T3 1 512 1024) .f32) : Does (nD := nD) (τ := τ) (Λ := Λ) M (finish M x) st ⟨⟩ (st.finish x) :=
  ((has_a st).load rfl _ _ _ _).bind <| ((has_wd st).load rfl _ _ _ _).bind <| ((has_a st).load rfl _ _ _ _).bind <| ((has_wd st).load rfl _ _ _ _).bind <|
    (does_half st x 0 _).bind <| (does_half _ x 1 _).bind (does_outs _ 8 _)

/-- The body leaves the buffers at `State.body`. -/
theorem does_prog (z : BitVec 1) : Does (nD := nD) (τ := τ) (Λ := Λ) M (prog M kc k z) st ⟨⟩ (st.body kc k z) := by
  have hx : (st.start z).getX = st.getX := by unfold State.getX; rw [State.start_i]
  have hg : (st.start z).getGP = st.getGP := by unfold State.getGP; rw [State.start_i]
  have hl : Does (nD := nD) (τ := τ) (Λ := Λ) M (loadX M) (st.start z) (st.start z).getX (st.start z) := (has_x _).load rfl _ _ _ _
  have hm : Does (nD := nD) (τ := τ) (Λ := Λ) M (loadGP M) (st.start z) (st.start z).getGP (st.start z) := (has_gp _).load rfl _ _ _ _
  rw [hx] at hl
  rw [hg] at hm
  exact (does_start st z).bind (hl.bind (hm.bind ((does_chunks kc k _ _ 11 _).bind (does_finish _ _))))

end Steps

end Run
end Ffn
end
-- ==== Proof.Ffn.Triple.lean ====
/-
  The body's triple over memrefs: from the arguments' buffers and the kept rows held at given contents, and the others at
  any, it names the result and the rows kept next through a state with these contents.
-/
module

public import proofs.«01_k».proof.Proof.Ffn.Run

@[expose] public section

set_option maxRecDepth 16384

noncomputable section

namespace Ffn

open Idealize.ShloMosaic Idealize.ShloMosaic.TcCoe
open Attn (T2)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Λ : Labels}
variable {Ix : Type} [DecidableEq Ix] {Name : Type} [DecidableEq Name] {U : Type} [URA U] {Lvl : Type} [Preorder Lvl]

/-- The arguments' buffers, held at `I`. -/
def heldIns (M : Mems sig) (c : Dev nD) (I : Ins F) : sProp (MT nD τ sig Ix (Elt F) Name U Lvl) :=
  iprop(owns (c : Thread nD τ) M.x fullShare I.x ∗ owns (c : Thread nD τ) M.gp fullShare I.gp ∗ owns (c : Thread nD τ) M.wu fullShare I.wu
    ∗ owns (c : Thread nD τ) M.cw fullShare I.cw ∗ owns (c : Thread nD τ) M.cb fullShare I.cb ∗ owns (c : Thread nD τ) M.wd fullShare I.wd
    ∗ owns (c : Thread nD τ) M.gq fullShare I.gq)

theorem prog_triple (M : Mems sig) (kc k : F .f32) (z : BitVec 1) {defs : Defs nD τ sig (Elt F) Λ} (𝒱 : Variants) (c : Dev nD) (bd : Option 𝒱.V) (E : Set Name)
    (I : Ins F) (d : FVec F (T2 2 5632) .f32) (K : PUnit → sProp (MT nD τ sig Ix (Elt F) Name U Lvl)) :
    (iprop(heldIns M c I ∗ (∃ y, owns (c : Thread nD τ) M.o fullShare y) ∗ (∃ y, owns (c : Thread nD τ) M.a fullShare y)
        ∗ (∃ y, owns (c : Thread nD τ) M.p fullShare y) ∗ owns (c : Thread nD τ) M.t fullShare d
        ∗ (iprop(heldIns M c I ∗ (∃ st : State F, ⌜st.i = I ∧ st.t = d⌝ ∗ owns (c : Thread nD τ) M.o fullShare (st.body kc k z).o
            ∗ owns (c : Thread nD τ) M.t fullShare (st.body kc k z).t)
          ∗ (∃ y, owns (c : Thread nD τ) M.a fullShare y) ∗ (∃ y, owns (c : Thread nD τ) M.p fullShare y)) -∗ K ⟨⟩)) : sProp (MT nD τ sig Ix (Elt F) Name U Lvl))
      ⊢ wp frame (wpE defs 𝒱 (c : Thread nD τ) bd) E (prog (nD := nD) (τ := τ) (Λ := Λ) M kc k z) K := by
  unfold heldIns
  iintro ⟨⟨H1, H2, H3, H4, H5, H6, H7⟩, ⟨%o, Ho⟩, ⟨%a, Ha⟩, ⟨%p, Hp⟩, Ht, HK⟩
  have D := (does_prog (nD := nD) (τ := τ) (Λ := Λ) (M := M) kc k (⟨I, o, a, p, d⟩ : State F) z).run (defs := defs) 𝒱 c bd E K
  have hi : ((⟨I, o, a, p, d⟩ : State F).body kc k z).i = I := State.body_i _ kc k z
  iapply (BIClass.wand_elim D)
  isplitl [H1 H2 H3 H4 H5 H6 H7 Ho Ha Hp Ht]
  · unfold held
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Ho]; · iexact Ho
    isplitl [Ha]; · iexact Ha
    isplitl [Hp]; · iexact Hp
    iexact Ht
  · unfold held
    rw [hi]
    iintro ⟨H1, H2, H3, H4, H5, H6, H7, Ho, Ha, Hp, Ht⟩
    iapply HK
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [Ho Ht]
    · iexists (⟨I, o, a, p, d⟩ : State F)
      isplitr; · ipureintro; exact ⟨rfl, rfl⟩
      isplitl [Ho]; · iexact Ho
      iexact Ht
    isplitl [Ha]; · iexists _; iexact Ha
    iexists _; iexact Hp

end Ffn

end
-- ==== Proof.Ffn.FrameKernel2Ideal.lean ====
/-
  The run of Kernel2Ideal: its body is the one written with loops, and, where what the body computes from a point's inputs
  and the rows kept from the point before is known, the result array is put together from it.
-/
module

public import proofs.«01_k».proof.Proof.Gen.Kernel2Ideal.Launch
public import proofs.«01_k».proof.Proof.Gen.Kernel2Ideal.Points
public import proofs.«01_k».proof.Proof.Ffn.Triple
public import Idealize.ShloMosaic.Lib.Tactic
public import Idealize.ShloMosaic.Lib.Claim

@[expose] public section

set_option maxRecDepth 16384

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

/-! ## The body -/

/-- The constants of the gate: the cubic's and the linear term's. -/
abbrev kc : F .f32 := Named.named κ "kc" 0xBDD2D3E8#32
abbrev kk : F .f32 := Named.named κ "k" 0xC0135761#32

/-- A grid point from its two coordinates. -/
def coords (a b : Fin 8) : grid0.Coords := fun k => match k with
  | 0 => a
  | 1 => b

/-- The memrefs of the kernel's arguments in their order, as the buffers of the body. -/
abbrev bufs (a2 : Memref sig .tc .vmem S1x512x1024 .f32) (a3 : Memref sig .tc .vmem S1x1024 .f32) (a4 : Memref sig .tc .vmem S1024x5632 .bf16)
    (a5 : Memref sig .tc .vmem S3x5632 .f32) (a6 : Memref sig .tc .vmem S1x5632 .f32) (a7 : Memref sig .tc .vmem S2816x1024 .bf16)
    (a8 : Memref sig .tc .vmem S1x1024 .f32) (a9 : Memref sig .tc .vmem S1x512x1024 .f32) (a10 : Memref sig .tc .vmem S512x2816 .bf16) (h10 : a10.IsWhole)
    (a11 : Memref sig .tc .vmem S8x512x128 .f32) (a12 : Memref sig .tc .vmem S2x5632 .f32) : Ffn.Mems sig := ⟨a2, a3, a4, a5, a6, a7, a8, a9, a10, a11, a12, h10⟩

/-- The kernel's body is the one written with loops, the number of the tile being one of eight. -/
theorem body_eq_at (a b : Fin 8) (a2 : Memref sig .tc .vmem S1x512x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S3x5632 .f32) (h5 : a5.IsWhole)
    (a6 : Memref sig .tc .vmem S1x5632 .f32) (h6 : a6.IsWhole) (a7 : Memref sig .tc .vmem S2816x1024 .bf16) (h7 : a7.IsWhole)
    (a8 : Memref sig .tc .vmem S1x1024 .f32) (h8 : a8.IsWhole) (a9 : Memref sig .tc .vmem S1x512x1024 .f32) (h9 : a9.IsWhole)
    (a10 : Memref sig .tc .vmem S512x2816 .bf16) (h10 : a10.IsWhole) (a11 : Memref sig .tc .vmem S8x512x128 .f32) (h11 : a11.IsWhole)
    (a12 : Memref sig .tc .vmem S2x5632 .f32) (h12 : a12.IsWhole) :
    cc0_conv_ffn (F := F) (coords a b) a2 h2 a3 h3 a4 h4 a5 h5 a6 h6 a7 h7 a8 h8 a9 h9 a10 h10 a11 h11 a12 h12
      = Ffn.prog (nD := nD) (τ := τ) (Λ := Λ₀) (bufs a2 a3 a4 a5 a6 a7 a8 a9 a10 h10 a11 a12) kc kk (Ffn.isFirst b.val) := by
  fin_cases b <;> sl_kernel_rfl

theorem body_eq (i : grid0.Coords) (a2 : Memref sig .tc .vmem S1x512x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S3x5632 .f32) (h5 : a5.IsWhole)
    (a6 : Memref sig .tc .vmem S1x5632 .f32) (h6 : a6.IsWhole) (a7 : Memref sig .tc .vmem S2816x1024 .bf16) (h7 : a7.IsWhole)
    (a8 : Memref sig .tc .vmem S1x1024 .f32) (h8 : a8.IsWhole) (a9 : Memref sig .tc .vmem S1x512x1024 .f32) (h9 : a9.IsWhole)
    (a10 : Memref sig .tc .vmem S512x2816 .bf16) (h10 : a10.IsWhole) (a11 : Memref sig .tc .vmem S8x512x128 .f32) (h11 : a11.IsWhole)
    (a12 : Memref sig .tc .vmem S2x5632 .f32) (h12 : a12.IsWhole) :
    cc0_conv_ffn (F := F) i a2 h2 a3 h3 a4 h4 a5 h5 a6 h6 a7 h7 a8 h8 a9 h9 a10 h10 a11 h11 a12 h12
      = Ffn.prog (nD := nD) (τ := τ) (Λ := Λ₀) (bufs a2 a3 a4 a5 a6 a7 a8 a9 a10 h10 a11 a12) kc kk (Ffn.isFirst (i 1).val) := by
  have hi : i = coords (i 0) (i 1) := by funext k; fin_cases k <;> rfl
  rw [hi]
  exact body_eq_at _ _ a2 h2 a3 h3 a4 h4 a5 h5 a6 h6 a7 h7 a8 h8 a9 h9 a10 h10 a11 h11 a12 h12

/-! ## The pipeline -/

variable (m : (ℓ : Loc nD τ sig) → Buf (Elt F) ℓ) (ρ : Dev nD → PrngReg)

/-- The memory as the pipeline finds it. -/
abbrev V (c : Dev nD) (b : Ref sig .tc) : Buf (Elt F) ((c : Thread nD τ).loc b) := m ((c : Thread nD τ).loc b)

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks of the arguments at a grid point. -/
abbrev insAt (c : Dev nD) (t : Fin cfg0.N) : Ffn.Ins F :=
  ⟨iblk m c 0 t, iblk m c 1 t, iblk m c 2 t, iblk m c 3 t, iblk m c 4 t, iblk m c 5 t, iblk m c 6 t⟩

/-- What the result's block is said to hold after each point, and what is said of the kept rows before it. -/
abbrev Outs (F : FTy → Type) := Dev nD → Fin cfg0.N → FVec F (Attn.T3 1 512 1024) .f32
abbrev Kept (F : FTy → Type) := Dev nD → ℕ → FVec F (Attn.T2 2 5632) .f32 → Prop

variable (T : Kept F) (out : Outs F)

/-- The scratch buffers before point `n`, the kept rows being as `T` says, and the generator. -/
def carried (c : Dev nD) (n : ℕ) : sProp 𝕄 :=
  iprop(iprop((∃ d, owns (c : Thread nD τ) (Memref.whole cc0_scratch0) fullShare d) ∗ (∃ d, owns (c : Thread nD τ) (Memref.whole cc0_scratch1) fullShare d)
    ∗ (∃ d, ⌜T c n d⌝ ∗ owns (c : Thread nD τ) (Memref.whole cc0_scratch2) fullShare d)) ∗ (∃ r, prngReg c r))

/-- The arrays at entry, and the blocks the body leaves: the arguments' their own, the result's `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out c t
  Φ t := carried T c t.val
  q _ := fullShare
  owed _ := 0

theorem A_eq (c : Dev nD) (w : Fin cfg0.W) : (dats m T out 0 c).A w = V m c (Pipeline.arrRef spec0 w) := by dsimp only [dats]

theorem after0_0 (c : Dev nD) (t : Fin cfg0.N) : (dats m T out 0 c).after 0 t = iblk m c 0 t := by dsimp only [dats]
theorem after0_1 (c : Dev nD) (t : Fin cfg0.N) : (dats m T out 0 c).after 1 t = iblk m c 1 t := by dsimp only [dats]
theorem after0_2 (c : Dev nD) (t : Fin cfg0.N) : (dats m T out 0 c).after 2 t = iblk m c 2 t := by dsimp only [dats]
theorem after0_3 (c : Dev nD) (t : Fin cfg0.N) : (dats m T out 0 c).after 3 t = iblk m c 3 t := by dsimp only [dats]
theorem after0_4 (c : Dev nD) (t : Fin cfg0.N) : (dats m T out 0 c).after 4 t = iblk m c 4 t := by dsimp only [dats]
theorem after0_5 (c : Dev nD) (t : Fin cfg0.N) : (dats m T out 0 c).after 5 t = iblk m c 5 t := by dsimp only [dats]
theorem after0_6 (c : Dev nD) (t : Fin cfg0.N) : (dats m T out 0 c).after 6 t = iblk m c 6 t := by dsimp only [dats]
theorem after0_7 (c : Dev nD) (t : Fin cfg0.N) : (dats m T out 0 c).after 7 t = out c t := by dsimp only [dats]

/-! An argument's staging buffer holds its block. -/

theorem before0_0 (c : Dev nD) (t : Fin cfg0.N) (d) : (dats m T out 0 c).before 0 t d = iblk m c 0 t :=
  ((dats m T out 0 c).before_in_eq_fetched 0 rfl (fun _ => rfl) (fun _ _ _ => rfl) (fun t => by
    rw [after0_0]; unfold Dat.blockOf iblk; rw [A_eq]; try rfl) t d).trans (by unfold Dat.fetched Dat.blockOf iblk; rw [A_eq]; try rfl)
theorem before0_1 (c : Dev nD) (t : Fin cfg0.N) (d) : (dats m T out 0 c).before 1 t d = iblk m c 1 t :=
  ((dats m T out 0 c).before_in_eq_fetched 1 rfl (fun _ => rfl) (fun _ _ _ => rfl) (fun t => by
    rw [after0_1]; unfold Dat.blockOf iblk; rw [A_eq]; try rfl) t d).trans (by unfold Dat.fetched Dat.blockOf iblk; rw [A_eq]; try rfl)
theorem before0_2 (c : Dev nD) (t : Fin cfg0.N) (d) : (dats m T out 0 c).before 2 t d = iblk m c 2 t :=
  ((dats m T out 0 c).before_in_eq_fetched 2 rfl (fun _ => rfl) (fun _ _ _ => rfl) (fun t => by
    rw [after0_2]; unfold Dat.blockOf iblk; rw [A_eq]; try rfl) t d).trans (by unfold Dat.fetched Dat.blockOf iblk; rw [A_eq]; try rfl)
theorem before0_3 (c : Dev nD) (t : Fin cfg0.N) (d) : (dats m T out 0 c).before 3 t d = iblk m c 3 t :=
  ((dats m T out 0 c).before_in_eq_fetched 3 rfl (fun _ => rfl) (fun _ _ _ => rfl) (fun t => by
    rw [after0_3]; unfold Dat.blockOf iblk; rw [A_eq]; try rfl) t d).trans (by unfold Dat.fetched Dat.blockOf iblk; rw [A_eq]; try rfl)
theorem before0_4 (c : Dev nD) (t : Fin cfg0.N) (d) : (dats m T out 0 c).before 4 t d = iblk m c 4 t :=
  ((dats m T out 0 c).before_in_eq_fetched 4 rfl (fun _ => rfl) (fun _ _ _ => rfl) (fun t => by
    rw [after0_4]; unfold Dat.blockOf iblk; rw [A_eq]; try rfl) t d).trans (by unfold Dat.fetched Dat.blockOf iblk; rw [A_eq]; try rfl)
theorem before0_5 (c : Dev nD) (t : Fin cfg0.N) (d) : (dats m T out 0 c).before 5 t d = iblk m c 5 t :=
  ((dats m T out 0 c).before_in_eq_fetched 5 rfl (fun _ => rfl) (fun _ _ _ => rfl) (fun t => by
    rw [after0_5]; unfold Dat.blockOf iblk; rw [A_eq]; try rfl) t d).trans (by unfold Dat.fetched Dat.blockOf iblk; rw [A_eq]; try rfl)
theorem before0_6 (c : Dev nD) (t : Fin cfg0.N) (d) : (dats m T out 0 c).before 6 t d = iblk m c 6 t :=
  ((dats m T out 0 c).before_in_eq_fetched 6 rfl (fun _ => rfl) (fun _ _ _ => rfl) (fun t => by
    rw [after0_6]; unfold Dat.blockOf iblk; rw [A_eq]; try rfl) t d).trans (by unfold Dat.fetched Dat.blockOf iblk; rw [A_eq]; try rfl)

/-- The body's buffers at a point. -/
abbrev mems (t : Fin cfg0.N) : Ffn.Mems sig :=
  ⟨st0_0 t, st0_1 t, st0_2 t, st0_3 t, st0_4 t, st0_5 t, st0_6 t, st0_7 t, Memref.whole cc0_scratch0, Memref.whole cc0_scratch1, Memref.whole cc0_scratch2,
    Memref.isWhole_whole _⟩

/-- The scoped rest: the three scratch buffers, and the generator. -/
theorem rest_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA; rw [scopedRest0_eq]; simp only [owns_whole]; try rfl

theorem carried_in (h0 : ∀ c d, T c 0 d) (c : Dev nD) : (Pipeline.ΦA spec0 c : sProp 𝕄) ⊢ carried T c 0 := by
  rw [rest_eq]
  unfold carried
  iintro ⟨⟨HS0, HS1, ⟨%d, HS2⟩⟩, Hg⟩
  isplitl [HS0 HS1 HS2]
  · isplitl [HS0]; · iexact HS0
    isplitl [HS1]; · iexact HS1
    iexists d
    isplitr; · ipureintro; exact h0 c d
    iexact HS2
  iexact Hg

theorem carried_out (c : Dev nD) (n : ℕ) : (carried T c n : sProp 𝕄) ⊢ Pipeline.ΦA spec0 c := by
  rw [rest_eq]
  unfold carried
  iintro ⟨⟨HS0, HS1, ⟨%d, %hd, HS2⟩⟩, Hg⟩
  isplitl [HS0 HS1 HS2]
  · isplitl [HS0]; · iexact HS0
    isplitl [HS1]; · iexact HS1
    iexists d
    iexact HS2
  iexact Hg

/-- Before the body: its buffers. -/
def bodyPre (c : Dev nD) (t : Fin cfg0.N) : sProp 𝕄 :=
  iprop((dats m T out 0 c).Φ t.castSucc ∗ (dats m T out 0 c).owesAt () t.castSucc
    ∗ (∃ d, owns (c : Thread nD τ) (st0_0 t) fullShare ((dats m T out 0 c).before 0 t d))
    ∗ (∃ d, owns (c : Thread nD τ) (st0_1 t) fullShare ((dats m T out 0 c).before 1 t d))
    ∗ (∃ d, owns (c : Thread nD τ) (st0_2 t) fullShare ((dats m T out 0 c).before 2 t d))
    ∗ (∃ d, owns (c : Thread nD τ) (st0_3 t) fullShare ((dats m T out 0 c).before 3 t d))
    ∗ (∃ d, owns (c : Thread nD τ) (st0_4 t) fullShare ((dats m T out 0 c).before 4 t d))
    ∗ (∃ d, owns (c : Thread nD τ) (st0_5 t) fullShare ((dats m T out 0 c).before 5 t d))
    ∗ (∃ d, owns (c : Thread nD τ) (st0_6 t) fullShare ((dats m T out 0 c).before 6 t d))
    ∗ (∃ d, owns (c : Thread nD τ) (st0_7 t) fullShare ((dats m T out 0 c).before 7 t d)))

/-- After it: the arguments' buffers as they were, the result's at `out`. -/
def bodyPost (c : Dev nD) (t : Fin cfg0.N) : sProp 𝕄 :=
  iprop((dats m T out 0 c).Φ t.succ ∗ (dats m T out 0 c).owesAt () t.succ
    ∗ owns (c : Thread nD τ) (st0_0 t) fullShare ((dats m T out 0 c).after 0 t)
    ∗ owns (c : Thread nD τ) (st0_1 t) fullShare ((dats m T out 0 c).after 1 t)
    ∗ owns (c : Thread nD τ) (st0_2 t) fullShare ((dats m T out 0 c).after 2 t)
    ∗ owns (c : Thread nD τ) (st0_3 t) fullShare ((dats m T out 0 c).after 3 t)
    ∗ owns (c : Thread nD τ) (st0_4 t) fullShare ((dats m T out 0 c).after 4 t)
    ∗ owns (c : Thread nD τ) (st0_5 t) fullShare ((dats m T out 0 c).after 5 t)
    ∗ owns (c : Thread nD τ) (st0_6 t) fullShare ((dats m T out 0 c).after 6 t)
    ∗ owns (c : Thread nD τ) (st0_7 t) fullShare ((dats m T out 0 c).after 7 t))

/-- The result of a state's body at a point, and the state after it. -/
abbrev ends (t : Fin cfg0.N) (st : Ffn.State F) : Ffn.State F := st.body kc kk (Ffn.isFirst (grid0.coords t 1).val)

/-- What the body computes at each point is `out`, and `T` holds of the rows it keeps. -/
structure Computes : Prop where
  first : ∀ (c : Dev nD) d, T c 0 d
  out : ∀ (c : Dev nD) (t : Fin cfg0.N) (st : Ffn.State F), st.i = insAt m c t → T c t.val st.t → (ends t st).o = out c t
  keep : ∀ (c : Dev nD) (t : Fin cfg0.N) (st : Ffn.State F), st.i = insAt m c t → T c t.val st.t → T c (t.val + 1) (ends t st).t

variable (H : Computes m T out)

include H

set_option maxHeartbeats 800000 in
theorem sound_body (c : Dev nD) (t : Fin cfg0.N) :
    bodyPre m T out c t ⊢ wp frame (wpE (defs₀ (F := F)) Variants.none c none) Set.univ (bodyAt0 t) (fun _ => bodyPost m T out c t) := by
  unfold bodyPre bodyPost bodyAt0
  simp only [before0_0, before0_1, before0_2, before0_3, before0_4, before0_5, before0_6]
  rw [show (dats m T out 0 c).owesAt () t.succ = (dats m T out 0 c).owesAt () t.castSucc from rfl,
    after0_0, after0_1, after0_2, after0_3, after0_4, after0_5, after0_6, after0_7]
  rw [show (dats m T out 0 c).Φ t.castSucc = carried T c t.val from rfl, show (dats m T out 0 c).Φ t.succ = carried T c (t.val + 1) from rfl, body_eq]
  unfold carried
  iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Ffn.prog_triple (mems t) kc kk (Ffn.isFirst (grid0.coords t 1).val) Variants.none c none Set.univ (insAt m c t) d _)
  unfold Ffn.heldIns
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS0]; · iexact HS0
  isplitl [HS1]; · iexact HS1
  isplitl [HS2]; · iexact HS2
  iintro ⟨⟨H0, H1, H2, H3, H4, H5, H6⟩, ⟨%st, %hst, H7, HS2⟩, HS0, HS1⟩
  isplitl [HS0 HS1 HS2 Hg]
  · isplitl [HS0 HS1 HS2]
    · isplitl [HS0]; · iexact HS0
      isplitl [HS1]; · iexact HS1
      iexists _
      isplitr
      rotate_left
      · iexact HS2
      · ipureintro; exact H.keep c t st hst.1 (hst.2 ▸ hd)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← H.out c t st hst.1 (hst.2 ▸ hd)]
  iexact H7

omit H in
theorem defs₀_row (t : Fin cfg0.N) : defs₀ (F := F) .tc cfg0.body (cfg0.bodyArgs t (cfg0.slots t)) = bodyAt0 t := by
  unfold defs₀; rw [Defs.onTc_tc]

theorem value_obligation (c : Dev nD) : BodyObligation (dats (F := F) m T out 0 c) (defs₀ (F := F)) Variants.none () Set.univ := fun t => by
  rw [bigSep_W0, bigSep_W0, defs₀_row]
  exact triple_restated (sound_body m T out H c t) rfl .rfl fun _ => .rfl

set_option backward.isDefEq.respectTransparency.types false in
/-- Every run ends with the result array put together from the blocks `out`. -/
theorem value_run : θ_run defs (onTc (τ := τ) (main (F := F))) (s₀ m ρ)
    (fun r => (Pipeline.FramePost cfgs (dats m T out) 0 (V m)) r ∧ r.2.sem = fun _ => 0) :=
  Pipeline.θ_run_frame_track (Q' := _) cfgs (dats m T out) (0 : Fin 1) launch0 defs₀ Variants.none m ρ main
    (hbody := fun c => (value_obligation m T out H c).loose) (hshare := fun c => (dats m T out 0 c).share_full fun _ => rfl)
    (howed := fun _ _ => rfl) (V := V m) (hmain := hmain m Variants.none) (hA := A_eq m T out)
    (hin := carried_in T H.first) (hout := fun c => carried_out T c _)

end Cert.Kernel2Ideal
end
-- ==== Proof.Ffn.Entries.lean ====
/-
  The feed-forward body's values read at an index, over extended reals: the norms, the two products, the convolution along
  the rows' order, and the gate.
-/
module

public import proofs.«01_k».proof.Proof.Ffn.Body
public import proofs.«01_k».proof.Proof.Attn.Entries
public import Idealize.ShloMosaic.Lib.KernelVsHost

@[expose] public section

set_option maxRecDepth 16384

noncomputable section

namespace Ffn

open Idealize.ShloMosaic Idealize.ShloMosaic.ValueIdx
open Attn (T1 T2 T3)
open scoped BigOperators

/-! ## The functions computed -/

/-- One over the root of the mean of the squares of 1024 numbers. -/
def scale (f : Fin 1024 → EReal) : EReal :=
  Ideal.rsqrt (Ideal.div (∑ k, f k * f k) (Ideal.ofBits .f32 0x44800000#32) + Ideal.ofBits .f32 0x358637BD#32)

/-- The norm of 1024 numbers, with weights. -/
def normed (f g : Fin 1024 → EReal) (n : Fin 1024) : EReal := f n * scale f * g n

/-- The gate. -/
def gate (kc k x : EReal) : EReal := Ideal.div x (1 + Ideal.exp2 (x * (x * x * kc + k)))

/-- Where a row of a tile lies among its rows by phase. -/
def row (l : ℕ) : Fin 512 := ⟨64 * (l % 8) + l / 8 % 64, by omega⟩

/-! ## Norms -/

/-- A column repeated. -/
theorem column_apply {α : Type} {a b : ℕ} (v : (T2 a 1).Idx → α) (h : (T2 a 1).Broadcasts (T2 a b)) (i : Fin a) (j : Fin b) :
    broadcastTo (T2 a b) v h (ix2 i j) = v (ix2 i 0) :=
  broadcastTo_apply v h (ix2 i j) (ix2 i 0) (fun c => by
    match c with
    | ⟨0, _⟩ =>
      show i.val = if a = 1 then 0 else i.val
      have := i.isLt
      split <;> omega
    | ⟨1, _⟩ => rfl)

theorem norm_apply {n : ℕ} (N : Norms n) (x : FVec Ideal (T2 n 1024) .f32) (g : FVec Ideal (T2 1 1024) .f32) (i : Fin n) (j : Fin 1024) :
    norm N x g (ix2 i j) = normed (fun k => x (ix2 i k)) (fun k => g (ix2 0 k)) j := by
  show x (ix2 i j) * broadcastTo (T2 n 1024) _ N.col (ix2 i j) * broadcastTo (T2 n 1024) g N.row (ix2 i j) = _
  rw [broadcastTo_1b_ab_apply, column_apply]
  show x (ix2 i j) * Ideal.rsqrt (Ideal.div (shapeCast (T2 n 1) _ N.cast (ix2 i 0)) (Ideal.ofBits .f32 0x44800000#32) + Ideal.ofBits .f32 0x358637BD#32) * _ = _
  rw [shapeCast_apply _ N.cast (ix2 i 0) (ix1 i) (by
    rw [Shape.rowMajor_val_one, Shape.rowMajor_val_two]
    show i.val = i.val * 1 + 0
    omega)]
  rw [show multiReduction (F := Ideal) .add [1] (T1 n) (mulf x x) 0x00000000#32 N.red (.inl rfl) rfl (ix1 i) = ∑ k : Fin 1024, x (ix2 i k) * x (ix2 i k) by
    refine (Ideal.multiReduction_add_single (mulf x x) 0x00000000#32 N.red (.inl rfl) rfl (ix1 i)).trans ?_
    refine Finset.sum_congr rfl fun k _ => ?_
    have e : ∀ z : (T2 n 1024).Idx, z = ix2 i k → mulf (F := Ideal) x x z = x (ix2 i k) * x (ix2 i k) := by rintro z rfl; rfl
    exact e _ (funext fun a => by match a with | ⟨0, _⟩ => rfl | ⟨1, _⟩ => rfl)]
  rfl

theorem rowsV_apply (x : FVec Ideal (T3 1 512 1024) .f32) (g : FVec Ideal (T2 1 1024) .f32) (i : Fin 512) (j : Fin 1024) :
    rowsV x g (ix2 i j) = normed (fun k => x (ix3 0 i k)) (fun k => g (ix2 0 k)) j := by
  unfold rowsV
  rw [truncf_apply]
  refine (norm_apply norms512 _ g i j).trans ?_
  simp only [shapeCast_1ab_ab_apply]

/-! ## Products -/

theorem upV_apply (h : FVec Ideal (T2 512 1024) .bf16) (w : FVec Ideal (T2 1024 256) .bf16) (i : Fin 512) (j : Fin 256) :
    upV h w (ix2 i j) = ∑ k : Fin 1024, h (ix2 i k) * w (ix2 k j) := by
  unfold upV matmul
  rw [Ideal.matmul_plain_apply]
  show Ideal.ofBits .f32 0x00000000#32 + _ = _
  rw [Ideal.ofBits_zero_f32, zero_add]

theorem downV_apply (a : FVec Ideal (T2 256 2816) .bf16) (w : FVec Ideal (T2 2816 1024) .bf16) (i : Fin 256) (j : Fin 1024) :
    downV a w (ix2 i j) = ∑ k : Fin 2816, a (ix2 i k) * w (ix2 k j) := by
  unfold downV matmul
  rw [Ideal.matmul_plain_apply]
  show Ideal.ofBits .f32 0x00000000#32 + _ = _
  rw [Ideal.ofBits_zero_f32, zero_add]

/-! ## The convolution -/

/-- A chunk's column along the rows' order, with the two rows before the tile in front. -/
def along (p : Fin 2 → FVec Ideal (T2 1 256) .f32) (h : FVec Ideal (T2 512 256) .f32) (n : Fin 256) (q : ℕ) : EReal :=
  if q = 0 then p 0 (ix2 0 n) else if q = 1 then p 1 (ix2 0 n) else h (ix2 (row (q - 2)) n)

theorem phase_apply (h : FVec Ideal (T2 512 256) .f32) (b : Fin 8) (r : Fin 64) (n : Fin 256) :
    phase h b (ix2 r n) = h (ix2 (row (8 * r.val + b.val)) n) :=
  extractStridedSlice_apply _ _ _ (ix2 r n) _ (fun a => by
    match a with
    | ⟨0, _⟩ => show 64 * ((8 * r.val + b.val) % 8) + (8 * r.val + b.val) / 8 % 64 = b.val * 64 + r.val; omega
    | ⟨1, _⟩ => exact (Nat.zero_add _).symm)

theorem lastRow_apply (h : FVec Ideal (T2 512 256) .f32) (b : Fin 8) (n : Fin 256) :
    lastRow (phase h b) (ix2 0 n) = h (ix2 (row (504 + b.val)) n) := by
  refine (extractStridedSlice_apply _ _ slL (ix2 0 n) (ix2 (63 : Fin 64) n) (fun a => by
    match a with | ⟨0, _⟩ => rfl | ⟨1, _⟩ => exact (Nat.zero_add _).symm)).trans ?_
  exact (phase_apply h b 63 n).trans (congrArg (fun l => h (ix2 (row l) n)) (by show 8 * 63 + b.val = 504 + b.val; omega))

theorem firstRow_apply (r : Fin 64) : firstRow (ix2 r 0) = BitVec.ofBool (decide (r.val = 0)) := by
  have : ∀ r : Fin 64, IntOp.cmpi .eq (BitVec.ofNat 32 (0 * 64 + r.val)) 0#32 = BitVec.ofBool (decide (r.val = 0)) := by decide
  exact this r

theorem moved_apply (x : FVec Ideal (T2 64 256) .f32) (p : FVec Ideal (T2 1 256) .f32) (r : Fin 64) (n : Fin 256) :
    moved x p (ix2 r n) = if r.val = 0 then p (ix2 0 n) else x (ix2 ⟨r.val - 1, by omega⟩ n) := by
  show Scalar.select (broadcastTo (T2 64 256) (shapeCast (T2 64 1) firstRow castC) brC (ix2 r n)) (broadcastTo (T2 64 256) (shapeCast (T2 1 256) p castR) brR (ix2 r n))
    (dynamicRotate 0 1#32 none x rot (ix2 r n)) = _
  rw [broadcastTo_1b_ab_apply, column_apply, shapeCast_self, shapeCast_self, firstRow_apply]
  by_cases h : r.val = 0
  · rw [if_pos h, decide_eq_true h]; rfl
  · rw [if_neg h, decide_eq_false h]
    refine dynamicRotate_apply (0 : Fin 2) 1#32 x rot (ix2 r n) _ fun b => ?_
    match b with
    | ⟨0, _⟩ => show r.val - 1 = (r.val + 64 - 1) % 64; have := r.isLt; omega
    | ⟨1, _⟩ => rfl

theorem taps_apply (w : Fin 3 → FVec Ideal (T2 1 256) .f32) (bias : FVec Ideal (T2 1 256) .f32) (x x' x'' : FVec Ideal (T2 64 256) .f32) (r : Fin 64) (n : Fin 256) :
    taps w bias x x' x'' (ix2 r n)
      = bias (ix2 0 n) + w 2 (ix2 0 n) * x (ix2 r n) + w 1 (ix2 0 n) * x' (ix2 r n) + w 0 (ix2 0 n) * x'' (ix2 r n) := by
  show broadcastTo (T2 64 256) bias brR (ix2 r n) + broadcastTo (T2 64 256) (w 2) brR (ix2 r n) * x (ix2 r n)
    + broadcastTo (T2 64 256) (w 1) brR (ix2 r n) * x' (ix2 r n) + broadcastTo (T2 64 256) (w 0) brR (ix2 r n) * x'' (ix2 r n) = _
  simp only [broadcastTo_1b_ab_apply]

/-- Eight blocks of 64 rows one under the other, read at an index. -/
theorem cat_apply {α : Type} (x : Fin 8 → (T2 64 256).Idx → α) (b : Fin 8) (r : Fin 64) (n : Fin 256) :
    concatenate (T2 512 256) 0 [⟨T2 64 256, x 0⟩, ⟨T2 64 256, x 1⟩, ⟨T2 64 256, x 2⟩, ⟨T2 64 256, x 3⟩, ⟨T2 64 256, x 4⟩, ⟨T2 64 256, x 5⟩,
      ⟨T2 64 256, x 6⟩, ⟨T2 64 256, x 7⟩] cat (ix2 ⟨64 * b.val + r.val, by omega⟩ n) = x b (ix2 r n) := by
  have hi : ∀ b' : Fin (T2 64 256).rank, b'.cast rfl ≠ (0 : Fin (T2 512 256).rank)
      → ((ix2 r n : (T2 64 256).Idx) b').val = ((ix2 (⟨64 * b.val + r.val, by omega⟩ : Fin 512) n : (T2 512 256).Idx) (b'.cast rfl)).val := fun b' hb => by
    match b', hb with
    | ⟨0, _⟩, hb => exact absurd rfl hb
    | ⟨1, _⟩, _ => rfl
  refine concatenate_apply_piece (t := T2 512 256) 0 [⟨T2 64 256, x 0⟩, ⟨T2 64 256, x 1⟩, ⟨T2 64 256, x 2⟩, ⟨T2 64 256, x 3⟩, ⟨T2 64 256, x 4⟩, ⟨T2 64 256, x 5⟩,
    ⟨T2 64 256, x 6⟩, ⟨T2 64 256, x 7⟩] cat _ b.val b.isLt (T2 64 256) (x b) ?_ rfl (64 * b.val) ?_ (ix2 r n) hi rfl
  · match b with | 0 => rfl | 1 => rfl | 2 => rfl | 3 => rfl | 4 => rfl | 5 => rfl | 6 => rfl | 7 => rfl
  · match b with | 0 => rfl | 1 => rfl | 2 => rfl | 3 => rfl | 4 => rfl | 5 => rfl | 6 => rfl | 7 => rfl

section Conv

variable (w : Fin 3 → FVec Ideal (T2 1 256) .f32) (bias : FVec Ideal (T2 1 256) .f32) (p : Fin 2 → FVec Ideal (T2 1 256) .f32) (h : FVec Ideal (T2 512 256) .f32)
  (r : Fin 64) (n : Fin 256)

theorem along_phase (b : Fin 8) : phase h b (ix2 r n) = along p h n (8 * r.val + b.val + 2) := by
  rw [phase_apply]; unfold along; rw [if_neg (by omega), if_neg (by omega)]; rfl

theorem along_seven : moved (phase h 7) (p 1) (ix2 r n) = along p h n (8 * r.val + 1) := by
  rw [moved_apply]
  by_cases hr : r.val = 0
  · rw [if_pos hr, hr]; rfl
  · rw [if_neg hr, along_phase p h]
    exact congrArg (along p h n) (show 8 * (r.val - 1) + 7 + 2 = 8 * r.val + 1 by omega)

theorem along_six : moved (phase h 6) (p 0) (ix2 r n) = along p h n (8 * r.val) := by
  rw [moved_apply]
  by_cases hr : r.val = 0
  · rw [if_pos hr, hr]; rfl
  · rw [if_neg hr, along_phase p h]
    exact congrArg (along p h n) (show 8 * (r.val - 1) + 6 + 2 = 8 * r.val by omega)

/-- A row of the tile along the order. -/
theorem along_row (l : ℕ) : along p h n (l + 2) = h (ix2 (row l) n) := by unfold along; rw [if_neg (by omega), if_neg (by omega)]; rfl

/-- The convolution at a row. -/
def tapped (l : ℕ) : EReal :=
  bias (ix2 0 n) + w 2 (ix2 0 n) * along p h n (l + 2) + w 1 (ix2 0 n) * along p h n (l + 1) + w 0 (ix2 0 n) * along p h n l

theorem piece (b : Fin 8) {x x' x'' : FVec Ideal (T2 64 256) .f32} (hx : x (ix2 r n) = along p h n (8 * r.val + b.val + 2))
    (hx' : x' (ix2 r n) = along p h n (8 * r.val + b.val + 1)) (hx'' : x'' (ix2 r n) = along p h n (8 * r.val + b.val)) :
    taps w bias x x' x'' (ix2 r n) = tapped w bias p h n (8 * r.val + b.val) := by
  rw [taps_apply, hx, hx', hx'']; rfl

theorem convV_apply (b : Fin 8) : convV w bias p h (ix2 ⟨64 * b.val + r.val, by omega⟩ n) = tapped w bias p h n (8 * r.val + b.val) := by
  unfold convV
  refine (cat_apply ![taps w bias (phase h 0) (moved (phase h 7) (p 1)) (moved (phase h 6) (p 0)), taps w bias (phase h 1) (phase h 0) (moved (phase h 7) (p 1)),
    taps w bias (phase h 2) (phase h 1) (phase h 0), taps w bias (phase h 3) (phase h 2) (phase h 1), taps w bias (phase h 4) (phase h 3) (phase h 2),
    taps w bias (phase h 5) (phase h 4) (phase h 3), taps w bias (phase h 6) (phase h 5) (phase h 4), taps w bias (phase h 7) (phase h 6) (phase h 5)] b r n).trans ?_
  match b with
  | 0 => exact piece w bias p h r n 0 (along_phase p h r n 0) (along_seven p h r n) (along_six p h r n)
  | 1 => exact piece w bias p h r n 1 (along_phase p h r n 1) (along_phase p h r n 0) (along_seven p h r n)
  | 2 => exact piece w bias p h r n 2 (along_phase p h r n 2) (along_phase p h r n 1) (along_phase p h r n 0)
  | 3 => exact piece w bias p h r n 3 (along_phase p h r n 3) (along_phase p h r n 2) (along_phase p h r n 1)
  | 4 => exact piece w bias p h r n 4 (along_phase p h r n 4) (along_phase p h r n 3) (along_phase p h r n 2)
  | 5 => exact piece w bias p h r n 5 (along_phase p h r n 5) (along_phase p h r n 4) (along_phase p h r n 3)
  | 6 => exact piece w bias p h r n 6 (along_phase p h r n 6) (along_phase p h r n 5) (along_phase p h r n 4)
  | 7 => exact piece w bias p h r n 7 (along_phase p h r n 7) (along_phase p h r n 6) (along_phase p h r n 5)

end Conv

/-! ## The gated values, and a half of the result -/

theorem actV_apply (kc k : EReal) (x y : FVec Ideal (T2 512 256) .f32) (z : (T2 512 256).Idx) : actV (F := Ideal) kc k x y z = gate kc k (x z) * y z := by
  have h1 : Ideal.ofBits .f32 0x3F800000#32 = (1 : EReal) := Ideal.ofBits_one_f32
  show Ideal.div (x z) (Ideal.ofBits .f32 0x3F800000#32 + Ideal.exp2 (x z * (x z * x z * kc + k))) * y z = _
  rw [h1]; rfl

theorem halfV_apply (x : FVec Ideal (T3 1 512 1024) .f32) (h : Fin 2) (f : FVec Ideal (T2 256 1024) .f32) (g : FVec Ideal (T2 1 1024) .f32) (i : Fin 256) (j : Fin 1024) :
    halfV x h f g (ix2 i j) = x (ix3 0 ⟨h.val * 256 + i.val, by omega⟩ j) + normed (fun k => f (ix2 i k)) (fun k => g (ix2 0 k)) j := by
  show extractStridedSlice (T2 256 1024) ![h.val * 256, 0] (shapeCast (T2 512 1024) x castX) (slH h) (ix2 i j) + norm norms256 f g (ix2 i j) = _
  rw [norm_apply, extractStridedSlice_apply _ _ (slH h) (ix2 i j) (ix2 (⟨h.val * 256 + i.val, by omega⟩ : Fin 512) j) (fun a => by
    match a with | ⟨0, _⟩ => rfl | ⟨1, _⟩ => exact (Nat.zero_add _).symm), shapeCast_1ab_ab_apply]

theorem blockV_apply (y : FVec Ideal (T2 256 1024) .f32) (c : Fin 8) (b : Fin 4) (r : Fin 64) (j : Fin 128) :
    blockV y c b (ix2 r j) = y (ix2 ⟨64 * b.val + r.val, by omega⟩ ⟨128 * c.val + j.val, by omega⟩) :=
  extractStridedSlice_apply _ _ _ (ix2 r j) _ (fun a => by
    match a with
    | ⟨0, _⟩ => show 64 * b.val + r.val = b.val * 64 + r.val; omega
    | ⟨1, _⟩ => show 128 * c.val + j.val = c.val * 128 + j.val; omega)

end Ffn

end
-- ==== Proof.Ffn.Steps.lean ====
/-
  What a chunk, and all the chunks, do to the gated values and to the rows kept for the next tile, over extended reals.
-/
module

public import proofs.«01_k».proof.Proof.Ffn.Run
public import proofs.«01_k».proof.Proof.Ffn.Entries

@[expose] public section

set_option maxRecDepth 16384

noncomputable section

namespace Ffn

open Idealize.ShloMosaic Idealize.ShloMosaic.ValueIdx Idealize.ShloMosaic.VecWindow
open Attn (T1 T2 T3 window_at put_in put_out)
open scoped BigOperators

/-! ## What a tile computes -/

/-- The first product, at a row by phase. -/
def hid (I : Ins Ideal) (i : Fin 512) (n : Fin 5632) : EReal :=
  ∑ k : Fin 1024, normed (fun k => I.x (ix3 0 i k)) (fun k => I.gp (ix2 0 k)) k * I.wu (ix2 k n)

/-- A column of it along the rows' order, the two rows before the tile in front. -/
def seqT (I : Ins Ideal) (P : (T2 2 5632).Idx → EReal) (n : Fin 5632) (q : ℕ) : EReal :=
  if q = 0 then P (ix2 0 n) else if q = 1 then P (ix2 1 n) else hid I (row (q - 2)) n

/-- The convolution at a row. -/
def tapT (I : Ins Ideal) (P : (T2 2 5632).Idx → EReal) (l : ℕ) (n : Fin 5632) : EReal :=
  I.cb (ix2 0 n) + I.cw (ix2 2 n) * seqT I P n (l + 2) + I.cw (ix2 1 n) * seqT I P n (l + 1) + I.cw (ix2 0 n) * seqT I P n l

/-- The gated values. -/
def actT (kc k : EReal) (I : Ins Ideal) (P : (T2 2 5632).Idx → EReal) (l : ℕ) (n : Fin 2816) : EReal :=
  gate kc k (tapT I P l ⟨n.val, by omega⟩) * tapT I P l ⟨2816 + n.val, by omega⟩

/-- The place of a row by phase in the rows' order. -/
def ord (i : Fin 512) : ℕ := 8 * (i.val % 64) + i.val / 64

/-- A column of a chunk. -/
abbrev cl {j : ℕ} (hj : j < 11) (u : Fin 2) (c : Fin 256) : Fin 5632 := ⟨col j u + c.val, by have := u.isLt; have := c.isLt; simp only [col]; omega⟩

/-! ## A chunk's convolution -/

section Conv

variable (st : State Ideal) {j : ℕ} (hj : j < 11) (u : Fin 2)

theorem getU_apply (k : Fin 1024) (c : Fin 256) : st.getU hj u (ix2 k c) = st.i.wu (ix2 k (cl hj u c)) :=
  window_at st.i.wu ![0, col j u] (T2 1024 256).size (inbU hj u) (ix2 k c) (ix2 k (cl hj u c)) (fun a => by
    match a with | ⟨0, _⟩ => exact (Nat.zero_add _).symm | ⟨1, _⟩ => rfl)

theorem getW_apply (k : Fin 3) (c : Fin 256) : st.getW hj u k (ix2 0 c) = st.i.cw (ix2 k (cl hj u c)) :=
  window_at st.i.cw ![k.val, col j u] (T2 1 256).size (inbW hj u k) (ix2 0 c) (ix2 k (cl hj u c)) (fun a => by match a with | ⟨0, _⟩ => rfl | ⟨1, _⟩ => rfl)

theorem getB_apply (c : Fin 256) : st.getB hj u (ix2 0 c) = st.i.cb (ix2 0 (cl hj u c)) :=
  window_at st.i.cb ![0, col j u] (T2 1 256).size (inbB hj u) (ix2 0 c) (ix2 0 (cl hj u c)) (fun a => by match a with | ⟨0, _⟩ => rfl | ⟨1, _⟩ => rfl)

theorem getT_apply (k : Fin 2) (c : Fin 256) : st.getT hj u k (ix2 0 c) = st.t (ix2 k (cl hj u c)) :=
  window_at st.t ![k.val, col j u] (T2 1 256).size (inbT hj u k) (ix2 0 c) (ix2 k (cl hj u c)) (fun a => by match a with | ⟨0, _⟩ => rfl | ⟨1, _⟩ => rfl)

variable (h : FVec Ideal (T2 512 256) .f32) {I : Ins Ideal} {P : (T2 2 5632).Idx → EReal}

theorem convOut_apply (hi : st.i = I) (ht : ∀ k c, st.t (ix2 k (cl hj u c)) = P (ix2 k (cl hj u c))) (hh : ∀ i c, h (ix2 i c) = hid I i (cl hj u c))
    (i : Fin 512) (c : Fin 256) : st.convOut hj u h (ix2 i c) = tapT I P (ord i) (cl hj u c) := by
  subst hi
  have hs : ∀ q, along ![st.getT hj u 0, st.getT hj u 1] h c q = seqT st.i P (cl hj u c) q := fun q => by
    unfold along seqT
    split
    · exact (getT_apply st hj u 0 c).trans (ht 0 c)
    split
    · exact (getT_apply st hj u 1 c).trans (ht 1 c)
    · exact hh _ _
  have hb : i.val / 64 < 8 := by omega
  have e : i = (⟨64 * (⟨i.val / 64, hb⟩ : Fin 8).val + (⟨i.val % 64, by omega⟩ : Fin 64).val, by show 64 * (i.val / 64) + i.val % 64 < 512; omega⟩ : Fin 512) :=
    Fin.ext (by show i.val = 64 * (i.val / 64) + i.val % 64; omega)
  unfold State.convOut
  refine (congrArg (fun i => convV _ _ _ h (ix2 i c)) e).trans ((convV_apply _ _ _ h ⟨i.val % 64, by omega⟩ c ⟨i.val / 64, hb⟩).trans ?_)
  unfold tapped tapT
  rw [hs, hs, hs, getB_apply]
  show _ + st.getW hj u 2 (ix2 0 c) * _ + st.getW hj u 1 (ix2 0 c) * _ + st.getW hj u 0 (ix2 0 c) * _ = _
  rw [getW_apply, getW_apply, getW_apply]
  rfl

theorem putT_in (k : Fin 2) (w : FVec Ideal (T2 1 256) .f32) (c : Fin 256) : (st.putT j u k w).t (ix2 k (cl hj u c)) = w (ix2 0 c) := by
  show put st.t ![k.val, col j u] (T2 1 256).size (shapeCast (T2 1 256) w castR) (ix2 k (cl hj u c)) = _
  rw [shapeCast_self]
  exact put_in st.t ![k.val, col j u] (T2 1 256).size w (ix2 k (cl hj u c)) (ix2 0 c) (fun a => by match a with | ⟨0, _⟩ => rfl | ⟨1, _⟩ => rfl)

omit hj in
theorem putT_out_row (k k' : Fin 2) (w : FVec Ideal (T2 1 256) .f32) (n : Fin 5632) (hk : k' ≠ k) : (st.putT j u k w).t (ix2 k' n) = st.t (ix2 k' n) :=
  put_out _ _ _ _ _ (0 : Fin 2) (by
    show k'.val < k.val ∨ k.val + 1 ≤ k'.val
    have : k'.val ≠ k.val := fun e => hk (Fin.ext e)
    omega)

omit hj in
theorem putT_out_col (k k' : Fin 2) (w : FVec Ideal (T2 1 256) .f32) (n : Fin 5632) (hn : n.val < col j u ∨ col j u + 256 ≤ n.val) :
    (st.putT j u k w).t (ix2 k' n) = st.t (ix2 k' n) :=
  put_out _ _ _ _ _ (1 : Fin 2) hn

/-- The rows kept, in the chunk's columns. -/
theorem conv_in (k : Fin 2) (c : Fin 256) : (st.conv j u h).t (ix2 k (cl hj u c)) = h (ix2 (row (510 + k.val)) c) := by
  unfold State.conv
  match k with
  | 0 => rw [putT_out_row _ _ 1 0 _ _ (by decide), putT_in]; exact lastRow_apply h 6 c
  | 1 => rw [putT_in]; exact lastRow_apply h 7 c

omit hj in
/-- And in the others. -/
theorem conv_out (k : Fin 2) (n : Fin 5632) (hn : n.val < col j u ∨ col j u + 256 ≤ n.val) : (st.conv j u h).t (ix2 k n) = st.t (ix2 k n) := by
  unfold State.conv
  rw [putT_out_col _ _ _ _ _ _ hn, putT_out_col _ _ _ _ _ _ hn]

end Conv

/-! ## The chunks one after another -/

/-- After the first `n` chunks: their columns of the gated values and of the rows kept, the others' as they were. -/
structure Done (kc k : EReal) (st₀ : State Ideal) (n : ℕ) (st : State Ideal) : Prop where
  i : st.i = st₀.i
  a : ∀ (i : Fin 512) (c : Fin 2816), c.val < 256 * n → st.a (ix2 i c) = actT kc k st₀.i st₀.t (ord i) c
  old : ∀ (r : Fin 2) (c : Fin 5632), 256 * n ≤ c.val % 2816 → st.t (ix2 r c) = st₀.t (ix2 r c)
  new : ∀ (r : Fin 2) (c : Fin 5632), c.val % 2816 < 256 * n → st.t (ix2 r c) = hid st₀.i (row (510 + r.val)) c

section Chunks

variable (kc k : EReal) (st₀ : State Ideal) (hn : FVec Ideal (T2 512 1024) .bf16)
  (hhn : ∀ i j, hn (ix2 i j) = normed (fun k => st₀.i.x (ix3 0 i k)) (fun k => st₀.i.gp (ix2 0 k)) j)

include hhn in
theorem up_apply (st : State Ideal) (hi : st.i = st₀.i) {j : ℕ} (hj : j < 11) (u : Fin 2) (i : Fin 512) (c : Fin 256) :
    upV hn (st.getU hj u) (ix2 i c) = hid st₀.i i (cl hj u c) := by
  rw [upV_apply]
  refine Finset.sum_congr rfl fun k _ => ?_
  rw [hhn, getU_apply, hi]

include hhn in
theorem chunk_done (st : State Ideal) {n : ℕ} (hj : n < 11) (D : Done kc k st₀ n st) : Done kc k st₀ (n + 1) (st.chunk (F := Ideal) kc k hn hj) := by
  have hx := up_apply st₀ hn hhn st D.i hj 0
  have hy := up_apply st₀ hn hhn st D.i hj 1
  have gx := convOut_apply st hj 0 (upV hn (st.getU hj 0)) D.i (fun r c => D.old r (cl hj 0 c) (by show 256 * n ≤ (0 * 2816 + n * 256 + c.val) % 2816; omega)) hx
  have gy := convOut_apply (st.conv n 0 (upV hn (st.getU hj 0))) hj 1 (upV hn (st.getU hj 1)) (P := st₀.t) (show _ = st₀.i from D.i)
    (fun r c => (conv_out _ _ _ r (cl hj 1 c) (Or.inr (by show 0 * 2816 + n * 256 + 256 ≤ 1 * 2816 + n * 256 + c.val; omega))).trans
      (D.old r (cl hj 1 c) (by show 256 * n ≤ (1 * 2816 + n * 256 + c.val) % 2816; omega))) hy
  refine ⟨D.i, fun i c hc => ?_, fun r c hc => ?_, fun r c hc => ?_⟩
  · show put st.a ![0, n * 256] (T2 512 256).size (shapeCast (T2 512 256) _ castA) (ix2 i c) = _
    rw [shapeCast_self]
    by_cases hc' : c.val < 256 * n
    · rw [put_out _ _ _ _ _ (1 : Fin 2) (Or.inl (show c.val < n * 256 by omega))]
      exact D.a i c hc'
    · rw [put_in st.a ![0, n * 256] (T2 512 256).size _ (ix2 i c) (ix2 i (⟨c.val - 256 * n, by omega⟩ : Fin 256)) (fun a => by
        match a with
        | ⟨0, _⟩ => exact (Nat.zero_add _).symm
        | ⟨1, _⟩ => show c.val = n * 256 + (c.val - 256 * n); omega)]
      rw [actV_apply, gx, gy]
      unfold actT
      have e0 : cl hj 0 (⟨c.val - 256 * n, by omega⟩ : Fin 256) = ⟨c.val, by omega⟩ := Fin.ext (by show 0 * 2816 + n * 256 + (c.val - 256 * n) = c.val; omega)
      have e1 : cl hj 1 (⟨c.val - 256 * n, by omega⟩ : Fin 256) = ⟨2816 + c.val, by omega⟩ :=
        Fin.ext (by show 1 * 2816 + n * 256 + (c.val - 256 * n) = 2816 + c.val; omega)
      rw [e0, e1]
  · show ((st.conv n 0 (upV hn (st.getU hj 0))).conv n 1 (upV hn (st.getU hj 1))).t (ix2 r c) = _
    have := c.isLt
    rw [conv_out _ _ _ _ _ (by show c.val < 1 * 2816 + n * 256 ∨ 1 * 2816 + n * 256 + 256 ≤ c.val; omega),
      conv_out _ _ _ _ _ (by show c.val < 0 * 2816 + n * 256 ∨ 0 * 2816 + n * 256 + 256 ≤ c.val; omega)]
    exact D.old r c (by omega)
  · show ((st.conv n 0 (upV hn (st.getU hj 0))).conv n 1 (upV hn (st.getU hj 1))).t (ix2 r c) = _
    have := c.isLt
    by_cases hc' : c.val % 2816 < 256 * n
    · rw [conv_out _ _ _ _ _ (by show c.val < 1 * 2816 + n * 256 ∨ 1 * 2816 + n * 256 + 256 ≤ c.val; omega),
        conv_out _ _ _ _ _ (by show c.val < 0 * 2816 + n * 256 ∨ 0 * 2816 + n * 256 + 256 ≤ c.val; omega)]
      exact D.new r c hc'
    by_cases hu : c.val < 2816
    · have e : c = cl hj 0 (⟨c.val - 256 * n, by omega⟩ : Fin 256) := Fin.ext (by show c.val = 0 * 2816 + n * 256 + (c.val - 256 * n); omega)
      rw [conv_out _ _ _ _ _ (by show c.val < 1 * 2816 + n * 256 ∨ 1 * 2816 + n * 256 + 256 ≤ c.val; omega), e, conv_in, hx]
    · have e : c = cl hj 1 (⟨c.val - 2816 - 256 * n, by omega⟩ : Fin 256) := Fin.ext (by show c.val = 1 * 2816 + n * 256 + (c.val - 2816 - 256 * n); omega)
      rw [e, conv_in, hy]

include hhn in
theorem chunks_done : ∀ (n : ℕ) (h : n ≤ 11), Done kc k st₀ n (st₀.chunks (F := Ideal) kc k hn n h)
  | 0, _ => ⟨rfl, fun _ _ h => absurd h (by omega), fun _ _ _ => rfl, fun _ _ h => absurd h (by omega)⟩
  | n + 1, h => chunk_done kc k st₀ hn hhn _ (by omega) (chunks_done n (by omega))

end Chunks

/-- The normed rows of a state. -/
theorem rows_apply (st : State Ideal) (i : Fin 512) (j : Fin 1024) :
    rowsV st.getX st.getGP (ix2 i j) = normed (fun k => st.i.x (ix3 0 i k)) (fun k => st.i.gp (ix2 0 k)) j := by
  rw [rowsV_apply]
  have hx : ∀ k, st.getX (ix3 0 i k) = st.i.x (ix3 0 i k) := fun k =>
    window_at st.i.x ![0, 0, 0] (T3 1 512 1024).size inbX (ix3 0 i k) (ix3 0 i k) (fun a => by match a with | ⟨0, _⟩ => rfl | ⟨1, _⟩ => exact (Nat.zero_add _).symm | ⟨2, _⟩ => exact (Nat.zero_add _).symm)
  have hg : ∀ k, st.getGP (ix2 0 k) = st.i.gp (ix2 0 k) := fun k =>
    window_at st.i.gp ![0, 0] (T2 1 1024).size inbG (ix2 0 k) (ix2 0 k) (fun a => by match a with | ⟨0, _⟩ => rfl | ⟨1, _⟩ => exact (Nat.zero_add _).symm)
  simp only [hx, hg]

/-- After the chunks. -/
theorem gated_done (kc k : EReal) (z : BitVec 1) (st : State Ideal) : Done kc k (st.start z) 11 (st.gated (F := Ideal) kc k z) := by
  refine chunks_done kc k (st.start z) _ ?_ 11 le_rfl
  rw [State.start_i]
  exact rows_apply st

/-- The rows before the tile: zeros at a sequence's first tile, else those kept. -/
theorem start_t (z : BitVec 1) (st : State Ideal) (y : (T2 2 5632).Idx) : (st.start z).t y = if z = 1#1 then 0 else st.t y := by
  unfold State.start
  split
  · show put st.t ![0, 0] (T2 2 5632).size (shapeCast (T2 2 5632) _ castT) y = _
    rw [shapeCast_self]
    refine (put_in st.t ![0, 0] (T2 2 5632).size _ y y (fun a => by match a with | ⟨0, _⟩ => exact (Nat.zero_add _).symm | ⟨1, _⟩ => exact (Nat.zero_add _).symm)).trans ?_
    exact Ideal.ofBits_zero_f32
  · rfl

end Ffn

end
-- ==== Proof.Ffn.Tile.lean ====
/-
  A whole tile over extended reals: the two halves of the result laid out by the rows' order, and what the body leaves as
  its result and as the rows kept.
-/
module

public import proofs.«01_k».proof.Proof.Ffn.Steps

@[expose] public section

set_option maxRecDepth 16384

noncomputable section

namespace Ffn

open Idealize.ShloMosaic Idealize.ShloMosaic.ValueIdx Idealize.ShloMosaic.VecWindow
open Attn (T1 T2 T3 window_at put_in put_out)
open scoped BigOperators

/-- The result at a row by phase, from the gated values. -/
def res (I : Ins Ideal) (a : (T2 512 2816).Idx → EReal) (i : Fin 512) (j : Fin 1024) : EReal :=
  I.x (ix3 0 i j) + normed (fun m => ∑ k : Fin 2816, a (ix2 i k) * I.wd (ix2 k m)) (fun m => I.gq (ix2 0 m)) j

/-! ## The rows by phase stored in their order -/

section Store

variable (st : State Ideal)

theorem putP_in (c r : Fin 8) (w : FVec Ideal (T2 64 128) .f32) (q : Fin 64) (j : Fin 128) (l : Fin 512) (hl : l.val = r.val + 8 * q.val) :
    (st.putP c r w).p (ix3 c l j) = w (ix2 q j) := by
  have e : (⟨rectP c r, posStride⟩ : Rect (T3 8 512 128)).emb (ix3 0 q j) = ix3 c l j := funext fun a => Fin.ext (by
    match a with
    | ⟨0, _⟩ => rfl
    | ⟨1, _⟩ => exact hl.symm
    | ⟨2, _⟩ => show 0 + 1 * j.val = j.val; omega)
  show putAt st.p ⟨rectP c r, posStride⟩ (shapeCast (T3 1 64 128) w castP) (ix3 c l j) = _
  rw [← e, putAt_in]
  exact shapeCast_ab_1ab_apply w castP 0 q j

theorem putP_out (c r c' : Fin 8) (w : FVec Ideal (T2 64 128) .f32) (l : Fin 512) (j : Fin 128) (h : c' ≠ c ∨ l.val % 8 ≠ r.val) :
    (st.putP c r w).p (ix3 c' l j) = st.p (ix3 c' l j) := by
  refine putAt_out _ _ _ _ fun z hz => ?_
  have h0 : c.val + 1 * (z 0).val = c'.val := congrArg Fin.val (congrFun hz 0)
  have h1 : r.val + 8 * (z 1).val = l.val := congrArg Fin.val (congrFun hz 1)
  have hz0 : (z 0).val < 1 := (z 0).isLt
  have := r.isLt
  rcases h with h | h
  · exact h (Fin.ext (by omega))
  · exact h (by omega)

variable (h : Fin 2) (y : FVec Ideal (T2 256 1024) .f32) (f : Fin 512 → Fin 1024 → EReal)
  (hy : ∀ (i : Fin 256) (j : Fin 1024), y (ix2 i j) = f ⟨h.val * 256 + i.val, by omega⟩ j)

theorem phases_out (c : Fin 8) (c' : Fin 8) (l : Fin 512) (j : Fin 128) : ∀ (n : ℕ) (hn : n ≤ 4), (c' ≠ c ∨ l.val % 8 < 4 * h.val ∨ 4 * h.val + n ≤ l.val % 8) →
    (st.phases h y c n hn).p (ix3 c' l j) = st.p (ix3 c' l j)
  | 0, _, _ => rfl
  | n + 1, hn, hl => by
    unfold State.phases
    rw [putP_out _ _ _ _ _ _ _ (by
      rcases hl with hl | hl
      · exact Or.inl hl
      · refine Or.inr ?_
        show l.val % 8 ≠ h.val * 4 + n
        omega)]
    exact phases_out c c' l j n (by omega) (by omega)

include hy

theorem phases_in (c : Fin 8) (l : Fin 512) (j : Fin 128) : ∀ (n : ℕ) (hn : n ≤ 4), 4 * h.val ≤ l.val % 8 → l.val % 8 < 4 * h.val + n →
    (st.phases h y c n hn).p (ix3 c l j) = f (row l.val) ⟨128 * c.val + j.val, by omega⟩
  | 0, _, h1, h2 => absurd h1 (by omega)
  | n + 1, hn, h1, h2 => by
    unfold State.phases
    have := l.isLt
    by_cases e : l.val % 8 = h.val * 4 + n
    · rw [putP_in _ _ _ _ (⟨l.val / 8, by omega⟩ : Fin 64) j l (by show l.val = h.val * 4 + n + 8 * (l.val / 8); omega), blockV_apply, hy]
      refine congrArg (fun i => f i _) (Fin.ext ?_)
      show h.val * 256 + (64 * n + l.val / 8) = 64 * (l.val % 8) + l.val / 8 % 64
      omega
    · rw [putP_out _ _ _ _ _ _ _ (Or.inr e)]
      exact phases_in c l j n (by omega) h1 (by omega)

theorem blocks_in (l : Fin 512) (hl : l.val % 8 / 4 = h.val) (c : Fin 8) (j : Fin 128) : ∀ (n : ℕ) (hn : n ≤ 8), c.val < n →
    (st.blocks h y n hn).p (ix3 c l j) = f (row l.val) ⟨128 * c.val + j.val, by omega⟩
  | 0, _, hc => absurd hc (by omega)
  | n + 1, hn, hc => by
    unfold State.blocks
    by_cases e : c = ⟨n, by omega⟩
    · rw [show (⟨n, by omega⟩ : Fin 8) = c from e.symm]
      exact phases_in _ h y f hy _ l j 4 le_rfl (by omega) (by omega)
    · rw [phases_out _ _ _ _ _ _ _ _ _ (Or.inl e)]
      have : c.val ≠ n := fun hh => e (Fin.ext hh)
      exact blocks_in l hl c j n (by omega) (by omega)

omit hy in
theorem blocks_out (l : Fin 512) (hl : l.val % 8 / 4 ≠ h.val) (c : Fin 8) (j : Fin 128) : ∀ (n : ℕ) (hn : n ≤ 8),
    (st.blocks h y n hn).p (ix3 c l j) = st.p (ix3 c l j)
  | 0, _ => rfl
  | n + 1, hn => by
    unfold State.blocks
    rw [phases_out _ _ _ _ _ _ _ _ _ (Or.inr (by omega))]
    exact blocks_out l hl c j n (by omega)

end Store

/-! ## The result -/

section Result

variable (st : State Ideal)

theorem half_value (h : Fin 2) (i : Fin 256) (j : Fin 1024) (st' : State Ideal) (e : st'.i = st.i) :
    halfV st.getX h (downV (st.getAH h) st.getD) st'.getGQ (ix2 i j) = res st.i st.a ⟨h.val * 256 + i.val, by omega⟩ j := by
  rw [halfV_apply]
  have hx : ∀ i k, st.getX (ix3 0 i k) = st.i.x (ix3 0 i k) := fun i k =>
    window_at st.i.x ![0, 0, 0] (T3 1 512 1024).size inbX (ix3 0 i k) (ix3 0 i k) (fun a => by match a with | ⟨0, _⟩ => rfl | ⟨1, _⟩ => exact (Nat.zero_add _).symm | ⟨2, _⟩ => exact (Nat.zero_add _).symm)
  have hg : ∀ k, st'.getGQ (ix2 0 k) = st.i.gq (ix2 0 k) := fun k => by
    rw [← e]
    exact window_at st'.i.gq ![0, 0] (T2 1 1024).size inbG (ix2 0 k) (ix2 0 k) (fun a => by match a with | ⟨0, _⟩ => rfl | ⟨1, _⟩ => exact (Nat.zero_add _).symm)
  have hd : ∀ k m, st.getD (ix2 k m) = st.i.wd (ix2 k m) := fun k m =>
    window_at st.i.wd ![0, 0] (T2 2816 1024).size inbD (ix2 k m) (ix2 k m) (fun a => by match a with | ⟨0, _⟩ => exact (Nat.zero_add _).symm | ⟨1, _⟩ => exact (Nat.zero_add _).symm)
  have ha : ∀ k, st.getAH h (ix2 i k) = st.a (ix2 (⟨h.val * 256 + i.val, by omega⟩ : Fin 512) k) := fun k =>
    window_at st.a ![h.val * 256, 0] (T2 256 2816).size (inbAH h) (ix2 i k) (ix2 (⟨h.val * 256 + i.val, by omega⟩ : Fin 512) k) (fun a => by match a with | ⟨0, _⟩ => rfl | ⟨1, _⟩ => exact (Nat.zero_add _).symm)
  unfold res
  simp only [hx, hg, downV_apply, hd, ha]

/-- Both halves. -/
theorem halves_apply (c : Fin 8) (l : Fin 512) (j : Fin 128) :
    ((st.half st.getX 0 (downV (st.getAH 0) st.getD)).half st.getX 1 (downV (st.getAH 1) st.getD)).p (ix3 c l j)
      = res st.i st.a (row l.val) ⟨128 * c.val + j.val, by omega⟩ := by
  by_cases hl : l.val % 8 / 4 = 1
  · exact blocks_in _ 1 _ (res st.i st.a) (fun i j => half_value st 1 i j _ (State.half_i _ _ _ _)) l hl c j 8 le_rfl c.isLt
  · refine (blocks_out _ 1 _ l hl c j 8 le_rfl).trans ?_
    exact blocks_in _ 0 _ (res st.i st.a) (fun i j => half_value st 0 i j _ rfl) l (by show l.val % 8 / 4 = 0; omega) c j 8 le_rfl c.isLt

theorem outs_apply (l : Fin 512) (m : Fin 1024) : ∀ (n : ℕ) (hn : n ≤ 8), m.val < 128 * n →
    (st.outs n hn).o (ix3 0 l m) = st.p (ix3 ⟨m.val / 128, by omega⟩ l ⟨m.val % 128, by omega⟩)
  | 0, _, h => absurd h (by omega)
  | n + 1, hn, h => by
    unfold State.outs
    show put (st.outs n _).o ![0, 0, n * 128] (T3 1 512 128).size (shapeCast (T3 1 512 128) _ castO) (ix3 0 l m) = _
    by_cases hm : m.val < 128 * n
    · rw [put_out _ _ _ _ _ (2 : Fin 3) (Or.inl (show m.val < n * 128 by omega))]
      exact outs_apply l m n (by omega) hm
    · rw [put_in (st.outs n (by omega)).o ![0, 0, n * 128] (T3 1 512 128).size _ (ix3 0 l m) (ix3 0 l (⟨m.val % 128, by omega⟩ : Fin 128)) (fun a => by
        match a with
        | ⟨0, _⟩ => rfl
        | ⟨1, _⟩ => exact (Nat.zero_add _).symm
        | ⟨2, _⟩ => show m.val = n * 128 + m.val % 128; omega)]
      rw [shapeCast_ab_1ab_apply, shapeCast_1ab_ab_apply]
      refine (window_at (st.outs n (by omega)).p ![n, 0, 0] (T3 1 512 128).size (inbPC ⟨n, by omega⟩) (ix3 0 l (⟨m.val % 128, by omega⟩ : Fin 128)) (ix3 ⟨m.val / 128, by omega⟩ l ⟨m.val % 128, by omega⟩) (fun a => by
        match a with
        | ⟨0, _⟩ => show m.val / 128 = n + 0; omega
        | ⟨1, _⟩ => exact (Nat.zero_add _).symm
        | ⟨2, _⟩ => exact (Nat.zero_add _).symm)).trans ?_
      rw [State.outs_p]

theorem finish_apply (l : Fin 512) (m : Fin 1024) : (st.finish st.getX).o (ix3 0 l m) = res st.i st.a (row l.val) m := by
  unfold State.finish
  rw [outs_apply _ l m 8 le_rfl (by omega), halves_apply]
  exact congrArg (res st.i st.a (row l.val)) (Fin.ext (by show 128 * (m.val / 128) + m.val % 128 = m.val; omega))

end Result

/-- What a tile's result is at a row of its order. -/
def outT (kc k : EReal) (I : Ins Ideal) (P : (T2 2 5632).Idx → EReal) (l : ℕ) (m : Fin 1024) : EReal :=
  I.x (ix3 0 (row l) m) + normed (fun m => ∑ n : Fin 2816, actT kc k I P l n * I.wd (ix2 n m)) (fun m => I.gq (ix2 0 m)) m

theorem ord_row (l : Fin 512) : ord (row l.val) = l.val := by
  have h : ∀ a b : ℕ, b < 64 → 8 * ((64 * a + b) % 64) + (64 * a + b) / 64 = 8 * b + a := fun a b hb => by omega
  have := l.isLt
  refine (h (l.val % 8) (l.val / 8 % 64) (by omega)).trans ?_
  omega

/-- The body's result. -/
theorem body_o (kc k : EReal) (z : BitVec 1) (st : State Ideal) (l : Fin 512) (m : Fin 1024) :
    (st.body (F := Ideal) kc k z).o (ix3 0 l m) = outT kc k st.i (st.start z).t l.val m := by
  have D := gated_done kc k z st
  have hi : (st.gated (F := Ideal) kc k z).i = st.i := D.i.trans (State.start_i st z)
  have hX : st.getX = (st.gated (F := Ideal) kc k z).getX := by unfold State.getX; rw [hi]
  unfold State.body
  rw [hX, finish_apply, hi]
  unfold res outT
  have e : ∀ n : Fin 2816, (st.gated (F := Ideal) kc k z).a (ix2 (row l.val) n) = actT kc k st.i (st.start z).t l.val n := fun n => by
    rw [D.a (row l.val) n (by omega), ord_row, State.start_i]
  simp only [e]

/-- The rows it keeps. -/
theorem body_keeps (kc k : EReal) (z : BitVec 1) (st : State Ideal) (r : Fin 2) (c : Fin 5632) :
    (st.body (F := Ideal) kc k z).t (ix2 r c) = hid st.i (row (510 + r.val)) c := by
  rw [State.body_t, (gated_done kc k z st).new r c (by omega), State.start_i]

end Ffn

end
-- ==== Proof.Ffn.Result.lean ====
/-
  What the feed-forward computes: its result as a function of the whole arrays, tile by tile along a sequence.
-/
module

public import proofs.«01_k».proof.Proof.Ffn.Tile

@[expose] public section

set_option maxRecDepth 16384

noncomputable section

namespace Ffn

open Idealize.ShloMosaic Idealize.ShloMosaic.ValueIdx
open Attn (T1 T2 T3)
open scoped BigOperators

/-- The arrays of the arguments: the rows, the scale before, the first product's weights, the convolution's weights and
bias, the second product's weights, the scale after. -/
structure Args where
  x : (T3 8 4096 1024).Idx → EReal
  gp : (T2 1 1024).Idx → EReal
  wu : (T2 1024 5632).Idx → EReal
  cw : (T2 3 5632).Idx → EReal
  cb : (T2 1 5632).Idx → EReal
  wd : (T2 2816 1024).Idx → EReal
  gq : (T2 1 1024).Idx → EReal

/-- The arguments of a tile: 512 rows of its sequence, the weights whole. -/
def tileIns (A : Args) (s i : Fin 8) : Ins Ideal where
  x := fun z => A.x (ix3 s ⟨512 * i.val + (z 1).val, by have : (z 1).val < 512 := (z 1).isLt; omega⟩ ⟨(z 2).val, (z 2).isLt⟩)
  gp := A.gp
  wu := A.wu
  cw := A.cw
  cb := A.cb
  wd := A.wd
  gq := A.gq

/-- The first product's two rows before a tile: the last of the tile before it, or zero before the first. -/
def prevT (A : Args) (s i : Fin 8) : (T2 2 5632).Idx → EReal := fun z =>
  if i.val = 0 then 0 else hid (tileIns A s ⟨i.val - 1, by omega⟩) (row (510 + (z 0).val)) ⟨(z 1).val, (z 1).isLt⟩

/-- The result at position `τ` of sequence `s`. -/
def result (kc k : EReal) (A : Args) (s : Fin 8) (τ : Fin 4096) (m : Fin 1024) : EReal :=
  outT kc k (tileIns A s ⟨τ.val / 512, by omega⟩) (prevT A s ⟨τ.val / 512, by omega⟩) (τ.val % 512) m

/-! The same, along a sequence. -/

/-- The row that holds position `τ`. -/
def place (τ : Fin 4096) : Fin 4096 := ⟨512 * (τ.val / 512) + (row (τ.val % 512)).val, by have := (row (τ.val % 512)).isLt; omega⟩

/-- A column of the first product along a sequence. -/
def up (A : Args) (s : Fin 8) (n : Fin 5632) (τ : Fin 4096) : EReal :=
  ∑ k : Fin 1024, normed (fun k => A.x (ix3 s (place τ) k)) (fun k => A.gp (ix2 0 k)) k * A.wu (ix2 k n)

theorem hid_tile (A : Args) (s i : Fin 8) (l : ℕ) (hl : l < 512) (n : Fin 5632) (τ : Fin 4096) (hτ : τ.val = 512 * i.val + l) :
    hid (tileIns A s i) (row l) n = up A s n τ := by
  have hi : τ.val / 512 = i.val := by omega
  have hm : τ.val % 512 = l := by omega
  have hp : place τ = ⟨512 * i.val + (row l).val, by have := (row l).isLt; omega⟩ := Fin.ext (by
    show 512 * (τ.val / 512) + (row (τ.val % 512)).val = 512 * i.val + (row l).val
    rw [hi, hm])
  unfold hid up
  rw [hp]
  rfl

/-- The first product at a position counted from two before the sequence's first, with zeros there. -/
def padded (A : Args) (s : Fin 8) (n : Fin 5632) (q : ℕ) (hq : q < 4098) : EReal :=
  if h : q < 2 then 0 else up A s n ⟨q - 2, by omega⟩

/-- A tile's rows with the two before them lie along the sequence. -/
theorem seqT_eq (A : Args) (s i : Fin 8) (n : Fin 5632) (q : ℕ) (hq : q < 514) :
    seqT (tileIns A s i) (prevT A s i) n q = padded A s n (512 * i.val + q) (by omega) := by
  have before : ∀ r : Fin 2, prevT A s i (ix2 r n) = padded A s n (512 * i.val + r.val) (by omega) := fun r => by
    show (if i.val = 0 then 0 else hid (tileIns A s ⟨i.val - 1, _⟩) (row (510 + r.val)) n) = _
    unfold padded
    by_cases h0 : i.val = 0
    · rw [if_pos h0, dif_pos (by omega)]
    · rw [if_neg h0, dif_neg (by omega)]
      exact hid_tile A s _ _ (by omega) n _ (by show 512 * i.val + r.val - 2 = 512 * (i.val - 1) + (510 + r.val); omega)
  unfold seqT
  split
  · rename_i h; subst h; exact before 0
  split
  · rename_i h; subst h; exact before 1
  · unfold padded
    rw [dif_neg (by omega)]
    exact hid_tile A s i _ (by omega) n _ (by show 512 * i.val + q - 2 = 512 * i.val + (q - 2); omega)

/-- The convolution along a sequence. -/
def convAt (A : Args) (s : Fin 8) (τ : Fin 4096) (n : Fin 5632) : EReal :=
  A.cb (ix2 0 n) + A.cw (ix2 0 n) * padded A s n τ.val (by omega) + A.cw (ix2 1 n) * padded A s n (τ.val + 1) (by omega)
    + A.cw (ix2 2 n) * padded A s n (τ.val + 2) (by omega)

theorem tapT_eq (A : Args) (s : Fin 8) (τ : Fin 4096) (n : Fin 5632) :
    tapT (tileIns A s ⟨τ.val / 512, by omega⟩) (prevT A s ⟨τ.val / 512, by omega⟩) (τ.val % 512) n = convAt A s τ n := by
  have e : ∀ d (hd : d < 3), seqT (tileIns A s ⟨τ.val / 512, by omega⟩) (prevT A s ⟨τ.val / 512, by omega⟩) n (τ.val % 512 + d)
      = padded A s n (τ.val + d) (by omega) := fun d hd => by
    rw [seqT_eq _ _ _ _ _ (by omega)]
    have : 512 * (τ.val / 512) + (τ.val % 512 + d) = τ.val + d := by omega
    simp only [this]
  have e0 := e 0 (by omega)
  unfold tapT convAt
  rw [e 2 (by omega), e 1 (by omega)]
  simp only [Nat.add_zero] at e0
  rw [e0]
  show A.cb (ix2 0 n) + A.cw (ix2 2 n) * _ + A.cw (ix2 1 n) * _ + A.cw (ix2 0 n) * _ = _
  rw [add_right_comm (_ + _), add_right_comm (A.cb _), add_right_comm (_ + _)]

/-- The result along a sequence. -/
theorem result_eq (kc k : EReal) (A : Args) (s : Fin 8) (τ : Fin 4096) (m : Fin 1024) :
    result kc k A s τ m = A.x (ix3 s (place τ) m)
      + normed (fun m => ∑ n : Fin 2816, gate kc k (convAt A s τ ⟨n.val, by omega⟩) * convAt A s τ ⟨2816 + n.val, by omega⟩ * A.wd (ix2 n m))
        (fun m => A.gq (ix2 0 m)) m := by
  unfold result outT actT
  simp only [tapT_eq]
  rfl

end Ffn

end
-- ==== Proof.Ffn.Value.lean ====
/-
  The value of Kernel2Ideal: its result array is the feed-forward of the argument arrays.
-/
module

public import proofs.«01_k».proof.Proof.Ffn.FrameKernel2Ideal
public import proofs.«01_k».proof.Proof.Ffn.Result
public import Idealize.ShloMosaic.Lib.Pipeline.ValueKit.Geometry

@[expose] public section

set_option maxRecDepth 16384

noncomputable section

namespace Cert.Kernel2Ideal

open Idealize.ShloMosaic Idealize.ShloMosaic.TcCoe Idealize.ShloMosaic.ValueIdx
open Idealize.SL Idealize.SL.Sem
open Cert.Kernel2Ideal.Gen
open Ffn

variable (m : (ℓ : Loc nD τ sig) → Buf (Elt Ideal) ℓ) (ρ : Dev nD → PrngReg)

/-- The arrays of a device's arguments. -/
abbrev args (c : Dev nD) : Args where
  x := m ((c : Thread nD τ).loc main_arg0)
  gp := m ((c : Thread nD τ).loc main_arg1)
  wu := m ((c : Thread nD τ).loc main_arg2)
  cw := m ((c : Thread nD τ).loc main_arg3)
  cb := m ((c : Thread nD τ).loc main_arg4)
  wd := m ((c : Thread nD τ).loc main_arg5)
  gq := m ((c : Thread nD τ).loc main_arg6)

/-- The two named numbers of the gate. -/
abbrev numC : EReal := kc (F := Ideal)
abbrev numK : EReal := kk (F := Ideal)

theorem points : cfg0.N = 64 := by decide +kernel

/-- The sequence and the tile of a grid point. -/
def seqOf (t : Fin cfg0.N) : Fin 8 := ⟨t.val / 8, by have := t.isLt; have := points; omega⟩
def tileOf (t : Fin cfg0.N) : Fin 8 := ⟨t.val % 8, by omega⟩

theorem coords_tile : ∀ t : Fin cfg0.N, (grid0.coords t 1).val = (tileOf t).val := (by decide +kernel : ∀ t : Fin grid0.N, (grid0.coords t 1).val = t.val % 8)

theorem index_x : ∀ t : Fin cfg0.N, win0_0.index t = ![(seqOf t).val, (tileOf t).val, 0] := (by decide +kernel : ∀ t : Fin grid0.N, _)
theorem index_gp : ∀ t : Fin cfg0.N, win0_1.index t = ![0, 0] := (by decide +kernel : ∀ t : Fin grid0.N, _)
theorem index_wu : ∀ t : Fin cfg0.N, win0_2.index t = ![0, 0] := (by decide +kernel : ∀ t : Fin grid0.N, _)
theorem index_cw : ∀ t : Fin cfg0.N, win0_3.index t = ![0, 0] := (by decide +kernel : ∀ t : Fin grid0.N, _)
theorem index_cb : ∀ t : Fin cfg0.N, win0_4.index t = ![0, 0] := (by decide +kernel : ∀ t : Fin grid0.N, _)
theorem index_wd : ∀ t : Fin cfg0.N, win0_5.index t = ![0, 0] := (by decide +kernel : ∀ t : Fin grid0.N, _)
theorem index_gq : ∀ t : Fin cfg0.N, win0_6.index t = ![0, 0] := (by decide +kernel : ∀ t : Fin grid0.N, _)
theorem index_o : ∀ t : Fin cfg0.N, win0_7.index t = ![(seqOf t).val, (tileOf t).val, 0] := (by decide +kernel : ∀ t : Fin grid0.N, _)

/-! A grid point's blocks are those of its tile. -/

theorem blk_x (c : Dev nD) (t : Fin cfg0.N) : iblk m c 0 t = (tileIns (args m c) (seqOf t) (tileOf t)).x := by
  funext z
  have h0 : (z 0).val < 1 := (z 0).isLt
  show (args m c).x ((win0_0.blk t).view.emb z) = _
  unfold tileIns
  refine congrArg (args m c).x ?_
  blk_ext [index_x]

theorem blk_gp (c : Dev nD) (t : Fin cfg0.N) : iblk m c 1 t = (args m c).gp := by
  funext z
  show (args m c).gp ((win0_1.blk t).view.emb z) = _
  refine congrArg (args m c).gp ?_
  blk_ext [index_gp]

theorem blk_wu (c : Dev nD) (t : Fin cfg0.N) : iblk m c 2 t = (args m c).wu := by
  funext z
  show (args m c).wu ((win0_2.blk t).view.emb z) = _
  refine congrArg (args m c).wu ?_
  blk_ext [index_wu]

theorem blk_cw (c : Dev nD) (t : Fin cfg0.N) : iblk m c 3 t = (args m c).cw := by
  funext z
  show (args m c).cw ((win0_3.blk t).view.emb z) = _
  refine congrArg (args m c).cw ?_
  blk_ext [index_cw]

theorem blk_cb (c : Dev nD) (t : Fin cfg0.N) : iblk m c 4 t = (args m c).cb := by
  funext z
  show (args m c).cb ((win0_4.blk t).view.emb z) = _
  refine congrArg (args m c).cb ?_
  blk_ext [index_cb]

theorem blk_wd (c : Dev nD) (t : Fin cfg0.N) : iblk m c 5 t = (args m c).wd := by
  funext z
  show (args m c).wd ((win0_5.blk t).view.emb z) = _
  refine congrArg (args m c).wd ?_
  blk_ext [index_wd]

theorem blk_gq (c : Dev nD) (t : Fin cfg0.N) : iblk m c 6 t = (args m c).gq := by
  funext z
  show (args m c).gq ((win0_6.blk t).view.emb z) = _
  refine congrArg (args m c).gq ?_
  blk_ext [index_gq]

theorem insAt_eq (c : Dev nD) (t : Fin cfg0.N) : insAt m c t = tileIns (args m c) (seqOf t) (tileOf t) := by
  unfold insAt
  rw [blk_x, blk_gp, blk_wu, blk_cw, blk_cb, blk_wd, blk_gq]
  rfl

/-- What the kept rows hold before a point that is no sequence's first. -/
def keptRows : Kept Ideal := fun c n d => ∀ h : n < 64, n % 8 ≠ 0 → d = prevT (args m c) ⟨n / 8, by omega⟩ ⟨n % 8, by omega⟩

/-- What a grid point computes. -/
def outs : Outs Ideal := fun c t z =>
  outT numC numK (tileIns (args m c) (seqOf t) (tileOf t)) (prevT (args m c) (seqOf t) (tileOf t)) (z 1).val ⟨(z 2).val, (z 2).isLt⟩

theorem first_tile : ∀ i : Fin 8, (isFirst i.val = 1#1) ↔ i.val = 0 := by decide

theorem computes : Computes m (keptRows m) (outs m) where
  first := fun c d _ h => absurd rfl h
  out := fun c t st hst hT => by
    have hs : (st.start (isFirst (grid0.coords t 1).val)).t = prevT (args m c) (seqOf t) (tileOf t) := funext fun z => by
      rw [start_t, coords_tile]
      by_cases h : (tileOf t).val = 0
      · rw [if_pos ((first_tile _).mpr h)]
        exact (if_pos h).symm
      · rw [if_neg (fun e => h ((first_tile _).mp e))]
        exact congrFun (hT (by have := t.isLt; have := points; omega) h) z
    rw [insAt_eq] at hst
    funext z
    obtain ⟨l, d, rfl⟩ : ∃ (l : Fin 512) (d : Fin 1024), z = ix3 0 l d := ⟨z 1, z 2, funext fun a => by
      match a with
      | ⟨0, _⟩ => exact Fin.ext (by have : (z 0).val < 1 := (z 0).isLt; show (z 0).val = 0; omega)
      | ⟨1, _⟩ => rfl
      | ⟨2, _⟩ => rfl⟩
    show (st.body kc kk _).o (ix3 0 l d) = outT numC numK (tileIns (args m c) (seqOf t) (tileOf t)) (prevT (args m c) (seqOf t) (tileOf t)) l.val d
    rw [body_o, hs, hst]
  keep := fun c t st hst hT h hn => by
    rw [insAt_eq] at hst
    funext z
    obtain ⟨r, n, rfl⟩ : ∃ (r : Fin 2) (n : Fin 5632), z = ix2 r n := ⟨z 0, z 1, funext fun a => by
      match a with
      | ⟨0, _⟩ => rfl
      | ⟨1, _⟩ => rfl⟩
    show (st.body kc kk _).t (ix2 r n) = if (t.val + 1) % 8 = 0 then 0 else hid (tileIns (args m c) ⟨(t.val + 1) / 8, _⟩ ⟨(t.val + 1) % 8 - 1, _⟩) (row (510 + r.val)) n
    rw [body_keeps, hst, if_neg hn]
    have e1 : (⟨(t.val + 1) / 8, by omega⟩ : Fin 8) = seqOf t := Fin.ext (by show (t.val + 1) / 8 = t.val / 8; omega)
    have e2 : (⟨(t.val + 1) % 8 - 1, by omega⟩ : Fin 8) = tileOf t := Fin.ext (by show (t.val + 1) % 8 - 1 = t.val % 8; omega)
    rw [e1, e2]

/-- The result array of a device. -/
abbrev resultArr (c : Dev nD) : (Attn.T3 8 4096 1024).Idx → EReal := fun i => result numC numK (args m c) (i 0) (i 1) (i 2)

theorem arr_eq (c : Dev nD) :
    (dats m (keptRows m) (outs m) 0 c).arrAt 7 cfg0.N = (resultArr m c : Buf (Elt Ideal) ((c : Thread nD τ).loc main_v0)) := by
  refine (dats m (keptRows m) (outs m) 0 c).arrAt_eq_of_covers 7 _ (by decide +kernel) fun t hf y => ?_
  have h0 : (y 0).val < 1 := (y 0).isLt
  have h1 : (y 1).val < 512 := (y 1).isLt
  have h2 : (y 2).val < 1024 := (y 2).isLt
  have ht : (tileOf t).val < 8 := (tileOf t).isLt
  have e : (win0_7.blk t).view.emb y = (ix3 (seqOf t) ⟨512 * (tileOf t).val + (y 1).val, by omega⟩ ⟨(y 2).val, h2⟩ : (Attn.T3 8 4096 1024).Idx) := by
    blk_ext [index_o]
  show outs m c t y = resultArr m c ((win0_7.blk t).view.emb y)
  rw [e]
  have e1 : (⟨(512 * (tileOf t).val + (y 1).val) / 512, by omega⟩ : Fin 8) = tileOf t := Fin.ext (by show _ / 512 = (tileOf t).val; omega)
  have e2 : (512 * (tileOf t).val + (y 1).val) % 512 = (y 1).val := by omega
  show outT numC numK _ _ (y 1).val _ = outT numC numK (tileIns _ _ ⟨(512 * (tileOf t).val + (y 1).val) / 512, _⟩) (prevT _ _ ⟨(512 * (tileOf t).val + (y 1).val) / 512, _⟩)
    ((512 * (tileOf t).val + (y 1).val) % 512) _
  rw [e1, e2]

/-- Every run of Kernel2Ideal ends with the feed-forward in its result array and its arguments as they were. -/
theorem run :
    θ_run defs (onTc (τ := τ) (main (F := Ideal))) ⟨m, fun _ => 0, ρ⟩ fun r => ∀ c : Dev nD,
      r.2.mem ((c.tc : Thread nD τ).loc main_v0) = (resultArr m c : Buf (Elt Ideal) ((c : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 7).trans (arr_eq m c), ((h.1 c).1 0).trans ((dats m (keptRows m) (outs m) 0 c).arrAt_in 0 rfl _), ((h.1 c).1 1).trans ((dats m (keptRows m) (outs m) 0 c).arrAt_in 1 rfl _),
      ((h.1 c).1 2).trans ((dats m (keptRows m) (outs m) 0 c).arrAt_in 2 rfl _), ((h.1 c).1 3).trans ((dats m (keptRows m) (outs m) 0 c).arrAt_in 3 rfl _), ((h.1 c).1 4).trans ((dats m (keptRows m) (outs m) 0 c).arrAt_in 4 rfl _), ((h.1 c).1 5).trans ((dats m (keptRows m) (outs m) 0 c).arrAt_in 5 rfl _),
      ((h.1 c).1 6).trans ((dats m (keptRows m) (outs m) 0 c).arrAt_in 6 rfl _)⟩)
    (value_run m ρ (keptRows m) (outs m) (computes m))

end Cert.Kernel2Ideal

end
-- ==== Proof.Ffn.Gelu.lean ====
/-
  The kernel's gate is the tanh form of the Gaussian error linear unit: with its two constants −2·log₂ e times the tanh
  form's, x over 1 + 2^(x (x² kc + k)) is x times half of 1 + tanh, at every extended real.
-/
module

public import proofs.«01_k».proof.Proof.Ffn.Entries
public import Mathlib.Analysis.SpecialFunctions.Pow.Real
public import Mathlib.Analysis.Complex.Trigonometric

@[expose] public section

noncomputable section

namespace Ffn

open Idealize.ShloMosaic

/-- The tanh form. -/
def gelu (f a x : EReal) : EReal := x * (Ideal.ofBits .f32 0x3F000000#32 * (Ideal.ofBits .f32 0x3F800000#32 + Ideal.tanh (f * (x + a * (x * x * x)))))

/-- The two numbers of the tanh form, and the gate's. -/
abbrev factor : ℝ := 6693141 / 8388608
abbrev cubic : ℝ := 12003091 / 268435456
abbrev gateK : ℝ := (-6693141 / 4194304) * (Real.log 2)⁻¹
abbrev gateKC : ℝ := (-80338380498831 / 1125899906842624) * (Real.log 2)⁻¹

theorem factor_bits : Ideal.ofBits .f32 0x3F4C422A#32 = (factor : EReal) := by
  simp [Ideal.ofBits, Ideal.ieee]
  rw [← EReal.coe_mul]
  norm_num

theorem cubic_bits : Ideal.ofBits .f32 0x3D372713#32 = (cubic : EReal) := by
  simp [Ideal.ofBits, Ideal.ieee]
  rw [← EReal.coe_mul]
  norm_num

theorem half_bits : Ideal.ofBits .f32 0x3F000000#32 = ((1 / 2 : ℝ) : EReal) := by
  simp [Ideal.ofBits, Ideal.ieee]
  try rw [← EReal.coe_mul]
  try norm_num

/-- A power of two is an exponential. -/
theorem rpow_gate (x : ℝ) : Real.rpow 2 (x * (x * x * gateKC + gateK)) = Real.exp (-(2 * (factor * (x + cubic * (x * x * x))))) := by
  have hl : Real.log 2 ≠ 0 := (Real.log_pos one_lt_two).ne'
  show (2 : ℝ) ^ (x * (x * x * gateKC + gateK)) = _
  rw [Real.rpow_def_of_pos (by norm_num)]
  congr 1
  unfold gateKC gateK factor cubic
  field_simp
  ring

theorem logistic_tanh (u : ℝ) : 1 / (1 + Real.exp (-(2 * u))) = 1 / 2 * (1 + Real.tanh u) := by
  rw [Real.tanh_eq_sinh_div_cosh, Real.sinh_eq, Real.cosh_eq]
  have e : Real.exp (-(2 * u)) = Real.exp (-u) * Real.exp (-u) := by rw [← Real.exp_add]; congr 1; ring
  have h1 : Real.exp u * Real.exp (-u) = 1 := by rw [← Real.exp_add, add_neg_cancel, Real.exp_zero]
  have p1 := Real.exp_pos u
  have p2 := Real.exp_pos (-u)
  rw [e]
  have h2 : (1 + Real.exp (-u) * Real.exp (-u)) = Real.exp (-u) * (Real.exp u + Real.exp (-u)) := by rw [mul_add, mul_comm (Real.exp (-u)) (Real.exp u), h1]
  rw [h2, div_div_div_cancel_right₀ (by norm_num : (2 : ℝ) ≠ 0)]
  have h3 : Real.exp u + Real.exp (-u) ≠ 0 := by positivity
  field_simp
  nlinarith [h1]

theorem log_inv_pos : 0 < (Real.log 2)⁻¹ := inv_pos.mpr (Real.log_pos one_lt_two)

theorem gateKC_neg : gateKC < 0 := mul_neg_of_neg_of_pos (by norm_num) log_inv_pos

/-- The gate is the tanh form. -/
theorem gate_eq_gelu (x : EReal) : gate (gateKC : EReal) (gateK : EReal) x = gelu (Ideal.ofBits .f32 0x3F4C422A#32) (Ideal.ofBits .f32 0x3D372713#32) x := by
  unfold gate gelu
  rw [factor_bits, cubic_bits, half_bits, Ideal.ofBits_one_f32]
  have hf : (0 : ℝ) < factor := by unfold factor; norm_num
  have hc : (0 : ℝ) < cubic := by unfold cubic; norm_num
  induction x with
  | bot =>
    have e1 : (⊥ : EReal) * ⊥ * (gateKC : EReal) + (gateK : EReal) = ⊥ := by
      rw [EReal.bot_mul_bot, EReal.top_mul_coe_of_neg gateKC_neg, EReal.bot_add]
    have e2 : (⊥ : EReal) + (cubic : EReal) * (⊥ * ⊥ * ⊥) = ⊥ := EReal.bot_add _
    rw [e1, e2, EReal.bot_mul_bot, Ideal.exp2_top, EReal.coe_mul_bot_of_pos hf, Ideal.tanh_bot]
    have h3 : (1 : EReal) + ⊤ = ⊤ := rfl
    have h4 : (1 : EReal) + -1 = 0 := by
      rw [show (1 : EReal) = ((1 : ℝ) : EReal) from rfl, ← EReal.coe_neg, ← EReal.coe_add]; norm_num
    rw [h3, h4, mul_zero, mul_zero]
    unfold Ideal.div
    rw [if_neg EReal.top_ne_zero, EReal.inv_top, mul_zero]
  | top =>
    have e1 : (⊤ : EReal) * ⊤ * (gateKC : EReal) + (gateK : EReal) = ⊥ := by
      rw [EReal.top_mul_top, EReal.top_mul_coe_of_neg gateKC_neg, EReal.bot_add]
    have e2 : (⊤ : EReal) + (cubic : EReal) * (⊤ * ⊤ * ⊤) = ⊤ := by
      rw [EReal.top_mul_top, EReal.top_mul_top, EReal.coe_mul_top_of_pos hc]; rfl
    rw [e1, e2, EReal.top_mul_bot, Ideal.exp2_bot, EReal.coe_mul_top_of_pos hf, Ideal.tanh_top, add_zero]
    have h4 : ((1 / 2 : ℝ) : EReal) * (1 + 1) = 1 := by
      rw [show (1 : EReal) = ((1 : ℝ) : EReal) from rfl, ← EReal.coe_add, ← EReal.coe_mul]; norm_num
    rw [h4, mul_one, show (1 : EReal) = ((1 : ℝ) : EReal) from rfl, Ideal.div_coe one_ne_zero, one_div, inv_one]
    exact mul_one _
  | coe r =>
    have e1 : (r : EReal) * ((r : EReal) * r * (gateKC : EReal) + (gateK : EReal)) = ((r * (r * r * gateKC + gateK) : ℝ) : EReal) := by push_cast; rfl
    have e2 : (factor : EReal) * ((r : EReal) + (cubic : EReal) * ((r : EReal) * r * r)) = ((factor * (r + cubic * (r * r * r)) : ℝ) : EReal) := by push_cast; rfl
    rw [e1, e2, Ideal.exp2_coe, rpow_gate, Ideal.tanh_coe, show (1 : EReal) = ((1 : ℝ) : EReal) from rfl, ← EReal.coe_add, ← EReal.coe_add, ← EReal.coe_mul,
      Ideal.div_coe (by positivity), logistic_tanh]

end Ffn

end
-- ==== Proof.Ffn.Reference.lean ====
/-
  The value of the reference: every entry of its result is the feed-forward's of its position.
-/
module

public import proofs.«01_k».proof.Proof.Gen.Reference2Ideal.Run
public import proofs.«01_k».proof.Proof.Ffn.Result
public import proofs.«01_k».proof.Proof.Ffn.Gelu
public import Idealize.ShloMosaic.Lib.KernelVsHost

@[expose] public section

set_option maxRecDepth 16384

noncomputable section

namespace Cert.Reference2Ideal

open Idealize.ShloMosaic Idealize.ShloMosaic.TcCoe Idealize.ShloMosaic.ValueIdx
open Cert.Reference2Ideal.Gen Cert.Reference2Ideal.Value
open Ffn
open Attn (T1 T2 T3)
open scoped BigOperators

/-! ## The operations at an entry -/

/-- The product of rows with a matrix. -/
def rowsDot {K N : ℕ} (wf : DotDims.WF (T3 8 4096 K) (T2 K N) (T3 8 4096 N) [2] [0] [0, 1] [1] [] []) : DotDims (T3 8 4096 K) (T2 K N) (T3 8 4096 N) where
  lhsContracting := [2]
  rhsContracting := [0]
  lhsNonContracting := [0, 1]
  rhsNonContracting := [1]
  lhsBatch := []
  rhsBatch := []
  wf := wf

section Indices

variable {K N : ℕ} (wf : DotDims.WF (T3 8 4096 K) (T2 K N) (T3 8 4096 N) [2] [0] [0, 1] [1] [] []) (i : (T3 8 4096 N).Idx) (q : (rowsDot wf).contr.Idx)

theorem rowsDot_lhs0 : ((rowsDot wf).lhsIdx i q 0).val = (i 0).val := by
  unfold DotDims.lhsIdx
  rw [dif_neg (show ¬(0 : Fin (T3 8 4096 K).rank) ∈ (rowsDot wf).lhsBatch from List.not_mem_nil),
    dif_pos (show (0 : Fin (T3 8 4096 K).rank) ∈ (rowsDot wf).lhsNonContracting from List.mem_cons_self)]
  rfl

theorem rowsDot_lhs1 : ((rowsDot wf).lhsIdx i q 1).val = (i 1).val := by
  unfold DotDims.lhsIdx
  rw [dif_neg (show ¬(1 : Fin (T3 8 4096 K).rank) ∈ (rowsDot wf).lhsBatch from List.not_mem_nil),
    dif_pos (show (1 : Fin (T3 8 4096 K).rank) ∈ (rowsDot wf).lhsNonContracting from List.mem_cons_of_mem _ List.mem_cons_self)]
  rfl

theorem rowsDot_rhs1 : ((rowsDot wf).rhsIdx i q 1).val = (i 2).val := by
  unfold DotDims.rhsIdx
  rw [dif_neg (show ¬(1 : Fin (T2 K N).rank) ∈ (rowsDot wf).rhsBatch from List.not_mem_nil),
    dif_pos (show (1 : Fin (T2 K N).rank) ∈ (rowsDot wf).rhsNonContracting from List.mem_cons_self)]
  rfl

end Indices

theorem rowsDot_apply {K N : ℕ} (wf : DotDims.WF (T3 8 4096 K) (T2 K N) (T3 8 4096 N) [2] [0] [0, 1] [1] [] [])
    (y : FVec Ideal (T3 8 4096 K) .f32) (w : FVec Ideal (T2 K N) .f32) (s : Fin 8) (τ : Fin 4096) (n : Fin N) :
    Host.dotGeneral (rowsDot wf) none y w (ix3 s τ n) = ∑ k : Fin K, y (ix3 s τ k) * w (ix2 k n) := by
  simp only [Host.dotGeneral]
  rw [Ideal.dotGeneral_apply, ← Equiv.sum_comp (ValueIdx.contrEquiv1 (rowsDot wf) K rfl rfl).symm]
  refine Finset.sum_congr rfl fun k _ => ?_
  have hk := ValueIdx.contrEquiv1_symm_val (rowsDot wf) K rfl rfl k
  generalize (ValueIdx.contrEquiv1 (rowsDot wf) K rfl rfl).symm k = q at hk
  have el : (rowsDot wf).lhsIdx (ix3 s τ n) q = ix3 s τ k := funext fun a => Fin.ext (by
    match a with
    | ⟨0, _⟩ => exact rowsDot_lhs0 wf _ q
    | ⟨1, _⟩ => exact rowsDot_lhs1 wf _ q
    | ⟨2, _⟩ => exact ((rowsDot wf).lhsIdx_val_of_single rfl _ q).trans hk)
  have er : (rowsDot wf).rhsIdx (ix3 s τ n) q = ix2 k n := funext fun a => Fin.ext (by
    match a with
    | ⟨0, _⟩ => exact ((rowsDot wf).rhsIdx_val_of_single rfl _ q).trans hk
    | ⟨1, _⟩ => exact rowsDot_rhs1 wf _ q)
  rw [el, er]

/-- A number broadcast to an array. -/
theorem scalar_apply {t : Shape} (h : S_.BroadcastsInDim t ![]) (b : BitVec 32) (j : t.Idx) :
    broadcastInDim t ![] h (constant (F := Ideal) S_ .f32 b) j = Ideal.ofBits .f32 b := rfl

/-- A row of columns broadcast to every position. -/
theorem columns_apply {α : Type} {N : ℕ} (h1 : (T2 1 N).BroadcastsInDim (T3 1 1 N) ![1, 2]) (h2 : (T3 1 1 N).BroadcastsInDim (T3 8 4096 N) ![0, 1, 2])
    (g : (T2 1 N).Idx → α) (s : Fin 8) (τ : Fin 4096) (n : Fin N) :
    broadcastInDim (T3 8 4096 N) ![0, 1, 2] h2 (broadcastInDim (T3 1 1 N) ![1, 2] h1 g) (ix3 s τ n) = g (ix2 0 n) := by
  have hn : ∀ c : ℕ, N = 1 → c = n.val → c = 0 := fun c h e => by have := n.isLt; omega
  rw [broadcastInDim_apply _ h2 _ (ix3 s τ n) (ix3 0 0 n) (fun a => by
    match a with
    | ⟨0, _⟩ => rfl
    | ⟨1, _⟩ => rfl
    | ⟨2, _⟩ =>
      show n.val = if N = 1 then 0 else n.val
      split
      · rename_i h; exact hn _ h rfl
      · rfl)]
  exact broadcastInDim_apply _ h1 _ (ix3 0 0 n) (ix2 0 n) (fun a => by
    match a with
    | ⟨0, _⟩ => rfl
    | ⟨1, _⟩ =>
      show n.val = if N = 1 then 0 else n.val
      split
      · rename_i h; exact hn _ h rfl
      · rfl)

/-- The normalized rows. -/
theorem normed_apply (y : FVec Ideal S8x4096x1024 .f32) (g : FVec Ideal S1x1024 .f32) (s : Fin 8) (τ : Fin 4096) (k : Fin 1024) :
    mulf (mulf y (broadcastInDim S8x4096x1024 ![0, 1, 2] bcast_S8x4096x1_S8x4096x1024_0_1_2 (Host.rsqrt (addf (Host.divf
        (broadcastInDim S8x4096x1 ![0, 1] bcast_S8x4096_S8x4096x1_0_1 (Host.reduceAdd (mulf y y) (constant S_ .f32 0x00000000#32) reducesTo_S8x4096x1024_S8x4096_d2 h_S_))
        (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![1, 2] bcast_S1x1024_S1x1x1024_1_2 g)) (ix3 s τ k)
      = normed (fun k => y (ix3 s τ k)) (fun k => g (ix2 0 k)) k := by
  have hsum : Host.reduceAdd (mulf y y) (constant (F := Ideal) S_ .f32 0x00000000#32) reducesTo_S8x4096x1024_S8x4096_d2 h_S_ (ix2 s τ)
      = ∑ k : Fin 1024, y (ix3 s τ k) * y (ix3 s τ k) := by
    simp only [Host.reduceAdd, Ideal.hostReduceAdd_def]
    rw [Ideal.hostReduceAdd_single reducesTo_S8x4096x1024_S8x4096_d2 (by decide)]
    refine (congrArg (· + _) (show constant (F := Ideal) S_ .f32 0x00000000#32 _ = (0 : EReal) from Ideal.ofBits_zero_f32)).trans ((zero_add _).trans ?_)
    refine Finset.sum_congr rfl fun k _ => ?_
    have e : ∀ i : S8x4096x1024.Idx, i = ix3 s τ k → mulf y y i = y (ix3 s τ k) * y (ix3 s τ k) := fun i h => h ▸ rfl
    exact e _ (funext fun a => Fin.ext (by match a with | ⟨0, _⟩ => rfl | ⟨1, _⟩ => rfl | ⟨2, _⟩ => rfl))
  show y (ix3 s τ k) * broadcastInDim (s := S8x4096x1) S8x4096x1024 ![0, 1, 2] bcast_S8x4096x1_S8x4096x1024_0_1_2 _ (ix3 s τ k) * broadcastInDim (s := S1x1x1024) S8x4096x1024 ![0, 1, 2] _ _ (ix3 s τ k) = _
  rw [columns_apply, broadcastInDim_apply _ bcast_S8x4096x1_S8x4096x1024_0_1_2 _ (ix3 s τ k) (ix3 s τ 0) (fun a => by
    match a with
    | ⟨0, _⟩ => rfl
    | ⟨1, _⟩ => rfl
    | ⟨2, _⟩ => rfl)]
  show y (ix3 s τ k) * Ideal.rsqrt (Ideal.div (broadcastInDim (s := S8x4096) S8x4096x1 ![0, 1] bcast_S8x4096_S8x4096x1_0_1 _ (ix3 s τ 0)) (Ideal.ofBits .f32 0x44800000#32) + Ideal.ofBits .f32 0x358637BD#32) * _ = _
  rw [broadcastInDim_apply _ bcast_S8x4096_S8x4096x1_0_1 _ (ix3 s τ 0) (ix2 s τ) (fun a => by
    match a with
    | ⟨0, _⟩ => rfl
    | ⟨1, _⟩ => rfl), hsum]
  rfl

/-! ## The reference's values -/

variable (L : Valuation τ sig (Elt Ideal))

/-- The arrays of the arguments. -/
abbrev args : Args where
  x := L (Proc.devRef .tc main_arg0)
  gp := L (Proc.devRef .tc main_arg1)
  wu := L (Proc.devRef .tc main_arg2)
  cw := L (Proc.devRef .tc main_arg3)
  cb := L (Proc.devRef .tc main_arg4)
  wd := L (Proc.devRef .tc main_arg5)
  gq := L (Proc.devRef .tc main_arg6)

/-- The rows in their order. -/
theorem rows_apply (s : Fin 8) (τ : Fin 4096) (k : Fin 1024) : res_main_v2 (F := Ideal) L (ix3 s τ k) = (args L).x (ix3 s (place τ) k) := by
  unfold res_main_v2
  refine (shapeCast_apply _ shapeCasts_S8x8x64x8x1024_S8x4096x1024 (ix3 s τ k)
    (ix5 s (⟨τ.val / 512, by omega⟩ : Fin 8) (⟨τ.val / 8 % 64, by omega⟩ : Fin 64) (⟨τ.val % 8, by omega⟩ : Fin 8) k) (by
      rewrite [Shape.rowMajor_val_three, Shape.rowMajor_val_five]
      show (((s.val * 8 + τ.val / 512) * 64 + τ.val / 8 % 64) * 8 + τ.val % 8) * 1024 + k.val = (s.val * 4096 + τ.val) * 1024 + k.val
      omega)).trans ?_
  rw [transpose_apply _ _ transposes_S8x8x8x64x1024_S8x8x64x8x1024_0_1_3_2_4 _
    (ix5 s (⟨τ.val / 512, by omega⟩ : Fin 8) (⟨τ.val % 8, by omega⟩ : Fin 8) (⟨τ.val / 8 % 64, by omega⟩ : Fin 64) k) (fun b => by
      match b with
      | ⟨0, _⟩ => rfl
      | ⟨1, _⟩ => rfl
      | ⟨2, _⟩ => rfl
      | ⟨3, _⟩ => rfl
      | ⟨4, _⟩ => rfl)]
  exact shapeCast_apply _ shapeCasts_S8x4096x1024_S8x8x8x64x1024 _ (ix3 s (place τ) k) (by
      rewrite [Shape.rowMajor_val_three, Shape.rowMajor_val_five]
      show (s.val * 4096 + (512 * (τ.val / 512) + (64 * (τ.val % 512 % 8) + τ.val % 512 / 8 % 64))) * 1024 + k.val
        = (((s.val * 8 + τ.val / 512) * 8 + τ.val % 8) * 64 + τ.val / 8 % 64) * 1024 + k.val
      omega)

/-- The first product, two zeros before each sequence. -/
theorem padded_apply (s : Fin 8) (q : Fin 4098) (n : Fin 5632) : res_main_v18 (F := Ideal) L (ix3 s q n) = padded (args L) s n q.val q.isLt := by
  unfold res_main_v18 padded
  by_cases h : q.val < 2
  · rw [dif_pos h, pad_apply_of_not_inside _ _ _ _ _ _ _ _ (1 : Fin 3) (fun hin => absurd hin.1 (by show ¬2 ≤ q.val; omega))]
    show (((0#32 : BitVec 32).toInt : ℝ) : EReal) = 0
    simp
  · rw [dif_neg h, pad_apply_of_inside _ _ _ _ _ _ _ _ (ix3 s (⟨q.val - 2, by omega⟩ : Fin 4096) n) (fun a => by
      match a with
      | ⟨0, _⟩ => show s.val = 0 + s.val * (0 + 1); omega
      | ⟨1, _⟩ => show q.val = 2 + (q.val - 2) * (0 + 1); omega
      | ⟨2, _⟩ => show n.val = 0 + n.val * (0 + 1); omega)]
    refine (rowsDot_apply dot_S8x4096x1024_S1024x5632_S8x4096x5632_2_0_01_1_n_n.wf _ _ s _ n).trans ?_
    unfold up
    refine Finset.sum_congr rfl fun k _ => ?_
    rw [normed_apply]
    simp only [rows_apply]
    rfl

/-- A tap's weights at every position, times the rows shifted. -/
theorem tap_apply (d : Fin 3) (h : S3x5632.Slices ![d.val, 0] S1x5632) (h' : S8x4098x5632.Slices ![0, d.val, 0] S8x4096x5632) (s : Fin 8) (τ : Fin 4096) (n : Fin 5632) :
    mulf (F := Ideal) (φ := .f32) (broadcastInDim S8x4096x5632 ![0, 1, 2] bcast_S1x1x5632_S8x4096x5632_0_1_2 (broadcastInDim S1x1x5632 ![2] bcast_S5632_S1x1x5632_2
        (shapeCast S5632 (extractStridedSlice S1x5632 ![d.val, 0] (args L).cw h) shapeCasts_S1x5632_S5632)))
      (extractStridedSlice S8x4096x5632 ![0, d.val, 0] (res_main_v18 (F := Ideal) L) h') (ix3 s τ n)
      = (args L).cw (ix2 d n) * padded (args L) s n (τ.val + d.val) (by omega) := by
  refine congrArg₂ (· * ·) ?_ ?_
  · rw [broadcastInDim_apply _ bcast_S1x1x5632_S8x4096x5632_0_1_2 _ (ix3 s τ n) (ix3 0 0 n) (fun a => by
      match a with
      | ⟨0, _⟩ => rfl
      | ⟨1, _⟩ => rfl
      | ⟨2, _⟩ => rfl)]
    rw [broadcastInDim_apply _ bcast_S5632_S1x1x5632_2 _ (ix3 0 0 n) (ix1 n) (fun a => by
      match a with
      | ⟨0, _⟩ => rfl)]
    rw [shapeCast_1a_a_apply]
    exact extractStridedSlice_apply _ _ h _ (ix2 d n) (fun a => by
      match a with
      | ⟨0, _⟩ => rfl
      | ⟨1, _⟩ => exact (Nat.zero_add _).symm)
  · rw [extractStridedSlice_apply _ _ h' (ix3 s τ n) (ix3 s (⟨τ.val + d.val, by omega⟩ : Fin 4098) n) (fun a => by
      match a with
      | ⟨0, _⟩ => exact (Nat.zero_add _).symm
      | ⟨1, _⟩ => exact Nat.add_comm _ _
      | ⟨2, _⟩ => exact (Nat.zero_add _).symm)]
    exact padded_apply L s _ n

/-- The convolution. -/
theorem conv_apply (s : Fin 8) (τ : Fin 4096) (n : Fin 5632) : res_main_v41 (F := Ideal) L (ix3 s τ n) = convAt (args L) s τ n := by
  unfold res_main_v41 convAt
  refine congrArg₂ (· + ·) (congrArg₂ (· + ·) (congrArg₂ (· + ·) ?_ ?_) ?_) ?_
  · exact columns_apply _ _ (args L).cb s τ n
  · exact tap_apply L 0 _ _ s τ n
  · exact tap_apply L 1 _ _ s τ n
  · exact tap_apply L 2 _ _ s τ n

/-- Its first half. -/
theorem half_apply (s : Fin 8) (τ : Fin 4096) (n : Fin 2816) : res_main_v42 (F := Ideal) L (ix3 s τ n) = convAt (args L) s τ ⟨n.val, by omega⟩ := by
  unfold res_main_v42
  rw [extractStridedSlice_apply _ _ _ (ix3 s τ n) (ix3 s τ (⟨n.val, by omega⟩ : Fin 5632)) (fun a => by
    match a with
    | ⟨0, _⟩ => exact (Nat.zero_add _).symm
    | ⟨1, _⟩ => exact (Nat.zero_add _).symm
    | ⟨2, _⟩ => exact (Nat.zero_add _).symm)]
  exact conv_apply L s τ _

/-- The second product. -/
theorem down_apply (s : Fin 8) (τ : Fin 4096) (m : Fin 1024) : res_main_v59 (F := Ideal) L (ix3 s τ m)
    = ∑ n : Fin 2816, gate (gateKC : EReal) (gateK : EReal) (convAt (args L) s τ ⟨n.val, by omega⟩) * convAt (args L) s τ ⟨2816 + n.val, by omega⟩ * (args L).wd (ix2 n m) := by
  unfold res_main_v59
  refine (rowsDot_apply dot_S8x4096x2816_S2816x1024_S8x4096x1024_2_0_01_1_n_n.wf _ _ s τ m).trans ?_
  refine Finset.sum_congr rfl fun n _ => congrArg₂ (· * ·) (congrArg₂ (· * ·) ?_ ?_) rfl
  · rw [gate_eq_gelu, ← half_apply]
    rfl
  · rw [extractStridedSlice_apply _ _ _ (ix3 s τ n) (ix3 s τ (⟨2816 + n.val, by omega⟩ : Fin 5632)) (fun a => by
      match a with
      | ⟨0, _⟩ => exact (Nat.zero_add _).symm
      | ⟨1, _⟩ => exact (Nat.zero_add _).symm
      | ⟨2, _⟩ => rfl)]
    exact conv_apply L s τ _

/-- The reference's result at a position. -/
theorem result_at (s : Fin 8) (τ : Fin 4096) (k : Fin 1024) :
    addf (res_main_v2 (F := Ideal) L) (mulf (mulf (res_main_v59 L) (broadcastInDim S8x4096x1024 ![0, 1, 2] bcast_S8x4096x1_S8x4096x1024_0_1_2 (Host.rsqrt (addf (Host.divf
        (broadcastInDim S8x4096x1 ![0, 1] bcast_S8x4096_S8x4096x1_0_1 (Host.reduceAdd (mulf (res_main_v59 L) (res_main_v59 L)) (constant S_ .f32 0x00000000#32) reducesTo_S8x4096x1024_S8x4096_d2 h_S_))
        (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![1, 2] bcast_S1x1024_S1x1x1024_1_2
        (L (Proc.devRef .tc main_arg6))))) (ix3 s τ k)
      = result (gateKC : EReal) (gateK : EReal) (args L) s τ k := by
  rw [result_eq]
  refine congrArg₂ (· + ·) (rows_apply L s τ k) ((normed_apply _ _ s τ k).trans ?_)
  simp only [down_apply]

end Cert.Reference2Ideal

end
-- ==== Proof.Ffn.Claims.lean ====
/-
  The feed-forward's claims.
-/
module

public import proofs.«01_k».proof.Defs
public import proofs.«01_k».proof.Proof.Ffn.FrameKernel2
public import proofs.«01_k».proof.Proof.Ffn.Value
public import proofs.«01_k».proof.Proof.Ffn.Reference
public import proofs.«01_k».proof.Proof.Gen.Kernel2Ideal.Value
public import Idealize.ShloMosaic.Lib.Quiescent

@[expose] public section

noncomputable section

open Idealize.ShloMosaic Idealize.ShloMosaic.TcCoe Idealize.ShloMosaic.ValueIdx Idealize.SL.Sem

namespace Cert.Proof.FeedForwardClaims

theorem frame_kernel : Cert.quiescent_Kernel2 := fun m ρ _ => Cert.Kernel2.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The gate's two constants stand for −2·log₂ e times the numbers of the tanh form. -/
theorem preserves : Cert.preserves_Kernel2_Kernel2Ideal :=
  ⟨IdealRules.named_const.statement Cert.Kernel2Ideal.κ "kc" .f32 0xBDD2D3E8#32 (((-80338380498831 / 1125899906842624) * (Real.log 2)⁻¹ : ℝ) : EReal) rfl,
    IdealRules.named_const.statement Cert.Kernel2Ideal.κ "k" .f32 0xC0135761#32 (((-6693141 / 4194304) * (Real.log 2)⁻¹ : ℝ) : EReal) rfl⟩

theorem numC_eq : Cert.Kernel2Ideal.numC = (Ffn.gateKC : EReal) := rfl
theorem numK_eq : Cert.Kernel2Ideal.numK = (Ffn.gateK : EReal) := rfl

/-- Kernel2Ideal computes what the reference does. -/
theorem algebraic : Cert.algebraic_Kernel2Ideal_Reference2Ideal := by
  intro m ρ m' ρ' _ hagree
  refine ⟨fun c => Cert.Kernel2Ideal.resultArr m c, Cert.Kernel2Ideal.run m ρ,
    (θ_run Cert.Reference2Ideal.defs _ _).mono (fun r h c => ⟨(h c).1.trans ?_, (h c).2⟩) (Cert.Reference2Ideal.Value.run (F := Ideal) m' ρ')⟩
  have e : Cert.Reference2Ideal.args (StableHlo.launchContents m' c) = Cert.Kernel2Ideal.args m c := by
    obtain ⟨h0, h1, h2, h3, h4, h5, h6⟩ := hagree c
    exact congr (congr (congr (congr (congr (congrArg₂ Ffn.Args.mk h0 h1) h2) h3) h4) h5) h6
  funext i
  obtain ⟨s, τ, k, rfl⟩ : ∃ (s : Fin 8) (τ : Fin 4096) (k : Fin 1024), i = ix3 s τ k := ⟨i 0, i 1, i 2, funext fun a => by
    match a with
    | ⟨0, _⟩ => rfl
    | ⟨1, _⟩ => rfl
    | ⟨2, _⟩ => rfl⟩
  refine (Cert.Reference2Ideal.result_at _ s τ k).trans ?_
  rw [e, ← numC_eq, ← numK_eq]

end Cert.Proof.FeedForwardClaims

end
-- ==== Proof.Merge.FrameKernel3.lean ====
/-
  The run of Kernel3. It is Kernel3Ideal's program, so its arguments end unchanged as Kernel3Ideal's do.
-/
module

public import proofs.«01_k».proof.Proof.Gen.Kernel3
public import proofs.«01_k».proof.Proof.Gen.Kernel3Ideal.Frame

@[expose] public section

set_option maxRecDepth 16384

noncomputable section

namespace Cert.Kernel3

open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- The arguments as they were and every semaphore at zero. -/
def Quiet (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0

def Ends : Prop := θ_run defs (onTc (τ := τ) (main (F := F))) ⟨m, fun _ => 0, ρ⟩ (Quiet m)

def EndsIdeal : Prop :=
  θ_run Cert.Kernel3Ideal.defs (onTc (τ := τ) (Cert.Kernel3Ideal.main (F := F))) ⟨m, fun _ => 0, ρ⟩ (Quiet m)

/-- The two programs are the same. -/
theorem ends_eq : Ends m ρ = EndsIdeal m ρ := by
  sl_kernel_rfl

theorem endsIdeal : EndsIdeal m ρ :=
  Cert.Kernel3Ideal.Gen.frame (F := F) m ρ

/-- Kernel3 ends with its arguments as they were and every semaphore at zero. -/
theorem frame : Ends m ρ := (ends_eq m ρ).mpr (endsIdeal m ρ)

end Cert.Kernel3

end
-- ==== Proof.Merge.Body.lean ====
/-
  The merge kernel's body written with its loops: for each half of a tile the gated sum of the two branches and its
  projection, then the norm and the sum with the rows themselves, stored by column blocks and read back every eighth row,
  so that the result's rows stand by phase. The printed body is this text unrolled. Generic in the machine, the memrefs and
  the float values.
-/
module

public import proofs.«01_k».proof.Proof.Ffn.Body

@[expose] public section

set_option maxRecDepth 16384

noncomputable section

namespace Merge

open Idealize.ShloMosaic Idealize.ShloMosaic.TcCoe
open Idealize.SL Idealize.SL.Sem
open Attn (T1 T2 T3 T4 load store)
open Ffn (norm norms256 bits16)

/-! ## Side conditions of the operations -/

theorem castX : (T3 1 256 1024).ShapeCasts (T2 256 1024) := by decide
theorem castA : (T3 1 256 512).ShapeCasts (T2 256 512) := by decide
theorem castP : (T2 256 128).ShapeCasts (T4 1 1 256 128) := by decide
theorem castR : (T4 1 1 32 128).ShapeCasts (T2 32 128) := by decide
theorem castO : (T2 32 128).ShapeCasts (T3 1 32 128) := by decide
theorem brB : (T2 1 2048).Broadcasts (T2 256 2048) := by decide
theorem slG (u : Fin 2) : (T2 256 2048).Slices ![0, u.val * 1024] (T2 256 1024) := by revert u; decide
theorem slC (c : Fin 8) : (T2 256 1024).Slices ![0, c.val * 128] (T2 256 128) := by revert c; decide

/-! ## The memrefs and their accesses -/

/-- The body's buffers: rows, attention's branch, state space branch, first norm's weights, the gates' matrix and bias, the
    branches' two matrices, the projection, second norm's weights, result; and the halves of the result by column blocks. -/
structure Mems (sig : RefSig) where
  x : Memref sig .tc .vmem (T3 1 512 1024) .f32
  a : Memref sig .tc .vmem (T3 1 512 512) .bf16
  s : Memref sig .tc .vmem (T2 512 512) .bf16
  gp : Memref sig .tc .vmem (T2 1 1024) .f32
  wg : Memref sig .tc .vmem (T2 1024 2048) .bf16
  bg : Memref sig .tc .vmem (T2 1 2048) .f32
  wa : Memref sig .tc .vmem (T2 512 1024) .bf16
  ws : Memref sig .tc .vmem (T2 512 1024) .bf16
  wo : Memref sig .tc .vmem (T2 1024 1024) .bf16
  gq : Memref sig .tc .vmem (T2 1 1024) .f32
  o : Memref sig .tc .vmem (T3 1 512 1024) .f32
  p : Memref sig .tc .vmem (T4 2 8 256 128) .f32

section Prog

variable {nD : ℕ} {τ : Topo} {sig : RefSig} {Λ : Labels} {F : FTy → Type} [FloatOps F]

theorem inbX (h : Fin 2) : ∀ a, (![0, h.val * 256, 0] : Fin 3 → ℕ) a + (T3 1 256 1024).size a ≤ (T3 1 512 1024).size a := by
  intro a; fin_cases a <;> simp <;> omega
theorem inbA (h : Fin 2) : ∀ a, (![0, h.val * 256, 0] : Fin 3 → ℕ) a + (T3 1 256 512).size a ≤ (T3 1 512 512).size a := by
  intro a; fin_cases a <;> simp <;> omega
theorem inbS (h : Fin 2) : ∀ a, (![h.val * 256, 0] : Fin 2 → ℕ) a + (T2 256 512).size a ≤ (T2 512 512).size a := by
  intro a; fin_cases a <;> simp <;> omega
theorem inbG : ∀ a, (![0, 0] : Fin 2 → ℕ) a + (T2 1 1024).size a ≤ (T2 1 1024).size a := by decide
theorem inbWG : ∀ a, (![0, 0] : Fin 2 → ℕ) a + (T2 1024 2048).size a ≤ (T2 1024 2048).size a := by decide
theorem inbBG : ∀ a, (![0, 0] : Fin 2 → ℕ) a + (T2 1 2048).size a ≤ (T2 1 2048).size a := by decide
theorem inbWB : ∀ a, (![0, 0] : Fin 2 → ℕ) a + (T2 512 1024).size a ≤ (T2 512 1024).size a := by decide
theorem inbWO : ∀ a, (![0, 0] : Fin 2 → ℕ) a + (T2 1024 1024).size a ≤ (T2 1024 1024).size a := by decide
theorem inbP (h : Fin 2) (c : Fin 8) : ∀ a, (![h.val, c.val, 0, 0] : Fin 4 → ℕ) a + (T4 1 1 256 128).size a ≤ (T4 2 8 256 128).size a := by
  intro a; fin_cases a <;> simp <;> omega
theorem inbR (h : Fin 2) (c b : Fin 8) : ∀ a, (T4 1 1 32 128).size a = 0 ∨
    (![h.val, c.val, b.val, 0] : Fin 4 → ℕ) a + (![1, 1, 8, 1] : Fin 4 → ℕ) a * ((T4 1 1 32 128).size a - 1) < (T4 2 8 256 128).size a := by
  intro a; right; fin_cases a <;> simp <;> omega
theorem posStride : ∀ a, 0 < (![1, 1, 8, 1] : Fin 4 → ℕ) a := by decide
theorem inbO (h : Fin 2) (c b : Fin 8) : ∀ a, (![0, b.val * 64 + h.val * 32, c.val * 128] : Fin 3 → ℕ) a + (T3 1 32 128).size a ≤ (T3 1 512 1024).size a := by
  intro a; fin_cases a <;> simp <;> omega

theorem posX : 0 < (T3 1 256 1024).numel := by decide
theorem posA : 0 < (T3 1 256 512).numel := by decide
theorem posS : 0 < (T2 256 512).numel := by decide
theorem posG : 0 < (T2 1 1024).numel := by decide
theorem posWG : 0 < (T2 1024 2048).numel := by decide
theorem posBG : 0 < (T2 1 2048).numel := by decide
theorem posWB : 0 < (T2 512 1024).numel := by decide
theorem posWO : 0 < (T2 1024 1024).numel := by decide
theorem posP : 0 < (T4 1 1 256 128).numel := by decide
theorem posR : 0 < (T4 1 1 32 128).numel := by decide
theorem posO : 0 < (T3 1 32 128).numel := by decide

variable (M : Mems sig)

abbrev loadX (h : Fin 2) := load (nD := nD) (τ := τ) (Λ := Λ) (F := F) M.x ![0, h.val * 256, 0] (T3 1 256 1024).size (inbX h) posX
abbrev loadA (h : Fin 2) := load (nD := nD) (τ := τ) (Λ := Λ) (F := F) M.a ![0, h.val * 256, 0] (T3 1 256 512).size (inbA h) posA
abbrev loadS (h : Fin 2) := load (nD := nD) (τ := τ) (Λ := Λ) (F := F) M.s ![h.val * 256, 0] (T2 256 512).size (inbS h) posS
abbrev loadGP := load (nD := nD) (τ := τ) (Λ := Λ) (F := F) M.gp ![0, 0] (T2 1 1024).size inbG posG
abbrev loadWG := load (nD := nD) (τ := τ) (Λ := Λ) (F := F) M.wg ![0, 0] (T2 1024 2048).size inbWG posWG
abbrev loadBG := load (nD := nD) (τ := τ) (Λ := Λ) (F := F) M.bg ![0, 0] (T2 1 2048).size inbBG posBG
abbrev loadWA := load (nD := nD) (τ := τ) (Λ := Λ) (F := F) M.wa ![0, 0] (T2 512 1024).size inbWB posWB
abbrev loadWS := load (nD := nD) (τ := τ) (Λ := Λ) (F := F) M.ws ![0, 0] (T2 512 1024).size inbWB posWB
abbrev loadWO := load (nD := nD) (τ := τ) (Λ := Λ) (F := F) M.wo ![0, 0] (T2 1024 1024).size inbWO posWO
abbrev loadGQ := load (nD := nD) (τ := τ) (Λ := Λ) (F := F) M.gq ![0, 0] (T2 1 1024).size inbG posG

abbrev storeP (h : Fin 2) (c : Fin 8) (w : FVec F (T2 256 128) .f32) :=
  store (nD := nD) (τ := τ) (Λ := Λ) (F := F) M.p ![h.val, c.val, 0, 0] (T4 1 1 256 128).size (inbP h c) posP (shapeCast (T4 1 1 256 128) w castP)
/-- The rows of phase `b` in a column block of a half: every eighth row. -/
abbrev rectR (h : Fin 2) (c b : Fin 8) : LoadRect (T4 2 8 256 128) := ⟨![h.val, c.val, b.val, 0], (T4 1 1 32 128).size, ![1, 1, 8, 1], inbR h c b⟩
abbrev loadR (h : Fin 2) (c b : Fin 8) : Prog (TpuEff nD τ sig (Elt F) Λ .tc) ((rectR h c b).shape.Idx → Elt F .f32) :=
  Prog.lift (.load M.p (rectR h c b) (View.loadsAt_vmem posR))
abbrev storeO (h : Fin 2) (c b : Fin 8) (w : FVec F (T2 32 128) .f32) :=
  store (nD := nD) (τ := τ) (Λ := Λ) (F := F) M.o ![0, b.val * 64 + h.val * 32, c.val * 128] (T3 1 32 128).size (inbO h c b) posO (shapeCast (T3 1 32 128) w castO)

/-! ## The values the body computes -/

/-- The gates of half a tile. -/
def gatesV (x : FVec F (T3 1 256 1024) .f32) (gp : FVec F (T2 1 1024) .f32) (wg : FVec F (T2 1024 2048) .bf16) (bg : FVec F (T2 1 2048) .f32) :
    FVec F (T2 256 2048) .f32 :=
  logistic (addf (matmul (DotDims.plain 256 1024 2048) none (truncf .bf16 (norm norms256 (shapeCast (T2 256 1024) x castX) gp) bits16) wg
    (constant (T2 256 2048) .f32 0x00000000#32)) (broadcastTo (T2 256 2048) bg brB))

/-- The gates of one branch. -/
def gateV (g : FVec F (T2 256 2048) .f32) (u : Fin 2) : FVec F (T2 256 1024) .f32 := extractStridedSlice (T2 256 1024) ![0, u.val * 1024] g (slG u)

/-- A branch times its matrix. -/
def branchV (a : FVec F (T2 256 512) .bf16) (w : FVec F (T2 512 1024) .bf16) : FVec F (T2 256 1024) .f32 :=
  matmul (DotDims.plain 256 512 1024) none a w (constant (T2 256 1024) .f32 0x00000000#32)

/-- The gated sum of the branches. -/
def mixedV (x : FVec F (T3 1 256 1024) .f32) (gp : FVec F (T2 1 1024) .f32) (wg : FVec F (T2 1024 2048) .bf16) (bg : FVec F (T2 1 2048) .f32)
    (a : FVec F (T3 1 256 512) .bf16) (wa : FVec F (T2 512 1024) .bf16) (s : FVec F (T2 256 512) .bf16) (ws : FVec F (T2 512 1024) .bf16) :
    FVec F (T2 256 1024) .bf16 :=
  truncf .bf16 (addf (mulf (gateV (gatesV x gp wg bg) 0) (branchV (shapeCast (T2 256 512) a castA) wa))
    (mulf (gateV (gatesV x gp wg bg) 1) (branchV s ws))) bits16

/-- Its projection. -/
def projV (y : FVec F (T2 256 1024) .bf16) (w : FVec F (T2 1024 1024) .bf16) : FVec F (T2 256 1024) .f32 :=
  matmul (DotDims.plain 256 1024 1024) none y w (constant (T2 256 1024) .f32 0x00000000#32)

/-- Half of the result, its rows in their own order. -/
def outV (x : FVec F (T3 1 256 1024) .f32) (f : FVec F (T2 256 1024) .f32) (g : FVec F (T2 1 1024) .f32) : FVec F (T2 256 1024) .f32 :=
  addf (shapeCast (T2 256 1024) x castX) (norm norms256 f g)

/-- A column block of it. -/
def blockV (y : FVec F (T2 256 1024) .f32) (c : Fin 8) : FVec F (T2 256 128) .f32 := extractStridedSlice (T2 256 128) ![0, c.val * 128] y (slC c)

/-! ## The body -/

/-- The gated sum of half a tile. -/
def mixed (h : Fin 2) : Prog (TpuEff nD τ sig (Elt F) Λ .tc) (FVec F (T2 256 1024) .bf16) := do
  let x ← loadX M h
  let gp ← loadGP M
  let wg ← loadWG M
  let bg ← loadBG M
  let a ← loadA M h
  let wa ← loadWA M
  let s ← loadS M h
  let ws ← loadWS M
  pure (mixedV x gp wg bg a wa s ws)

/-- The stores of the first `n` column blocks of a half. -/
def puts (h : Fin 2) (y : FVec F (T2 256 1024) .f32) : (n : ℕ) → n ≤ 8 → Prog (TpuEff nD τ sig (Elt F) Λ .tc) PUnit
  | 0, _ => pure ⟨⟩
  | n + 1, hn => do
    puts h y n (by omega)
    storeP M h ⟨n, by omega⟩ (blockV y ⟨n, by omega⟩)

/-- The first `n` phases of a half in a column block, read back and stored in the result. -/
def phases (h : Fin 2) (c : Fin 8) : (n : ℕ) → n ≤ 8 → Prog (TpuEff nD τ sig (Elt F) Λ .tc) PUnit
  | 0, _ => pure ⟨⟩
  | n + 1, hn => do
    phases h c n (by omega)
    let y ← loadR M h c ⟨n, by omega⟩
    storeO M h c ⟨n, by omega⟩ (shapeCast (T2 32 128) y castR)

/-- The same for the first `n` column blocks. -/
def outs (h : Fin 2) : (n : ℕ) → n ≤ 8 → Prog (TpuEff nD τ sig (Elt F) Λ .tc) PUnit
  | 0, _ => pure ⟨⟩
  | n + 1, hn => do
    outs h n (by omega)
    phases M h ⟨n, by omega⟩ 8 le_rfl

/-- Half of the result, from its projection. -/
def finish (h : Fin 2) (f : FVec F (T2 256 1024) .f32) : Prog (TpuEff nD τ sig (Elt F) Λ .tc) PUnit := do
  let x ← loadX M h
  let g ← loadGQ M
  puts M h (outV x f g) 8 le_rfl
  outs M h 8 le_rfl

/-- The whole body. -/
def prog : Prog (TpuEff nD τ sig (Elt F) Λ .tc) PUnit := do
  let y0 ← mixed M 0
  let w0 ← loadWO M
  let y1 ← mixed M 1
  finish M 0 (projV y0 w0)
  let w1 ← loadWO M
  finish M 1 (projV y1 w1)

end Prog

end Merge
end
-- ==== Proof.Merge.Run.lean ====
/-
  What the body's steps do to its buffers, as functions of what the buffers hold: `State` is the contents of the twelve
  buffers, and `Does p st a st'` says that `p`, run where they hold `st`, answers `a` and leaves `st'`.
-/
module

public import proofs.«01_k».proof.Proof.Merge.Body
public import proofs.«01_k».proof.Proof.Ffn.Run

@[expose] public section

set_option maxRecDepth 16384

noncomputable section

namespace Merge

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Attn (T1 T2 T3 T4 load store wp_load_owned wp_store_owned)
open Ffn (wp_load_at)

/-! ## The contents of the buffers -/

/-- What the buffers of the arguments hold. -/
structure Ins (F : FTy → Type) where
  x : FVec F (T3 1 512 1024) .f32
  a : FVec F (T3 1 512 512) .bf16
  s : FVec F (T2 512 512) .bf16
  gp : FVec F (T2 1 1024) .f32
  wg : FVec F (T2 1024 2048) .bf16
  bg : FVec F (T2 1 2048) .f32
  wa : FVec F (T2 512 1024) .bf16
  ws : FVec F (T2 512 1024) .bf16
  wo : FVec F (T2 1024 1024) .bf16
  gq : FVec F (T2 1 1024) .f32

namespace Ins

variable {F : FTy → Type} [FloatOps F] (I : Ins F)

/-! Windows of the arguments, as the body loads them. -/

def getX (h : Fin 2) : FVec F (T3 1 256 1024) .f32 := window I.x ![0, h.val * 256, 0] (T3 1 256 1024).size (inbX h)
def getA (h : Fin 2) : FVec F (T3 1 256 512) .bf16 := window I.a ![0, h.val * 256, 0] (T3 1 256 512).size (inbA h)
def getS (h : Fin 2) : FVec F (T2 256 512) .bf16 := window I.s ![h.val * 256, 0] (T2 256 512).size (inbS h)
def getGP : FVec F (T2 1 1024) .f32 := window I.gp ![0, 0] (T2 1 1024).size inbG
def getWG : FVec F (T2 1024 2048) .bf16 := window I.wg ![0, 0] (T2 1024 2048).size inbWG
def getBG : FVec F (T2 1 2048) .f32 := window I.bg ![0, 0] (T2 1 2048).size inbBG
def getWA : FVec F (T2 512 1024) .bf16 := window I.wa ![0, 0] (T2 512 1024).size inbWB
def getWS : FVec F (T2 512 1024) .bf16 := window I.ws ![0, 0] (T2 512 1024).size inbWB
def getWO : FVec F (T2 1024 1024) .bf16 := window I.wo ![0, 0] (T2 1024 1024).size inbWO
def getGQ : FVec F (T2 1 1024) .f32 := window I.gq ![0, 0] (T2 1 1024).size inbG

/-- The gated sum of half a tile. -/
def mixed (h : Fin 2) : FVec F (T2 256 1024) .bf16 := mixedV (I.getX h) I.getGP I.getWG I.getBG (I.getA h) I.getWA (I.getS h) I.getWS

/-- Half of the result, its rows in their own order. -/
def half (h : Fin 2) : FVec F (T2 256 1024) .f32 := outV (I.getX h) (projV (I.mixed h) I.getWO) I.getGQ

end Ins

/-- What the twelve buffers hold. -/
structure State (F : FTy → Type) where
  i : Ins F
  o : FVec F (T3 1 512 1024) .f32
  p : FVec F (T4 2 8 256 128) .f32

namespace State

variable {F : FTy → Type} [FloatOps F] (st : State F)

def getR (h : Fin 2) (c b : Fin 8) : FVec F (T4 1 1 32 128) .f32 := fun z => st.p ((⟨rectR h c b, posStride⟩ : Rect (T4 2 8 256 128)).emb z)
def putP (h : Fin 2) (c : Fin 8) (w : FVec F (T2 256 128) .f32) : State F :=
  { st with p := put st.p ![h.val, c.val, 0, 0] (T4 1 1 256 128).size (shapeCast (T4 1 1 256 128) w castP) }
def putO (h : Fin 2) (c b : Fin 8) (w : FVec F (T2 32 128) .f32) : State F :=
  { st with o := put st.o ![0, b.val * 64 + h.val * 32, c.val * 128] (T3 1 32 128).size (shapeCast (T3 1 32 128) w castO) }

/-! The body's steps on states. -/

def puts (h : Fin 2) (y : FVec F (T2 256 1024) .f32) : (n : ℕ) → n ≤ 8 → State F
  | 0, _ => st
  | n + 1, hn => (puts h y n (by omega)).putP h ⟨n, by omega⟩ (blockV y ⟨n, by omega⟩)

def phases (h : Fin 2) (c : Fin 8) : (n : ℕ) → n ≤ 8 → State F
  | 0, _ => st
  | n + 1, hn => (phases h c n (by omega)).putO h c ⟨n, by omega⟩ (shapeCast (T2 32 128) ((phases h c n (by omega)).getR h c ⟨n, by omega⟩) castR)

def outs (h : Fin 2) : (n : ℕ) → n ≤ 8 → State F
  | 0, _ => st
  | n + 1, hn => (outs h n (by omega)).phases h ⟨n, by omega⟩ 8 le_rfl

def finish (h : Fin 2) (y : FVec F (T2 256 1024) .f32) : State F := (st.puts h y 8 le_rfl).outs h 8 le_rfl

def body : State F := (st.finish 0 (st.i.half 0)).finish 1 (st.i.half 1)

/-! What each step leaves alone. -/

/-- The stores by column blocks change only these. -/
theorem puts_eq (h : Fin 2) (y : FVec F (T2 256 1024) .f32) : ∀ (n : ℕ) (hn : n ≤ 8), st.puts h y n hn = { st with p := (st.puts h y n hn).p }
  | 0, _ => rfl
  | n + 1, hn => by
    have e := puts_eq h y n (by omega)
    unfold puts putP
    simp only
    rw [e]

/-- The stores of the result change only it. -/
theorem phases_eq (h : Fin 2) (c : Fin 8) : ∀ (n : ℕ) (hn : n ≤ 8), st.phases h c n hn = { st with o := (st.phases h c n hn).o }
  | 0, _ => rfl
  | n + 1, hn => by
    have e := phases_eq h c n (by omega)
    unfold phases putO
    simp only
    rw [e]

theorem outs_eq (h : Fin 2) : ∀ (n : ℕ) (hn : n ≤ 8), st.outs h n hn = { st with o := (st.outs h n hn).o }
  | 0, _ => rfl
  | n + 1, hn => by
    have e := outs_eq h n (by omega)
    unfold outs
    rw [phases_eq, e]

theorem puts_i (h : Fin 2) (y : FVec F (T2 256 1024) .f32) (n : ℕ) (hn : n ≤ 8) : (st.puts h y n hn).i = st.i := by rw [puts_eq]
theorem puts_o (h : Fin 2) (y : FVec F (T2 256 1024) .f32) (n : ℕ) (hn : n ≤ 8) : (st.puts h y n hn).o = st.o := by rw [puts_eq]
theorem phases_p (h : Fin 2) (c : Fin 8) (n : ℕ) (hn : n ≤ 8) : (st.phases h c n hn).p = st.p := by rw [phases_eq]
theorem outs_i (h : Fin 2) (n : ℕ) (hn : n ≤ 8) : (st.outs h n hn).i = st.i := by rw [outs_eq]
theorem outs_p (h : Fin 2) (n : ℕ) (hn : n ≤ 8) : (st.outs h n hn).p = st.p := by rw [outs_eq]

theorem finish_i (h : Fin 2) (y : FVec F (T2 256 1024) .f32) : (st.finish h y).i = st.i := (outs_i _ h 8 le_rfl).trans (puts_i st h y 8 le_rfl)

theorem body_i : st.body.i = st.i := (finish_i _ 1 _).trans (finish_i st 0 _)

end State

/-! ## Running a step -/

section Run

variable {nD : ℕ} {τ : Topo} {sig : RefSig} {Λ : Labels} {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-- The twelve buffers, held at a state. -/
def held (M : Mems sig) (c : Dev nD) (st : State F) : sProp 𝕄 :=
  iprop(owns (c : Thread nD τ) M.x fullShare st.i.x ∗ owns (c : Thread nD τ) M.a fullShare st.i.a ∗ owns (c : Thread nD τ) M.s fullShare st.i.s
    ∗ owns (c : Thread nD τ) M.gp fullShare st.i.gp ∗ owns (c : Thread nD τ) M.wg fullShare st.i.wg ∗ owns (c : Thread nD τ) M.bg fullShare st.i.bg
    ∗ owns (c : Thread nD τ) M.wa fullShare st.i.wa ∗ owns (c : Thread nD τ) M.ws fullShare st.i.ws ∗ owns (c : Thread nD τ) M.wo fullShare st.i.wo
    ∗ owns (c : Thread nD τ) M.gq fullShare st.i.gq ∗ owns (c : Thread nD τ) M.o fullShare st.o ∗ owns (c : Thread nD τ) M.p fullShare st.p)

/-- The program `p`, run where the buffers hold `st`, answers `a` and leaves them at `st'`. -/
structure Does (M : Mems sig) {α : Type} (p : Prog (TpuEff nD τ sig (Elt F) Λ .tc) α) (st : State F) (a : α) (st' : State F) : Prop where
  run : ∀ {Ix : Type} [DecidableEq Ix] {Name : Type} [DecidableEq Name] {U : Type} [URA U] {Lvl : Type} [Preorder Lvl]
    {defs : Defs nD τ sig (Elt F) Λ} (𝒱 : Variants) (c : Dev nD) (bd : Option 𝒱.V) (E : Set Name) (Q : α → sProp (MT nD τ sig Ix (Elt F) Name U Lvl)),
    (held M c st : sProp (MT nD τ sig Ix (Elt F) Name U Lvl)) ⊢ iprop((held M c st' -∗ Q a) -∗ wp frame (wpE defs 𝒱 (c : Thread nD τ) bd) E p Q)

variable {M : Mems sig}

theorem Does.ret {α : Type} (a : α) (st : State F) : Does (nD := nD) (τ := τ) (Λ := Λ) M (pure a) st a st := by
  refine ⟨fun 𝒱 c bd E Q => ?_⟩
  rw [wp_pure]
  iintro H Hk
  imodintro
  iapply Hk $$ H

theorem Does.bind {α β : Type} {p : Prog (TpuEff nD τ sig (Elt F) Λ .tc) α} {f : α → Prog (TpuEff nD τ sig (Elt F) Λ .tc) β} {st st₁ st₂ : State F} {a : α} {b : β}
    (hp : Does M p st a st₁) (hf : Does M (f a) st₁ b st₂) : Does M (p >>= f) st b st₂ := by
  refine ⟨fun 𝒱 c bd E Q => ?_⟩
  rw [wp_bind]
  iintro H Hk
  iapply (hp.run 𝒱 c bd E _) $$ H
  iintro H
  iapply (hf.run 𝒱 c bd E Q) $$ H
  iexact Hk

/-! ## Loads and stores -/

/-- One of the buffers taken out: `m` holds `X` at `st`, and given back at `Y` it makes `st` into `upd Y`. -/
structure Has (M : Mems sig) {s : Shape} {e : EltTy} (m : Memref sig .tc .vmem s e) (X : s.Idx → Elt F e) (st : State F) (upd : (s.Idx → Elt F e) → State F) : Prop where
  split : ∀ {Ix : Type} [DecidableEq Ix] {Name : Type} [DecidableEq Name] {U : Type} [URA U] {Lvl : Type} [Preorder Lvl] (nD : ℕ) (τ : Topo) (c : Dev nD),
    (held M c st : sProp (MT nD τ sig Ix (Elt F) Name U Lvl))
      ⊢ iprop(owns (c : Thread nD τ) m fullShare X ∗ (∀ Y, owns (c : Thread nD τ) m fullShare Y -∗ held M c (upd Y)))

theorem has_x (st : State F) : Has M M.x st.i.x st (fun Y => { st with i := { st.i with x := Y } }) := by
  refine ⟨fun nD τ c => ?_⟩
  unfold held
  iintro ⟨H, H1, H2, H3, H4, H5, H6, H7, H8, H9, H10, H11⟩
  isplitl [H]; · iexact H
  iintro %Y H
  iframe

theorem has_a (st : State F) : Has M M.a st.i.a st (fun Y => { st with i := { st.i with a := Y } }) := by
  refine ⟨fun nD τ c => ?_⟩
  unfold held
  iintro ⟨H1, H, H2, H3, H4, H5, H6, H7, H8, H9, H10, H11⟩
  isplitl [H]; · iexact H
  iintro %Y H
  iframe

theorem has_s (st : State F) : Has M M.s st.i.s st (fun Y => { st with i := { st.i with s := Y } }) := by
  refine ⟨fun nD τ c => ?_⟩
  unfold held
  iintro ⟨H1, H2, H, H3, H4, H5, H6, H7, H8, H9, H10, H11⟩
  isplitl [H]; · iexact H
  iintro %Y H
  iframe

theorem has_gp (st : State F) : Has M M.gp st.i.gp st (fun Y => { st with i := { st.i with gp := Y } }) := by
  refine ⟨fun nD τ c => ?_⟩
  unfold held
  iintro ⟨H1, H2, H3, H, H4, H5, H6, H7, H8, H9, H10, H11⟩
  isplitl [H]; · iexact H
  iintro %Y H
  iframe

theorem has_wg (st : State F) : Has M M.wg st.i.wg st (fun Y => { st with i := { st.i with wg := Y } }) := by
  refine ⟨fun nD τ c => ?_⟩
  unfold held
  iintro ⟨H1, H2, H3, H4, H, H5, H6, H7, H8, H9, H10, H11⟩
  isplitl [H]; · iexact H
  iintro %Y H
  iframe

theorem has_bg (st : State F) : Has M M.bg st.i.bg st (fun Y => { st with i := { st.i with bg := Y } }) := by
  refine ⟨fun nD τ c => ?_⟩
  unfold held
  iintro ⟨H1, H2, H3, H4, H5, H, H6, H7, H8, H9, H10, H11⟩
  isplitl [H]; · iexact H
  iintro %Y H
  iframe

theorem has_wa (st : State F) : Has M M.wa st.i.wa st (fun Y => { st with i := { st.i with wa := Y } }) := by
  refine ⟨fun nD τ c => ?_⟩
  unfold held
  iintro ⟨H1, H2, H3, H4, H5, H6, H, H7, H8, H9, H10, H11⟩
  isplitl [H]; · iexact H
  iintro %Y H
  iframe

theorem has_ws (st : State F) : Has M M.ws st.i.ws st (fun Y => { st with i := { st.i with ws := Y } }) := by
  refine ⟨fun nD τ c => ?_⟩
  unfold held
  iintro ⟨H1, H2, H3, H4, H5, H6, H7, H, H8, H9, H10, H11⟩
  isplitl [H]; · iexact H
  iintro %Y H
  iframe

theorem has_wo (st : State F) : Has M M.wo st.i.wo st (fun Y => { st with i := { st.i with wo := Y } }) := by
  refine ⟨fun nD τ c => ?_⟩
  unfold held
  iintro ⟨H1, H2, H3, H4, H5, H6, H7, H8, H, H9, H10, H11⟩
  isplitl [H]; · iexact H
  iintro %Y H
  iframe

theorem has_gq (st : State F) : Has M M.gq st.i.gq st (fun Y => { st with i := { st.i with gq := Y } }) := by
  refine ⟨fun nD τ c => ?_⟩
  unfold held
  iintro ⟨H1, H2, H3, H4, H5, H6, H7, H8, H9, H, H10, H11⟩
  isplitl [H]; · iexact H
  iintro %Y H
  iframe

theorem has_o (st : State F) : Has M M.o st.o st (fun Y => { st with o := Y }) := by
  refine ⟨fun nD τ c => ?_⟩
  unfold held
  iintro ⟨H1, H2, H3, H4, H5, H6, H7, H8, H9, H10, H, H11⟩
  isplitl [H]; · iexact H
  iintro %Y H
  iframe

theorem has_p (st : State F) : Has M M.p st.p st (fun Y => { st with p := Y }) := by
  refine ⟨fun nD τ c => ?_⟩
  unfold held
  iintro ⟨H1, H2, H3, H4, H5, H6, H7, H8, H9, H10, H11, H⟩
  isplitl [H]; · iexact H
  iintro %Y H
  iframe

section Has

variable {s : Shape} {e : EltTy} {m : Memref sig .tc .vmem s e} {X : s.Idx → Elt F e} {st : State F} {upd : (s.Idx → Elt F e) → State F}

theorem Has.loadAt (H : Has M m X st upd) (hX : upd X = st) (r : Rect s) (hl : m.view.LoadsAt r.toLoadRect) :
    Does (nD := nD) (τ := τ) (Λ := Λ) M (Prog.lift (.load m r.toLoadRect hl)) st (fun z => X (r.emb z)) st := by
  refine ⟨fun 𝒱 c bd E Q => ?_⟩
  iintro H Hk
  ihave H := (H.split nD τ c) $$ H
  icases H with ⟨H, Hr⟩
  iapply (wp_load_at 𝒱 c bd E m X r) $$ H
  iintro H
  rw [wp_ret]
  imodintro
  iapply Hk
  ihave H := Hr $$ %X H
  rw [hX]
  iexact H

theorem Has.load (H : Has M m X st upd) (hX : upd X = st) (off size : Fin s.rank → ℕ) (inb : ∀ a, off a + size a ≤ s.size a)
    (h : 0 < (Rect.unit off size inb).shape.numel) :
    Does (nD := nD) (τ := τ) (Λ := Λ) M (load m off size inb h) st (window X off size inb) st := by
  refine ⟨fun 𝒱 c bd E Q => ?_⟩
  iintro H Hk
  ihave H := (H.split nD τ c) $$ H
  icases H with ⟨H, Hr⟩
  iapply (wp_load_owned 𝒱 c bd E m X off size inb) $$ H
  iintro H
  rw [wp_ret]
  imodintro
  iapply Hk
  ihave H := Hr $$ %X H
  rw [hX]
  iexact H

end Has

theorem Has.store {s : Shape} {m : Memref sig .tc .vmem s .f32} {X : s.Idx → Elt F .f32} {st : State F} {upd : (s.Idx → Elt F .f32) → State F}
    (H : Has M m X st upd) (hX : upd X = st) (off size : Fin s.rank → ℕ) (inb : ∀ a, off a + size a ≤ s.size a) (h : 0 < (Rect.unit off size inb).shape.numel)
    (w : (Rect.unit off size inb).shape.Idx → Elt F .f32) :
    Does (nD := nD) (τ := τ) (Λ := Λ) M (store m off size inb h w) st ⟨⟩ (upd (put X off size w)) := by
  refine (H.load hX off size inb h).bind ⟨fun 𝒱 c bd E Q => ?_⟩
  iintro H Hk
  ihave H := (H.split nD τ c) $$ H
  icases H with ⟨H, Hr⟩
  iapply (wp_store_owned 𝒱 c bd E m X off size inb w) $$ H
  iintro H
  rw [wp_ret]
  imodintro
  iapply Hk
  ihave H := Hr $$ %(put X off size w) H
  iexact H

section Steps

variable (st : State F)

/-! ## The steps -/

theorem does_mixed (h : Fin 2) : Does (nD := nD) (τ := τ) (Λ := Λ) M (mixed M h) st (st.i.mixed h) st :=
  ((has_x st).load rfl _ _ _ _).bind <| ((has_gp st).load rfl _ _ _ _).bind <| ((has_wg st).load rfl _ _ _ _).bind <|
    ((has_bg st).load rfl _ _ _ _).bind <| ((has_a st).load rfl _ _ _ _).bind <| ((has_wa st).load rfl _ _ _ _).bind <|
    ((has_s st).load rfl _ _ _ _).bind <| ((has_ws st).load rfl _ _ _ _).bind <| .ret _ _

theorem does_puts (h : Fin 2) (y : FVec F (T2 256 1024) .f32) : (n : ℕ) → (hn : n ≤ 8) →
    Does (nD := nD) (τ := τ) (Λ := Λ) M (puts M h y n hn) st ⟨⟩ (st.puts h y n hn)
  | 0, _ => .ret _ _
  | n + 1, hn => (does_puts h y n _).bind ((has_p _).store rfl _ _ _ _ _)

theorem does_phases (h : Fin 2) (c : Fin 8) : (n : ℕ) → (hn : n ≤ 8) →
    Does (nD := nD) (τ := τ) (Λ := Λ) M (phases M h c n hn) st ⟨⟩ (st.phases h c n hn)
  | 0, _ => .ret _ _
  | n + 1, hn => (does_phases h c n _).bind <| ((has_p _).loadAt rfl ⟨rectR h c _, posStride⟩ _).bind ((has_o _).store rfl _ _ _ _ _)

theorem does_outs (h : Fin 2) : (n : ℕ) → (hn : n ≤ 8) → Does (nD := nD) (τ := τ) (Λ := Λ) M (outs M h n hn) st ⟨⟩ (st.outs h n hn)
  | 0, _ => .ret _ _
  | n + 1, hn => (does_outs h n _).bind (does_phases _ h _ 8 _)

theorem does_finish (h : Fin 2) (f : FVec F (T2 256 1024) .f32) :
    Does (nD := nD) (τ := τ) (Λ := Λ) M (finish M h f) st ⟨⟩ (st.finish h (outV (st.i.getX h) f st.i.getGQ)) :=
  ((has_x st).load rfl _ _ _ _).bind <| ((has_gq st).load rfl _ _ _ _).bind <| (does_puts st h _ 8 _).bind (does_outs _ h 8 _)

/-- The body leaves the buffers at `State.body`. -/
theorem does_prog : Does (nD := nD) (τ := τ) (Λ := Λ) M (prog M) st ⟨⟩ st.body := by
  have hw : Does (nD := nD) (τ := τ) (Λ := Λ) M (loadWO M) st st.i.getWO st := (has_wo st).load rfl _ _ _ _
  have h0 : Does (nD := nD) (τ := τ) (Λ := Λ) M (finish M 0 (projV (st.i.mixed 0) st.i.getWO)) st ⟨⟩ (st.finish 0 (st.i.half 0)) := does_finish st 0 _
  have hi : (st.finish 0 (st.i.half 0)).i = st.i := State.finish_i st 0 _
  generalize hs : st.finish 0 (st.i.half 0) = s1 at h0 hi
  have hw' : Does (nD := nD) (τ := τ) (Λ := Λ) M (loadWO M) s1 s1.i.getWO s1 := (has_wo _).load rfl _ _ _ _
  have h1 := does_finish (nD := nD) (τ := τ) (Λ := Λ) (M := M) s1 1 (projV (st.i.mixed 1) s1.i.getWO)
  rw [hi] at hw' h1
  unfold State.body
  rw [hs]
  exact (does_mixed st 0).bind (hw.bind ((does_mixed st 1).bind (h0.bind (hw'.bind h1))))

end Steps

end Run
end Merge
end
-- ==== Proof.Merge.Triple.lean ====
/-
  The body's triple over memrefs: from the arguments' buffers held at given contents, and the others at any, it names the
  result through a state with these contents.
-/
module

public import proofs.«01_k».proof.Proof.Merge.Run

@[expose] public section

set_option maxRecDepth 16384

noncomputable section

namespace Merge

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Λ : Labels}
variable {Ix : Type} [DecidableEq Ix] {Name : Type} [DecidableEq Name] {U : Type} [URA U] {Lvl : Type} [Preorder Lvl]

/-- The arguments' buffers, held at `I`. -/
def heldIns (M : Mems sig) (c : Dev nD) (I : Ins F) : sProp (MT nD τ sig Ix (Elt F) Name U Lvl) :=
  iprop(owns (c : Thread nD τ) M.x fullShare I.x ∗ owns (c : Thread nD τ) M.a fullShare I.a ∗ owns (c : Thread nD τ) M.s fullShare I.s
    ∗ owns (c : Thread nD τ) M.gp fullShare I.gp ∗ owns (c : Thread nD τ) M.wg fullShare I.wg ∗ owns (c : Thread nD τ) M.bg fullShare I.bg
    ∗ owns (c : Thread nD τ) M.wa fullShare I.wa ∗ owns (c : Thread nD τ) M.ws fullShare I.ws ∗ owns (c : Thread nD τ) M.wo fullShare I.wo
    ∗ owns (c : Thread nD τ) M.gq fullShare I.gq)

theorem prog_triple (M : Mems sig) {defs : Defs nD τ sig (Elt F) Λ} (𝒱 : Variants) (c : Dev nD) (bd : Option 𝒱.V) (E : Set Name)
    (I : Ins F) (K : PUnit → sProp (MT nD τ sig Ix (Elt F) Name U Lvl)) :
    (iprop(heldIns M c I ∗ (∃ y, owns (c : Thread nD τ) M.o fullShare y) ∗ (∃ y, owns (c : Thread nD τ) M.p fullShare y)
        ∗ (iprop(heldIns M c I ∗ (∃ st : State F, ⌜st.i = I⌝ ∗ owns (c : Thread nD τ) M.o fullShare st.body.o)
          ∗ (∃ y, owns (c : Thread nD τ) M.p fullShare y)) -∗ K ⟨⟩)) : sProp (MT nD τ sig Ix (Elt F) Name U Lvl))
      ⊢ wp frame (wpE defs 𝒱 (c : Thread nD τ) bd) E (prog (nD := nD) (τ := τ) (Λ := Λ) M) K := by
  unfold heldIns
  iintro ⟨⟨H1, H2, H3, H4, H5, H6, H7, H8, H9, H10⟩, ⟨%o, Ho⟩, ⟨%p, Hp⟩, HK⟩
  have D := (does_prog (nD := nD) (τ := τ) (Λ := Λ) (M := M) (⟨I, o, p⟩ : State F)).run (defs := defs) 𝒱 c bd E K
  have hi : (⟨I, o, p⟩ : State F).body.i = I := State.body_i _
  iapply (BIClass.wand_elim D)
  isplitl [H1 H2 H3 H4 H5 H6 H7 H8 H9 H10 Ho Hp]
  · unfold held
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Ho]; · iexact Ho
    iexact Hp
  · unfold held
    rw [hi]
    iintro ⟨H1, H2, H3, H4, H5, H6, H7, H8, H9, H10, Ho, Hp⟩
    iapply HK
    isplitl [H1 H2 H3 H4 H5 H6 H7 H8 H9 H10]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [Ho]
    · iexists (⟨I, o, p⟩ : State F)
      isplitr; · ipureintro; exact rfl
      iexact Ho
    iexists _; iexact Hp

end Merge

end
-- ==== Proof.Merge.FrameKernel3Ideal.lean ====
/-
  The run of Kernel3Ideal: its body is the one written with loops, and, where what the body computes from a point's inputs
  is known, the result array is put together from it.
-/
module

public import proofs.«01_k».proof.Proof.Gen.Kernel3Ideal.Launch
public import proofs.«01_k».proof.Proof.Gen.Kernel3Ideal.Points
public import proofs.«01_k».proof.Proof.Merge.Triple
public import Idealize.ShloMosaic.Lib.Tactic
public import Idealize.ShloMosaic.Lib.Claim

@[expose] public section

set_option maxRecDepth 16384

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-! ## The body -/

/-- The memrefs of the kernel's arguments in their order, as the buffers of the body. -/
abbrev bufs (a2 : Memref sig .tc .vmem S1x512x1024 .f32) (a3 : Memref sig .tc .vmem S1x512x512 .bf16) (a4 : Memref sig .tc .vmem S512x512 .bf16)
    (a5 : Memref sig .tc .vmem S1x1024 .f32) (a6 : Memref sig .tc .vmem S1024x2048 .bf16) (a7 : Memref sig .tc .vmem S1x2048 .f32)
    (a8 : Memref sig .tc .vmem S512x1024 .bf16) (a9 : Memref sig .tc .vmem S512x1024 .bf16) (a10 : Memref sig .tc .vmem S1024x1024 .bf16)
    (a11 : Memref sig .tc .vmem S1x1024 .f32) (a12 : Memref sig .tc .vmem S1x512x1024 .f32) (a13 : Memref sig .tc .vmem S2x8x256x128 .f32) : Merge.Mems sig := ⟨a2, a3, a4, a5, a6, a7, a8, a9, a10, a11, a12, a13⟩

/-- The kernel's body is the one written with loops. -/
theorem body_eq (i : grid0.Coords) (a2 : Memref sig .tc .vmem S1x512x1024 .f32) (h2 : a2.IsWhole) (a3 : Memref sig .tc .vmem S1x512x512 .bf16) (h3 : a3.IsWhole) (a4 : Memref sig .tc .vmem S512x512 .bf16) (h4 : a4.IsWhole)
    (a5 : Memref sig .tc .vmem S1x1024 .f32) (h5 : a5.IsWhole) (a6 : Memref sig .tc .vmem S1024x2048 .bf16) (h6 : a6.IsWhole) (a7 : Memref sig .tc .vmem S1x2048 .f32) (h7 : a7.IsWhole)
    (a8 : Memref sig .tc .vmem S512x1024 .bf16) (h8 : a8.IsWhole) (a9 : Memref sig .tc .vmem S512x1024 .bf16) (h9 : a9.IsWhole) (a10 : Memref sig .tc .vmem S1024x1024 .bf16) (h10 : a10.IsWhole)
    (a11 : Memref sig .tc .vmem S1x1024 .f32) (h11 : a11.IsWhole) (a12 : Memref sig .tc .vmem S1x512x1024 .f32) (h12 : a12.IsWhole) (a13 : Memref sig .tc .vmem S2x8x256x128 .f32) (h13 : a13.IsWhole) :
    cc0_merge (F := F) i a2 h2 a3 h3 a4 h4 a5 h5 a6 h6 a7 h7 a8 h8 a9 h9 a10 h10 a11 h11 a12 h12 a13 h13
      = Merge.prog (nD := nD) (τ := τ) (Λ := Λ₀) (bufs a2 a3 a4 a5 a6 a7 a8 a9 a10 a11 a12 a13) := by
  sl_kernel_rfl

/-! ## The pipeline -/

variable (m : (ℓ : Loc nD τ sig) → Buf (Elt F) ℓ) (ρ : Dev nD → PrngReg)

/-- The memory as the pipeline finds it. -/
abbrev V (c : Dev nD) (b : Ref sig .tc) : Buf (Elt F) ((c : Thread nD τ).loc b) := m ((c : Thread nD τ).loc b)

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks of the arguments at a grid point. -/
abbrev insAt (c : Dev nD) (t : Fin cfg0.N) : Merge.Ins F :=
  ⟨iblk m c 0 t, iblk m c 1 t, iblk m c 2 t, iblk m c 3 t, iblk m c 4 t, iblk m c 5 t, iblk m c 6 t, iblk m c 7 t, iblk m c 8 t, iblk m c 9 t⟩

/-- What the result's block is said to hold after each point. -/
abbrev Outs (F : FTy → Type) := Dev nD → Fin cfg0.N → FVec F (Attn.T3 1 512 1024) .f32

variable (out : Outs F)

/-- The arrays at entry, and the blocks the body leaves: the arguments' their own, the result's `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out c t
  Φ _ := Pipeline.ΦA spec0 c
  q _ := fullShare
  owed _ := 0

theorem A_eq (c : Dev nD) (w : Fin cfg0.W) : (dats m out 0 c).A w = V m c (Pipeline.arrRef spec0 w) := by dsimp only [dats]

theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = iblk m c 4 t := by dsimp only [dats]
theorem after0_5 (c : Dev nD) (t : Fin cfg0.N) : (dats m out 0 c).after 5 t = iblk m c 5 t := by dsimp only [dats]
theorem after0_6 (c : Dev nD) (t : Fin cfg0.N) : (dats m out 0 c).after 6 t = iblk m c 6 t := by dsimp only [dats]
theorem after0_7 (c : Dev nD) (t : Fin cfg0.N) : (dats m out 0 c).after 7 t = iblk m c 7 t := by dsimp only [dats]
theorem after0_8 (c : Dev nD) (t : Fin cfg0.N) : (dats m out 0 c).after 8 t = iblk m c 8 t := by dsimp only [dats]
theorem after0_9 (c : Dev nD) (t : Fin cfg0.N) : (dats m out 0 c).after 9 t = iblk m c 9 t := by dsimp only [dats]
theorem after0_10 (c : Dev nD) (t : Fin cfg0.N) : (dats m out 0 c).after 10 t = out c t := by dsimp only [dats]

/-! An argument's staging buffer holds its block. -/

theorem before0_0 (c : Dev nD) (t : Fin cfg0.N) (d) : (dats m out 0 c).before 0 t d = iblk m c 0 t :=
  ((dats m out 0 c).before_in_eq_fetched 0 rfl (fun _ => rfl) (fun _ _ _ => rfl) (fun t => by
    rw [after0_0]; unfold Dat.blockOf iblk; rw [A_eq]; try rfl) t d).trans (by unfold Dat.fetched Dat.blockOf iblk; rw [A_eq]; try rfl)
theorem before0_1 (c : Dev nD) (t : Fin cfg0.N) (d) : (dats m out 0 c).before 1 t d = iblk m c 1 t :=
  ((dats m out 0 c).before_in_eq_fetched 1 rfl (fun _ => rfl) (fun _ _ _ => rfl) (fun t => by
    rw [after0_1]; unfold Dat.blockOf iblk; rw [A_eq]; try rfl) t d).trans (by unfold Dat.fetched Dat.blockOf iblk; rw [A_eq]; try rfl)
theorem before0_2 (c : Dev nD) (t : Fin cfg0.N) (d) : (dats m out 0 c).before 2 t d = iblk m c 2 t :=
  ((dats m out 0 c).before_in_eq_fetched 2 rfl (fun _ => rfl) (fun _ _ _ => rfl) (fun t => by
    rw [after0_2]; unfold Dat.blockOf iblk; rw [A_eq]; try rfl) t d).trans (by unfold Dat.fetched Dat.blockOf iblk; rw [A_eq]; try rfl)
theorem before0_3 (c : Dev nD) (t : Fin cfg0.N) (d) : (dats m out 0 c).before 3 t d = iblk m c 3 t :=
  ((dats m out 0 c).before_in_eq_fetched 3 rfl (fun _ => rfl) (fun _ _ _ => rfl) (fun t => by
    rw [after0_3]; unfold Dat.blockOf iblk; rw [A_eq]; try rfl) t d).trans (by unfold Dat.fetched Dat.blockOf iblk; rw [A_eq]; try rfl)
theorem before0_4 (c : Dev nD) (t : Fin cfg0.N) (d) : (dats m out 0 c).before 4 t d = iblk m c 4 t :=
  ((dats m out 0 c).before_in_eq_fetched 4 rfl (fun _ => rfl) (fun _ _ _ => rfl) (fun t => by
    rw [after0_4]; unfold Dat.blockOf iblk; rw [A_eq]; try rfl) t d).trans (by unfold Dat.fetched Dat.blockOf iblk; rw [A_eq]; try rfl)
theorem before0_5 (c : Dev nD) (t : Fin cfg0.N) (d) : (dats m out 0 c).before 5 t d = iblk m c 5 t :=
  ((dats m out 0 c).before_in_eq_fetched 5 rfl (fun _ => rfl) (fun _ _ _ => rfl) (fun t => by
    rw [after0_5]; unfold Dat.blockOf iblk; rw [A_eq]; try rfl) t d).trans (by unfold Dat.fetched Dat.blockOf iblk; rw [A_eq]; try rfl)
theorem before0_6 (c : Dev nD) (t : Fin cfg0.N) (d) : (dats m out 0 c).before 6 t d = iblk m c 6 t :=
  ((dats m out 0 c).before_in_eq_fetched 6 rfl (fun _ => rfl) (fun _ _ _ => rfl) (fun t => by
    rw [after0_6]; unfold Dat.blockOf iblk; rw [A_eq]; try rfl) t d).trans (by unfold Dat.fetched Dat.blockOf iblk; rw [A_eq]; try rfl)
theorem before0_7 (c : Dev nD) (t : Fin cfg0.N) (d) : (dats m out 0 c).before 7 t d = iblk m c 7 t :=
  ((dats m out 0 c).before_in_eq_fetched 7 rfl (fun _ => rfl) (fun _ _ _ => rfl) (fun t => by
    rw [after0_7]; unfold Dat.blockOf iblk; rw [A_eq]; try rfl) t d).trans (by unfold Dat.fetched Dat.blockOf iblk; rw [A_eq]; try rfl)
theorem before0_8 (c : Dev nD) (t : Fin cfg0.N) (d) : (dats m out 0 c).before 8 t d = iblk m c 8 t :=
  ((dats m out 0 c).before_in_eq_fetched 8 rfl (fun _ => rfl) (fun _ _ _ => rfl) (fun t => by
    rw [after0_8]; unfold Dat.blockOf iblk; rw [A_eq]; try rfl) t d).trans (by unfold Dat.fetched Dat.blockOf iblk; rw [A_eq]; try rfl)
theorem before0_9 (c : Dev nD) (t : Fin cfg0.N) (d) : (dats m out 0 c).before 9 t d = iblk m c 9 t :=
  ((dats m out 0 c).before_in_eq_fetched 9 rfl (fun _ => rfl) (fun _ _ _ => rfl) (fun t => by
    rw [after0_9]; unfold Dat.blockOf iblk; rw [A_eq]; try rfl) t d).trans (by unfold Dat.fetched Dat.blockOf iblk; rw [A_eq]; try rfl)

/-- The body's buffers at a point. -/
abbrev mems (t : Fin cfg0.N) : Merge.Mems sig :=
  ⟨st0_0 t, st0_1 t, st0_2 t, st0_3 t, st0_4 t, st0_5 t, st0_6 t, st0_7 t, st0_8 t, st0_9 t, st0_10 t, Memref.whole cc0_scratch0⟩

/-- The scoped rest: the scratch buffer, and the generator. -/
theorem rest_eq (c : Dev nD) : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

/-- Before the body: its buffers. -/
def bodyPre (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d))
    ∗ (∃ d, owns (c : Thread nD τ) (st0_4 t) fullShare ((dats m out 0 c).before 4 t d))
    ∗ (∃ d, owns (c : Thread nD τ) (st0_5 t) fullShare ((dats m out 0 c).before 5 t d))
    ∗ (∃ d, owns (c : Thread nD τ) (st0_6 t) fullShare ((dats m out 0 c).before 6 t d))
    ∗ (∃ d, owns (c : Thread nD τ) (st0_7 t) fullShare ((dats m out 0 c).before 7 t d))
    ∗ (∃ d, owns (c : Thread nD τ) (st0_8 t) fullShare ((dats m out 0 c).before 8 t d))
    ∗ (∃ d, owns (c : Thread nD τ) (st0_9 t) fullShare ((dats m out 0 c).before 9 t d))
    ∗ (∃ d, owns (c : Thread nD τ) (st0_10 t) fullShare ((dats m out 0 c).before 10 t d)))

/-- After it: the arguments' buffers as they were, the result's at `out`. -/
def bodyPost (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t)
    ∗ owns (c : Thread nD τ) (st0_4 t) fullShare ((dats m out 0 c).after 4 t)
    ∗ owns (c : Thread nD τ) (st0_5 t) fullShare ((dats m out 0 c).after 5 t)
    ∗ owns (c : Thread nD τ) (st0_6 t) fullShare ((dats m out 0 c).after 6 t)
    ∗ owns (c : Thread nD τ) (st0_7 t) fullShare ((dats m out 0 c).after 7 t)
    ∗ owns (c : Thread nD τ) (st0_8 t) fullShare ((dats m out 0 c).after 8 t)
    ∗ owns (c : Thread nD τ) (st0_9 t) fullShare ((dats m out 0 c).after 9 t)
    ∗ owns (c : Thread nD τ) (st0_10 t) fullShare ((dats m out 0 c).after 10 t))

/-- What the body computes at each point is `out`. -/
abbrev Computes : Prop := ∀ (c : Dev nD) (t : Fin cfg0.N) (st : Merge.State F), st.i = insAt m c t → st.body.o = out c t

variable (H : Computes m out)

include H

set_option maxHeartbeats 800000 in
theorem sound_body (c : Dev nD) (t : Fin cfg0.N) :
    bodyPre m out c t ⊢ wp frame (wpE (defs₀ (F := F)) Variants.none c none) Set.univ (bodyAt0 t) (fun _ => bodyPost m out c t) := by
  unfold bodyPre bodyPost bodyAt0
  simp only [before0_0, before0_1, before0_2, before0_3, before0_4, before0_5, before0_6, before0_7, before0_8, before0_9]
  rw [show (dats m out 0 c).owesAt () t.succ = (dats m out 0 c).owesAt () t.castSucc from rfl,
    after0_0, after0_1, after0_2, after0_3, after0_4, after0_5, after0_6, after0_7, after0_8, after0_9, after0_10]
  rw [show (dats m out 0 c).Φ t.castSucc = Pipeline.ΦA spec0 c from rfl, show (dats m out 0 c).Φ t.succ = Pipeline.ΦA spec0 c from rfl, rest_eq, body_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Merge.prog_triple (mems t) Variants.none c none Set.univ (insAt m c t) _)
  unfold Merge.heldIns
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [HS]; · iexact HS
  iintro ⟨⟨H0, H1, H2, H3, H4, H5, H6, H7, H8, H9⟩, ⟨%st, %hst, H10⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [← H c t st hst]
  iexact H10

omit H in
theorem defs₀_row (t : Fin cfg0.N) : defs₀ (F := F) .tc cfg0.body (cfg0.bodyArgs t (cfg0.slots t)) = bodyAt0 t := by
  unfold defs₀; rw [Defs.onTc_tc]

theorem value_obligation (c : Dev nD) : BodyObligation (dats (F := F) m out 0 c) (defs₀ (F := F)) Variants.none () Set.univ := fun t => by
  rw [bigSep_W0, bigSep_W0, defs₀_row]
  exact triple_restated (sound_body m out H c t) rfl .rfl fun _ => .rfl

set_option backward.isDefEq.respectTransparency.types false in
/-- Every run ends with the result array put together from the blocks `out`. -/
theorem value_run : θ_run defs (onTc (τ := τ) (main (F := F))) (s₀ m ρ)
    (fun r => (Pipeline.FramePost cfgs (dats m out) 0 (V m)) r ∧ r.2.sem = fun _ => 0) :=
  Pipeline.θ_run_frame_track (Q' := _) cfgs (dats m out) (0 : Fin 1) launch0 defs₀ Variants.none m ρ main
    (hbody := fun c => (value_obligation m out H c).loose) (hshare := fun c => (dats m out 0 c).share_full fun _ => rfl)
    (howed := fun _ _ => rfl) (V := V m) (hmain := hmain m Variants.none) (hA := A_eq m out)
    (hin := fun _ => .rfl) (hout := fun _ => .rfl)

end Cert.Kernel3Ideal
end
-- ==== Proof.Merge.Entries.lean ====
/-
  The merge body's values read at an index, over extended reals: the gates, the gated sum of the branches, its projection,
  and half a tile's result.
-/
module

public import proofs.«01_k».proof.Proof.Merge.Run
public import proofs.«01_k».proof.Proof.Ffn.Entries

@[expose] public section

set_option maxRecDepth 16384

noncomputable section

namespace Merge

open Idealize.ShloMosaic Idealize.ShloMosaic.ValueIdx Idealize.ShloMosaic.VecWindow
open Attn (T1 T2 T3 T4 window_at)
open Ffn (normed norm_apply norms256)
open scoped BigOperators

/-! ## The functions computed -/

/-- A gate of a row. -/
def gateT (I : Ins Ideal) (l : Fin 512) (n : Fin 2048) : EReal :=
  Ideal.logistic (∑ k : Fin 1024, normed (fun k => I.x (ix3 0 l k)) (fun k => I.gp (ix2 0 k)) k * I.wg (ix2 k n) + I.bg (ix2 0 n))

/-- The gated sum of a row's branches. -/
def mixT (I : Ins Ideal) (l : Fin 512) (m : Fin 1024) : EReal :=
  gateT I l ⟨m.val, by omega⟩ * (∑ k : Fin 512, I.a (ix3 0 l k) * I.wa (ix2 k m))
    + gateT I l ⟨1024 + m.val, by omega⟩ * (∑ k : Fin 512, I.s (ix2 l k) * I.ws (ix2 k m))

/-- The result of a row. -/
def outT (I : Ins Ideal) (l : Fin 512) (m : Fin 1024) : EReal :=
  I.x (ix3 0 l m) + normed (fun m => ∑ k : Fin 1024, mixT I l k * I.wo (ix2 k m)) (fun m => I.gq (ix2 0 m)) m

/-! ## The values -/

theorem gatesV_apply (x : FVec Ideal (T3 1 256 1024) .f32) (gp : FVec Ideal (T2 1 1024) .f32) (wg : FVec Ideal (T2 1024 2048) .bf16) (bg : FVec Ideal (T2 1 2048) .f32)
    (i : Fin 256) (n : Fin 2048) : gatesV x gp wg bg (ix2 i n)
      = Ideal.logistic (∑ k : Fin 1024, normed (fun k => x (ix3 0 i k)) (fun k => gp (ix2 0 k)) k * wg (ix2 k n) + bg (ix2 0 n)) := by
  unfold gatesV matmul
  refine congrArg Ideal.logistic (congrArg₂ (· + ·) ?_ (broadcastTo_1b_ab_apply bg brB i n))
  rw [Ideal.matmul_plain_apply]
  show Ideal.ofBits .f32 0x00000000#32 + _ = _
  rw [Ideal.ofBits_zero_f32, zero_add]
  refine Finset.sum_congr rfl fun k _ => ?_
  rw [truncf_apply]
  refine congrArg (· * _) ((norm_apply norms256 _ gp i k).trans ?_)
  simp only [shapeCast_1ab_ab_apply]

theorem gateV_apply (g : FVec Ideal (T2 256 2048) .f32) (u : Fin 2) (i : Fin 256) (m : Fin 1024) :
    gateV g u (ix2 i m) = g (ix2 i ⟨u.val * 1024 + m.val, by omega⟩) :=
  extractStridedSlice_apply _ _ _ (ix2 i m) _ (fun a => by
    match a with
    | ⟨0, _⟩ => exact (Nat.zero_add _).symm
    | ⟨1, _⟩ => rfl)

theorem branchV_apply (a : FVec Ideal (T2 256 512) .bf16) (w : FVec Ideal (T2 512 1024) .bf16) (i : Fin 256) (j : Fin 1024) :
    branchV a w (ix2 i j) = ∑ k : Fin 512, a (ix2 i k) * w (ix2 k j) := by
  unfold branchV matmul
  rw [Ideal.matmul_plain_apply]
  show Ideal.ofBits .f32 0x00000000#32 + _ = _
  rw [Ideal.ofBits_zero_f32, zero_add]

theorem projV_apply (y : FVec Ideal (T2 256 1024) .bf16) (w : FVec Ideal (T2 1024 1024) .bf16) (i : Fin 256) (j : Fin 1024) :
    projV y w (ix2 i j) = ∑ k : Fin 1024, y (ix2 i k) * w (ix2 k j) := by
  unfold projV matmul
  rw [Ideal.matmul_plain_apply]
  show Ideal.ofBits .f32 0x00000000#32 + _ = _
  rw [Ideal.ofBits_zero_f32, zero_add]

theorem outV_apply (x : FVec Ideal (T3 1 256 1024) .f32) (f : FVec Ideal (T2 256 1024) .f32) (g : FVec Ideal (T2 1 1024) .f32) (i : Fin 256) (m : Fin 1024) :
    outV x f g (ix2 i m) = x (ix3 0 i m) + normed (fun m => f (ix2 i m)) (fun m => g (ix2 0 m)) m :=
  congrArg₂ (· + ·) (shapeCast_1ab_ab_apply x castX i m) (norm_apply norms256 f g i m)

theorem blockV_apply (y : FVec Ideal (T2 256 1024) .f32) (c : Fin 8) (i : Fin 256) (d : Fin 128) :
    blockV y c (ix2 i d) = y (ix2 i ⟨128 * c.val + d.val, by omega⟩) :=
  extractStridedSlice_apply _ _ _ (ix2 i d) _ (fun a => by
    match a with
    | ⟨0, _⟩ => exact (Nat.zero_add _).symm
    | ⟨1, _⟩ => show 128 * c.val + d.val = c.val * 128 + d.val; omega)

/-! ## The windows of the arguments -/

section Windows

variable (I : Ins Ideal)

/-- A row of a half, as a row of the tile. -/
abbrev rowOf (h : Fin 2) (i : Fin 256) : Fin 512 := ⟨h.val * 256 + i.val, by omega⟩

/-- A whole array read as one window. -/
theorem whole_at {α : Type} {a b : ℕ} (x : (T2 a b).Idx → α) (inb : ∀ k, (![0, 0] : Fin 2 → ℕ) k + (T2 a b).size k ≤ (T2 a b).size k) (i : Fin a) (j : Fin b) :
    window x ![0, 0] (T2 a b).size inb (ix2 i j) = x (ix2 i j) :=
  window_at x ![0, 0] (T2 a b).size inb (ix2 i j) (ix2 i j) (fun k => by match k with | ⟨0, _⟩ => exact (Nat.zero_add _).symm | ⟨1, _⟩ => exact (Nat.zero_add _).symm)

theorem getX_apply (h : Fin 2) (i : Fin 256) (k : Fin 1024) : I.getX h (ix3 0 i k) = I.x (ix3 0 (rowOf h i) k) :=
  window_at I.x _ _ (inbX h) (ix3 0 i k) (ix3 0 (rowOf h i) k) (fun a => by
    match a with | ⟨0, _⟩ => rfl | ⟨1, _⟩ => rfl | ⟨2, _⟩ => exact (Nat.zero_add _).symm)
theorem getA_apply (h : Fin 2) (i : Fin 256) (k : Fin 512) : I.getA h (ix3 0 i k) = I.a (ix3 0 (rowOf h i) k) :=
  window_at I.a _ _ (inbA h) (ix3 0 i k) (ix3 0 (rowOf h i) k) (fun a => by
    match a with | ⟨0, _⟩ => rfl | ⟨1, _⟩ => rfl | ⟨2, _⟩ => exact (Nat.zero_add _).symm)
theorem getS_apply (h : Fin 2) (i : Fin 256) (k : Fin 512) : I.getS h (ix2 i k) = I.s (ix2 (rowOf h i) k) :=
  window_at I.s _ _ (inbS h) (ix2 i k) (ix2 (rowOf h i) k) (fun a => by
    match a with | ⟨0, _⟩ => rfl | ⟨1, _⟩ => exact (Nat.zero_add _).symm)

theorem mixed_apply (h : Fin 2) (i : Fin 256) (m : Fin 1024) : I.mixed h (ix2 i m) = mixT I (rowOf h i) m := by
  unfold Ins.mixed mixedV mixT
  rw [truncf_apply]
  have hg : ∀ n : Fin 2048, gatesV (I.getX h) I.getGP I.getWG I.getBG (ix2 i n) = gateT I (rowOf h i) n := fun n => by
    rw [gatesV_apply]
    unfold gateT
    simp only [getX_apply]
    refine congrArg Ideal.logistic (congrArg₂ (· + ·) (Finset.sum_congr rfl fun k _ => congrArg₂ (· * ·) ?_ (whole_at I.wg inbWG k n)) (whole_at I.bg inbBG 0 n))
    exact congrArg (fun g => normed _ g k) (funext fun k => whole_at I.gp inbG 0 k)
  have h0 : gateV (gatesV (I.getX h) I.getGP I.getWG I.getBG) 0 (ix2 i m) = gateT I (rowOf h i) ⟨m.val, by omega⟩ := by
    rw [gateV_apply, hg]
    exact congrArg (gateT I _) (Fin.ext (by show 0 * 1024 + m.val = m.val; omega))
  have h1 : gateV (gatesV (I.getX h) I.getGP I.getWG I.getBG) 1 (ix2 i m) = gateT I (rowOf h i) ⟨1024 + m.val, by omega⟩ := by
    rw [gateV_apply, hg]
    exact congrArg (gateT I _) (Fin.ext (by show 1 * 1024 + m.val = 1024 + m.val; omega))
  refine congrArg₂ (· + ·) (congrArg₂ (· * ·) h0 ((branchV_apply _ _ i m).trans (Finset.sum_congr rfl fun k _ => congrArg₂ (· * ·) ?_ (whole_at I.wa inbWB k m))))
    (congrArg₂ (· * ·) h1 ((branchV_apply _ _ i m).trans (Finset.sum_congr rfl fun k _ => congrArg₂ (· * ·) (getS_apply I h i k) (whole_at I.ws inbWB k m))))
  exact (shapeCast_1ab_ab_apply _ castA i k).trans (getA_apply I h i k)

theorem half_apply (h : Fin 2) (i : Fin 256) (m : Fin 1024) : I.half h (ix2 i m) = outT I (rowOf h i) m := by
  unfold Ins.half outT
  rw [outV_apply, getX_apply]
  refine congrArg (_ + ·) (congrArg₂ (fun f g => normed f g m) (funext fun m => ?_) (funext fun m => whole_at I.gq inbG 0 m))
  rw [projV_apply]
  exact Finset.sum_congr rfl fun k _ => congrArg₂ (· * ·) (mixed_apply I h i k) (whole_at I.wo inbWO k m)

end Windows

end Merge

end
-- ==== Proof.Merge.Tile.lean ====
/-
  A whole tile over extended reals: both halves stored by column blocks and read back by phase, and what the body leaves as
  its result.
-/
module

public import proofs.«01_k».proof.Proof.Merge.Entries

@[expose] public section

set_option maxRecDepth 16384

noncomputable section

namespace Merge

open Idealize.ShloMosaic Idealize.ShloMosaic.ValueIdx Idealize.ShloMosaic.VecWindow
open Attn (T1 T2 T3 T4 put_in put_out)

/-! ## A half stored by column blocks -/

variable (st : State Ideal)

theorem puts_apply (h : Fin 2) (y : FVec Ideal (T2 256 1024) .f32) (c : Fin 8) (i : Fin 256) (d : Fin 128) : ∀ (n : ℕ) (hn : n ≤ 8), c.val < n →
    (st.puts h y n hn).p (ix4 h c i d) = y (ix2 i ⟨128 * c.val + d.val, by omega⟩)
  | 0, _, hc => absurd hc (by omega)
  | n + 1, hn, hc => by
    unfold State.puts
    show put (st.puts h y n (by omega)).p ![h.val, n, 0, 0] (T4 1 1 256 128).size (shapeCast (T4 1 1 256 128) _ castP) (ix4 h c i d) = _
    by_cases e : c.val = n
    · rw [put_in (st.puts h y n (by omega)).p ![h.val, n, 0, 0] (T4 1 1 256 128).size _ (ix4 h c i d) (show (T4 1 1 256 128).Idx from ix4 0 0 i d) (fun a => by
        match a with
        | ⟨0, _⟩ => rfl
        | ⟨1, _⟩ => exact e
        | ⟨2, _⟩ => exact (Nat.zero_add _).symm
        | ⟨3, _⟩ => exact (Nat.zero_add _).symm)]
      refine (shapeCast_apply _ castP (ix4 0 0 i d) (ix2 i d) (by
        rw [Shape.rowMajor_val_two, Shape.rowMajor_val_four]
        show i.val * 128 + d.val = ((0 * 1 + 0) * 256 + i.val) * 128 + d.val
        omega)).trans ?_
      rw [blockV_apply]
      exact congrArg (fun k => y (ix2 i k)) (Fin.ext (by show 128 * n + d.val = 128 * c.val + d.val; omega))
    · rw [put_out _ _ _ _ _ (1 : Fin 4) (Or.inl (show c.val < n by omega))]
      exact puts_apply h y c i d n (by omega) (by omega)

/-! ## Read back by phase -/

theorem getR_apply (h : Fin 2) (c b : Fin 8) (q : Fin 32) (d : Fin 128) (i : Fin 256) (hi : i.val = b.val + 8 * q.val) :
    st.getR h c b (ix4 0 0 q d) = st.p (ix4 h c i d) :=
  congrArg st.p (funext fun a => Fin.ext (by
    match a with
    | ⟨0, _⟩ => rfl
    | ⟨1, _⟩ => rfl
    | ⟨2, _⟩ => exact hi.symm
    | ⟨3, _⟩ => show 0 + 1 * d.val = d.val; omega))

theorem phases_out (h : Fin 2) (c : Fin 8) (r : Fin 512) (m : Fin 1024) (hr : r.val % 64 / 32 ≠ h.val ∨ m.val / 128 ≠ c.val) : ∀ (n : ℕ) (hn : n ≤ 8),
    (st.phases h c n hn).o (ix3 0 r m) = st.o (ix3 0 r m)
  | 0, _ => rfl
  | n + 1, hn => by
    unfold State.phases
    show put (st.phases h c n (by omega)).o ![0, n * 64 + h.val * 32, c.val * 128] (T3 1 32 128).size (shapeCast (T3 1 32 128) _ castO) (ix3 0 r m) = _
    have := h.isLt
    have e : put (st.phases h c n (by omega)).o ![0, n * 64 + h.val * 32, c.val * 128] (T3 1 32 128).size (shapeCast (T3 1 32 128)
        (shapeCast (T2 32 128) ((st.phases h c n (by omega)).getR h c ⟨n, by omega⟩) castR) castO) (ix3 0 r m) = (st.phases h c n (by omega)).o (ix3 0 r m) := by
      rcases hr with hr | hr
      · exact put_out _ _ _ _ _ (1 : Fin 3) (by show r.val < n * 64 + h.val * 32 ∨ n * 64 + h.val * 32 + 32 ≤ r.val; omega)
      · exact put_out _ _ _ _ _ (2 : Fin 3) (by show m.val < c.val * 128 ∨ c.val * 128 + 128 ≤ m.val; omega)
    rw [e]
    exact phases_out h c r m hr n (by omega)

/-- The place in a half of the row at place `r` of the result. -/
abbrev within (r : Fin 512) : Fin 256 := ⟨r.val / 64 + 8 * (r.val % 32), by omega⟩

theorem phases_in (h : Fin 2) (c : Fin 8) (r : Fin 512) (m : Fin 1024) (hr : r.val % 64 / 32 = h.val) (hm : m.val / 128 = c.val) : ∀ (n : ℕ) (hn : n ≤ 8), r.val / 64 < n →
    (st.phases h c n hn).o (ix3 0 r m) = st.p (ix4 h c (within r) ⟨m.val % 128, by omega⟩)
  | 0, _, hc => absurd hc (by omega)
  | n + 1, hn, hc => by
    unfold State.phases
    show put (st.phases h c n (by omega)).o ![0, n * 64 + h.val * 32, c.val * 128] (T3 1 32 128).size (shapeCast (T3 1 32 128) _ castO) (ix3 0 r m) = _
    by_cases e : r.val / 64 = n
    · rw [put_in (st.phases h c n (by omega)).o ![0, n * 64 + h.val * 32, c.val * 128] (T3 1 32 128).size _ (ix3 0 r m)
        (ix3 0 (⟨r.val % 32, by omega⟩ : Fin 32) (⟨m.val % 128, by omega⟩ : Fin 128)) (fun a => by
          match a with
          | ⟨0, _⟩ => rfl
          | ⟨1, _⟩ => show r.val = n * 64 + h.val * 32 + r.val % 32; omega
          | ⟨2, _⟩ => show m.val = c.val * 128 + m.val % 128; omega)]
      rw [shapeCast_ab_1ab_apply]
      refine (shapeCast_apply _ castR (ix2 (⟨r.val % 32, by omega⟩ : Fin 32) (⟨m.val % 128, by omega⟩ : Fin 128)) (ix4 0 0 ⟨r.val % 32, by omega⟩ ⟨m.val % 128, by omega⟩) (by
        rw [Shape.rowMajor_val_two, Shape.rowMajor_val_four]
        show ((0 * 1 + 0) * 32 + r.val % 32) * 128 + m.val % 128 = r.val % 32 * 128 + m.val % 128
        omega)).trans ?_
      rw [getR_apply _ h c ⟨n, by omega⟩ _ _ (within r) (by show r.val / 64 + 8 * (r.val % 32) = n + 8 * (r.val % 32); omega), State.phases_p]
    · rw [put_out _ _ _ _ _ (1 : Fin 3) (Or.inl (show r.val < n * 64 + h.val * 32 by omega))]
      exact phases_in h c r m hr hm n (by omega) (by omega)

theorem outs_out (h : Fin 2) (r : Fin 512) (m : Fin 1024) (hr : r.val % 64 / 32 ≠ h.val) : ∀ (n : ℕ) (hn : n ≤ 8), (st.outs h n hn).o (ix3 0 r m) = st.o (ix3 0 r m)
  | 0, _ => rfl
  | n + 1, hn => by
    unfold State.outs
    rw [phases_out _ h _ r m (Or.inl hr)]
    exact outs_out h r m hr n (by omega)

theorem outs_in (h : Fin 2) (r : Fin 512) (m : Fin 1024) (hr : r.val % 64 / 32 = h.val) : ∀ (n : ℕ) (hn : n ≤ 8), m.val / 128 < n →
    (st.outs h n hn).o (ix3 0 r m) = st.p (ix4 h ⟨m.val / 128, by omega⟩ (within r) ⟨m.val % 128, by omega⟩)
  | 0, _, hc => absurd hc (by omega)
  | n + 1, hn, hc => by
    unfold State.outs
    by_cases e : m.val / 128 = n
    · rw [phases_in _ h ⟨n, by omega⟩ r m hr e 8 le_rfl (by omega), State.outs_p]
      exact congrArg (fun c => st.p (ix4 h c (within r) _)) (Fin.ext e.symm)
    · rw [phases_out _ h ⟨n, by omega⟩ r m (Or.inr e)]
      exact outs_in h r m hr n (by omega) (by omega)

theorem finish_out (h : Fin 2) (y : FVec Ideal (T2 256 1024) .f32) (r : Fin 512) (m : Fin 1024) (hr : r.val % 64 / 32 ≠ h.val) :
    (st.finish h y).o (ix3 0 r m) = st.o (ix3 0 r m) := by
  unfold State.finish
  rw [outs_out _ h r m hr, State.puts_o]

theorem finish_in (h : Fin 2) (y : FVec Ideal (T2 256 1024) .f32) (r : Fin 512) (m : Fin 1024) (hr : r.val % 64 / 32 = h.val) :
    (st.finish h y).o (ix3 0 r m) = y (ix2 (within r) m) := by
  unfold State.finish
  rw [outs_in _ h r m hr 8 le_rfl (by omega), puts_apply _ h y _ _ _ 8 le_rfl (by show m.val / 128 < 8; omega)]
  exact congrArg (fun k => y (ix2 (within r) k)) (Fin.ext (by show 128 * (m.val / 128) + m.val % 128 = m.val; omega))

/-- The row at place `r` of the result, whose rows stand by phase. -/
def src (r : ℕ) : Fin 512 := ⟨8 * (r % 64) + r / 64 % 8, by omega⟩

/-- The body's result. -/
theorem body_o (r : Fin 512) (m : Fin 1024) : st.body.o (ix3 0 r m) = outT st.i (src r.val) m := by
  unfold State.body
  by_cases hr : r.val % 64 / 32 = 1
  · rw [finish_in _ 1 _ r m hr, half_apply]
    exact congrArg (fun l => outT st.i l m) (Fin.ext (by show 1 * 256 + (r.val / 64 + 8 * (r.val % 32)) = 8 * (r.val % 64) + r.val / 64 % 8; omega))
  · rw [finish_out _ 1 _ r m hr, finish_in _ 0 _ r m (by show r.val % 64 / 32 = 0; omega), half_apply]
    exact congrArg (fun l => outT st.i l m) (Fin.ext (by show 0 * 256 + (r.val / 64 + 8 * (r.val % 32)) = 8 * (r.val % 64) + r.val / 64 % 8; omega))

end Merge

end
-- ==== Proof.Merge.Result.lean ====
/-
  What the merge computes: its result as a function of the whole arrays, position by position along a sequence.
-/
module

public import proofs.«01_k».proof.Proof.Merge.Tile

@[expose] public section

set_option maxRecDepth 16384

noncomputable section

namespace Merge

open Idealize.ShloMosaic Idealize.ShloMosaic.ValueIdx
open Attn (T1 T2 T3)
open Ffn (normed)
open scoped BigOperators

/-- The arrays of the arguments: the rows, attention's branch, the state space branch with time in front, the scale before,
the gates' matrix and bias, the branches' matrices, the projection, the scale after. -/
structure Args where
  x : (T3 8 4096 1024).Idx → EReal
  a : (T3 8 4096 512).Idx → EReal
  s : (T2 4096 4096).Idx → EReal
  gp : (T2 1 1024).Idx → EReal
  wg : (T2 1024 2048).Idx → EReal
  bg : (T2 1 2048).Idx → EReal
  wa : (T2 512 1024).Idx → EReal
  ws : (T2 512 1024).Idx → EReal
  wo : (T2 1024 1024).Idx → EReal
  gq : (T2 1 1024).Idx → EReal

/-- The arguments of a tile: 512 rows of its sequence, the weights whole. -/
def tileIns (A : Args) (s i : Fin 8) : Ins Ideal where
  x := fun z => A.x (ix3 s ⟨512 * i.val + (z 1).val, by have : (z 1).val < 512 := (z 1).isLt; omega⟩ ⟨(z 2).val, (z 2).isLt⟩)
  a := fun z => A.a (ix3 s ⟨512 * i.val + (z 1).val, by have : (z 1).val < 512 := (z 1).isLt; omega⟩ ⟨(z 2).val, (z 2).isLt⟩)
  s := fun z => A.s (ix2 ⟨512 * i.val + (z 0).val, by have : (z 0).val < 512 := (z 0).isLt; omega⟩ ⟨512 * s.val + (z 1).val, by have : (z 1).val < 512 := (z 1).isLt; omega⟩)
  gp := A.gp
  wg := A.wg
  bg := A.bg
  wa := A.wa
  ws := A.ws
  wo := A.wo
  gq := A.gq

/-! ## Along a sequence -/

/-- A gate at position `τ` of sequence `s`. -/
def gateAt (A : Args) (s : Fin 8) (τ : Fin 4096) (n : Fin 2048) : EReal :=
  Ideal.logistic (∑ k : Fin 1024, normed (fun k => A.x (ix3 s τ k)) (fun k => A.gp (ix2 0 k)) k * A.wg (ix2 k n) + A.bg (ix2 0 n))

/-- The gated sum of the branches. -/
def mixAt (A : Args) (s : Fin 8) (τ : Fin 4096) (m : Fin 1024) : EReal :=
  gateAt A s τ ⟨m.val, by omega⟩ * (∑ k : Fin 512, A.a (ix3 s τ k) * A.wa (ix2 k m))
    + gateAt A s τ ⟨1024 + m.val, by omega⟩ * (∑ k : Fin 512, A.s (ix2 τ ⟨512 * s.val + k.val, by omega⟩) * A.ws (ix2 k m))

/-- The merge. -/
def outAt (A : Args) (s : Fin 8) (τ : Fin 4096) (m : Fin 1024) : EReal :=
  A.x (ix3 s τ m) + normed (fun m => ∑ k : Fin 1024, mixAt A s τ k * A.wo (ix2 k m)) (fun m => A.gq (ix2 0 m)) m

theorem outT_tile (A : Args) (s i : Fin 8) (l : Fin 512) (m : Fin 1024) : outT (tileIns A s i) l m = outAt A s ⟨512 * i.val + l.val, by omega⟩ m := rfl

/-- The position held at row `r` of the result. -/
def pos (r : Fin 4096) : Fin 4096 := ⟨512 * (r.val / 512) + (src (r.val % 512)).val, by have := (src (r.val % 512)).isLt; omega⟩

/-- The result array. -/
def result (A : Args) (s : Fin 8) (r : Fin 4096) (m : Fin 1024) : EReal := outAt A s (pos r) m

end Merge

end
-- ==== Proof.Merge.Value.lean ====
/-
  The value of Kernel3Ideal: its result array is the merge of the argument arrays.
-/
module

public import proofs.«01_k».proof.Proof.Merge.FrameKernel3Ideal
public import proofs.«01_k».proof.Proof.Merge.Result
public import Idealize.ShloMosaic.Lib.Pipeline.ValueKit.Geometry

@[expose] public section

set_option maxRecDepth 16384

noncomputable section

namespace Cert.Kernel3Ideal

open Idealize.ShloMosaic Idealize.ShloMosaic.TcCoe Idealize.ShloMosaic.ValueIdx
open Idealize.SL Idealize.SL.Sem
open Cert.Kernel3Ideal.Gen
open Merge

variable (m : (ℓ : Loc nD τ sig) → Buf (Elt Ideal) ℓ) (ρ : Dev nD → PrngReg)

/-- The arrays of a device's arguments. -/
abbrev args (c : Dev nD) : Args where
  x := m ((c : Thread nD τ).loc main_arg0)
  a := m ((c : Thread nD τ).loc main_arg1)
  s := m ((c : Thread nD τ).loc main_arg2)
  gp := m ((c : Thread nD τ).loc main_arg3)
  wg := m ((c : Thread nD τ).loc main_arg4)
  bg := m ((c : Thread nD τ).loc main_arg5)
  wa := m ((c : Thread nD τ).loc main_arg6)
  ws := m ((c : Thread nD τ).loc main_arg7)
  wo := m ((c : Thread nD τ).loc main_arg8)
  gq := m ((c : Thread nD τ).loc main_arg9)

theorem points : cfg0.N = 64 := by decide +kernel

/-- The sequence and the tile of a grid point. -/
def seqOf (t : Fin cfg0.N) : Fin 8 := ⟨t.val / 8, by have := t.isLt; have := points; omega⟩
def tileOf (t : Fin cfg0.N) : Fin 8 := ⟨t.val % 8, by omega⟩

theorem index_x : ∀ t : Fin cfg0.N, win0_0.index t = ![(seqOf t).val, (tileOf t).val, 0] := (by decide +kernel : ∀ t : Fin grid0.N, _)
theorem index_a : ∀ t : Fin cfg0.N, win0_1.index t = ![(seqOf t).val, (tileOf t).val, 0] := (by decide +kernel : ∀ t : Fin grid0.N, _)
theorem index_s : ∀ t : Fin cfg0.N, win0_2.index t = ![(tileOf t).val, (seqOf t).val] := (by decide +kernel : ∀ t : Fin grid0.N, _)
theorem index_gp : ∀ t : Fin cfg0.N, win0_3.index t = ![0, 0] := (by decide +kernel : ∀ t : Fin grid0.N, _)
theorem index_wg : ∀ t : Fin cfg0.N, win0_4.index t = ![0, 0] := (by decide +kernel : ∀ t : Fin grid0.N, _)
theorem index_bg : ∀ t : Fin cfg0.N, win0_5.index t = ![0, 0] := (by decide +kernel : ∀ t : Fin grid0.N, _)
theorem index_wa : ∀ t : Fin cfg0.N, win0_6.index t = ![0, 0] := (by decide +kernel : ∀ t : Fin grid0.N, _)
theorem index_ws : ∀ t : Fin cfg0.N, win0_7.index t = ![0, 0] := (by decide +kernel : ∀ t : Fin grid0.N, _)
theorem index_wo : ∀ t : Fin cfg0.N, win0_8.index t = ![0, 0] := (by decide +kernel : ∀ t : Fin grid0.N, _)
theorem index_gq : ∀ t : Fin cfg0.N, win0_9.index t = ![0, 0] := (by decide +kernel : ∀ t : Fin grid0.N, _)
theorem index_o : ∀ t : Fin cfg0.N, win0_10.index t = ![(seqOf t).val, (tileOf t).val, 0] := (by decide +kernel : ∀ t : Fin grid0.N, _)

/-! A grid point's blocks are those of its tile. -/

theorem blk_x (c : Dev nD) (t : Fin cfg0.N) : iblk m c 0 t = (tileIns (args m c) (seqOf t) (tileOf t)).x := by
  funext z
  have h0 : (z 0).val < 1 := (z 0).isLt
  show (args m c).x ((win0_0.blk t).view.emb z) = _
  unfold tileIns
  refine congrArg (args m c).x ?_
  blk_ext [index_x]

theorem blk_a (c : Dev nD) (t : Fin cfg0.N) : iblk m c 1 t = (tileIns (args m c) (seqOf t) (tileOf t)).a := by
  funext z
  have h0 : (z 0).val < 1 := (z 0).isLt
  show (args m c).a ((win0_1.blk t).view.emb z) = _
  unfold tileIns
  refine congrArg (args m c).a ?_
  blk_ext [index_a]

theorem blk_s (c : Dev nD) (t : Fin cfg0.N) : iblk m c 2 t = (tileIns (args m c) (seqOf t) (tileOf t)).s := by
  funext z
  show (args m c).s ((win0_2.blk t).view.emb z) = _
  unfold tileIns
  refine congrArg (args m c).s ?_
  blk_ext [index_s]

theorem blk_gp (c : Dev nD) (t : Fin cfg0.N) : iblk m c 3 t = (args m c).gp := by
  funext z
  show (args m c).gp ((win0_3.blk t).view.emb z) = _
  refine congrArg (args m c).gp ?_
  blk_ext [index_gp]

theorem blk_wg (c : Dev nD) (t : Fin cfg0.N) : iblk m c 4 t = (args m c).wg := by
  funext z
  show (args m c).wg ((win0_4.blk t).view.emb z) = _
  refine congrArg (args m c).wg ?_
  blk_ext [index_wg]

theorem blk_bg (c : Dev nD) (t : Fin cfg0.N) : iblk m c 5 t = (args m c).bg := by
  funext z
  show (args m c).bg ((win0_5.blk t).view.emb z) = _
  refine congrArg (args m c).bg ?_
  blk_ext [index_bg]

theorem blk_wa (c : Dev nD) (t : Fin cfg0.N) : iblk m c 6 t = (args m c).wa := by
  funext z
  show (args m c).wa ((win0_6.blk t).view.emb z) = _
  refine congrArg (args m c).wa ?_
  blk_ext [index_wa]

theorem blk_ws (c : Dev nD) (t : Fin cfg0.N) : iblk m c 7 t = (args m c).ws := by
  funext z
  show (args m c).ws ((win0_7.blk t).view.emb z) = _
  refine congrArg (args m c).ws ?_
  blk_ext [index_ws]

theorem blk_wo (c : Dev nD) (t : Fin cfg0.N) : iblk m c 8 t = (args m c).wo := by
  funext z
  show (args m c).wo ((win0_8.blk t).view.emb z) = _
  refine congrArg (args m c).wo ?_
  blk_ext [index_wo]

theorem blk_gq (c : Dev nD) (t : Fin cfg0.N) : iblk m c 9 t = (args m c).gq := by
  funext z
  show (args m c).gq ((win0_9.blk t).view.emb z) = _
  refine congrArg (args m c).gq ?_
  blk_ext [index_gq]

theorem insAt_eq (c : Dev nD) (t : Fin cfg0.N) : insAt m c t = tileIns (args m c) (seqOf t) (tileOf t) := by
  unfold insAt
  rw [blk_x, blk_a, blk_s, blk_gp, blk_wg, blk_bg, blk_wa, blk_ws, blk_wo, blk_gq]
  rfl

/-- What a grid point computes. -/
def outs : Outs Ideal := fun c t z => outT (tileIns (args m c) (seqOf t) (tileOf t)) (src (z 1).val) ⟨(z 2).val, (z 2).isLt⟩

theorem computes : Computes m (outs m) := fun c t st hst => by
  rw [insAt_eq] at hst
  funext z
  obtain ⟨r, d, rfl⟩ : ∃ (r : Fin 512) (d : Fin 1024), z = ix3 0 r d := ⟨z 1, z 2, funext fun a => by
    match a with
    | ⟨0, _⟩ => exact Fin.ext (by have : (z 0).val < 1 := (z 0).isLt; show (z 0).val = 0; omega)
    | ⟨1, _⟩ => rfl
    | ⟨2, _⟩ => rfl⟩
  show _ = outT (tileIns (args m c) (seqOf t) (tileOf t)) (src r.val) d
  rw [body_o, hst]

/-- The result array of a device. -/
abbrev resultArr (c : Dev nD) : (Attn.T3 8 4096 1024).Idx → EReal := fun i => result (args m c) (i 0) (i 1) (i 2)

theorem arr_eq (c : Dev nD) : (dats m (outs m) 0 c).arrAt 10 cfg0.N = (resultArr m c : Buf (Elt Ideal) ((c : Thread nD τ).loc main_v0)) := by
  refine (dats m (outs m) 0 c).arrAt_eq_of_covers 10 _ (by decide +kernel) fun t hf y => ?_
  have h0 : (y 0).val < 1 := (y 0).isLt
  have h1 : (y 1).val < 512 := (y 1).isLt
  have h2 : (y 2).val < 1024 := (y 2).isLt
  have ht : (tileOf t).val < 8 := (tileOf t).isLt
  have e : (win0_10.blk t).view.emb y = (ix3 (seqOf t) ⟨512 * (tileOf t).val + (y 1).val, by omega⟩ ⟨(y 2).val, h2⟩ : (Attn.T3 8 4096 1024).Idx) := by
    blk_ext [index_o]
  show outs m c t y = resultArr m c ((win0_10.blk t).view.emb y)
  rw [e]
  show outT _ (src (y 1).val) _ = outAt (args m c) (seqOf t) (pos ⟨512 * (tileOf t).val + (y 1).val, _⟩) _
  rw [outT_tile]
  refine congrArg (fun τ => outAt (args m c) (seqOf t) τ _) (Fin.ext ?_)
  have e2 : (512 * (tileOf t).val + (y 1).val) % 512 = (y 1).val := by omega
  show 512 * (tileOf t).val + (src (y 1).val).val = 512 * ((512 * (tileOf t).val + (y 1).val) / 512) + (src ((512 * (tileOf t).val + (y 1).val) % 512)).val
  rw [e2]
  omega

/-- Every run of Kernel3Ideal ends with the merge in its result array and its arguments as they were. -/
theorem run :
    θ_run defs (onTc (τ := τ) (main (F := Ideal))) ⟨m, fun _ => 0, ρ⟩ fun r => ∀ c : Dev nD,
      r.2.mem ((c.tc : Thread nD τ).loc main_v0) = (resultArr m c : Buf (Elt Ideal) ((c : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).1 10).trans (arr_eq m c), ((h.1 c).1 0).trans ((dats m (outs m) 0 c).arrAt_in 0 rfl _),
      ((h.1 c).1 1).trans ((dats m (outs m) 0 c).arrAt_in 1 rfl _),
      ((h.1 c).1 2).trans ((dats m (outs m) 0 c).arrAt_in 2 rfl _),
      ((h.1 c).1 3).trans ((dats m (outs m) 0 c).arrAt_in 3 rfl _),
      ((h.1 c).1 4).trans ((dats m (outs m) 0 c).arrAt_in 4 rfl _),
      ((h.1 c).1 5).trans ((dats m (outs m) 0 c).arrAt_in 5 rfl _),
      ((h.1 c).1 6).trans ((dats m (outs m) 0 c).arrAt_in 6 rfl _),
      ((h.1 c).1 7).trans ((dats m (outs m) 0 c).arrAt_in 7 rfl _),
      ((h.1 c).1 8).trans ((dats m (outs m) 0 c).arrAt_in 8 rfl _),
      ((h.1 c).1 9).trans ((dats m (outs m) 0 c).arrAt_in 9 rfl _)⟩)
    (value_run m ρ (outs m) (computes m))

end Cert.Kernel3Ideal

end
-- ==== Proof.Merge.Reference.lean ====
/-
  The value of the merge's reference: every entry of its result is the merge's at its position.
-/
module

public import proofs.«01_k».proof.Proof.Gen.Reference3Ideal.Run
public import proofs.«01_k».proof.Proof.Merge.Result
public import proofs.«01_k».proof.Proof.Ffn.Reference

@[expose] public section

set_option maxRecDepth 16384

noncomputable section

namespace Cert.Reference3Ideal

open Idealize.ShloMosaic Idealize.ShloMosaic.TcCoe Idealize.ShloMosaic.ValueIdx
open Cert.Reference3Ideal.Gen Cert.Reference3Ideal.Value
open Merge
open Ffn (normed)
open Cert.Reference2Ideal (rowsDot_apply columns_apply normed_apply)
open scoped BigOperators

variable (m : (ℓ : Loc nD τ sig) → Buf (Elt Ideal) ℓ) (c : Dev nD)

/-- The arrays of a device's arguments. -/
abbrev args : Args where
  x := m ((c.tc : Thread nD τ).loc main_arg0)
  a := m ((c.tc : Thread nD τ).loc main_arg1)
  s := m ((c.tc : Thread nD τ).loc main_arg2)
  gp := m ((c.tc : Thread nD τ).loc main_arg3)
  wg := m ((c.tc : Thread nD τ).loc main_arg4)
  bg := m ((c.tc : Thread nD τ).loc main_arg5)
  wa := m ((c.tc : Thread nD τ).loc main_arg6)
  ws := m ((c.tc : Thread nD τ).loc main_arg7)
  wo := m ((c.tc : Thread nD τ).loc main_arg8)
  gq := m ((c.tc : Thread nD τ).loc main_arg9)

/-! ## The reference's values, named -/

/-- Rows normalized and scaled. -/
def normR (y : FVec Ideal S8x4096x1024 .f32) (g : FVec Ideal S1x1024 .f32) : FVec Ideal S8x4096x1024 .f32 :=
  mulf (mulf y (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf y y) (constant S_ .f32 0x00000000#32) reducesTo_S8x4096x1024_S8x4096_d2 h_S_))
      (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![1, 2] bcast_S1x1024_S1x1x1024_1_2 g))

/-- What the gates' sigmoid is taken of. -/
def scoresR : FVec Ideal S8x4096x2048 .f32 :=
  addf (Host.dotGeneral dot_S8x4096x1024_S1024x2048_S8x4096x2048_2_0_01_1_n_n none (normR (m ((c.tc : Thread nD τ).loc main_arg0)) (m ((c.tc : Thread nD τ).loc main_arg3)))
      (extf .f32 (m ((c.tc : Thread nD τ).loc main_arg4)) bitsLt_bf16_f32))
    (broadcastInDim S8x4096x2048 ![0, 1, 2] bcast_S1x1x2048_S8x4096x2048_0_1_2 (broadcastInDim S1x1x2048 ![1, 2] bcast_S1x2048_S1x1x2048_1_2 (m ((c.tc : Thread nD τ).loc main_arg5))))

/-- The gates. -/
def gatesR : FVec Ideal S8x4096x2048 .f32 :=
  Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf (scoresR m c))))

/-- The state space branch, its sequences in front. -/
def branchR : FVec Ideal S8x4096x512 .f32 :=
  transpose S8x4096x512 [1, 0, 2] (shapeCast S4096x8x512 (extf .f32 (m ((c.tc : Thread nD τ).loc main_arg2)) bitsLt_bf16_f32) shapeCasts_S4096x4096_S4096x8x512)
    transposes_S4096x8x512_S8x4096x512_1_0_2

/-- The gated sum. -/
def mixR : FVec Ideal S8x4096x1024 .f32 :=
  addf (mulf (extractStridedSlice S8x4096x1024 ![0, 0, 0] (gatesR m c) slices_S8x4096x2048_S8x4096x1024_0_0_0)
      (Host.dotGeneral dot_S8x4096x512_S512x1024_S8x4096x1024_2_0_01_1_n_n none (extf .f32 (m ((c.tc : Thread nD τ).loc main_arg1)) bitsLt_bf16_f32)
        (extf .f32 (m ((c.tc : Thread nD τ).loc main_arg6)) bitsLt_bf16_f32)))
    (mulf (extractStridedSlice S8x4096x1024 ![0, 0, 1024] (gatesR m c) slices_S8x4096x2048_S8x4096x1024_0_0_1024)
      (Host.dotGeneral dot_S8x4096x512_S512x1024_S8x4096x1024_2_0_01_1_n_n none (branchR m c) (extf .f32 (m ((c.tc : Thread nD τ).loc main_arg7)) bitsLt_bf16_f32)))

/-- Its projection. -/
def projR : FVec Ideal S8x4096x1024 .f32 :=
  Host.dotGeneral dot_S8x4096x1024_S1024x1024_S8x4096x1024_2_0_01_1_n_n none (mixR m c) (extf .f32 (m ((c.tc : Thread nD τ).loc main_arg8)) bitsLt_bf16_f32)

/-- The merge, its rows in their order. -/
def mergedR : FVec Ideal S8x4096x1024 .f32 :=
  addf (m ((c.tc : Thread nD τ).loc main_arg0)) (normR (projR m c) (m ((c.tc : Thread nD τ).loc main_arg9)))

theorem res_eq : res_main_v55 (F := Ideal) m c = shapeCast S8x4096x1024 (transpose S8x8x8x64x1024 [0, 1, 3, 2, 4]
    (shapeCast S8x8x64x8x1024 (mergedR m c) shapeCasts_S8x4096x1024_S8x8x64x8x1024) transposes_S8x8x64x8x1024_S8x8x8x64x1024_0_1_3_2_4)
    shapeCasts_S8x8x8x64x1024_S8x4096x1024 := by
  unfold res_main_v55 mergedR projR mixR gatesR scoresR branchR normR
  rfl

/-! ## At an entry -/

variable (s : Fin 8) (τ' : Fin 4096)

theorem normR_apply (y : FVec Ideal S8x4096x1024 .f32) (g : FVec Ideal S1x1024 .f32) (k : Fin 1024) :
    normR y g (ix3 s τ' k) = normed (fun k => y (ix3 s τ' k)) (fun k => g (ix2 0 k)) k := normed_apply y g s τ' k

theorem gatesR_apply (n : Fin 2048) : gatesR m c (ix3 s τ' n) = gateAt (args m c) s τ' n := by
  have e : scoresR m c (ix3 s τ' n)
      = ∑ k : Fin 1024, normed (fun k => (args m c).x (ix3 s τ' k)) (fun k => (args m c).gp (ix2 0 k)) k * (args m c).wg (ix2 k n) + (args m c).bg (ix2 0 n) := by
    unfold scoresR
    refine congrArg₂ (· + ·) ((rowsDot_apply dot_S8x4096x1024_S1024x2048_S8x4096x2048_2_0_01_1_n_n.wf _ _ s τ' n).trans ?_) (columns_apply _ _ (args m c).bg s τ' n)
    refine Finset.sum_congr rfl fun k _ => ?_
    rw [normR_apply]
    rfl
  show Ideal.div (Ideal.ofBits .f32 0x3F800000#32) (Ideal.ofBits .f32 0x3F800000#32 + Ideal.exp (-(scoresR m c (ix3 s τ' n)))) = _
  rw [Ideal.ofBits_one_f32, e]
  rfl

/-- The state space branch holds sequence `s` in columns `512 s` to `512 s + 511`. -/
theorem branchR_apply (k : Fin 512) : branchR m c (ix3 s τ' k) = (args m c).s (ix2 τ' ⟨512 * s.val + k.val, by omega⟩) := by
  unfold branchR
  rw [transpose_apply _ _ transposes_S4096x8x512_S8x4096x512_1_0_2 _ (ix3 τ' s k) (fun b => by
    match b with
    | ⟨0, _⟩ => rfl
    | ⟨1, _⟩ => rfl
    | ⟨2, _⟩ => rfl)]
  exact shapeCast_apply _ shapeCasts_S4096x4096_S4096x8x512 _ (ix2 τ' ⟨512 * s.val + k.val, by omega⟩) (by
    rewrite [Shape.rowMajor_val_two, Shape.rowMajor_val_three]
    show τ'.val * 4096 + (512 * s.val + k.val) = (τ'.val * 8 + s.val) * 512 + k.val
    omega)

theorem mixR_apply (k : Fin 1024) : mixR m c (ix3 s τ' k) = mixAt (args m c) s τ' k := by
  unfold mixR mixAt
  refine congrArg₂ (· + ·) (congrArg₂ (· * ·) ?_ ?_) (congrArg₂ (· * ·) ?_ ?_)
  · rw [extractStridedSlice_apply _ _ _ (ix3 s τ' k) (ix3 s τ' (⟨k.val, by omega⟩ : Fin 2048)) (fun a => by
      match a with
      | ⟨0, _⟩ => exact (Nat.zero_add _).symm
      | ⟨1, _⟩ => exact (Nat.zero_add _).symm
      | ⟨2, _⟩ => exact (Nat.zero_add _).symm)]
    exact gatesR_apply m c s τ' _
  · exact rowsDot_apply dot_S8x4096x512_S512x1024_S8x4096x1024_2_0_01_1_n_n.wf _ _ s τ' k
  · rw [extractStridedSlice_apply _ _ _ (ix3 s τ' k) (ix3 s τ' (⟨1024 + k.val, by omega⟩ : Fin 2048)) (fun a => by
      match a with
      | ⟨0, _⟩ => exact (Nat.zero_add _).symm
      | ⟨1, _⟩ => exact (Nat.zero_add _).symm
      | ⟨2, _⟩ => rfl)]
    exact gatesR_apply m c s τ' _
  · refine (rowsDot_apply dot_S8x4096x512_S512x1024_S8x4096x1024_2_0_01_1_n_n.wf _ _ s τ' k).trans ?_
    refine Finset.sum_congr rfl fun q _ => ?_
    rw [branchR_apply]
    rfl

theorem projR_apply (k : Fin 1024) : projR m c (ix3 s τ' k) = ∑ q : Fin 1024, mixAt (args m c) s τ' q * (args m c).wo (ix2 q k) := by
  unfold projR
  refine (rowsDot_apply dot_S8x4096x1024_S1024x1024_S8x4096x1024_2_0_01_1_n_n.wf _ _ s τ' k).trans ?_
  refine Finset.sum_congr rfl fun q _ => ?_
  rw [mixR_apply]
  rfl

theorem mergedR_apply (k : Fin 1024) : mergedR m c (ix3 s τ' k) = outAt (args m c) s τ' k := by
  unfold mergedR outAt
  refine congrArg₂ (· + ·) rfl ((normR_apply s τ' _ _ k).trans ?_)
  simp only [projR_apply]

/-- The reference's result: row `r` holds the position `pos r`. -/
theorem result_at (r : Fin 4096) (k : Fin 1024) : res_main_v55 (F := Ideal) m c (ix3 s r k) = result (args m c) s r k := by
  rw [res_eq]
  refine (shapeCast_apply _ shapeCasts_S8x8x8x64x1024_S8x4096x1024 (ix3 s r k)
    (ix5 s (⟨r.val / 512, by omega⟩ : Fin 8) (⟨r.val / 64 % 8, by omega⟩ : Fin 8) (⟨r.val % 64, by omega⟩ : Fin 64) k) (by
      rewrite [Shape.rowMajor_val_three, Shape.rowMajor_val_five]
      show (((s.val * 8 + r.val / 512) * 8 + r.val / 64 % 8) * 64 + r.val % 64) * 1024 + k.val = (s.val * 4096 + r.val) * 1024 + k.val
      omega)).trans ?_
  rw [transpose_apply _ _ transposes_S8x8x64x8x1024_S8x8x8x64x1024_0_1_3_2_4 _
    (ix5 s (⟨r.val / 512, by omega⟩ : Fin 8) (⟨r.val % 64, by omega⟩ : Fin 64) (⟨r.val / 64 % 8, by omega⟩ : Fin 8) k) (fun b => by
      match b with
      | ⟨0, _⟩ => rfl
      | ⟨1, _⟩ => rfl
      | ⟨2, _⟩ => rfl
      | ⟨3, _⟩ => rfl
      | ⟨4, _⟩ => rfl)]
  refine (shapeCast_apply _ shapeCasts_S8x4096x1024_S8x8x64x8x1024 _ (ix3 s (pos r) k) (by
      rewrite [Shape.rowMajor_val_three, Shape.rowMajor_val_five]
      show (s.val * 4096 + (512 * (r.val / 512) + (8 * (r.val % 512 % 64) + r.val % 512 / 64 % 8))) * 1024 + k.val
        = (((s.val * 8 + r.val / 512) * 64 + r.val % 64) * 8 + r.val / 64 % 8) * 1024 + k.val
      omega)).trans ?_
  exact mergedR_apply m c s (pos r) k

end Cert.Reference3Ideal

end
-- ==== Proof.Merge.Claims.lean ====
/-
  The merge's claims.
-/
module

public import proofs.«01_k».proof.Defs
public import proofs.«01_k».proof.Proof.Merge.FrameKernel3
public import proofs.«01_k».proof.Proof.Merge.Value
public import proofs.«01_k».proof.Proof.Merge.Reference
public import proofs.«01_k».proof.Proof.Gen.Kernel3Ideal.Value
public import Idealize.ShloMosaic.Lib.Quiescent

@[expose] public section

noncomputable section

open Idealize.ShloMosaic Idealize.ShloMosaic.TcCoe Idealize.ShloMosaic.ValueIdx Idealize.SL.Sem

namespace Cert.Proof.MergeClaims

theorem frame_kernel : Cert.quiescent_Kernel3 := fun m ρ _ => Cert.Kernel3.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- Kernel3Ideal computes what the reference does. -/
theorem algebraic : Cert.algebraic_Kernel3Ideal_Reference3Ideal := by
  intro m ρ m' ρ' _ hagree
  refine ⟨fun c => Cert.Kernel3Ideal.resultArr m c, Cert.Kernel3Ideal.run m ρ,
    (θ_run Cert.Reference3Ideal.defs _ _).mono (fun r h c => ⟨(h c).1.trans ?_, (h c).2⟩) (Cert.Reference3Ideal.Value.run (F := Ideal) m' ρ')⟩
  have e : Cert.Reference3Ideal.args m' c = Cert.Kernel3Ideal.args m c := by
    obtain ⟨h0, h1, h2, h3, h4, h5, h6, h7, h8, h9⟩ := hagree c
    unfold Cert.Reference3Ideal.args Cert.Kernel3Ideal.args
    exact congr (congr (congr (congr (congr (congr (congr (congr (congrArg₂ Merge.Args.mk h0 h1) h2) h3) h4) h5) h6) h7) h8) h9
  funext i
  obtain ⟨s, r, k, rfl⟩ : ∃ (s : Fin 8) (r : Fin 4096) (k : Fin 1024), i = ix3 s r k := ⟨i 0, i 1, i 2, funext fun a => by
    match a with
    | ⟨0, _⟩ => rfl
    | ⟨1, _⟩ => rfl
    | ⟨2, _⟩ => rfl⟩
  refine (Cert.Reference3Ideal.result_at m' c s r k).trans ?_
  rw [e]

end Cert.Proof.MergeClaims

end
-- ==== Proof.Proj.FrameKernel4.lean ====
/-
  The run of Kernel4. It is Kernel4Ideal's program with the frequencies' rate not named, so its arguments end unchanged as
  Kernel4Ideal's do.
-/
module

public import proofs.«01_k».proof.Proof.Gen.Kernel4
public import proofs.«01_k».proof.Proof.Gen.Kernel4Ideal.Frame

@[expose] public section

set_option maxRecDepth 16384

noncomputable section

namespace Cert.Kernel4

open Idealize.ShloMosaic Idealize.ShloMosaic.TcCoe Idealize.ShloMosaic.Tactic
open Idealize.SL Idealize.SL.Sem

variable {F : FTy → Type} [FloatOps F]

/-- The instance in which a named constant is the number printed. -/
abbrev unnamed : Named F := ⟨fun _ _ {φ} b => Scalar.ofBits φ b⟩

variable (m : (ℓ : Loc nD τ sig) → Buf (Elt F) ℓ) (ρ : Dev nD → PrngReg)

/-- The arguments as they were and every semaphore at zero. -/
def Quiet (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0

def Ends : Prop := θ_run defs (onTc (τ := τ) (main (F := F))) ⟨m, fun _ => 0, ρ⟩ (Quiet m)

def EndsIdeal : Prop :=
  letI : Named F := unnamed
  θ_run Cert.Kernel4Ideal.defs (onTc (τ := τ) (Cert.Kernel4Ideal.main (F := F))) ⟨m, fun _ => 0, ρ⟩ (Quiet m)

/-- The two programs are the same where the constant is not named. -/
theorem ends_eq : Ends m ρ = EndsIdeal m ρ := by
  sl_kernel_rfl

theorem endsIdeal : EndsIdeal m ρ :=
  letI : Named F := unnamed
  Cert.Kernel4Ideal.Gen.frame (F := F) m ρ

/-- Kernel4 ends with its arguments as they were and every semaphore at zero. -/
theorem frame : Ends m ρ := (ends_eq m ρ).mpr (endsIdeal m ρ)

end Cert.Kernel4

end
-- ==== Proof.Proj.Result.lean ====
/-
  What the input projections compute: the queries, the keys, the values and the state space branch's input of a row, as
  functions of the row, of its position and of the weights; and the arithmetic of turning a pair of lanes.
-/
module

public import proofs.«01_k».proof.Proof.Ffn.Entries
public import Mathlib.Analysis.SpecialFunctions.Pow.Real

@[expose] public section

set_option maxRecDepth 16384

noncomputable section

namespace Proj

open Idealize.ShloMosaic Idealize.ShloMosaic.ValueIdx
open Attn (T1 T2 T3 T4)
open scoped BigOperators

/-- Numbers divided by the root of their mean square, with weights; `cnt` is how many there are. -/
def rms (cnt : BitVec 32) {w : ℕ} (f g : Fin w → EReal) (j : Fin w) : EReal :=
  f j * Ideal.rsqrt (Ideal.div (∑ k : Fin w, f k * f k) (Ideal.ofBits .f32 cnt) + Ideal.ofBits .f32 0x358637BD#32) * g j

/-- The rate at which the angles' frequencies fall. -/
abbrev rate : ℝ := (-1 / 16) * Real.log 10000

/-- The angle of frequency `j` at a position. -/
def angle (p : EReal) (j : Fin 16) : EReal := Ideal.exp (((j.val : ℝ) : EReal) * (rate : EReal)) * p

/-- A head's lanes turned: 64 as they are, 16 at zero, 32 turned in pairs sixteen lanes apart, 16 at zero. -/
def turn (p : EReal) (t : Fin 128 → EReal) (d : Fin 128) : EReal :=
  if d.val < 64 then t d
  else if d.val < 80 then 0
  else if h : d.val < 96 then
    t d * Ideal.cos (angle p ⟨d.val - 80, by omega⟩) + t ⟨d.val - 16, by omega⟩ * Ideal.sin (angle p ⟨d.val - 80, by omega⟩)
  else if h : d.val < 112 then
    t d * Ideal.cos (angle p ⟨d.val - 96, by omega⟩) - t ⟨d.val - 16, by omega⟩ * Ideal.sin (angle p ⟨d.val - 96, by omega⟩)
  else 0

/-- The queries' scale. -/
abbrev scale : EReal := Ideal.ofBits .f32 0x3E16C740#32

/-! ## A row -/

/-- The weights: the scale of the rows, the matrix of the low ranks, the state space branch's, the queries' scale and matrix,
the scale of the keys and values, the keys' matrix, the values' transposed. -/
structure Weights where
  gp : (T2 1 1024).Idx → EReal
  wl : (T2 1024 768).Idx → EReal
  wu : (T2 1024 512).Idx → EReal
  qn : (T2 1 384).Idx → EReal
  wuq : (T2 384 1024).Idx → EReal
  kn : (T2 1 256).Idx → EReal
  wuk : (T2 256 1024).Idx → EReal
  wuv : (T2 512 256).Idx → EReal

section Row

variable (W : Weights) (x : Fin 1024 → EReal) (p : EReal)

/-- The row normalized. -/
def rowN (k : Fin 1024) : EReal := rms 0x44800000#32 x (fun k => W.gp (ix2 0 k)) k

/-- The low ranks. -/
def low (n : Fin 768) : EReal := ∑ k : Fin 1024, rowN W x k * W.wl (ix2 k n)

/-- The queries' low rank, normalized. -/
def lowQ (j : Fin 384) : EReal := rms 0x43C00000#32 (fun j : Fin 384 => low W x ⟨j.val, by omega⟩) (fun j => W.qn (ix2 0 j)) j

/-- The keys' and values' low rank, normalized. -/
def lowK (j : Fin 256) : EReal := rms 0x43800000#32 (fun j : Fin 256 => low W x ⟨384 + j.val, by omega⟩) (fun j => W.kn (ix2 0 j)) j

/-- The queries before they are turned. -/
def rawQ (n : Fin 1024) : EReal := ∑ k : Fin 384, lowQ W x k * W.wuq (ix2 k n)

/-- The queries: each head of 128 lanes turned and scaled. -/
def outQ (n : Fin 1024) : EReal :=
  turn p (fun d => rawQ W x ⟨128 * (n.val / 128) + d.val, by omega⟩) ⟨n.val % 128, by omega⟩ * scale

/-- The keys: each head's lanes and the lanes all heads share, turned. -/
def outK (n : Fin 1024) : EReal :=
  (∑ k : Fin 256, lowK W x k * W.wuk (ix2 k n)) + turn p (fun d => low W x ⟨640 + d.val, by omega⟩) ⟨n.val % 128, by omega⟩

/-- The values. -/
def outV (e : Fin 512) : EReal := ∑ k : Fin 256, lowK W x k * W.wuv (ix2 e k)

/-- The state space branch's input. -/
def outU (n : Fin 512) : EReal := ∑ k : Fin 1024, rowN W x k * W.wu (ix2 k n)

end Row

/-! ## Every row -/

/-- The arrays of the arguments: the rows, their positions, the weights. -/
structure Args where
  x : (T3 8 4096 1024).Idx → EReal
  pos : (T3 8 1 4096).Idx → EReal
  W : Weights

/-- The queries of every row. -/
def resultQ (A : Args) : (T3 8 4096 1024).Idx → EReal := fun i => outQ A.W (fun k => A.x (ix3 (i 0) (i 1) k)) (A.pos (ix3 (i 0) 0 (i 1))) (i 2)

/-- The keys of every row. -/
def resultK (A : Args) : (T3 8 4096 1024).Idx → EReal := fun i => outK A.W (fun k => A.x (ix3 (i 0) (i 1) k)) (A.pos (ix3 (i 0) 0 (i 1))) (i 2)

/-- The values, in blocks of 256 rows, each block transposed. -/
def resultV (A : Args) : (T4 8 16 512 256).Idx → EReal := fun i =>
  outV A.W (fun k => A.x (ix3 (i 0) ⟨256 * (i 1).val + (i 3).val, by
    have h1 : (i 1).val < 16 := (i 1).isLt
    have h3 : (i 3).val < 256 := (i 3).isLt
    omega⟩ k)) (i 2)

/-- The state space branch's input, time in front: sequence `b` in columns `512 b` to `512 b + 511`. -/
def resultU (A : Args) : (T2 4096 4096).Idx → EReal := fun i =>
  outU A.W (fun k => A.x (ix3 ⟨(i 1).val / 512, by have h : (i 1).val < 4096 := (i 1).isLt; omega⟩ (i 0) k)) ⟨(i 1).val % 512, by omega⟩

/-! ## The turn as two products -/

/-- What a lane is multiplied by. -/
def own (p : EReal) (d : Fin 128) : EReal :=
  if d.val < 64 then 1
  else if d.val < 80 then 0
  else if h : d.val < 96 then Ideal.cos (angle p ⟨d.val - 80, by omega⟩)
  else if h : d.val < 112 then Ideal.cos (angle p ⟨d.val - 96, by omega⟩)
  else 0

/-- What the lane sixteen before is multiplied by. -/
def other (p : EReal) (d : Fin 128) : EReal :=
  if d.val < 80 then 0
  else if h : d.val < 96 then Ideal.sin (angle p ⟨d.val - 80, by omega⟩)
  else if h : d.val < 112 then 0 - Ideal.sin (angle p ⟨d.val - 96, by omega⟩)
  else 0

/-- The lane sixteen before, around the end. -/
def before (d : Fin 128) : Fin 128 := ⟨(d.val + 112) % 128, by omega⟩

theorem turn_eq (p : EReal) (t : Fin 128 → EReal) (d : Fin 128) : t d * own p d + t (before d) * other p d = turn p t d := by
  unfold own other turn
  by_cases h1 : d.val < 64
  · rw [if_pos h1, if_pos (by omega), if_pos h1, mul_one, mul_zero, add_zero]
  rw [if_neg h1, if_neg h1]
  by_cases h2 : d.val < 80
  · rw [if_pos h2, if_pos h2, if_pos h2, mul_zero, mul_zero, add_zero]
  rw [if_neg h2, if_neg h2, if_neg h2]
  have e : d.val < 112 → 80 ≤ d.val → before d = ⟨d.val - 16, by omega⟩ := fun _ _ => Fin.ext (by show (d.val + 112) % 128 = d.val - 16; omega)
  by_cases h3 : d.val < 96
  · rw [dif_pos h3, dif_pos h3, dif_pos h3, e (by omega) (by omega)]
  rw [dif_neg h3, dif_neg h3, dif_neg h3]
  by_cases h4 : d.val < 112
  · rw [dif_pos h4, dif_pos h4, dif_pos h4, e h4 (by omega), zero_sub, mul_neg, sub_eq_add_neg]
  rw [dif_neg h4, dif_neg h4, dif_neg h4, mul_zero, mul_zero, add_zero]

theorem scale_bits : scale = ((9881408 / 67108864 : ℝ) : EReal) := by
  simp [scale, Ideal.ofBits, Ideal.ieee]
  rw [← EReal.coe_mul]
  norm_num

/-- The turn scaled: the scale may multiply both factors first. -/
theorem turn_scaled (p : EReal) (t : Fin 128 → EReal) (d : Fin 128) :
    t d * (own p d * scale) + t (before d) * (other p d * scale) = turn p t d * scale := by
  rw [← turn_eq, EReal.right_distrib_of_nonneg_of_ne_top, mul_assoc, mul_assoc]
  · rw [scale_bits]; exact EReal.coe_nonneg.mpr (by norm_num)
  · rw [scale_bits]; exact EReal.coe_ne_top _

/-! ## The frequencies -/

/-- The frequencies are the powers of ten thousand with exponents −j/16. -/
theorem freq_eq (j : ℕ) : Real.exp ((j : ℝ) * rate) = (10000 : ℝ) ^ (-((2 : ℝ) * j) / 32) := by
  rw [Real.rpow_def_of_pos (by norm_num)]
  congr 1
  unfold rate
  ring

end Proj

end
-- ==== Proof.Proj.Entries.lean ====
/-
  The projections' values read at an index, over extended reals: the norms, the products, the angles, a head's turn.
-/
module

public import proofs.«01_k».proof.Proof.Proj.Result
public import proofs.«01_k».proof.Proof.Gen.Kernel4Ideal.Value

@[expose] public section

set_option maxRecDepth 16384

noncomputable section

namespace Proj

open Idealize.ShloMosaic Idealize.ShloMosaic.ValueIdx
open Attn (T1 T2 T3 T4)
open Cert.Kernel4Ideal Cert.Kernel4Ideal.Gen
open scoped BigOperators

/-! ## Norms -/

/-- The norm of 512 rows of any width. -/
theorem norm_apply {w : ℕ} (cnt : BitVec 32) (red : (T2 512 w).Reduces [1] (T1 512)) (cast : (T1 512).ShapeCasts (T2 512 1))
    (col : (T2 512 1).Broadcasts (T2 512 w)) (row : (T2 1 w).Broadcasts (T2 512 w))
    (x : FVec Ideal (T2 512 w) .f32) (g : FVec Ideal (T2 1 w) .f32) (i : Fin 512) (j : Fin w) :
    mulf (mulf x (broadcastTo (T2 512 w) (rsqrt (addf (divf (shapeCast (T2 512 1)
        (multiReduction .add [1] (T1 512) (mulf x x) 0x00000000#32 red (.inl rfl) rfl) cast)
        (broadcast (T2 512 1) (Scalar.ofBits (F := Ideal) .f32 cnt))) (broadcast (T2 512 1) (Scalar.ofBits (F := Ideal) .f32 0x358637BD#32)))) col))
      (broadcastTo (T2 512 w) g row) (ix2 i j) = rms cnt (fun k => x (ix2 i k)) (fun k => g (ix2 0 k)) j := by
  show x (ix2 i j) * broadcastTo (T2 512 w) _ col (ix2 i j) * broadcastTo (T2 512 w) g row (ix2 i j) = _
  rw [broadcastTo_1b_ab_apply, Ffn.column_apply]
  show x (ix2 i j) * Ideal.rsqrt (Ideal.div (shapeCast (T2 512 1) _ cast (ix2 i 0)) (Ideal.ofBits .f32 cnt) + Ideal.ofBits .f32 0x358637BD#32) * _ = _
  rw [shapeCast_apply _ cast (ix2 i 0) (ix1 i) (by
    rw [Shape.rowMajor_val_one, Shape.rowMajor_val_two]
    show i.val = i.val * 1 + 0
    omega)]
  rw [show multiReduction (F := Ideal) .add [1] (T1 512) (mulf x x) 0x00000000#32 red (.inl rfl) rfl (ix1 i) = ∑ k : Fin w, x (ix2 i k) * x (ix2 i k) by
    refine (Ideal.multiReduction_add_single (mulf x x) 0x00000000#32 red (.inl rfl) rfl (ix1 i)).trans ?_
    refine Finset.sum_congr rfl fun k _ => ?_
    have e : ∀ z : (T2 512 w).Idx, z = ix2 i k → mulf (F := Ideal) x x z = x (ix2 i k) * x (ix2 i k) := by rintro z rfl; rfl
    exact e _ (funext fun a => by match a with | ⟨0, _⟩ => rfl | ⟨1, _⟩ => rfl)]
  rfl

/-! ## Products -/

/-- A product onto zeros. -/
theorem product_apply {a b c : ℕ} {φ ψ : FTy} (x : FVec Ideal (T2 a b) φ) (y : FVec Ideal (T2 b c) ψ) (i : Fin a) (j : Fin c) :
    FloatOps.matmul (DotDims.plain a b c) none x y (constant (F := Ideal) (T2 a c) .f32 0x00000000#32) (ix2 i j) = ∑ k : Fin b, x (ix2 i k) * y (ix2 k j) := by
  rw [Ideal.matmul_plain_apply]
  show Ideal.ofBits .f32 0x00000000#32 + _ = _
  rw [Ideal.ofBits_zero_f32, zero_add]

/-- A product of rows with rows onto zeros. -/
theorem productT_apply {a b c : ℕ} {φ ψ : FTy} (x : FVec Ideal (T2 a b) φ) (y : FVec Ideal (T2 c b) ψ) (i : Fin a) (j : Fin c) :
    FloatOps.matmul (DotDims.transposedRhs a b c) none x y (constant (F := Ideal) (T2 a c) .f32 0x00000000#32) (ix2 i j) = ∑ k : Fin b, x (ix2 i k) * y (ix2 j k) := by
  rw [Ideal.matmul_transposedRhs_apply]
  show Ideal.ofBits .f32 0x00000000#32 + _ = _
  rw [Ideal.ofBits_zero_f32, zero_add]

/-- A slice of columns. -/
theorem cols_apply {α : Type} {a b n : ℕ} (off : ℕ) (x : (T2 a b).Idx → α) (h : (T2 a b).Slices ![0, off] (T2 a n)) (i : Fin a) (j : Fin n) (hj : off + j.val < b) :
    extractStridedSlice (T2 a n) ![0, off] x h (ix2 i j) = x (ix2 i ⟨off + j.val, hj⟩) :=
  extractStridedSlice_apply ![0, off] x h (ix2 i j) (ix2 i ⟨off + j.val, hj⟩) (fun c => by
    match c with | ⟨0, _⟩ => exact (Nat.zero_add _).symm | ⟨1, _⟩ => rfl)

theorem rows_apply (x : FVec Ideal (T3 1 512 1024) .f32) (g : FVec Ideal (T2 1 1024) .f32) (i : Fin 512) (k : Fin 1024) :
    k0_pay7 (F := Ideal) x g (ix2 i k) = rms 0x44800000#32 (fun k => x (ix3 0 i k)) (fun k => g (ix2 0 k)) k := by
  unfold k0_pay7
  refine (norm_apply 0x44800000#32 _ _ _ _ (shapeCast S512x1024 x shapeCasts_S1x512x1024_S512x1024) g i k).trans ?_
  simp only [shapeCast_1ab_ab_apply]

theorem low_apply (h : FVec Ideal (T2 512 1024) .bf16) (w : FVec Ideal (T2 1024 768) .bf16) (i : Fin 512) (n : Fin 768) :
    k0_pay13 (F := Ideal) h w (ix2 i n) = ∑ k : Fin 1024, h (ix2 i k) * w (ix2 k n) := by
  unfold k0_pay13
  exact product_apply h w i n

theorem lowK_apply (h : FVec Ideal (T2 512 1024) .bf16) (w : FVec Ideal (T2 1024 768) .bf16) (i : Fin 512) (n : Fin 256) :
    k0_pay14 (F := Ideal) h w (ix2 i n) = k0_pay13 (F := Ideal) h w (ix2 i ⟨384 + n.val, by omega⟩) := by
  unfold k0_pay14
  exact cols_apply 384 (k0_pay13 (F := Ideal) h w) _ i n (by omega)

theorem lowR_apply (h : FVec Ideal (T2 512 1024) .bf16) (w : FVec Ideal (T2 1024 768) .bf16) (i : Fin 512) (n : Fin 128) :
    k0_pay15 (F := Ideal) h w (ix2 i n) = k0_pay13 (F := Ideal) h w (ix2 i ⟨640 + n.val, by omega⟩) := by
  unfold k0_pay15
  exact cols_apply 640 (k0_pay13 (F := Ideal) h w) _ i n (by omega)

/-- The queries' low rank, normalized. -/
def normQ (l : FVec Ideal (T2 512 768) .f32) (g : FVec Ideal (T2 1 384) .f32) : FVec Ideal (T2 512 384) .bf16 :=
  have t := extractStridedSlice (T2 512 384) ![0, 0] l slices_S512x768_o0_0_S512x384
  truncf .bf16 (mulf (mulf t (broadcastTo (T2 512 384) (rsqrt (addf (divf (shapeCast (T2 512 1)
        (multiReduction .add [1] (T1 512) (mulf t t) 0x00000000#32 reduces_S512x384_S512 (.inl rfl) rfl) shapeCasts_S512_S512x1)
        (broadcast (T2 512 1) (Scalar.ofBits (F := Ideal) .f32 0x43C00000#32))) (broadcast (T2 512 1) (Scalar.ofBits (F := Ideal) .f32 0x358637BD#32)))) broadcasts_S512x1_S512x384))
      (broadcastTo (T2 512 384) g broadcasts_S1x384_S512x384)) bitsLt_bf16_f32

theorem normQ_apply (l : FVec Ideal (T2 512 768) .f32) (g : FVec Ideal (T2 1 384) .f32) (i : Fin 512) (k : Fin 384) :
    normQ l g (ix2 i k) = rms 0x43C00000#32 (fun j : Fin 384 => l (ix2 i ⟨j.val, by omega⟩)) (fun j => g (ix2 0 j)) k := by
  unfold normQ
  rw [truncf_apply]
  refine (norm_apply 0x43C00000#32 _ _ _ _ (extractStridedSlice (T2 512 384) ![0, 0] l slices_S512x768_o0_0_S512x384) g i k).trans ?_
  refine congrArg (fun f => rms 0x43C00000#32 f (fun j => g (ix2 0 j)) k) (funext fun j => ?_)
  exact (cols_apply 0 l _ i j (by omega)).trans (congrArg (fun q => l (ix2 i q)) (Fin.ext (Nat.zero_add _)))

theorem raw_eq (h : FVec Ideal (T2 512 1024) .bf16) (w : FVec Ideal (T2 1024 768) .bf16) (g : FVec Ideal (T2 1 384) .f32)
    (wq : FVec Ideal (T2 384 1024) .bf16) : k0_pay16 (F := Ideal) h w g wq
      = matmul dot_S512x384_S384x1024_S512x1024_1_0_0_1_n_n none (normQ (k0_pay13 (F := Ideal) h w) g) wq (constant (F := Ideal) (T2 512 1024) .f32 0x00000000#32) := rfl

theorem raw_apply (h : FVec Ideal (T2 512 1024) .bf16) (w : FVec Ideal (T2 1024 768) .bf16) (g : FVec Ideal (T2 1 384) .f32)
    (wq : FVec Ideal (T2 384 1024) .bf16) (i : Fin 512) (n : Fin 1024) :
    k0_pay16 (F := Ideal) h w g wq (ix2 i n) = ∑ k : Fin 384, normQ (k0_pay13 (F := Ideal) h w) g (ix2 i k) * wq (ix2 k n) := by
  rw [raw_eq]
  exact product_apply (normQ (k0_pay13 (F := Ideal) h w) g) wq i n

theorem normK_apply (l : FVec Ideal (T2 512 256) .f32) (g : FVec Ideal (T2 1 256) .f32) (i : Fin 512) (k : Fin 256) :
    k0_pay26 (F := Ideal) l g (ix2 i k) = rms 0x43800000#32 (fun k => l (ix2 i k)) (fun k => g (ix2 0 k)) k := by
  unfold k0_pay26
  exact norm_apply 0x43800000#32 _ _ _ _ l g i k

theorem vals_apply (l : FVec Ideal (T2 512 256) .f32) (g : FVec Ideal (T2 1 256) .f32) (w : FVec Ideal (T2 512 256) .bf16) (e i : Fin 512) :
    k0_pay27 (F := Ideal) l g w (ix2 e i) = ∑ k : Fin 256, w (ix2 e k) * k0_pay26 (F := Ideal) l g (ix2 i k) := by
  unfold k0_pay27
  exact productT_apply w (k0_pay26 (F := Ideal) l g) e i

theorem keys_apply (l : FVec Ideal (T2 512 256) .bf16) (w : FVec Ideal (T2 256 1024) .bf16) (i : Fin 512) (n : Fin 1024) :
    k0_pay31 (F := Ideal) l w (ix2 i n) = ∑ k : Fin 256, l (ix2 i k) * w (ix2 k n) := by
  unfold k0_pay31
  exact product_apply l w i n

theorem branch_apply (h : FVec Ideal (T2 512 1024) .bf16) (w : FVec Ideal (T2 1024 512) .bf16) (i n : Fin 512) :
    k0_pay6 (F := Ideal) h w (ix2 i n) = ∑ k : Fin 1024, h (ix2 i k) * w (ix2 k n) := by
  unfold k0_pay6
  exact product_apply h w i n

/-! ## Angles -/

theorem count_apply : ∀ j : Fin 16, (BitVec.ofNat 32 (0 * 16 + j.val)).toInt = (j.val : ℤ) := by decide

theorem angle_apply (p : FVec Ideal (T3 1 1 512) .f32) (j : Fin 16) (i : Fin 512) : k0_pay8 (F := Ideal) p (ix2 j i) = angle (p (ix3 0 0 i)) j := by
  unfold k0_pay8
  show broadcastTo S16x512 _ _ (ix2 j i) * broadcastTo S16x512 _ _ (ix2 j i) = _
  refine (congrArg₂ (· * ·) (Ffn.column_apply _ _ j i) (broadcastTo_1b_ab_apply _ _ j i)).trans ?_
  rw [shapeCast_1ab_ab_apply]
  show Ideal.exp ((((BitVec.ofNat 32 (0 * 16 + j.val)).toInt : ℝ) : EReal) * (rate : EReal)) * _ = _
  rw [count_apply]
  rfl

/-- A pile of arrays one under the other, read in the piece where the row falls. -/
theorem pile_apply {α : Type} {N c n : ℕ} (xs : List ((s : Shape) × (s.Idx → α))) (h : Shape.Concatenates (xs.map (·.1)) (T2 N c) 0)
    (k : ℕ) (hk : k < xs.length) (x : (T2 n c).Idx → α) (hx : xs[k] = ⟨T2 n c, x⟩) (pre : ℕ)
    (hpre : (((xs.take k).map (·.1)).map fun s => if h : s.rank = (T2 N c).rank then s.size ((0 : Fin (T2 N c).rank).cast h.symm) else 0).sum = pre)
    (r : Fin n) (i : Fin c) (d : Fin N) (hd : pre + r.val = d.val) : concatenate (T2 N c) 0 xs h (ix2 d i) = x (ix2 r i) := by
  refine concatenate_apply_piece (t := T2 N c) 0 xs h (ix2 d i) k hk (T2 n c) x hx rfl pre hpre (ix2 r i) (fun b hb => ?_) hd
  match b, hb with
  | ⟨0, _⟩, hb => exact absurd rfl hb
  | ⟨1, _⟩, _ => rfl

/-- Two axes exchanged. -/
theorem flip_apply {α : Type} {a b : ℕ} (x : (T2 a b).Idx → α) (h : (T2 a b).Transposes [1, 0] (T2 b a)) (i : Fin a) (j : Fin b) :
    transpose (T2 b a) [1, 0] x h (ix2 j i) = x (ix2 i j) :=
  transpose_apply [1, 0] x h (ix2 j i) (ix2 i j) (fun c => by match c with | ⟨0, _⟩ => rfl | ⟨1, _⟩ => rfl)

theorem own_apply (p : FVec Ideal (T3 1 1 512) .f32) (i : Fin 512) (d : Fin 128) : k0_pay9 (F := Ideal) p (ix2 i d) = own (p (ix3 0 0 i)) d := by
  unfold k0_pay9 own
  refine (flip_apply _ _ d i).trans ?_
  by_cases h1 : d.val < 64
  · rw [if_pos h1]
    exact (pile_apply (n := 64) _ _ 0 (by simp) _ rfl 0 rfl ⟨d.val, h1⟩ i d (Nat.zero_add _)).trans Ideal.ofBits_one_f32
  rw [if_neg h1]
  by_cases h2 : d.val < 80
  · rw [if_pos h2]
    exact (pile_apply (n := 16) _ _ 1 (by simp) _ rfl 64 rfl ⟨d.val - 64, by omega⟩ i d (by show 64 + (d.val - 64) = d.val; omega)).trans Ideal.ofBits_zero_f32
  rw [if_neg h2]
  by_cases h3 : d.val < 96
  · rw [dif_pos h3]
    exact (pile_apply (n := 16) _ _ 2 (by simp) _ rfl 80 rfl ⟨d.val - 80, by omega⟩ i d (by show 80 + (d.val - 80) = d.val; omega)).trans
      (congrArg Ideal.cos (angle_apply p _ i))
  rw [dif_neg h3]
  by_cases h4 : d.val < 112
  · rw [dif_pos h4]
    exact (pile_apply (n := 16) _ _ 3 (by simp) _ rfl 96 rfl ⟨d.val - 96, by omega⟩ i d (by show 96 + (d.val - 96) = d.val; omega)).trans
      (congrArg Ideal.cos (angle_apply p _ i))
  rw [dif_neg h4]
  exact (pile_apply (n := 16) _ _ 4 (by simp) _ rfl 112 rfl ⟨d.val - 112, by omega⟩ i d (by show 112 + (d.val - 112) = d.val; omega)).trans Ideal.ofBits_zero_f32

theorem other_apply (p : FVec Ideal (T3 1 1 512) .f32) (i : Fin 512) (d : Fin 128) : k0_pay10 (F := Ideal) p (ix2 i d) = other (p (ix3 0 0 i)) d := by
  unfold k0_pay10 other
  refine (flip_apply _ _ d i).trans ?_
  by_cases h2 : d.val < 80
  · rw [if_pos h2]
    exact (pile_apply (n := 80) _ _ 0 (by simp) _ rfl 0 rfl ⟨d.val, h2⟩ i d (Nat.zero_add _)).trans Ideal.ofBits_zero_f32
  rw [if_neg h2]
  by_cases h3 : d.val < 96
  · rw [dif_pos h3]
    exact (pile_apply (n := 16) _ _ 1 (by simp) _ rfl 80 rfl ⟨d.val - 80, by omega⟩ i d (by show 80 + (d.val - 80) = d.val; omega)).trans
      (congrArg Ideal.sin (angle_apply p _ i))
  rw [dif_neg h3]
  by_cases h4 : d.val < 112
  · rw [dif_pos h4]
    exact (pile_apply (n := 16) _ _ 2 (by simp) _ rfl 96 rfl ⟨d.val - 96, by omega⟩ i d (by show 96 + (d.val - 96) = d.val; omega)).trans
      (congrArg₂ (· - ·) Ideal.ofBits_zero_f32 (congrArg Ideal.sin (angle_apply p _ i)))
  rw [dif_neg h4]
  exact (pile_apply (n := 16) _ _ 3 (by simp) _ rfl 112 rfl ⟨d.val - 112, by omega⟩ i d (by show 112 + (d.val - 112) = d.val; omega)).trans Ideal.ofBits_zero_f32

/-! ## Heads -/

theorem around_apply (t : FVec Ideal (T2 512 128) .f32) (i : Fin 512) (d : Fin 128) :
    dynamicRotate 1 16#32 none t rotates_S512x128_d1 (ix2 i d) = t (ix2 i (before d)) :=
  dynamicRotate_apply (1 : Fin 2) 16#32 t rotates_S512x128_d1 (ix2 i d) (ix2 i (before d)) fun b => by
    match b with
    | ⟨0, _⟩ => rfl
    | ⟨1, _⟩ => show (d.val + 112) % 128 = (d.val + 128 - 16) % 128; have := d.isLt; omega

/-- A head of the queries: its lanes and those sixteen before, each with its factors. -/
def headQ (off : ℕ) (h : (T2 512 1024).Slices ![0, off] (T2 512 128)) (c s : FVec Ideal (T2 512 128) .f32) (raw : FVec Ideal (T2 512 1024) .f32) :
    FVec Ideal (T3 1 512 128) .bf16 :=
  shapeCast S1x512x128 (truncf .bf16 (addf (mulf (extractStridedSlice (T2 512 128) ![0, off] raw h) c)
    (mulf (dynamicRotate 1 16#32 none (extractStridedSlice (T2 512 128) ![0, off] raw h) rotates_S512x128_d1) s)) bitsLt_bf16_f32) shapeCasts_S512x128_S1x512x128

theorem headQ_apply (off : ℕ) (h : (T2 512 1024).Slices ![0, off] (T2 512 128)) (ho : off + 128 ≤ 1024) (c s : FVec Ideal (T2 512 128) .f32)
    (raw : FVec Ideal (T2 512 1024) .f32) (i : Fin 512) (d : Fin 128) :
    headQ off h c s raw (ix3 0 i d) = raw (ix2 i ⟨off + d.val, by omega⟩) * c (ix2 i d) + raw (ix2 i ⟨off + (before d).val, by omega⟩) * s (ix2 i d) := by
  unfold headQ
  rw [shapeCast_ab_1ab_apply]
  show extractStridedSlice (T2 512 128) ![0, off] raw h (ix2 i d) * c (ix2 i d)
    + dynamicRotate 1 16#32 none (extractStridedSlice (T2 512 128) ![0, off] raw h) rotates_S512x128_d1 (ix2 i d) * s (ix2 i d) = _
  rw [around_apply, cols_apply off raw h i d (by omega), cols_apply off raw h i (before d) (by omega)]

/-- A head of the keys: its lanes and the shared ones. -/
def headK (off : ℕ) (h : (T2 512 1024).Slices ![0, off] (T2 512 128)) (keys : FVec Ideal (T2 512 1024) .f32) (shared : FVec Ideal (T2 512 128) .f32) :
    FVec Ideal (T3 1 512 128) .bf16 :=
  shapeCast S1x512x128 (truncf .bf16 (addf (extractStridedSlice (T2 512 128) ![0, off] keys h) shared) bitsLt_bf16_f32) shapeCasts_S512x128_S1x512x128

theorem headK_apply (off : ℕ) (h : (T2 512 1024).Slices ![0, off] (T2 512 128)) (ho : off + 128 ≤ 1024) (keys : FVec Ideal (T2 512 1024) .f32)
    (shared : FVec Ideal (T2 512 128) .f32) (i : Fin 512) (d : Fin 128) :
    headK off h keys shared (ix3 0 i d) = keys (ix2 i ⟨off + d.val, by omega⟩) + shared (ix2 i d) := by
  unfold headK
  rw [shapeCast_ab_1ab_apply]
  show extractStridedSlice (T2 512 128) ![0, off] keys h (ix2 i d) + shared (ix2 i d) = _
  rw [cols_apply off keys h i d (by omega)]

end Proj

end
-- ==== Proof.Proj.Tile.lean ====
/-
  What the projections' body leaves in its four result blocks, as functions of its input blocks: over extended reals the
  queries, keys, values and the state space branch's input of the tile's rows.
-/
module

public import proofs.«01_k».proof.Proof.Proj.Entries
public import Idealize.ShloMosaic.Lib.Pipeline.ValueKit.Geometry

@[expose] public section

set_option maxRecDepth 16384

noncomputable section

namespace Proj

open Idealize.ShloMosaic Idealize.ShloMosaic.ValueIdx
open Attn (T1 T2 T3 T4)
open Cert.Kernel4Ideal Cert.Kernel4Ideal.Gen
open scoped BigOperators

/-! ## Heads of the whole rows -/

section Head

variable (W : Weights) (x : Fin 1024 → EReal) (p : EReal) (off : ℕ) (h0 : off % 128 = 0) (h1 : off + 128 ≤ 1024) (d : Fin 128)

include h0

theorem outQ_head : outQ W x p ⟨off + d.val, by omega⟩ = turn p (fun d => rawQ W x ⟨off + d.val, by omega⟩) d * scale := by
  have e1 : 128 * ((off + d.val) / 128) = off := by omega
  have e2 : (⟨(off + d.val) % 128, by omega⟩ : Fin 128) = d := Fin.ext (by show (off + d.val) % 128 = d.val; omega)
  unfold outQ
  show turn p (fun d' : Fin 128 => rawQ W x ⟨128 * ((off + d.val) / 128) + d'.val, _⟩) ⟨(off + d.val) % 128, _⟩ * scale = _
  rw [e2]
  refine congrArg (fun t => turn p t d * scale) (funext fun d' => congrArg (rawQ W x) (Fin.ext ?_))
  show 128 * ((off + d.val) / 128) + d'.val = off + d'.val
  rw [e1]

theorem outK_head : outK W x p ⟨off + d.val, by omega⟩
    = (∑ k : Fin 256, lowK W x k * W.wuk (ix2 k ⟨off + d.val, by omega⟩)) + turn p (fun d => low W x ⟨640 + d.val, by omega⟩) d := by
  have e2 : (⟨(off + d.val) % 128, by omega⟩ : Fin 128) = d := Fin.ext (by show (off + d.val) % 128 = d.val; omega)
  unfold outK
  show _ + turn p _ ⟨(off + d.val) % 128, _⟩ = _
  rw [e2]

end Head

/-! ## The body's values -/

/-! A read of a whole block is the block. -/

theorem ld_x0 (x : Vec Ideal S1x512x1024 .f32) : View.ld x r0_0 = x := View.ld_unit_lit _ x (by decide)
theorem ld_x1 (x : Vec Ideal S1x1x512 .f32) : View.ld x r0_2 = x := View.ld_unit_lit _ x (by decide)
theorem ld_x2 (x : Vec Ideal S1x1024 .f32) : View.ld x r0_1 = x := View.ld_unit_lit _ x (by decide)
theorem ld_x3 (x : Vec Ideal S1024x768 .bf16) : View.ld x r0_3 = x := View.ld_unit_lit _ x (by decide)
theorem ld_x4 (x : Vec Ideal S1024x512 .bf16) : View.ld x r0_19 = x := View.ld_unit_lit _ x (by decide)
theorem ld_x5 (x : Vec Ideal S1x384 .f32) : View.ld x r0_4 = x := View.ld_unit_lit _ x (by decide)
theorem ld_x6 (x : Vec Ideal S384x1024 .bf16) : View.ld x r0_5 = x := View.ld_unit_lit _ x (by decide)
theorem ld_x7 (x : Vec Ideal S1x256 .f32) : View.ld x r0_14 = x := View.ld_unit_lit _ x (by decide)
theorem ld_x8 (x : Vec Ideal S256x1024 .bf16) : View.ld x r0_18 = x := View.ld_unit_lit _ x (by decide)
theorem ld_x9 (x : Vec Ideal S512x256 .bf16) : View.ld x r0_15 = x := View.ld_unit_lit _ x (by decide)

section Tile

variable (x0 : FVec Ideal (T3 1 512 1024) .f32) (x1 : FVec Ideal (T3 1 1 512) .f32) (x2 : FVec Ideal (T2 1 1024) .f32) (x3 : FVec Ideal (T2 1024 768) .bf16)
  (x4 : FVec Ideal (T2 1024 512) .bf16) (x5 : FVec Ideal (T2 1 384) .f32) (x6 : FVec Ideal (T2 384 1024) .bf16) (x7 : FVec Ideal (T2 1 256) .f32)
  (x8 : FVec Ideal (T2 256 1024) .bf16) (x9 : FVec Ideal (T2 512 256) .bf16)

/-- The weights of the blocks. -/
abbrev wts : Weights := ⟨x2, x3, x4, x5, x6, x7, x8, x9⟩

/-- A row of the tile and its position. -/
abbrev rowOf (i : Fin 512) : Fin 1024 → EReal := fun k => x0 (ix3 0 i k)
abbrev posOf (i : Fin 512) : EReal := x1 (ix3 0 0 i)

theorem tile_rows (i : Fin 512) (k : Fin 1024) :
    k0_pay37 (F := Ideal) x0 x1 x2 x3 x4 x5 x6 x7 x8 x9 (ix2 i k) = rowN (wts x2 x3 x4 x5 x6 x7 x8 x9) (rowOf x0 i) k := by
  unfold k0_pay37
  rw [ld_x0, ld_x2]
  exact rows_apply x0 x2 i k

theorem tile_low (i : Fin 512) (n : Fin 768) :
    k0_pay13 (F := Ideal) (k0_pay37 (F := Ideal) x0 x1 x2 x3 x4 x5 x6 x7 x8 x9) x3 (ix2 i n) = low (wts x2 x3 x4 x5 x6 x7 x8 x9) (rowOf x0 i) n := by
  refine (low_apply _ x3 i n).trans ?_
  unfold low
  exact Finset.sum_congr rfl fun k _ => congrArg (fun a : EReal => a * x3 (ix2 k n)) (tile_rows x0 x1 x2 x3 x4 x5 x6 x7 x8 x9 i k)

theorem tile_own (i : Fin 512) (d : Fin 128) : k0_pay38 (F := Ideal) x0 x1 x2 x3 x4 x5 x6 x7 x8 x9 (ix2 i d) = own (posOf x1 i) d := by
  unfold k0_pay38
  rw [ld_x1]
  exact own_apply x1 i d

theorem tile_other (i : Fin 512) (d : Fin 128) : k0_pay39 (F := Ideal) x0 x1 x2 x3 x4 x5 x6 x7 x8 x9 (ix2 i d) = other (posOf x1 i) d := by
  unfold k0_pay39
  rw [ld_x1]
  exact other_apply x1 i d

theorem tile_ownQ (i : Fin 512) (d : Fin 128) : k0_pay40 (F := Ideal) x0 x1 x2 x3 x4 x5 x6 x7 x8 x9 (ix2 i d) = own (posOf x1 i) d * scale :=
  congrArg (· * scale) (tile_own x0 x1 x2 x3 x4 x5 x6 x7 x8 x9 i d)

theorem tile_otherQ (i : Fin 512) (d : Fin 128) : k0_pay41 (F := Ideal) x0 x1 x2 x3 x4 x5 x6 x7 x8 x9 (ix2 i d) = other (posOf x1 i) d * scale :=
  congrArg (· * scale) (tile_other x0 x1 x2 x3 x4 x5 x6 x7 x8 x9 i d)

theorem tile_raw (i : Fin 512) (n : Fin 1024) :
    k0_pay44 (F := Ideal) x0 x1 x2 x3 x4 x5 x6 x7 x8 x9 (ix2 i n) = rawQ (wts x2 x3 x4 x5 x6 x7 x8 x9) (rowOf x0 i) n := by
  unfold k0_pay44
  rw [ld_x3, ld_x5,
    ld_x6]
  refine (raw_apply _ x3 x5 x6 i n).trans ?_
  unfold rawQ
  refine Finset.sum_congr rfl fun k _ => congrArg (fun a : EReal => a * x6 (ix2 k n)) ?_
  refine (normQ_apply _ x5 i k).trans ?_
  unfold lowQ
  exact congrArg (fun f => rms 0x43C00000#32 f (fun j => x5 (ix2 0 j)) k) (funext fun j => tile_low x0 x1 x2 x3 x4 x5 x6 x7 x8 x9 i _)

theorem tile_lowK (i : Fin 512) (k : Fin 256) :
    k0_pay26 (F := Ideal) (k0_pay42 (F := Ideal) x0 x1 x2 x3 x4 x5 x6 x7 x8 x9) x7 (ix2 i k) = lowK (wts x2 x3 x4 x5 x6 x7 x8 x9) (rowOf x0 i) k := by
  refine (normK_apply _ x7 i k).trans ?_
  unfold lowK
  refine congrArg (fun f => rms 0x43800000#32 f (fun j => x7 (ix2 0 j)) k) (funext fun j => ?_)
  unfold k0_pay42
  rw [ld_x3]
  exact (lowK_apply _ x3 i j).trans (tile_low x0 x1 x2 x3 x4 x5 x6 x7 x8 x9 i _)

theorem tile_keys (i : Fin 512) (n : Fin 1024) :
    k0_pay46 (F := Ideal) x0 x1 x2 x3 x4 x5 x6 x7 x8 x9 (ix2 i n)
      = ∑ k : Fin 256, lowK (wts x2 x3 x4 x5 x6 x7 x8 x9) (rowOf x0 i) k * x8 (ix2 k n) := by
  unfold k0_pay46 k0_pay45
  rw [ld_x8, ld_x7]
  refine (keys_apply _ x8 i n).trans ?_
  exact Finset.sum_congr rfl fun k _ => congrArg (fun a : EReal => a * x8 (ix2 k n)) (tile_lowK x0 x1 x2 x3 x4 x5 x6 x7 x8 x9 i k)

theorem tile_shared (i : Fin 512) (d : Fin 128) :
    k0_pay47 (F := Ideal) x0 x1 x2 x3 x4 x5 x6 x7 x8 x9 (ix2 i d)
      = turn (posOf x1 i) (fun d => low (wts x2 x3 x4 x5 x6 x7 x8 x9) (rowOf x0 i) ⟨640 + d.val, by omega⟩) d := by
  have e : ∀ d, k0_pay43 (F := Ideal) x0 x1 x2 x3 x4 x5 x6 x7 x8 x9 (ix2 i d) = low (wts x2 x3 x4 x5 x6 x7 x8 x9) (rowOf x0 i) ⟨640 + d.val, by omega⟩ := fun d => by
    unfold k0_pay43
    rw [ld_x3]
    exact (lowR_apply _ x3 i d).trans (tile_low x0 x1 x2 x3 x4 x5 x6 x7 x8 x9 i _)
  rw [← turn_eq]
  show k0_pay43 (F := Ideal) x0 x1 x2 x3 x4 x5 x6 x7 x8 x9 (ix2 i d) * k0_pay38 (F := Ideal) x0 x1 x2 x3 x4 x5 x6 x7 x8 x9 (ix2 i d)
    + dynamicRotate 1 16#32 none (k0_pay43 (F := Ideal) x0 x1 x2 x3 x4 x5 x6 x7 x8 x9) rotates_S512x128_d1 (ix2 i d)
      * k0_pay39 (F := Ideal) x0 x1 x2 x3 x4 x5 x6 x7 x8 x9 (ix2 i d) = _
  rw [around_apply, e, e, tile_own, tile_other]

/-! ## The result blocks -/

/-- The blocks of the queries, keys, values and the branch's input. -/
def blockQ : (T3 1 512 1024).Idx → EReal := fun y =>
  outQ (wts x2 x3 x4 x5 x6 x7 x8 x9) (rowOf x0 ⟨(y 1).val, (y 1).isLt⟩) (posOf x1 ⟨(y 1).val, (y 1).isLt⟩) ⟨(y 2).val, (y 2).isLt⟩
def blockK : (T3 1 512 1024).Idx → EReal := fun y =>
  outK (wts x2 x3 x4 x5 x6 x7 x8 x9) (rowOf x0 ⟨(y 1).val, (y 1).isLt⟩) (posOf x1 ⟨(y 1).val, (y 1).isLt⟩) ⟨(y 2).val, (y 2).isLt⟩
def blockV : (T4 1 2 512 256).Idx → EReal := fun y =>
  outV (wts x2 x3 x4 x5 x6 x7 x8 x9) (rowOf x0 ⟨256 * (y 1).val + (y 3).val, by
    have h1 : (y 1).val < 2 := (y 1).isLt
    have h3 : (y 3).val < 256 := (y 3).isLt
    omega⟩) ⟨(y 2).val, (y 2).isLt⟩
def blockU : (T2 512 512).Idx → EReal := fun y =>
  outU (wts x2 x3 x4 x5 x6 x7 x8 x9) (rowOf x0 ⟨(y 0).val, (y 0).isLt⟩) ⟨(y 1).val, (y 1).isLt⟩

/-- A row and a lane of a head, and where they lie in the block. -/
theorem head_idx (z : (T3 1 512 128).Idx) : ∃ (i : Fin 512) (d : Fin 128), z = ix3 0 i d :=
  ⟨z 1, z 2, funext fun a => by
    match a with
    | ⟨0, _⟩ => exact Fin.ext (by have : (z 0).val < 1 := (z 0).isLt; show (z 0).val = 0; omega)
    | ⟨1, _⟩ => rfl
    | ⟨2, _⟩ => rfl⟩

theorem head_emb (off : ℕ) (inb : ∀ a : Fin 3, (![0, 0, off] : Fin 3 → ℕ) a + S1x512x128.size a ≤ S1x512x1024.size a) (h1 : off + 128 ≤ 1024) (i : Fin 512) (d : Fin 128) :
    (Rect.unit (s := S1x512x1024) ![0, 0, off] S1x512x128.size inb).emb (ix3 0 i d : (T3 1 512 128).Idx) = (ix3 0 i ⟨off + d.val, by omega⟩ : (T3 1 512 1024).Idx) :=
  funext fun a => Fin.ext (by
    match a with
    | ⟨0, _⟩ => rfl
    | ⟨1, _⟩ => show 0 + 1 * i.val = i.val; omega
    | ⟨2, _⟩ => show off + 1 * d.val = off + d.val; omega)

theorem pieceQ (off : ℕ) (h0 : off % 128 = 0) (h1 : off + 128 ≤ 1024) (inb : ∀ a : Fin 3, (![0, 0, off] : Fin 3 → ℕ) a + S1x512x128.size a ≤ S1x512x1024.size a)
    (sl : (T2 512 1024).Slices ![0, off] (T2 512 128)) (z : (T3 1 512 128).Idx) :
    headQ off sl (k0_pay40 (F := Ideal) x0 x1 x2 x3 x4 x5 x6 x7 x8 x9) (k0_pay41 (F := Ideal) x0 x1 x2 x3 x4 x5 x6 x7 x8 x9)
        (k0_pay44 (F := Ideal) x0 x1 x2 x3 x4 x5 x6 x7 x8 x9) z
      = blockQ x0 x1 x2 x3 x4 x5 x6 x7 x8 x9 ((Rect.unit (s := S1x512x1024) ![0, 0, off] S1x512x128.size inb).emb z) := by
  obtain ⟨i, d, rfl⟩ := head_idx z
  rw [head_emb off inb h1, headQ_apply off sl h1, tile_ownQ, tile_otherQ, tile_raw, tile_raw]
  refine (turn_scaled (posOf x1 i) (fun d => rawQ (wts x2 x3 x4 x5 x6 x7 x8 x9) (rowOf x0 i) ⟨off + d.val, by omega⟩) d).trans ?_
  exact (outQ_head (wts x2 x3 x4 x5 x6 x7 x8 x9) (rowOf x0 i) (posOf x1 i) off h0 h1 d).symm

theorem pieceK (off : ℕ) (h0 : off % 128 = 0) (h1 : off + 128 ≤ 1024) (inb : ∀ a : Fin 3, (![0, 0, off] : Fin 3 → ℕ) a + S1x512x128.size a ≤ S1x512x1024.size a)
    (sl : (T2 512 1024).Slices ![0, off] (T2 512 128)) (z : (T3 1 512 128).Idx) :
    headK off sl (k0_pay46 (F := Ideal) x0 x1 x2 x3 x4 x5 x6 x7 x8 x9) (k0_pay47 (F := Ideal) x0 x1 x2 x3 x4 x5 x6 x7 x8 x9) z
      = blockK x0 x1 x2 x3 x4 x5 x6 x7 x8 x9 ((Rect.unit (s := S1x512x1024) ![0, 0, off] S1x512x128.size inb).emb z) := by
  obtain ⟨i, d, rfl⟩ := head_idx z
  rw [head_emb off inb h1, headK_apply off sl h1, tile_keys, tile_shared]
  exact (outK_head (wts x2 x3 x4 x5 x6 x7 x8 x9) (rowOf x0 i) (posOf x1 i) off h0 h1 d).symm

theorem out_q : out0_10 (F := Ideal) x0 x1 x2 x3 x4 x5 x6 x7 x8 x9 = blockQ x0 x1 x2 x3 x4 x5 x6 x7 x8 x9 := by
  funext y
  unfold out0_10
  refine View.canon_apply_of_pieces (Val := Elt Ideal) (blockQ x0 x1 x2 x3 x4 x5 x6 x7 x8 x9) _ ?_ y (cover0_10 _ _ _ _ _ _ _ _ y)
  refine List.forall_mem_cons.2 ⟨fun z => pieceQ x0 x1 x2 x3 x4 x5 x6 x7 x8 x9 896 rfl (by decide) inb_S1x512x1024_S1x512x128_0_0_896 slices_S512x1024_o0_896_S512x128 z, ?_⟩
  refine List.forall_mem_cons.2 ⟨fun z => pieceQ x0 x1 x2 x3 x4 x5 x6 x7 x8 x9 768 rfl (by decide) inb_S1x512x1024_S1x512x128_0_0_768 slices_S512x1024_o0_768_S512x128 z, ?_⟩
  refine List.forall_mem_cons.2 ⟨fun z => pieceQ x0 x1 x2 x3 x4 x5 x6 x7 x8 x9 640 rfl (by decide) inb_S1x512x1024_S1x512x128_0_0_640 slices_S512x1024_o0_640_S512x128 z, ?_⟩
  refine List.forall_mem_cons.2 ⟨fun z => pieceQ x0 x1 x2 x3 x4 x5 x6 x7 x8 x9 512 rfl (by decide) inb_S1x512x1024_S1x512x128_0_0_512 slices_S512x1024_o0_512_S512x128 z, ?_⟩
  refine List.forall_mem_cons.2 ⟨fun z => pieceQ x0 x1 x2 x3 x4 x5 x6 x7 x8 x9 384 rfl (by decide) inb_S1x512x1024_S1x512x128_0_0_384 slices_S512x1024_o0_384_S512x128 z, ?_⟩
  refine List.forall_mem_cons.2 ⟨fun z => pieceQ x0 x1 x2 x3 x4 x5 x6 x7 x8 x9 256 rfl (by decide) inb_S1x512x1024_S1x512x128_0_0_256 slices_S512x1024_o0_256_S512x128 z, ?_⟩
  refine List.forall_mem_cons.2 ⟨fun z => pieceQ x0 x1 x2 x3 x4 x5 x6 x7 x8 x9 128 rfl (by decide) inb_S1x512x1024_S1x512x128_0_0_128 slices_S512x1024_o0_128_S512x128 z, ?_⟩
  exact List.forall_mem_singleton.2 fun z => pieceQ x0 x1 x2 x3 x4 x5 x6 x7 x8 x9 0 rfl (by decide) inb_S1x512x1024_S1x512x128_0_0_0 slices_S512x1024_o0_0_S512x128 z

theorem out_k : out0_11 (F := Ideal) x0 x1 x2 x3 x4 x5 x6 x7 x8 x9 = blockK x0 x1 x2 x3 x4 x5 x6 x7 x8 x9 := by
  funext y
  unfold out0_11
  refine View.canon_apply_of_pieces (Val := Elt Ideal) (blockK x0 x1 x2 x3 x4 x5 x6 x7 x8 x9) _ ?_ y (cover0_11 _ _ _ _ _ _ _ _ y)
  refine List.forall_mem_cons.2 ⟨fun z => pieceK x0 x1 x2 x3 x4 x5 x6 x7 x8 x9 896 rfl (by decide) inb_S1x512x1024_S1x512x128_0_0_896 slices_S512x1024_o0_896_S512x128 z, ?_⟩
  refine List.forall_mem_cons.2 ⟨fun z => pieceK x0 x1 x2 x3 x4 x5 x6 x7 x8 x9 768 rfl (by decide) inb_S1x512x1024_S1x512x128_0_0_768 slices_S512x1024_o0_768_S512x128 z, ?_⟩
  refine List.forall_mem_cons.2 ⟨fun z => pieceK x0 x1 x2 x3 x4 x5 x6 x7 x8 x9 640 rfl (by decide) inb_S1x512x1024_S1x512x128_0_0_640 slices_S512x1024_o0_640_S512x128 z, ?_⟩
  refine List.forall_mem_cons.2 ⟨fun z => pieceK x0 x1 x2 x3 x4 x5 x6 x7 x8 x9 512 rfl (by decide) inb_S1x512x1024_S1x512x128_0_0_512 slices_S512x1024_o0_512_S512x128 z, ?_⟩
  refine List.forall_mem_cons.2 ⟨fun z => pieceK x0 x1 x2 x3 x4 x5 x6 x7 x8 x9 384 rfl (by decide) inb_S1x512x1024_S1x512x128_0_0_384 slices_S512x1024_o0_384_S512x128 z, ?_⟩
  refine List.forall_mem_cons.2 ⟨fun z => pieceK x0 x1 x2 x3 x4 x5 x6 x7 x8 x9 256 rfl (by decide) inb_S1x512x1024_S1x512x128_0_0_256 slices_S512x1024_o0_256_S512x128 z, ?_⟩
  refine List.forall_mem_cons.2 ⟨fun z => pieceK x0 x1 x2 x3 x4 x5 x6 x7 x8 x9 128 rfl (by decide) inb_S1x512x1024_S1x512x128_0_0_128 slices_S512x1024_o0_128_S512x128 z, ?_⟩
  exact List.forall_mem_singleton.2 fun z => pieceK x0 x1 x2 x3 x4 x5 x6 x7 x8 x9 0 rfl (by decide) inb_S1x512x1024_S1x512x128_0_0_0 slices_S512x1024_o0_0_S512x128 z

/-- Half of the values' columns as a block. -/
def halfV (off : ℕ) (h : (T2 512 512).Slices ![0, off] (T2 512 256)) (v : FVec Ideal (T2 512 512) .bf16) : FVec Ideal (T4 1 1 512 256) .bf16 :=
  shapeCast S1x1x512x256 (extractStridedSlice (T2 512 256) ![0, off] v h) shapeCasts_S512x256_S1x1x512x256

theorem pieceV (b : ℕ) (hb : b < 2) (inb : ∀ a : Fin 4, (![0, b, 0, 0] : Fin 4 → ℕ) a + S1x1x512x256.size a ≤ S1x2x512x256.size a)
    (sl : (T2 512 512).Slices ![0, 256 * b] (T2 512 256)) (z : (T4 1 1 512 256).Idx) :
    halfV (256 * b) sl (k0_pay27 (F := Ideal) (k0_pay42 (F := Ideal) x0 x1 x2 x3 x4 x5 x6 x7 x8 x9) (View.ld x7 r0_14) (View.ld x9 r0_15)) z
      = blockV x0 x2 x3 x4 x5 x6 x7 x8 x9 ((Rect.unit (s := S1x2x512x256) ![0, b, 0, 0] S1x1x512x256.size inb).emb z) := by
  obtain ⟨e, i, rfl⟩ : ∃ (e : Fin 512) (i : Fin 256), z = ix4 0 0 e i := ⟨z 2, z 3, funext fun a => by
    match a with
    | ⟨0, _⟩ => exact Fin.ext (by have : (z 0).val < 1 := (z 0).isLt; show (z 0).val = 0; omega)
    | ⟨1, _⟩ => exact Fin.ext (by have : (z 1).val < 1 := (z 1).isLt; show (z 1).val = 0; omega)
    | ⟨2, _⟩ => rfl
    | ⟨3, _⟩ => rfl⟩
  rw [ld_x7, ld_x9]
  have he : (Rect.unit (s := S1x2x512x256) ![0, b, 0, 0] S1x1x512x256.size inb).emb (ix4 0 0 e i : (T4 1 1 512 256).Idx) = (ix4 0 ⟨b, hb⟩ e i : (T4 1 2 512 256).Idx) :=
    funext fun a => Fin.ext (by
      match a with
      | ⟨0, _⟩ => rfl
      | ⟨1, _⟩ => show b + 1 * 0 = b; omega
      | ⟨2, _⟩ => show 0 + 1 * e.val = e.val; omega
      | ⟨3, _⟩ => show 0 + 1 * i.val = i.val; omega)
  rw [he]
  unfold halfV
  refine (Attn.cast_ab11 _ _ e i).trans ?_
  refine (cols_apply (256 * b) _ sl e i (by omega)).trans ?_
  refine (vals_apply _ x7 x9 e _).trans ?_
  show _ = outV (wts x2 x3 x4 x5 x6 x7 x8 x9) (rowOf x0 ⟨256 * b + i.val, _⟩) e
  unfold outV
  refine Finset.sum_congr rfl fun k _ => ?_
  rw [tile_lowK, mul_comm]

theorem out_v : out0_12 (F := Ideal) x0 x1 x2 x3 x4 x5 x6 x7 x8 x9 = blockV x0 x2 x3 x4 x5 x6 x7 x8 x9 := by
  funext y
  unfold out0_12
  refine View.canon_apply_of_pieces (Val := Elt Ideal) (blockV x0 x2 x3 x4 x5 x6 x7 x8 x9) _ ?_ y (cover0_12 _ _ y)
  refine List.forall_mem_cons.2 ⟨fun z => pieceV x0 x1 x2 x3 x4 x5 x6 x7 x8 x9 1 (by decide) inb_S1x2x512x256_S1x1x512x256_0_1_0_0 slices_S512x512_o0_256_S512x256 z, ?_⟩
  exact List.forall_mem_singleton.2 fun z => pieceV x0 x1 x2 x3 x4 x5 x6 x7 x8 x9 0 (by decide) inb_S1x2x512x256_S1x1x512x256_0_0_0_0 slices_S512x512_o0_0_S512x256 z

theorem out_u : out0_13 (F := Ideal) x0 x1 x2 x3 x4 x5 x6 x7 x8 x9 = blockU x0 x2 x3 x4 x5 x6 x7 x8 x9 := by
  unfold out0_13
  rw [ld_x4]
  refine (View.canon_cons_unit_lit _ _ _ (by decide)).trans (funext fun y => ?_)
  obtain ⟨i, n, rfl⟩ : ∃ (i n : Fin 512), y = ix2 i n := ⟨y 0, y 1, funext fun a => by
    match a with | ⟨0, _⟩ => rfl | ⟨1, _⟩ => rfl⟩
  refine (branch_apply _ x4 i n).trans ?_
  show _ = outU (wts x2 x3 x4 x5 x6 x7 x8 x9) (rowOf x0 i) n
  unfold outU
  exact Finset.sum_congr rfl fun k _ => congrArg (fun a : EReal => a * x4 (ix2 k n)) (tile_rows x0 x1 x2 x3 x4 x5 x6 x7 x8 x9 i k)

end Tile

end Proj

end
-- ==== Proof.Proj.Value.lean ====
/-
  The value of Kernel4Ideal: its result arrays are the projections of the argument arrays.
-/
module

public import proofs.«01_k».proof.Proof.Proj.Tile

@[expose] public section

set_option maxRecDepth 16384

noncomputable section

namespace Cert.Kernel4Ideal

open Idealize.ShloMosaic Idealize.ShloMosaic.TcCoe Idealize.ShloMosaic.ValueIdx
open Idealize.SL Idealize.SL.Sem
open Cert.Kernel4Ideal.Gen
open Proj

variable (m : (ℓ : Loc nD τ sig) → Buf (Elt Ideal) ℓ) (ρ : Dev nD → PrngReg)

/-- The arrays of a device's arguments. -/
abbrev args (c : Dev nD) : Args where
  x := m ((c : Thread nD τ).loc main_arg0)
  pos := m ((c : Thread nD τ).loc main_arg1)
  W := {
    gp := m ((c : Thread nD τ).loc main_arg2)
    wl := m ((c : Thread nD τ).loc main_arg3)
    wu := m ((c : Thread nD τ).loc main_arg4)
    qn := m ((c : Thread nD τ).loc main_arg5)
    wuq := m ((c : Thread nD τ).loc main_arg6)
    kn := m ((c : Thread nD τ).loc main_arg7)
    wuk := m ((c : Thread nD τ).loc main_arg8)
    wuv := m ((c : Thread nD τ).loc main_arg9) }

theorem points : cfg0.N = 64 := by decide +kernel

/-- The sequence and the tile of a grid point. -/
def seqOf (t : Fin cfg0.N) : Fin 8 := ⟨t.val / 8, by have := t.isLt; have := points; omega⟩
def tileOf (t : Fin cfg0.N) : Fin 8 := ⟨t.val % 8, by omega⟩

theorem index_x : ∀ t : Fin cfg0.N, win0_0.index t = ![(seqOf t).val, (tileOf t).val, 0] := (by decide +kernel : ∀ t : Fin grid0.N, _)
theorem index_pos : ∀ t : Fin cfg0.N, win0_1.index t = ![(seqOf t).val, 0, (tileOf t).val] := (by decide +kernel : ∀ t : Fin grid0.N, _)
theorem index_gp : ∀ t : Fin cfg0.N, win0_2.index t = ![0, 0] := (by decide +kernel : ∀ t : Fin grid0.N, _)
theorem index_wl : ∀ t : Fin cfg0.N, win0_3.index t = ![0, 0] := (by decide +kernel : ∀ t : Fin grid0.N, _)
theorem index_wu : ∀ t : Fin cfg0.N, win0_4.index t = ![0, 0] := (by decide +kernel : ∀ t : Fin grid0.N, _)
theorem index_qn : ∀ t : Fin cfg0.N, win0_5.index t = ![0, 0] := (by decide +kernel : ∀ t : Fin grid0.N, _)
theorem index_wuq : ∀ t : Fin cfg0.N, win0_6.index t = ![0, 0] := (by decide +kernel : ∀ t : Fin grid0.N, _)
theorem index_kn : ∀ t : Fin cfg0.N, win0_7.index t = ![0, 0] := (by decide +kernel : ∀ t : Fin grid0.N, _)
theorem index_wuk : ∀ t : Fin cfg0.N, win0_8.index t = ![0, 0] := (by decide +kernel : ∀ t : Fin grid0.N, _)
theorem index_wuv : ∀ t : Fin cfg0.N, win0_9.index t = ![0, 0] := (by decide +kernel : ∀ t : Fin grid0.N, _)
theorem index_q : ∀ t : Fin cfg0.N, win0_10.index t = ![(seqOf t).val, (tileOf t).val, 0] := (by decide +kernel : ∀ t : Fin grid0.N, _)
theorem index_k : ∀ t : Fin cfg0.N, win0_11.index t = ![(seqOf t).val, (tileOf t).val, 0] := (by decide +kernel : ∀ t : Fin grid0.N, _)
theorem index_v : ∀ t : Fin cfg0.N, win0_12.index t = ![(seqOf t).val, (tileOf t).val, 0, 0] := (by decide +kernel : ∀ t : Fin grid0.N, _)
theorem index_u : ∀ t : Fin cfg0.N, win0_13.index t = ![(tileOf t).val, (seqOf t).val] := (by decide +kernel : ∀ t : Fin grid0.N, _)

/-! A grid point's blocks are those of its tile. -/

/-- The rows of a tile and their positions. -/
def tileX (A : Args) (s i : Fin 8) : (Attn.T3 1 512 1024).Idx → EReal := fun z =>
  A.x (ix3 s ⟨512 * i.val + (z 1).val, by have : (z 1).val < 512 := (z 1).isLt; omega⟩ ⟨(z 2).val, (z 2).isLt⟩)
def tilePos (A : Args) (s i : Fin 8) : (Attn.T3 1 1 512).Idx → EReal := fun z =>
  A.pos (ix3 s 0 ⟨512 * i.val + (z 2).val, by have : (z 2).val < 512 := (z 2).isLt; omega⟩)

theorem blk_x (c : Dev nD) (t : Fin cfg0.N) : iblk m c 0 t = tileX (args m c) (seqOf t) (tileOf t) := by
  funext z
  have h0 : (z 0).val < 1 := (z 0).isLt
  show (args m c).x ((win0_0.blk t).view.emb z) = _
  unfold tileX
  refine congrArg (args m c).x ?_
  blk_ext [index_x]

theorem blk_pos (c : Dev nD) (t : Fin cfg0.N) : iblk m c 1 t = tilePos (args m c) (seqOf t) (tileOf t) := by
  funext z
  have h0 : (z 0).val < 1 := (z 0).isLt
  have h1 : (z 1).val < 1 := (z 1).isLt
  show (args m c).pos ((win0_1.blk t).view.emb z) = _
  unfold tilePos
  refine congrArg (args m c).pos ?_
  blk_ext [index_pos]

theorem blk_gp (c : Dev nD) (t : Fin cfg0.N) : iblk m c 2 t = (args m c).W.gp := by
  funext z
  show (args m c).W.gp ((win0_2.blk t).view.emb z) = _
  refine congrArg (args m c).W.gp ?_
  blk_ext [index_gp]

theorem blk_wl (c : Dev nD) (t : Fin cfg0.N) : iblk m c 3 t = (args m c).W.wl := by
  funext z
  show (args m c).W.wl ((win0_3.blk t).view.emb z) = _
  refine congrArg (args m c).W.wl ?_
  blk_ext [index_wl]

theorem blk_wu (c : Dev nD) (t : Fin cfg0.N) : iblk m c 4 t = (args m c).W.wu := by
  funext z
  show (args m c).W.wu ((win0_4.blk t).view.emb z) = _
  refine congrArg (args m c).W.wu ?_
  blk_ext [index_wu]

theorem blk_qn (c : Dev nD) (t : Fin cfg0.N) : iblk m c 5 t = (args m c).W.qn := by
  funext z
  show (args m c).W.qn ((win0_5.blk t).view.emb z) = _
  refine congrArg (args m c).W.qn ?_
  blk_ext [index_qn]

theorem blk_wuq (c : Dev nD) (t : Fin cfg0.N) : iblk m c 6 t = (args m c).W.wuq := by
  funext z
  show (args m c).W.wuq ((win0_6.blk t).view.emb z) = _
  refine congrArg (args m c).W.wuq ?_
  blk_ext [index_wuq]

theorem blk_kn (c : Dev nD) (t : Fin cfg0.N) : iblk m c 7 t = (args m c).W.kn := by
  funext z
  show (args m c).W.kn ((win0_7.blk t).view.emb z) = _
  refine congrArg (args m c).W.kn ?_
  blk_ext [index_kn]

theorem blk_wuk (c : Dev nD) (t : Fin cfg0.N) : iblk m c 8 t = (args m c).W.wuk := by
  funext z
  show (args m c).W.wuk ((win0_8.blk t).view.emb z) = _
  refine congrArg (args m c).W.wuk ?_
  blk_ext [index_wuk]

theorem blk_wuv (c : Dev nD) (t : Fin cfg0.N) : iblk m c 9 t = (args m c).W.wuv := by
  funext z
  show (args m c).W.wuv ((win0_9.blk t).view.emb z) = _
  refine congrArg (args m c).W.wuv ?_
  blk_ext [index_wuv]

theorem arr_q (c : Dev nD) : (dats m 0 c).arrAt 10 cfg0.N = (resultQ (args m c) : Buf (Elt Ideal) ((c : Thread nD τ).loc main_v0_0)) := by
  refine (dats m 0 c).arrAt_eq_of_covers 10 _ (by decide +kernel) fun t hf y => ?_
  refine (congrFun (Value.flushed10 m c t) y).trans ?_
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) y = resultQ (args m c) ((win0_10.blk t).view.emb y)
  have ht : (tileOf t).val < 8 := (tileOf t).isLt
  have hs : (seqOf t).val < 8 := (seqOf t).isLt
  have h0 : (y 0).val < 1 := (y 0).isLt
  have h1 : (y 1).val < 512 := (y 1).isLt
  have h2 : (y 2).val < 1024 := (y 2).isLt
  have e : (win0_10.blk t).view.emb y = (ix3 (seqOf t) ⟨512 * (tileOf t).val + (y 1).val, by omega⟩ ⟨(y 2).val, h2⟩ : (Attn.T3 8 4096 1024).Idx) := by
    blk_ext [index_q]
  rw [e, out_q, blk_x, blk_pos, blk_gp, blk_wl, blk_wu, blk_qn, blk_wuq, blk_kn, blk_wuk, blk_wuv]
  rfl

theorem arr_k (c : Dev nD) : (dats m 0 c).arrAt 11 cfg0.N = (resultK (args m c) : Buf (Elt Ideal) ((c : Thread nD τ).loc main_v0_1)) := by
  refine (dats m 0 c).arrAt_eq_of_covers 11 _ (by decide +kernel) fun t hf y => ?_
  refine (congrFun (Value.flushed11 m c t) y).trans ?_
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) y = resultK (args m c) ((win0_11.blk t).view.emb y)
  have ht : (tileOf t).val < 8 := (tileOf t).isLt
  have hs : (seqOf t).val < 8 := (seqOf t).isLt
  have h0 : (y 0).val < 1 := (y 0).isLt
  have h1 : (y 1).val < 512 := (y 1).isLt
  have h2 : (y 2).val < 1024 := (y 2).isLt
  have e : (win0_11.blk t).view.emb y = (ix3 (seqOf t) ⟨512 * (tileOf t).val + (y 1).val, by omega⟩ ⟨(y 2).val, h2⟩ : (Attn.T3 8 4096 1024).Idx) := by
    blk_ext [index_k]
  rw [e, out_k, blk_x, blk_pos, blk_gp, blk_wl, blk_wu, blk_qn, blk_wuq, blk_kn, blk_wuk, blk_wuv]
  rfl

theorem arr_v (c : Dev nD) : (dats m 0 c).arrAt 12 cfg0.N = (resultV (args m c) : Buf (Elt Ideal) ((c : Thread nD τ).loc main_v0_2)) := by
  refine (dats m 0 c).arrAt_eq_of_covers 12 _ (by decide +kernel) fun t hf y => ?_
  refine (congrFun (Value.flushed12 m c t) y).trans ?_
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) y = resultV (args m c) ((win0_12.blk t).view.emb y)
  have ht : (tileOf t).val < 8 := (tileOf t).isLt
  have hs : (seqOf t).val < 8 := (seqOf t).isLt
  have h0 : (y 0).val < 1 := (y 0).isLt
  have h1 : (y 1).val < 2 := (y 1).isLt
  have h2 : (y 2).val < 512 := (y 2).isLt
  have h3 : (y 3).val < 256 := (y 3).isLt
  have e : (win0_12.blk t).view.emb y = (ix4 (seqOf t) ⟨2 * (tileOf t).val + (y 1).val, by omega⟩ ⟨(y 2).val, h2⟩ ⟨(y 3).val, h3⟩ : (Attn.T4 8 16 512 256).Idx) := by
    blk_ext [index_v]
  rw [e, out_v, blk_x, blk_gp, blk_wl, blk_wu, blk_qn, blk_wuq, blk_kn, blk_wuk, blk_wuv]
  show outV (args m c).W (fun k => (args m c).x (ix3 (seqOf t) ⟨512 * (tileOf t).val + (256 * (y 1).val + (y 3).val), by omega⟩ k)) ⟨(y 2).val, h2⟩
    = outV (args m c).W (fun k => (args m c).x (ix3 (seqOf t) ⟨256 * (2 * (tileOf t).val + (y 1).val) + (y 3).val, by omega⟩ k)) ⟨(y 2).val, h2⟩
  refine congrArg (fun r => outV (args m c).W (fun k => (args m c).x (ix3 (seqOf t) r k)) ⟨(y 2).val, h2⟩) (Fin.ext ?_)
  show 512 * (tileOf t).val + (256 * (y 1).val + (y 3).val) = 256 * (2 * (tileOf t).val + (y 1).val) + (y 3).val
  omega

theorem arr_u (c : Dev nD) : (dats m 0 c).arrAt 13 cfg0.N = (resultU (args m c) : Buf (Elt Ideal) ((c : Thread nD τ).loc main_v0_3)) := by
  refine (dats m 0 c).arrAt_eq_of_covers 13 _ (by decide +kernel) fun t hf y => ?_
  refine (congrFun (Value.flushed13 m c t) y).trans ?_
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) y = resultU (args m c) ((win0_13.blk t).view.emb y)
  have ht : (tileOf t).val < 8 := (tileOf t).isLt
  have hs : (seqOf t).val < 8 := (seqOf t).isLt
  have h0 : (y 0).val < 512 := (y 0).isLt
  have h1 : (y 1).val < 512 := (y 1).isLt
  have e : (win0_13.blk t).view.emb y = (ix2 ⟨512 * (tileOf t).val + (y 0).val, by omega⟩ ⟨512 * (seqOf t).val + (y 1).val, by omega⟩ : (Attn.T2 4096 4096).Idx) := by
    blk_ext [index_u]
  rw [e, out_u, blk_x, blk_gp, blk_wl, blk_wu, blk_qn, blk_wuq, blk_kn, blk_wuk, blk_wuv]
  show outU (args m c).W (fun k => (args m c).x (ix3 (seqOf t) ⟨512 * (tileOf t).val + (y 0).val, by omega⟩ k)) ⟨(y 1).val, h1⟩
    = outU (args m c).W (fun k => (args m c).x (ix3 ⟨(512 * (seqOf t).val + (y 1).val) / 512, by omega⟩ ⟨512 * (tileOf t).val + (y 0).val, by omega⟩ k))
      ⟨(512 * (seqOf t).val + (y 1).val) % 512, by omega⟩
  refine congrArg₂ (fun s n => outU (args m c).W (fun k => (args m c).x (ix3 s ⟨512 * (tileOf t).val + (y 0).val, by omega⟩ k)) n) (Fin.ext ?_) (Fin.ext ?_)
  · show (seqOf t).val = (512 * (seqOf t).val + (y 1).val) / 512
    omega
  · show (y 1).val = (512 * (seqOf t).val + (y 1).val) % 512
    omega

/-- Every run of Kernel4Ideal ends with the projections in its result arrays and its arguments as they were. -/
theorem run :
    θ_run defs (onTc (τ := τ) (main (F := Ideal))) ⟨m, fun _ => 0, ρ⟩ fun r => ∀ c : Dev nD,
      r.2.mem ((c.tc : Thread nD τ).loc main_v0_0) = (resultQ (args m c) : Buf (Elt Ideal) ((c : Thread nD τ).loc main_v0_0))
      ∧ r.2.mem ((c.tc : Thread nD τ).loc main_v0_1) = (resultK (args m c) : Buf (Elt Ideal) ((c : Thread nD τ).loc main_v0_1))
      ∧ r.2.mem ((c.tc : Thread nD τ).loc main_v0_2) = (resultV (args m c) : Buf (Elt Ideal) ((c : Thread nD τ).loc main_v0_2))
      ∧ r.2.mem ((c.tc : Thread nD τ).loc main_v0_3) = (resultU (args m c) : Buf (Elt Ideal) ((c : Thread nD τ).loc main_v0_3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (arr_q m c), (h c).2.1.trans (arr_k m c), (h c).2.2.1.trans (arr_v m c), (h c).2.2.2.1.trans (arr_u m c),
    (h c).2.2.2.2⟩) (Value.run_blocks m ρ)

end Cert.Kernel4Ideal

end
-- ==== Proof.Proj.HostEntries.lean ====
/-
  Operations of the projections' reference at an entry: the normalization of rows of any width, parts of the last axis and their
  concatenation, arrays repeated over the heads.
-/
module

public import proofs.«01_k».proof.Proof.Gen.Reference4Ideal.Run
public import proofs.«01_k».proof.Proof.Proj.Result
public import proofs.«01_k».proof.Proof.Ffn.Reference

@[expose] public section

set_option maxRecDepth 16384

noncomputable section

namespace Cert.Reference4Ideal

open Idealize.ShloMosaic Idealize.ShloMosaic.TcCoe Idealize.ShloMosaic.ValueIdx
open Cert.Reference4Ideal.Gen
open Proj
open Attn (T1 T2 T3 T4)
open Cert.Reference2Ideal (columns_apply)
open scoped BigOperators

/-! ## Normalization -/

section Norm

variable {w : ℕ} (cnt : BitVec 32) (bc : (T3 8 4096 1).BroadcastsInDim (T3 8 4096 w) ![0, 1, 2]) (red : (T3 8 4096 w).ReducesTo [2] (T2 8 4096))
  (b1 : (T2 1 w).BroadcastsInDim (T3 1 1 w) ![1, 2]) (b2 : (T3 1 1 w).BroadcastsInDim (T3 8 4096 w) ![0, 1, 2])
  (y : FVec Ideal (T3 8 4096 w) .f32) (g : FVec Ideal (T2 1 w) .f32)

/-- Rows divided by the root of their mean square and scaled. -/
def normR : FVec Ideal (T3 8 4096 w) .f32 :=
  mulf (mulf y (broadcastInDim (T3 8 4096 w) ![0, 1, 2] bc (Host.rsqrt (addf (Host.divf
      (broadcastInDim S8x4096x1 ![0, 1] bcast_S8x4096_S8x4096x1_0_1 (Host.reduceAdd (mulf y y) (constant S_ .f32 0x00000000#32) red h_S_))
      (broadcastInDim S8x4096x1 ![] bcast_S_S8x4096x1 (constant S_ .f32 cnt))) (broadcastInDim S8x4096x1 ![] bcast_S_S8x4096x1 (constant S_ .f32 0x358637BD#32))))))
    (broadcastInDim (T3 8 4096 w) ![0, 1, 2] b2 (broadcastInDim (T3 1 1 w) ![1, 2] b1 g))

theorem normR_apply (hr : (T3 8 4096 w).Reduces [2] (T2 8 4096)) (s : Fin 8) (τ' : Fin 4096) (k : Fin w) :
    normR cnt bc red b1 b2 y g (ix3 s τ' k) = rms cnt (fun k => y (ix3 s τ' k)) (fun k => g (ix2 0 k)) k := by
  have hsum : Host.reduceAdd (mulf y y) (constant (F := Ideal) S_ .f32 0x00000000#32) red h_S_ (ix2 s τ') = ∑ k : Fin w, y (ix3 s τ' k) * y (ix3 s τ' k) := by
    simp only [Host.reduceAdd, Ideal.hostReduceAdd_def]
    rw [Ideal.hostReduceAdd_single red hr]
    refine (congrArg (· + _) (show constant (F := Ideal) S_ .f32 0x00000000#32 _ = (0 : EReal) from Ideal.ofBits_zero_f32)).trans ((zero_add _).trans ?_)
    refine Finset.sum_congr rfl fun k _ => ?_
    have e : ∀ i : (T3 8 4096 w).Idx, i = ix3 s τ' k → mulf y y i = y (ix3 s τ' k) * y (ix3 s τ' k) := fun i h => h ▸ rfl
    exact e _ (funext fun a => Fin.ext (by match a with | ⟨0, _⟩ => rfl | ⟨1, _⟩ => rfl | ⟨2, _⟩ => rfl))
  unfold normR rms
  show y (ix3 s τ' k) * broadcastInDim (s := S8x4096x1) (T3 8 4096 w) ![0, 1, 2] bc _ (ix3 s τ' k) * broadcastInDim (s := T3 1 1 w) (T3 8 4096 w) ![0, 1, 2] _ _ (ix3 s τ' k) = _
  rw [columns_apply, broadcastInDim_apply _ bc _ (ix3 s τ' k) (ix3 s τ' 0) (fun a => by
    match a with
    | ⟨0, _⟩ => rfl
    | ⟨1, _⟩ => rfl
    | ⟨2, _⟩ => rfl)]
  show y (ix3 s τ' k) * Ideal.rsqrt (Ideal.div (broadcastInDim (s := S8x4096) S8x4096x1 ![0, 1] bcast_S8x4096_S8x4096x1_0_1 _ (ix3 s τ' 0)) (Ideal.ofBits .f32 cnt) + Ideal.ofBits .f32 0x358637BD#32) * _ = _
  rw [broadcastInDim_apply _ bcast_S8x4096_S8x4096x1_0_1 _ (ix3 s τ' 0) (ix2 s τ') (fun a => by
    match a with
    | ⟨0, _⟩ => rfl
    | ⟨1, _⟩ => rfl), hsum]

end Norm

/-! ## The last axis in parts -/

section Parts

variable {α : Type} {a b c N n : ℕ}

/-- A part of the last of three axes. -/
theorem part3_apply (o : ℕ) (x : (T3 a b N).Idx → α) (h : (T3 a b N).Slices ![0, 0, o] (T3 a b n)) (i : Fin a) (j : Fin b) (r : Fin n) (d : Fin N) (hd : d.val = o + r.val) :
    extractStridedSlice (T3 a b n) ![0, 0, o] x h (ix3 i j r) = x (ix3 i j d) :=
  extractStridedSlice_apply _ _ h (ix3 i j r) (ix3 i j d) (fun q => by
    match q with
    | ⟨0, _⟩ => exact (Nat.zero_add _).symm
    | ⟨1, _⟩ => exact (Nat.zero_add _).symm
    | ⟨2, _⟩ => exact hd)

/-- A part of the last of four axes. -/
theorem part4_apply (o : ℕ) (x : (T4 a b c N).Idx → α) (h : (T4 a b c N).Slices ![0, 0, 0, o] (T4 a b c n)) (i : Fin a) (j : Fin b) (k : Fin c) (r : Fin n) (d : Fin N)
    (hd : d.val = o + r.val) : extractStridedSlice (T4 a b c n) ![0, 0, 0, o] x h (ix4 i j k r) = x (ix4 i j k d) :=
  extractStridedSlice_apply _ _ h (ix4 i j k r) (ix4 i j k d) (fun q => by
    match q with
    | ⟨0, _⟩ => exact (Nat.zero_add _).symm
    | ⟨1, _⟩ => exact (Nat.zero_add _).symm
    | ⟨2, _⟩ => exact (Nat.zero_add _).symm
    | ⟨3, _⟩ => exact hd)

/-- Parts put together along the last of three axes, read in the part where the lane falls. -/
theorem join3_apply (xs : List ((s : Shape) × (s.Idx → α))) (h : Shape.Concatenates (xs.map (·.1)) (T3 a b N) 2)
    (k : ℕ) (hk : k < xs.length) (x : (T3 a b n).Idx → α) (hx : xs[k] = ⟨T3 a b n, x⟩) (pre : ℕ)
    (hpre : (((xs.take k).map (·.1)).map fun s => if h : s.rank = (T3 a b N).rank then s.size ((2 : Fin (T3 a b N).rank).cast h.symm) else 0).sum = pre)
    (i : Fin a) (j : Fin b) (r : Fin n) (d : Fin N) (hd : pre + r.val = d.val) : concatenate (T3 a b N) 2 xs h (ix3 i j d) = x (ix3 i j r) := by
  refine concatenate_apply_piece (t := T3 a b N) 2 xs h (ix3 i j d) k hk (T3 a b n) x hx rfl pre hpre (ix3 i j r) (fun q hq => ?_) hd
  match q, hq with
  | ⟨0, _⟩, _ => rfl
  | ⟨1, _⟩, _ => rfl
  | ⟨2, _⟩, hq => exact absurd rfl hq

/-- Parts put together along the last of four axes. -/
theorem join4_apply (xs : List ((s : Shape) × (s.Idx → α))) (h : Shape.Concatenates (xs.map (·.1)) (T4 a b c N) 3)
    (k : ℕ) (hk : k < xs.length) (x : (T4 a b c n).Idx → α) (hx : xs[k] = ⟨T4 a b c n, x⟩) (pre : ℕ)
    (hpre : (((xs.take k).map (·.1)).map fun s => if h : s.rank = (T4 a b c N).rank then s.size ((3 : Fin (T4 a b c N).rank).cast h.symm) else 0).sum = pre)
    (i : Fin a) (j : Fin b) (l : Fin c) (r : Fin n) (d : Fin N) (hd : pre + r.val = d.val) : concatenate (T4 a b c N) 3 xs h (ix4 i j l d) = x (ix4 i j l r) := by
  refine concatenate_apply_piece (t := T4 a b c N) 3 xs h (ix4 i j l d) k hk (T4 a b c n) x hx rfl pre hpre (ix4 i j l r) (fun q hq => ?_) hd
  match q, hq with
  | ⟨0, _⟩, _ => rfl
  | ⟨1, _⟩, _ => rfl
  | ⟨2, _⟩, _ => rfl
  | ⟨3, _⟩, hq => exact absurd rfl hq

end Parts

/-- An array of positions repeated over the heads. -/
theorem heads_apply {α : Type} {n : ℕ} (hn : n ≠ 1) (h1 : (T3 8 4096 n).BroadcastsInDim (T4 8 4096 1 n) ![0, 1, 3])
    (h2 : (T4 8 4096 1 n).BroadcastsInDim (T4 8 4096 8 n) ![0, 1, 2, 3]) (x : (T3 8 4096 n).Idx → α) (s : Fin 8) (τ' : Fin 4096) (h : Fin 8) (j : Fin n) :
    broadcastInDim (T4 8 4096 8 n) ![0, 1, 2, 3] h2 (broadcastInDim (T4 8 4096 1 n) ![0, 1, 3] h1 x) (ix4 s τ' h j) = x (ix3 s τ' j) := by
  rw [broadcastInDim_apply _ h2 _ (ix4 s τ' h j) (ix4 s τ' 0 j) (fun a => by
    match a with
    | ⟨0, _⟩ => rfl
    | ⟨1, _⟩ => rfl
    | ⟨2, _⟩ => rfl
    | ⟨3, _⟩ => exact (if_neg hn).symm)]
  exact broadcastInDim_apply _ h1 _ (ix4 s τ' 0 j) (ix3 s τ' j) (fun a => by
    match a with
    | ⟨0, _⟩ => rfl
    | ⟨1, _⟩ => rfl
    | ⟨2, _⟩ => exact (if_neg hn).symm)

/-! ## Angles -/

theorem two_bits : Ideal.ofBits .f32 0x40000000#32 = ((2 : ℝ) : EReal) := by
  simp [Ideal.ofBits, Ideal.ieee]
  rw [← EReal.coe_mul]
  norm_num

theorem lanes_bits : Ideal.ofBits .f32 0x42000000#32 = ((32 : ℝ) : EReal) := by
  simp [Ideal.ofBits, Ideal.ieee]
  rw [← EReal.coe_mul]
  norm_num

theorem base_bits : Ideal.ofBits .f32 0x461C4000#32 = ((10000 : ℝ) : EReal) := by
  simp [Ideal.ofBits, Ideal.ieee]
  rw [← EReal.coe_mul]
  norm_num

theorem index_toInt : ∀ j : Fin 16, (BitVec.ofNat 32 j.val).toInt = (j.val : ℤ) := by decide

/-- The frequencies: powers of ten thousand. -/
def freqR : FVec Ideal S16 .f32 :=
  Host.powf (broadcastInDim S16 ![] bcast_S_S16 (constant S_ .f32 0x461C4000#32)) (Host.divf (Host.negf (addf (broadcastInDim S16 ![] bcast_S_S16 (constant S_ .f32 0x00000000#32))
    (mulf (broadcastInDim S16 ![] bcast_S_S16 (constant S_ .f32 0x40000000#32)) (sitofp .f32 (iotaInDim S16 32 0))))) (broadcastInDim S16 ![] bcast_S_S16 (constant S_ .f32 0x42000000#32)))

theorem freqR_apply (j : Fin 16) : freqR (ix1 j) = Ideal.exp (((j.val : ℝ) : EReal) * (rate : EReal)) := by
  have e : freqR (ix1 j) = Ideal.pow (Ideal.ofBits .f32 0x461C4000#32) (Ideal.div (-(Ideal.ofBits .f32 0x00000000#32 + Ideal.ofBits .f32 0x40000000#32
      * (((BitVec.ofNat 32 j.val).toInt : ℝ) : EReal))) (Ideal.ofBits .f32 0x42000000#32)) := rfl
  rw [e, base_bits, two_bits, lanes_bits, Ideal.ofBits_zero_f32, index_toInt, zero_add, Ideal.div_coe (by norm_num), ← EReal.coe_mul, ← EReal.coe_neg, ← EReal.coe_mul,
    Ideal.pow_coe_coe, ← EReal.coe_mul]
  show ((Real.rpow _ _ : ℝ) : EReal) = ((Real.exp _ : ℝ) : EReal)
  rw [freq_eq]
  refine congrArg (fun r : ℝ => (((10000 : ℝ) ^ r : ℝ) : EReal)) ?_
  push_cast
  ring

end Cert.Reference4Ideal

end
-- ==== Proof.Proj.Reference.lean ====
/-
  The value of the projections' reference: every entry of its four results is the projections' at its row.
-/
module

public import proofs.«01_k».proof.Proof.Proj.HostEntries

@[expose] public section

set_option maxRecDepth 16384

noncomputable section

namespace Cert.Reference4Ideal

open Idealize.ShloMosaic Idealize.ShloMosaic.TcCoe Idealize.ShloMosaic.ValueIdx
open Cert.Reference4Ideal.Gen Cert.Reference4Ideal.Value
open Proj
open Attn (T1 T2 T3 T4)
open Cert.Reference2Ideal (rowsDot_apply)
open scoped BigOperators

variable (m : (ℓ : Loc nD τ sig) → Buf (Elt Ideal) ℓ) (c : Dev nD)

/-- The arrays of a device's arguments. -/
abbrev args : Args where
  x := m ((c.tc : Thread nD τ).loc main_arg0)
  pos := m ((c.tc : Thread nD τ).loc main_arg1)
  W := {
    gp := m ((c.tc : Thread nD τ).loc main_arg2)
    wl := m ((c.tc : Thread nD τ).loc main_arg3)
    wu := m ((c.tc : Thread nD τ).loc main_arg4)
    qn := m ((c.tc : Thread nD τ).loc main_arg5)
    wuq := m ((c.tc : Thread nD τ).loc main_arg6)
    kn := m ((c.tc : Thread nD τ).loc main_arg7)
    wuk := m ((c.tc : Thread nD τ).loc main_arg8)
    wuv := m ((c.tc : Thread nD τ).loc main_arg9) }

/-- A row, and its position. -/
abbrev rowOf (s : Fin 8) (τ' : Fin 4096) : Fin 1024 → EReal := fun k => (args m c).x (ix3 s τ' k)
abbrev posOf (s : Fin 8) (τ' : Fin 4096) : EReal := (args m c).pos (ix3 s 0 τ')

/-! ## The reference's values, named -/

/-- The angles. -/
def anglesR : FVec Ideal S8x4096x16 .f32 :=
  mulf (broadcastInDim S8x4096x16 ![0, 1, 2] bcast_S8x4096x1_S8x4096x16_0_1_2 (transpose S8x4096x1 [0, 2, 1] (m ((c.tc : Thread nD τ).loc main_arg1)) transposes_S8x1x4096_S8x4096x1_0_2_1))
    (broadcastInDim S8x4096x16 ![0, 1, 2] bcast_S1x1x16_S8x4096x16_0_1_2 (broadcastInDim S1x1x16 ![2] bcast_S16_S1x1x16_2 freqR))

/-- The rows normalized. -/
def rowsR : FVec Ideal S8x4096x1024 .f32 :=
  normR 0x44800000#32 bcast_S8x4096x1_S8x4096x1024_0_1_2 reducesTo_S8x4096x1024_S8x4096_d2 bcast_S1x1024_S1x1x1024_1_2 bcast_S1x1x1024_S8x4096x1024_0_1_2
    (m ((c.tc : Thread nD τ).loc main_arg0)) (m ((c.tc : Thread nD τ).loc main_arg2))

/-- The low ranks. -/
def lowR : FVec Ideal S8x4096x768 .f32 :=
  Host.dotGeneral dot_S8x4096x1024_S1024x768_S8x4096x768_2_0_01_1_n_n none (rowsR m c) (extf .f32 (m ((c.tc : Thread nD τ).loc main_arg3)) bitsLt_bf16_f32)

/-- The queries' low rank, normalized. -/
def lowQR : FVec Ideal S8x4096x384 .f32 :=
  normR 0x43C00000#32 bcast_S8x4096x1_S8x4096x384_0_1_2 reducesTo_S8x4096x384_S8x4096_d2 bcast_S1x384_S1x1x384_1_2 bcast_S1x1x384_S8x4096x384_0_1_2
    (extractStridedSlice S8x4096x384 ![0, 0, 0] (lowR m c) slices_S8x4096x768_S8x4096x384_0_0_0) (m ((c.tc : Thread nD τ).loc main_arg5))

/-- The keys' and values' low rank, normalized. -/
def lowKR : FVec Ideal S8x4096x256 .f32 :=
  normR 0x43800000#32 bcast_S8x4096x1_S8x4096x256_0_1_2 reducesTo_S8x4096x256_S8x4096_d2 bcast_S1x256_S1x1x256_1_2 bcast_S1x1x256_S8x4096x256_0_1_2
    (extractStridedSlice S8x4096x256 ![0, 0, 384] (lowR m c) slices_S8x4096x768_S8x4096x256_0_0_384) (m ((c.tc : Thread nD τ).loc main_arg7))

/-- The queries by heads, before they are turned. -/
def rawQR : FVec Ideal S8x4096x8x128 .f32 :=
  shapeCast S8x4096x8x128 (Host.dotGeneral dot_S8x4096x384_S384x1024_S8x4096x1024_2_0_01_1_n_n none (lowQR m c) (extf .f32 (m ((c.tc : Thread nD τ).loc main_arg6)) bitsLt_bf16_f32))
    shapeCasts_S8x4096x1024_S8x4096x8x128

/-- Angles' sines or cosines repeated over the heads. -/
def headsR (x : FVec Ideal S8x4096x16 .f32) : FVec Ideal S8x4096x8x16 .f32 :=
  broadcastInDim S8x4096x8x16 ![0, 1, 2, 3] bcast_S8x4096x1x16_S8x4096x8x16_0_1_2_3 (broadcastInDim S8x4096x1x16 ![0, 1, 3] bcast_S8x4096x16_S8x4096x1x16_0_1_3 x)

/-- Heads turned. -/
def turned4R (x : FVec Ideal S8x4096x8x128 .f32) (θ : FVec Ideal S8x4096x16 .f32) : FVec Ideal S8x4096x8x128 .f32 :=
  fn_main_v69 (F := Ideal) (extractStridedSlice S8x4096x8x64 ![0, 0, 0, 0] x slices_S8x4096x8x128_S8x4096x8x64_0_0_0_0)
    (broadcastInDim S8x4096x8x16 ![] bcast_S_S8x4096x8x16 (constant (F := Ideal) S_ .f32 0x00000000#32))
    (addf (F := Ideal) (φ := .f32) (mulf (extractStridedSlice S8x4096x8x16 ![0, 0, 0, 80] x slices_S8x4096x8x128_S8x4096x8x16_0_0_0_80) (headsR (Host.cos θ)))
      (mulf (extractStridedSlice S8x4096x8x16 ![0, 0, 0, 64] x slices_S8x4096x8x128_S8x4096x8x16_0_0_0_64) (headsR (Host.sin θ))))
    (subf (F := Ideal) (φ := .f32) (mulf (extractStridedSlice S8x4096x8x16 ![0, 0, 0, 96] x slices_S8x4096x8x128_S8x4096x8x16_0_0_0_96) (headsR (Host.cos θ)))
      (mulf (extractStridedSlice S8x4096x8x16 ![0, 0, 0, 80] x slices_S8x4096x8x128_S8x4096x8x16_0_0_0_80) (headsR (Host.sin θ))))
    (broadcastInDim S8x4096x8x16 ![] bcast_S_S8x4096x8x16 (constant (F := Ideal) S_ .f32 0x00000000#32))

/-- The lanes all heads share, turned. -/
def turned3R (x : FVec Ideal S8x4096x128 .f32) (θ : FVec Ideal S8x4096x16 .f32) : FVec Ideal S8x4096x128 .f32 :=
  fn_main_v100 (F := Ideal) (extractStridedSlice S8x4096x64 ![0, 0, 0] x slices_S8x4096x128_S8x4096x64_0_0_0)
    (broadcastInDim S8x4096x16 ![] bcast_S_S8x4096x16 (constant (F := Ideal) S_ .f32 0x00000000#32))
    (addf (F := Ideal) (φ := .f32) (mulf (extractStridedSlice S8x4096x16 ![0, 0, 80] x slices_S8x4096x128_S8x4096x16_0_0_80) (Host.cos θ))
      (mulf (extractStridedSlice S8x4096x16 ![0, 0, 64] x slices_S8x4096x128_S8x4096x16_0_0_64) (Host.sin θ)))
    (subf (F := Ideal) (φ := .f32) (mulf (extractStridedSlice S8x4096x16 ![0, 0, 96] x slices_S8x4096x128_S8x4096x16_0_0_96) (Host.cos θ))
      (mulf (extractStridedSlice S8x4096x16 ![0, 0, 80] x slices_S8x4096x128_S8x4096x16_0_0_80) (Host.sin θ)))
    (broadcastInDim S8x4096x16 ![] bcast_S_S8x4096x16 (constant (F := Ideal) S_ .f32 0x00000000#32))

/-- The queries by heads. -/
def queriesR : FVec Ideal S8x4096x8x128 .f32 :=
  mulf (turned4R (rawQR m c) (anglesR m c)) (broadcastInDim S8x4096x8x128 ![] bcast_S_S8x4096x8x128 (constant S_ .f32 0x3E16C740#32))

/-- The keys by heads. -/
def keysR : FVec Ideal S8x4096x8x128 .f32 :=
  addf (shapeCast S8x4096x8x128 (Host.dotGeneral dot_S8x4096x256_S256x1024_S8x4096x1024_2_0_01_1_n_n none (lowKR m c) (extf .f32 (m ((c.tc : Thread nD τ).loc main_arg8)) bitsLt_bf16_f32))
      shapeCasts_S8x4096x1024_S8x4096x8x128)
    (broadcastInDim S8x4096x8x128 ![0, 1, 2, 3] bcast_S8x4096x1x128_S8x4096x8x128_0_1_2_3 (broadcastInDim S8x4096x1x128 ![0, 1, 3] bcast_S8x4096x128_S8x4096x1x128_0_1_3
      (turned3R (extractStridedSlice S8x4096x128 ![0, 0, 640] (lowR m c) slices_S8x4096x768_S8x4096x128_0_0_640) (anglesR m c))))

/-- Heads side by side. -/
def flatR (x : FVec Ideal S8x4096x8x128 .f32) : FVec Ideal S8x4096x1024 .bf16 :=
  truncf .bf16 (shapeCast S8x4096x1024 x shapeCasts_S8x4096x8x128_S8x4096x1024) bitsLt_bf16_f32

/-- The values. -/
def valuesR : FVec Ideal S8x16x512x256 .bf16 :=
  truncf .bf16 (transpose S8x16x512x256 [0, 1, 3, 2] (shapeCast S8x16x256x512 (Host.dotGeneral dot_S8x4096x256_S256x512_S8x4096x512_2_0_01_1_n_n none (lowKR m c)
      (transpose S256x512 [1, 0] (extf .f32 (m ((c.tc : Thread nD τ).loc main_arg9)) bitsLt_bf16_f32) transposes_S512x256_S256x512_1_0)) shapeCasts_S8x4096x512_S8x16x256x512)
    transposes_S8x16x256x512_S8x16x512x256_0_1_3_2) bitsLt_bf16_f32

/-- The state space branch's input. -/
def branchR : FVec Ideal S4096x4096 .bf16 :=
  truncf .bf16 (shapeCast S4096x4096 (transpose S4096x8x512 [1, 0, 2] (Host.dotGeneral dot_S8x4096x1024_S1024x512_S8x4096x512_2_0_01_1_n_n none (rowsR m c)
      (extf .f32 (m ((c.tc : Thread nD τ).loc main_arg4)) bitsLt_bf16_f32)) transposes_S8x4096x512_S4096x8x512_1_0_2) shapeCasts_S4096x8x512_S4096x4096) bitsLt_bf16_f32

theorem queries_eq : res_main_v110 (F := Ideal) m c = flatR (queriesR m c) := by
  unfold res_main_v110 flatR queriesR turned4R fn_main_v69 headsR rawQR lowQR lowR rowsR anglesR freqR normR
  rfl

theorem keys_eq : res_main_v112 (F := Ideal) m c = flatR (keysR m c) := by
  unfold res_main_v112 flatR keysR turned3R fn_main_v100 lowKR lowR rowsR anglesR freqR normR
  rfl

/-! ## At an entry -/

variable (s : Fin 8) (τ' : Fin 4096)

theorem anglesR_apply (j : Fin 16) : anglesR m c (ix3 s τ' j) = angle (posOf m c s τ') j := by
  unfold anglesR angle
  refine (congrArg₂ (· * ·) ?_ ?_).trans (mul_comm _ _)
  · exact (broadcastInDim_apply _ bcast_S8x4096x1_S8x4096x16_0_1_2 _ (ix3 s τ' j) (ix3 s τ' 0) (fun a => by
      match a with
      | ⟨0, _⟩ => rfl
      | ⟨1, _⟩ => rfl
      | ⟨2, _⟩ => rfl)).trans (transpose_apply _ _ transposes_S8x1x4096_S8x4096x1_0_2_1 (ix3 s τ' 0) (ix3 s 0 τ') (fun b => by
      match b with
      | ⟨0, _⟩ => rfl
      | ⟨1, _⟩ => rfl
      | ⟨2, _⟩ => rfl))
  · exact ((broadcastInDim_apply _ bcast_S1x1x16_S8x4096x16_0_1_2 _ (ix3 s τ' j) (ix3 0 0 j) (fun a => by
      match a with
      | ⟨0, _⟩ => rfl
      | ⟨1, _⟩ => rfl
      | ⟨2, _⟩ => rfl)).trans (broadcastInDim_apply _ bcast_S16_S1x1x16_2 _ (ix3 0 0 j) (ix1 j) (fun a => by
      match a with
      | ⟨0, _⟩ => rfl))).trans (freqR_apply j)

theorem rowsR_apply (k : Fin 1024) : rowsR m c (ix3 s τ' k) = rowN (args m c).W (rowOf m c s τ') k :=
  normR_apply _ _ _ _ _ _ _ (by decide) s τ' k

theorem lowR_apply (n : Fin 768) : lowR m c (ix3 s τ' n) = low (args m c).W (rowOf m c s τ') n := by
  unfold lowR low
  refine (rowsDot_apply dot_S8x4096x1024_S1024x768_S8x4096x768_2_0_01_1_n_n.wf _ _ s τ' n).trans (Finset.sum_congr rfl fun k _ => ?_)
  rw [rowsR_apply]
  rfl

theorem lowQR_apply (j : Fin 384) : lowQR m c (ix3 s τ' j) = lowQ (args m c).W (rowOf m c s τ') j := by
  refine (normR_apply _ _ _ _ _ _ _ (by decide) s τ' j).trans ?_
  unfold lowQ
  refine congrArg (fun f => rms _ f _ j) (funext fun k => ?_)
  exact (part3_apply 0 (lowR m c) _ s τ' k ⟨k.val, by omega⟩ (Nat.zero_add _).symm).trans (lowR_apply m c s τ' _)

theorem lowKR_apply (j : Fin 256) : lowKR m c (ix3 s τ' j) = lowK (args m c).W (rowOf m c s τ') j := by
  refine (normR_apply _ _ _ _ _ _ _ (by decide) s τ' j).trans ?_
  unfold lowK
  refine congrArg (fun f => rms _ f _ j) (funext fun k => ?_)
  exact (part3_apply 384 (lowR m c) _ s τ' k ⟨384 + k.val, by omega⟩ rfl).trans (lowR_apply m c s τ' _)

/-- Lanes side by side, by heads. -/
theorem byHeads_apply (x : FVec Ideal S8x4096x1024 .f32) (h : Fin 8) (d : Fin 128) :
    shapeCast S8x4096x8x128 x shapeCasts_S8x4096x1024_S8x4096x8x128 (ix4 s τ' h d) = x (ix3 s τ' ⟨128 * h.val + d.val, by omega⟩) :=
  shapeCast_apply x shapeCasts_S8x4096x1024_S8x4096x8x128 (ix4 s τ' h d) (ix3 s τ' ⟨128 * h.val + d.val, by omega⟩) (by
    rewrite [Shape.rowMajor_val_three, Shape.rowMajor_val_four]
    show (s.val * 4096 + τ'.val) * 1024 + (128 * h.val + d.val) = ((s.val * 4096 + τ'.val) * 8 + h.val) * 128 + d.val
    omega)

theorem flatR_apply (x : FVec Ideal S8x4096x8x128 .f32) (n : Fin 1024) :
    flatR x (ix3 s τ' n) = x (ix4 s τ' (⟨n.val / 128, by omega⟩ : Fin 8) (⟨n.val % 128, by omega⟩ : Fin 128)) :=
  shapeCast_apply x shapeCasts_S8x4096x8x128_S8x4096x1024 (ix3 s τ' n) (ix4 s τ' (⟨n.val / 128, by omega⟩ : Fin 8) (⟨n.val % 128, by omega⟩ : Fin 128)) (by
    rewrite [Shape.rowMajor_val_three, Shape.rowMajor_val_four]
    show ((s.val * 4096 + τ'.val) * 8 + n.val / 128) * 128 + n.val % 128 = (s.val * 4096 + τ'.val) * 1024 + n.val
    omega)

theorem rawQR_apply (h : Fin 8) (d : Fin 128) : rawQR m c (ix4 s τ' h d) = rawQ (args m c).W (rowOf m c s τ') ⟨128 * h.val + d.val, by omega⟩ := by
  unfold rawQR rawQ
  refine (byHeads_apply s τ' _ h d).trans ((rowsDot_apply dot_S8x4096x384_S384x1024_S8x4096x1024_2_0_01_1_n_n.wf _ _ s τ' _).trans (Finset.sum_congr rfl fun k _ => ?_))
  rw [lowQR_apply]
  rfl

theorem headsR_apply (x : FVec Ideal S8x4096x16 .f32) (h : Fin 8) (j : Fin 16) : headsR x (ix4 s τ' h j) = x (ix3 s τ' j) :=
  heads_apply (by decide) _ _ x s τ' h j

theorem turned4R_apply (x : FVec Ideal S8x4096x8x128 .f32) (θ : FVec Ideal S8x4096x16 .f32) (p : EReal) (hθ : ∀ j : Fin 16, θ (ix3 s τ' j) = angle p j) (h : Fin 8) (d : Fin 128) :
    turned4R x θ (ix4 s τ' h d) = turn p (fun d => x (ix4 s τ' h d)) d := by
  have hc : ∀ j : Fin 16, headsR (Host.cos θ) (ix4 s τ' h j) = Ideal.cos (angle p j) := fun j => (headsR_apply s τ' _ h j).trans (congrArg Ideal.cos (hθ j))
  have hs : ∀ j : Fin 16, headsR (Host.sin θ) (ix4 s τ' h j) = Ideal.sin (angle p j) := fun j => (headsR_apply s τ' _ h j).trans (congrArg Ideal.sin (hθ j))
  unfold turned4R fn_main_v69 turn
  by_cases h1 : d.val < 64
  · rw [if_pos h1]
    exact (join4_apply (n := 64) _ _ 0 (by simp) _ rfl 0 rfl s τ' h ⟨d.val, h1⟩ d (Nat.zero_add _)).trans (part4_apply _ x _ s τ' h _ d (Nat.zero_add _).symm)
  rw [if_neg h1]
  by_cases h2 : d.val < 80
  · rw [if_pos h2]
    exact (join4_apply (n := 16) _ _ 1 (by simp) _ rfl 64 rfl s τ' h ⟨d.val - 64, by omega⟩ d (by show 64 + (d.val - 64) = d.val; omega)).trans Ideal.ofBits_zero_f32
  rw [if_neg h2]
  by_cases h3 : d.val < 96
  · rw [dif_pos h3]
    exact (join4_apply (n := 16) _ _ 2 (by simp) _ rfl 80 rfl s τ' h ⟨d.val - 80, by omega⟩ d (by show 80 + (d.val - 80) = d.val; omega)).trans
      (congrArg₂ (· + ·)
        (congrArg₂ (· * ·) (part4_apply _ x _ s τ' h _ d (by show d.val = 80 + (d.val - 80); omega)) (hc _))
        (congrArg₂ (· * ·) (part4_apply _ x _ s τ' h _ ⟨d.val - 16, by omega⟩ (by show d.val - 16 = 64 + (d.val - 80); omega)) (hs _)))
  rw [dif_neg h3]
  by_cases h4 : d.val < 112
  · rw [dif_pos h4]
    exact (join4_apply (n := 16) _ _ 3 (by simp) _ rfl 96 rfl s τ' h ⟨d.val - 96, by omega⟩ d (by show 96 + (d.val - 96) = d.val; omega)).trans
      (congrArg₂ (· - ·)
        (congrArg₂ (· * ·) (part4_apply _ x _ s τ' h _ d (by show d.val = 96 + (d.val - 96); omega)) (hc _))
        (congrArg₂ (· * ·) (part4_apply _ x _ s τ' h _ ⟨d.val - 16, by omega⟩ (by show d.val - 16 = 80 + (d.val - 96); omega)) (hs _)))
  rw [dif_neg h4]
  exact (join4_apply (n := 16) _ _ 4 (by simp) _ rfl 112 rfl s τ' h ⟨d.val - 112, by omega⟩ d (by show 112 + (d.val - 112) = d.val; omega)).trans Ideal.ofBits_zero_f32

theorem turned3R_apply (x : FVec Ideal S8x4096x128 .f32) (θ : FVec Ideal S8x4096x16 .f32) (p : EReal) (hθ : ∀ j : Fin 16, θ (ix3 s τ' j) = angle p j) (d : Fin 128) :
    turned3R x θ (ix3 s τ' d) = turn p (fun d => x (ix3 s τ' d)) d := by
  have hc : ∀ j : Fin 16, Host.cos θ (ix3 s τ' j) = Ideal.cos (angle p j) := fun j => congrArg Ideal.cos (hθ j)
  have hs : ∀ j : Fin 16, Host.sin θ (ix3 s τ' j) = Ideal.sin (angle p j) := fun j => congrArg Ideal.sin (hθ j)
  unfold turned3R fn_main_v100 turn
  by_cases h1 : d.val < 64
  · rw [if_pos h1]
    exact (join3_apply (n := 64) _ _ 0 (by simp) _ rfl 0 rfl s τ' ⟨d.val, h1⟩ d (Nat.zero_add _)).trans (part3_apply _ x _ s τ' _ d (Nat.zero_add _).symm)
  rw [if_neg h1]
  by_cases h2 : d.val < 80
  · rw [if_pos h2]
    exact (join3_apply (n := 16) _ _ 1 (by simp) _ rfl 64 rfl s τ' ⟨d.val - 64, by omega⟩ d (by show 64 + (d.val - 64) = d.val; omega)).trans Ideal.ofBits_zero_f32
  rw [if_neg h2]
  by_cases h3 : d.val < 96
  · rw [dif_pos h3]
    exact (join3_apply (n := 16) _ _ 2 (by simp) _ rfl 80 rfl s τ' ⟨d.val - 80, by omega⟩ d (by show 80 + (d.val - 80) = d.val; omega)).trans
      (congrArg₂ (· + ·)
        (congrArg₂ (· * ·) (part3_apply _ x _ s τ' _ d (by show d.val = 80 + (d.val - 80); omega)) (hc _))
        (congrArg₂ (· * ·) (part3_apply _ x _ s τ' _ ⟨d.val - 16, by omega⟩ (by show d.val - 16 = 64 + (d.val - 80); omega)) (hs _)))
  rw [dif_neg h3]
  by_cases h4 : d.val < 112
  · rw [dif_pos h4]
    exact (join3_apply (n := 16) _ _ 3 (by simp) _ rfl 96 rfl s τ' ⟨d.val - 96, by omega⟩ d (by show 96 + (d.val - 96) = d.val; omega)).trans
      (congrArg₂ (· - ·)
        (congrArg₂ (· * ·) (part3_apply _ x _ s τ' _ d (by show d.val = 96 + (d.val - 96); omega)) (hc _))
        (congrArg₂ (· * ·) (part3_apply _ x _ s τ' _ ⟨d.val - 16, by omega⟩ (by show d.val - 16 = 80 + (d.val - 96); omega)) (hs _)))
  rw [dif_neg h4]
  exact (join3_apply (n := 16) _ _ 4 (by simp) _ rfl 112 rfl s τ' ⟨d.val - 112, by omega⟩ d (by show 112 + (d.val - 112) = d.val; omega)).trans Ideal.ofBits_zero_f32

/-! ## The results -/

theorem queries_at (n : Fin 1024) : res_main_v110 (F := Ideal) m c (ix3 s τ' n) = resultQ (args m c) (ix3 s τ' n) := by
  rw [queries_eq]
  refine (flatR_apply s τ' _ n).trans ?_
  unfold queriesR
  refine congrArg₂ (· * ·) ((turned4R_apply s τ' _ _ _ (anglesR_apply m c s τ') _ _).trans ?_) rfl
  exact congrArg (fun t => turn (posOf m c s τ') t ⟨n.val % 128, by omega⟩) (funext fun d => rawQR_apply m c s τ' _ d)

theorem keys_at (n : Fin 1024) : res_main_v112 (F := Ideal) m c (ix3 s τ' n) = resultK (args m c) (ix3 s τ' n) := by
  rw [keys_eq]
  refine (flatR_apply s τ' _ n).trans ?_
  unfold keysR
  refine congrArg₂ (· + ·) ?_ ?_
  · refine (byHeads_apply s τ' _ _ _).trans ((rowsDot_apply dot_S8x4096x256_S256x1024_S8x4096x1024_2_0_01_1_n_n.wf _ _ s τ' _).trans (Finset.sum_congr rfl fun k _ => ?_))
    rw [lowKR_apply]
    refine congrArg (fun q => lowK (args m c).W (rowOf m c s τ') k * (args m c).W.wuk (ix2 k q)) (Fin.ext ?_)
    show 128 * (n.val / 128) + n.val % 128 = n.val
    omega
  · refine (heads_apply (by decide) _ _ _ s τ' _ _).trans ((turned3R_apply s τ' _ _ _ (anglesR_apply m c s τ') _).trans ?_)
    exact congrArg (fun t => turn (posOf m c s τ') t ⟨n.val % 128, by omega⟩)
      (funext fun d => (part3_apply 640 (lowR m c) _ s τ' d ⟨640 + d.val, by omega⟩ rfl).trans (lowR_apply m c s τ' _))

theorem values_at (b : Fin 16) (e : Fin 512) (r : Fin 256) : valuesR m c (ix4 s b e r) = resultV (args m c) (ix4 s b e r) := by
  unfold valuesR resultV outV
  rw [truncf_apply]
  refine (transpose_apply _ _ transposes_S8x16x256x512_S8x16x512x256_0_1_3_2 (ix4 s b e r) (ix4 s b r e) (fun q => by
    match q with
    | ⟨0, _⟩ => rfl
    | ⟨1, _⟩ => rfl
    | ⟨2, _⟩ => rfl
    | ⟨3, _⟩ => rfl)).trans ?_
  refine (shapeCast_apply _ shapeCasts_S8x4096x512_S8x16x256x512 (ix4 s b r e) (ix3 s (⟨256 * b.val + r.val, by omega⟩ : Fin 4096) e) (by
    rewrite [Shape.rowMajor_val_three, Shape.rowMajor_val_four]
    show (s.val * 4096 + (256 * b.val + r.val)) * 512 + e.val = ((s.val * 16 + b.val) * 256 + r.val) * 512 + e.val
    omega)).trans ?_
  refine (rowsDot_apply dot_S8x4096x256_S256x512_S8x4096x512_2_0_01_1_n_n.wf _ _ s _ e).trans (Finset.sum_congr rfl fun k _ => ?_)
  rw [lowKR_apply]
  refine congrArg₂ (· * ·) rfl ?_
  exact transpose_apply _ _ transposes_S512x256_S256x512_1_0 (ix2 k e) (ix2 e k) (fun q => by
    match q with
    | ⟨0, _⟩ => rfl
    | ⟨1, _⟩ => rfl)

theorem branch_at (n : Fin 4096) : branchR m c (ix2 τ' n) = resultU (args m c) (ix2 τ' n) := by
  unfold branchR resultU outU
  rw [truncf_apply]
  refine (shapeCast_apply _ shapeCasts_S4096x8x512_S4096x4096 (ix2 τ' n) (ix3 τ' (⟨n.val / 512, by omega⟩ : Fin 8) (⟨n.val % 512, by omega⟩ : Fin 512)) (by
    rewrite [Shape.rowMajor_val_three, Shape.rowMajor_val_two]
    show (τ'.val * 8 + n.val / 512) * 512 + n.val % 512 = τ'.val * 4096 + n.val
    omega)).trans ?_
  refine (transpose_apply _ _ transposes_S8x4096x512_S4096x8x512_1_0_2 _ (ix3 (⟨n.val / 512, by omega⟩ : Fin 8) τ' (⟨n.val % 512, by omega⟩ : Fin 512)) (fun q => by
    match q with
    | ⟨0, _⟩ => rfl
    | ⟨1, _⟩ => rfl
    | ⟨2, _⟩ => rfl)).trans ?_
  refine (rowsDot_apply dot_S8x4096x1024_S1024x512_S8x4096x512_2_0_01_1_n_n.wf _ _ _ τ' _).trans (Finset.sum_congr rfl fun k _ => ?_)
  rw [rowsR_apply]
  rfl

/-! Whole arrays. -/

theorem queries : res_main_v110 (F := Ideal) m c = resultQ (args m c) := funext fun i => by
  rw [eq_ix3 i]
  exact queries_at m c _ _ _

theorem keys : res_main_v112 (F := Ideal) m c = resultK (args m c) := funext fun i => by
  rw [eq_ix3 i]
  exact keys_at m c _ _ _

theorem values : valuesR m c = resultV (args m c) := funext fun i => by
  rw [eq_ix4 i]
  exact values_at m c _ _ _ _

theorem branch : branchR m c = resultU (args m c) := funext fun i => by
  rw [eq_ix2 i]
  exact branch_at m c _ _

end Cert.Reference4Ideal

end
-- ==== Proof.Proj.Claims.lean ====
/-
  The input projections' claims.
-/
module

public import proofs.«01_k».proof.Defs
public import proofs.«01_k».proof.Proof.Proj.FrameKernel4
public import proofs.«01_k».proof.Proof.Proj.Value
public import proofs.«01_k».proof.Proof.Proj.Reference
public import proofs.«01_k».proof.Proof.Gen.Kernel4Ideal.Value
public import Idealize.ShloMosaic.Lib.Quiescent

@[expose] public section

noncomputable section

open Idealize.ShloMosaic Idealize.ShloMosaic.TcCoe Idealize.ShloMosaic.ValueIdx Idealize.SL.Sem

namespace Cert.Proof.ProjectionClaims

theorem frame_kernel : Cert.quiescent_Kernel4 := fun m ρ _ => Cert.Kernel4.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem preserves : Cert.preserves_Kernel4_Kernel4Ideal :=
  IdealRules.named_const.statement Cert.Kernel4Ideal.κ "rate" .f32 0xBF135D8E#32 (((-1 / 16) * (Real.log 10000) : ℝ) : EReal) rfl

/-- Kernel4Ideal computes what the reference does. -/
theorem algebraic : Cert.algebraic_Kernel4Ideal_Reference4Ideal := by
  intro m ρ m' ρ' _ hagree
  have e : ∀ c, Cert.Reference4Ideal.args m' c = Cert.Kernel4Ideal.args m c := fun c => by
    obtain ⟨h0, h1, h2, h3, h4, h5, h6, h7, h8, h9⟩ := hagree c
    unfold Cert.Reference4Ideal.args Cert.Kernel4Ideal.args
    exact congr (congrArg₂ Proj.Args.mk h0 h1) (congr (congr (congr (congr (congr (congr (congrArg₂ Proj.Weights.mk h2 h3) h4) h5) h6) h7) h8) h9)
  refine ⟨fun c => Proj.resultQ (Cert.Kernel4Ideal.args m c), fun c => Proj.resultK (Cert.Kernel4Ideal.args m c), fun c => Proj.resultV (Cert.Kernel4Ideal.args m c),
    fun c => Proj.resultU (Cert.Kernel4Ideal.args m c), Cert.Kernel4Ideal.run m ρ,
    (θ_run Cert.Reference4Ideal.defs _ _).mono (fun r h c => ⟨(h c).1.trans ?_, (h c).2.1.trans ?_, (h c).2.2.1.trans ?_, (h c).2.2.2.1.trans ?_, (h c).2.2.2.2⟩)
      (Cert.Reference4Ideal.Value.run (F := Ideal) m' ρ')⟩
  · exact (Cert.Reference4Ideal.queries m' c).trans (congrArg Proj.resultQ (e c))
  · exact (Cert.Reference4Ideal.keys m' c).trans (congrArg Proj.resultK (e c))
  · exact (Cert.Reference4Ideal.values m' c).trans (congrArg Proj.resultV (e c))
  · exact (Cert.Reference4Ideal.branch m' c).trans (congrArg Proj.resultU (e c))

end Cert.Proof.ProjectionClaims

end
-- ==== Proof.lean ====
/-
  Four calls of a hybrid attention and state space layer, certified: the projections' kernel computes the attention's
  queries, keys and values and the state space branch's input, the attention's causal softmax attention, the merge's the
  gated sum of the two mixers with its projection, norms and residual, the feed-forward's the convolution gated
  feed-forward with its norms and residual.
-/
module

public import proofs.«01_k».proof.Defs
public import proofs.«01_k».proof.Proof.Gen.Kernel.Launch
public import proofs.«01_k».proof.Proof.Gen.Kernel.Points
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Attn.Claims
public import proofs.«01_k».proof.Proof.Ffn.Claims
public import proofs.«01_k».proof.Proof.Merge.Claims
public import proofs.«01_k».proof.Proof.Proj.Claims

@[expose] public section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite.Gen.facts,
    AttentionClaims.frame_kernel, AttentionClaims.frame_ideal, AttentionClaims.frame_ideal_pre, AttentionClaims.frame_reference,
    AttentionClaims.frame_reference_pre, FeedForwardClaims.frame_kernel, FeedForwardClaims.frame_ideal, FeedForwardClaims.frame_reference,
    MergeClaims.frame_kernel, MergeClaims.frame_ideal, MergeClaims.frame_reference,
    ProjectionClaims.frame_kernel, ProjectionClaims.frame_ideal, ProjectionClaims.frame_reference,
    AttentionClaims.preserves, AttentionClaims.algebraic, FeedForwardClaims.preserves, FeedForwardClaims.algebraic,
    MergeClaims.preserves, MergeClaims.algebraic, ProjectionClaims.preserves, ProjectionClaims.algebraic⟩

end Cert.Proof

end
